-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_UpDa (m : (ℓ : Loc Cert.UpDa.nD Cert.UpDa.τ Cert.UpDa.sig) → Buf (Elt Bits) ℓ) : Prop :=
  True

def Pre_UpDaIdeal (m : (ℓ : Loc Cert.UpDaIdeal.nD Cert.UpDaIdeal.τ Cert.UpDaIdeal.sig) → Buf (Elt Ideal) ℓ) : Prop :=
  True

def Pre_UpDaReferenceIdeal (m : (ℓ : Loc Cert.UpDaReferenceIdeal.nD Cert.UpDaReferenceIdeal.τ Cert.UpDaReferenceIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwReferenceIdeal (m : (ℓ : Loc Cert.UpDwReferenceIdeal.nD Cert.UpDwReferenceIdeal.τ Cert.UpDwReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_DownDa (m : (ℓ : Loc Cert.DownDa.nD Cert.DownDa.τ Cert.DownDa.sig) → Buf (Elt Bits) ℓ) : Prop :=
  True

def Pre_DownDaIdeal (m : (ℓ : Loc Cert.DownDaIdeal.nD Cert.DownDaIdeal.τ Cert.DownDaIdeal.sig) → Buf (Elt Ideal) ℓ) : Prop :=
  True

def Pre_DownDaReferenceIdeal (m : (ℓ : Loc Cert.DownDaReferenceIdeal.nD Cert.DownDaReferenceIdeal.τ Cert.DownDaReferenceIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwReferenceIdeal (m : (ℓ : Loc Cert.DownDwReferenceIdeal.nD Cert.DownDwReferenceIdeal.τ Cert.DownDwReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_InDa (m : (ℓ : Loc Cert.InDa.nD Cert.InDa.τ Cert.InDa.sig) → Buf (Elt Bits) ℓ) : Prop :=
  True

def Pre_InDaIdeal (m : (ℓ : Loc Cert.InDaIdeal.nD Cert.InDaIdeal.τ Cert.InDaIdeal.sig) → Buf (Elt Ideal) ℓ) : Prop :=
  True

def Pre_InDaReferenceIdeal (m : (ℓ : Loc Cert.InDaReferenceIdeal.nD Cert.InDaReferenceIdeal.τ Cert.InDaReferenceIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwReferenceIdeal (m : (ℓ : Loc Cert.InDwReferenceIdeal.nD Cert.InDwReferenceIdeal.τ Cert.InDwReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_OutDa (m : (ℓ : Loc Cert.OutDa.nD Cert.OutDa.τ Cert.OutDa.sig) → Buf (Elt Bits) ℓ) : Prop :=
  True

def Pre_OutDaIdeal (m : (ℓ : Loc Cert.OutDaIdeal.nD Cert.OutDaIdeal.τ Cert.OutDaIdeal.sig) → Buf (Elt Ideal) ℓ) : Prop :=
  True

def Pre_OutDaReferenceIdeal (m : (ℓ : Loc Cert.OutDaReferenceIdeal.nD Cert.OutDaReferenceIdeal.τ Cert.OutDaReferenceIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwReferenceIdeal (m : (ℓ : Loc Cert.OutDwReferenceIdeal.nD Cert.OutDwReferenceIdeal.τ Cert.OutDwReferenceIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqReferenceIdeal (m : (ℓ : Loc Cert.UqReferenceIdeal.nD Cert.UqReferenceIdeal.τ Cert.UqReferenceIdeal.sig) → Buf (Elt Ideal) ℓ) : Prop :=
  True

def Pre_UqDa (m : (ℓ : Loc Cert.UqDa.nD Cert.UqDa.τ Cert.UqDa.sig) → Buf (Elt Bits) ℓ) : Prop :=
  True

def Pre_UqDaIdeal (m : (ℓ : Loc Cert.UqDaIdeal.nD Cert.UqDaIdeal.τ Cert.UqDaIdeal.sig) → Buf (Elt Ideal) ℓ) : Prop :=
  True

def Pre_UqDaReferenceIdeal (m : (ℓ : Loc Cert.UqDaReferenceIdeal.nD Cert.UqDaReferenceIdeal.τ Cert.UqDaReferenceIdeal.sig) → Buf (Elt Ideal) ℓ) : Prop :=
  True

def Pre_UqDw (m : (ℓ : Loc Cert.UqDw.nD Cert.UqDw.τ Cert.UqDw.sig) → Buf (Elt Bits) ℓ) : Prop :=
  True

def Pre_UqDwIdeal (m : (ℓ : Loc Cert.UqDwIdeal.nD Cert.UqDwIdeal.τ Cert.UqDwIdeal.sig) → Buf (Elt Ideal) ℓ) : Prop :=
  True

def Pre_UqDwReferenceIdeal (m : (ℓ : Loc Cert.UqDwReferenceIdeal.nD Cert.UqDwReferenceIdeal.τ Cert.UqDwReferenceIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvReferenceIdeal (m : (ℓ : Loc Cert.UkvReferenceIdeal.nD Cert.UkvReferenceIdeal.τ Cert.UkvReferenceIdeal.sig) → Buf (Elt Ideal) ℓ) : Prop :=
  True

def Pre_UkvDa (m : (ℓ : Loc Cert.UkvDa.nD Cert.UkvDa.τ Cert.UkvDa.sig) → Buf (Elt Bits) ℓ) : Prop :=
  True

def Pre_UkvDaIdeal (m : (ℓ : Loc Cert.UkvDaIdeal.nD Cert.UkvDaIdeal.τ Cert.UkvDaIdeal.sig) → Buf (Elt Ideal) ℓ) : Prop :=
  True

def Pre_UkvDaReferenceIdeal (m : (ℓ : Loc Cert.UkvDaReferenceIdeal.nD Cert.UkvDaReferenceIdeal.τ Cert.UkvDaReferenceIdeal.sig) → Buf (Elt Ideal) ℓ) : Prop :=
  True

def Pre_UkvDw (m : (ℓ : Loc Cert.UkvDw.nD Cert.UkvDw.τ Cert.UkvDw.sig) → Buf (Elt Bits) ℓ) : Prop :=
  True

def Pre_UkvDwIdeal (m : (ℓ : Loc Cert.UkvDwIdeal.nD Cert.UkvDwIdeal.τ Cert.UkvDwIdeal.sig) → Buf (Elt Ideal) ℓ) : Prop :=
  True

def Pre_UkvDwReferenceIdeal (m : (ℓ : Loc Cert.UkvDwReferenceIdeal.nD Cert.UkvDwReferenceIdeal.τ Cert.UkvDwReferenceIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qkv [hPre_finite_qkv : Cert.Pre_finite_qkv.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qkv.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdReferenceIdeal (m : (ℓ : Loc Cert.FwdReferenceIdeal.nD Cert.FwdReferenceIdeal.τ Cert.FwdReferenceIdeal.sig) → Buf (Elt Ideal) ℓ) : Prop :=
  True

def Pre_FwdReferenceIdeal_finite_qkv [hPre_finite_qkv : Cert.Pre_finite_qkv.Facts] (m : (ℓ : Loc Cert.FwdReferenceIdeal.nD Cert.FwdReferenceIdeal.τ Cert.FwdReferenceIdeal.sig) → Buf (Elt Ideal) ℓ) : Prop :=
  ∀ c : Dev Cert.FwdReferenceIdeal.nD,
    (Cert.Pre_finite_qkv.fn (F := Ideal) (m ((c.tc : Thread Cert.FwdReferenceIdeal.nD Cert.FwdReferenceIdeal.τ).loc Cert.FwdReferenceIdeal.main_arg0)) (m ((c.tc : Thread Cert.FwdReferenceIdeal.nD Cert.FwdReferenceIdeal.τ).loc Cert.FwdReferenceIdeal.main_arg1)) (m ((c.tc : Thread Cert.FwdReferenceIdeal.nD Cert.FwdReferenceIdeal.τ).loc Cert.FwdReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_UpDa [hUpDa : Cert.UpDa.Facts] : Prop :=
  ∀ (m : (ℓ : Loc Cert.UpDa.nD Cert.UpDa.τ Cert.UpDa.sig) → Buf (Elt Bits) ℓ) (g : Dev Cert.UpDa.nD → PrngReg), Pre_UpDa m →
    θ_run (Cert.UpDa.defs (F := Bits)) (onTc (τ := Cert.UpDa.τ) (Cert.UpDa.main (F := Bits))) ⟨m, fun _ => 0, g⟩ (fun r => (∀ c : Dev Cert.UpDa.nD,
      r.2.mem ((c.tc : Thread Cert.UpDa.nD Cert.UpDa.τ).loc Cert.UpDa.main_arg0) = m ((c.tc : Thread Cert.UpDa.nD Cert.UpDa.τ).loc Cert.UpDa.main_arg0)
      ∧ r.2.mem ((c.tc : Thread Cert.UpDa.nD Cert.UpDa.τ).loc Cert.UpDa.main_arg1) = m ((c.tc : Thread Cert.UpDa.nD Cert.UpDa.τ).loc Cert.UpDa.main_arg1))
      ∧ r.2.sem = fun _ => 0)

def quiescent_UpDaIdeal [hUpDaIdeal : Cert.UpDaIdeal.Facts] : Prop :=
  ∀ (m : (ℓ : Loc Cert.UpDaIdeal.nD Cert.UpDaIdeal.τ Cert.UpDaIdeal.sig) → Buf (Elt Ideal) ℓ) (g : Dev Cert.UpDaIdeal.nD → PrngReg), Pre_UpDaIdeal m →
    θ_run (Cert.UpDaIdeal.defs (F := Ideal)) (onTc (τ := Cert.UpDaIdeal.τ) (Cert.UpDaIdeal.main (F := Ideal))) ⟨m, fun _ => 0, g⟩ (fun r => (∀ c : Dev Cert.UpDaIdeal.nD,
      r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
      ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ r.2.sem = fun _ => 0)

def quiescent_UpDaReferenceIdeal [hUpDaReferenceIdeal : Cert.UpDaReferenceIdeal.Facts] : Prop :=
  ∀ (m : (ℓ : Loc Cert.UpDaReferenceIdeal.nD Cert.UpDaReferenceIdeal.τ Cert.UpDaReferenceIdeal.sig) → Buf (Elt Ideal) ℓ) (g : Dev Cert.UpDaReferenceIdeal.nD → PrngReg), Pre_UpDaReferenceIdeal m →
    θ_run (Cert.UpDaReferenceIdeal.defs (F := Ideal)) (onTc (τ := Cert.UpDaReferenceIdeal.τ) (Cert.UpDaReferenceIdeal.main (F := Ideal))) ⟨m, fun _ => 0, g⟩ (fun r => (∀ c : Dev Cert.UpDaReferenceIdeal.nD,
      r.2.mem ((c.tc : Thread Cert.UpDaReferenceIdeal.nD Cert.UpDaReferenceIdeal.τ).loc Cert.UpDaReferenceIdeal.main_arg0) = m ((c.tc : Thread Cert.UpDaReferenceIdeal.nD Cert.UpDaReferenceIdeal.τ).loc Cert.UpDaReferenceIdeal.main_arg0)
      ∧ r.2.mem ((c.tc : Thread Cert.UpDaReferenceIdeal.nD Cert.UpDaReferenceIdeal.τ).loc Cert.UpDaReferenceIdeal.main_arg1) = m ((c.tc : Thread Cert.UpDaReferenceIdeal.nD Cert.UpDaReferenceIdeal.τ).loc Cert.UpDaReferenceIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwReferenceIdeal [hUpDwReferenceIdeal : Cert.UpDwReferenceIdeal.Facts] : Prop :=
  ∀ (m : (ℓ : Loc Cert.UpDwReferenceIdeal.nD Cert.UpDwReferenceIdeal.τ Cert.UpDwReferenceIdeal.sig) → Buf (Elt Ideal) ℓ) (g : Dev Cert.UpDwReferenceIdeal.nD → PrngReg), Pre_UpDwReferenceIdeal m →
    θ_run (Cert.UpDwReferenceIdeal.defs (F := Ideal)) (onTc (τ := Cert.UpDwReferenceIdeal.τ) (Cert.UpDwReferenceIdeal.main (F := Ideal))) ⟨m, fun _ => 0, g⟩ (fun r => (∀ c : Dev Cert.UpDwReferenceIdeal.nD,
      r.2.mem ((c.tc : Thread Cert.UpDwReferenceIdeal.nD Cert.UpDwReferenceIdeal.τ).loc Cert.UpDwReferenceIdeal.main_arg0) = m ((c.tc : Thread Cert.UpDwReferenceIdeal.nD Cert.UpDwReferenceIdeal.τ).loc Cert.UpDwReferenceIdeal.main_arg0)
      ∧ r.2.mem ((c.tc : Thread Cert.UpDwReferenceIdeal.nD Cert.UpDwReferenceIdeal.τ).loc Cert.UpDwReferenceIdeal.main_arg1) = m ((c.tc : Thread Cert.UpDwReferenceIdeal.nD Cert.UpDwReferenceIdeal.τ).loc Cert.UpDwReferenceIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1))
      ∧ r.2.sem = fun _ => 0)

def quiescent_DownDa [hDownDa : Cert.DownDa.Facts] : Prop :=
  ∀ (m : (ℓ : Loc Cert.DownDa.nD Cert.DownDa.τ Cert.DownDa.sig) → Buf (Elt Bits) ℓ) (g : Dev Cert.DownDa.nD → PrngReg), Pre_DownDa m →
    θ_run (Cert.DownDa.defs (F := Bits)) (onTc (τ := Cert.DownDa.τ) (Cert.DownDa.main (F := Bits))) ⟨m, fun _ => 0, g⟩ (fun r => (∀ c : Dev Cert.DownDa.nD,
      r.2.mem ((c.tc : Thread Cert.DownDa.nD Cert.DownDa.τ).loc Cert.DownDa.main_arg0) = m ((c.tc : Thread Cert.DownDa.nD Cert.DownDa.τ).loc Cert.DownDa.main_arg0)
      ∧ r.2.mem ((c.tc : Thread Cert.DownDa.nD Cert.DownDa.τ).loc Cert.DownDa.main_arg1) = m ((c.tc : Thread Cert.DownDa.nD Cert.DownDa.τ).loc Cert.DownDa.main_arg1))
      ∧ r.2.sem = fun _ => 0)

def quiescent_DownDaIdeal [hDownDaIdeal : Cert.DownDaIdeal.Facts] : Prop :=
  ∀ (m : (ℓ : Loc Cert.DownDaIdeal.nD Cert.DownDaIdeal.τ Cert.DownDaIdeal.sig) → Buf (Elt Ideal) ℓ) (g : Dev Cert.DownDaIdeal.nD → PrngReg), Pre_DownDaIdeal m →
    θ_run (Cert.DownDaIdeal.defs (F := Ideal)) (onTc (τ := Cert.DownDaIdeal.τ) (Cert.DownDaIdeal.main (F := Ideal))) ⟨m, fun _ => 0, g⟩ (fun r => (∀ c : Dev Cert.DownDaIdeal.nD,
      r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
      ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ r.2.sem = fun _ => 0)

def quiescent_DownDaReferenceIdeal [hDownDaReferenceIdeal : Cert.DownDaReferenceIdeal.Facts] : Prop :=
  ∀ (m : (ℓ : Loc Cert.DownDaReferenceIdeal.nD Cert.DownDaReferenceIdeal.τ Cert.DownDaReferenceIdeal.sig) → Buf (Elt Ideal) ℓ) (g : Dev Cert.DownDaReferenceIdeal.nD → PrngReg), Pre_DownDaReferenceIdeal m →
    θ_run (Cert.DownDaReferenceIdeal.defs (F := Ideal)) (onTc (τ := Cert.DownDaReferenceIdeal.τ) (Cert.DownDaReferenceIdeal.main (F := Ideal))) ⟨m, fun _ => 0, g⟩ (fun r => (∀ c : Dev Cert.DownDaReferenceIdeal.nD,
      r.2.mem ((c.tc : Thread Cert.DownDaReferenceIdeal.nD Cert.DownDaReferenceIdeal.τ).loc Cert.DownDaReferenceIdeal.main_arg0) = m ((c.tc : Thread Cert.DownDaReferenceIdeal.nD Cert.DownDaReferenceIdeal.τ).loc Cert.DownDaReferenceIdeal.main_arg0)
      ∧ r.2.mem ((c.tc : Thread Cert.DownDaReferenceIdeal.nD Cert.DownDaReferenceIdeal.τ).loc Cert.DownDaReferenceIdeal.main_arg1) = m ((c.tc : Thread Cert.DownDaReferenceIdeal.nD Cert.DownDaReferenceIdeal.τ).loc Cert.DownDaReferenceIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwReferenceIdeal [hDownDwReferenceIdeal : Cert.DownDwReferenceIdeal.Facts] : Prop :=
  ∀ (m : (ℓ : Loc Cert.DownDwReferenceIdeal.nD Cert.DownDwReferenceIdeal.τ Cert.DownDwReferenceIdeal.sig) → Buf (Elt Ideal) ℓ) (g : Dev Cert.DownDwReferenceIdeal.nD → PrngReg), Pre_DownDwReferenceIdeal m →
    θ_run (Cert.DownDwReferenceIdeal.defs (F := Ideal)) (onTc (τ := Cert.DownDwReferenceIdeal.τ) (Cert.DownDwReferenceIdeal.main (F := Ideal))) ⟨m, fun _ => 0, g⟩ (fun r => (∀ c : Dev Cert.DownDwReferenceIdeal.nD,
      r.2.mem ((c.tc : Thread Cert.DownDwReferenceIdeal.nD Cert.DownDwReferenceIdeal.τ).loc Cert.DownDwReferenceIdeal.main_arg0) = m ((c.tc : Thread Cert.DownDwReferenceIdeal.nD Cert.DownDwReferenceIdeal.τ).loc Cert.DownDwReferenceIdeal.main_arg0)
      ∧ r.2.mem ((c.tc : Thread Cert.DownDwReferenceIdeal.nD Cert.DownDwReferenceIdeal.τ).loc Cert.DownDwReferenceIdeal.main_arg1) = m ((c.tc : Thread Cert.DownDwReferenceIdeal.nD Cert.DownDwReferenceIdeal.τ).loc Cert.DownDwReferenceIdeal.main_arg1))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1))
      ∧ r.2.sem = fun _ => 0)

def quiescent_InDa [hInDa : Cert.InDa.Facts] : Prop :=
  ∀ (m : (ℓ : Loc Cert.InDa.nD Cert.InDa.τ Cert.InDa.sig) → Buf (Elt Bits) ℓ) (g : Dev Cert.InDa.nD → PrngReg), Pre_InDa m →
    θ_run (Cert.InDa.defs (F := Bits)) (onTc (τ := Cert.InDa.τ) (Cert.InDa.main (F := Bits))) ⟨m, fun _ => 0, g⟩ (fun r => (∀ c : Dev Cert.InDa.nD,
      r.2.mem ((c.tc : Thread Cert.InDa.nD Cert.InDa.τ).loc Cert.InDa.main_arg0) = m ((c.tc : Thread Cert.InDa.nD Cert.InDa.τ).loc Cert.InDa.main_arg0)
      ∧ r.2.mem ((c.tc : Thread Cert.InDa.nD Cert.InDa.τ).loc Cert.InDa.main_arg1) = m ((c.tc : Thread Cert.InDa.nD Cert.InDa.τ).loc Cert.InDa.main_arg1))
      ∧ r.2.sem = fun _ => 0)

def quiescent_InDaIdeal [hInDaIdeal : Cert.InDaIdeal.Facts] : Prop :=
  ∀ (m : (ℓ : Loc Cert.InDaIdeal.nD Cert.InDaIdeal.τ Cert.InDaIdeal.sig) → Buf (Elt Ideal) ℓ) (g : Dev Cert.InDaIdeal.nD → PrngReg), Pre_InDaIdeal m →
    θ_run (Cert.InDaIdeal.defs (F := Ideal)) (onTc (τ := Cert.InDaIdeal.τ) (Cert.InDaIdeal.main (F := Ideal))) ⟨m, fun _ => 0, g⟩ (fun r => (∀ c : Dev Cert.InDaIdeal.nD,
      r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
      ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1))
      ∧ r.2.sem = fun _ => 0)

def quiescent_InDaReferenceIdeal [hInDaReferenceIdeal : Cert.InDaReferenceIdeal.Facts] : Prop :=
  ∀ (m : (ℓ : Loc Cert.InDaReferenceIdeal.nD Cert.InDaReferenceIdeal.τ Cert.InDaReferenceIdeal.sig) → Buf (Elt Ideal) ℓ) (g : Dev Cert.InDaReferenceIdeal.nD → PrngReg), Pre_InDaReferenceIdeal m →
    θ_run (Cert.InDaReferenceIdeal.defs (F := Ideal)) (onTc (τ := Cert.InDaReferenceIdeal.τ) (Cert.InDaReferenceIdeal.main (F := Ideal))) ⟨m, fun _ => 0, g⟩ (fun r => (∀ c : Dev Cert.InDaReferenceIdeal.nD,
      r.2.mem ((c.tc : Thread Cert.InDaReferenceIdeal.nD Cert.InDaReferenceIdeal.τ).loc Cert.InDaReferenceIdeal.main_arg0) = m ((c.tc : Thread Cert.InDaReferenceIdeal.nD Cert.InDaReferenceIdeal.τ).loc Cert.InDaReferenceIdeal.main_arg0)
      ∧ r.2.mem ((c.tc : Thread Cert.InDaReferenceIdeal.nD Cert.InDaReferenceIdeal.τ).loc Cert.InDaReferenceIdeal.main_arg1) = m ((c.tc : Thread Cert.InDaReferenceIdeal.nD Cert.InDaReferenceIdeal.τ).loc Cert.InDaReferenceIdeal.main_arg1))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwReferenceIdeal [hInDwReferenceIdeal : Cert.InDwReferenceIdeal.Facts] : Prop :=
  ∀ (m : (ℓ : Loc Cert.InDwReferenceIdeal.nD Cert.InDwReferenceIdeal.τ Cert.InDwReferenceIdeal.sig) → Buf (Elt Ideal) ℓ) (g : Dev Cert.InDwReferenceIdeal.nD → PrngReg), Pre_InDwReferenceIdeal m →
    θ_run (Cert.InDwReferenceIdeal.defs (F := Ideal)) (onTc (τ := Cert.InDwReferenceIdeal.τ) (Cert.InDwReferenceIdeal.main (F := Ideal))) ⟨m, fun _ => 0, g⟩ (fun r => (∀ c : Dev Cert.InDwReferenceIdeal.nD,
      r.2.mem ((c.tc : Thread Cert.InDwReferenceIdeal.nD Cert.InDwReferenceIdeal.τ).loc Cert.InDwReferenceIdeal.main_arg0) = m ((c.tc : Thread Cert.InDwReferenceIdeal.nD Cert.InDwReferenceIdeal.τ).loc Cert.InDwReferenceIdeal.main_arg0)
      ∧ r.2.mem ((c.tc : Thread Cert.InDwReferenceIdeal.nD Cert.InDwReferenceIdeal.τ).loc Cert.InDwReferenceIdeal.main_arg1) = m ((c.tc : Thread Cert.InDwReferenceIdeal.nD Cert.InDwReferenceIdeal.τ).loc Cert.InDwReferenceIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1))
      ∧ r.2.sem = fun _ => 0)

def quiescent_OutDa [hOutDa : Cert.OutDa.Facts] : Prop :=
  ∀ (m : (ℓ : Loc Cert.OutDa.nD Cert.OutDa.τ Cert.OutDa.sig) → Buf (Elt Bits) ℓ) (g : Dev Cert.OutDa.nD → PrngReg), Pre_OutDa m →
    θ_run (Cert.OutDa.defs (F := Bits)) (onTc (τ := Cert.OutDa.τ) (Cert.OutDa.main (F := Bits))) ⟨m, fun _ => 0, g⟩ (fun r => (∀ c : Dev Cert.OutDa.nD,
      r.2.mem ((c.tc : Thread Cert.OutDa.nD Cert.OutDa.τ).loc Cert.OutDa.main_arg0) = m ((c.tc : Thread Cert.OutDa.nD Cert.OutDa.τ).loc Cert.OutDa.main_arg0)
      ∧ r.2.mem ((c.tc : Thread Cert.OutDa.nD Cert.OutDa.τ).loc Cert.OutDa.main_arg1) = m ((c.tc : Thread Cert.OutDa.nD Cert.OutDa.τ).loc Cert.OutDa.main_arg1))
      ∧ r.2.sem = fun _ => 0)

def quiescent_OutDaIdeal [hOutDaIdeal : Cert.OutDaIdeal.Facts] : Prop :=
  ∀ (m : (ℓ : Loc Cert.OutDaIdeal.nD Cert.OutDaIdeal.τ Cert.OutDaIdeal.sig) → Buf (Elt Ideal) ℓ) (g : Dev Cert.OutDaIdeal.nD → PrngReg), Pre_OutDaIdeal m →
    θ_run (Cert.OutDaIdeal.defs (F := Ideal)) (onTc (τ := Cert.OutDaIdeal.τ) (Cert.OutDaIdeal.main (F := Ideal))) ⟨m, fun _ => 0, g⟩ (fun r => (∀ c : Dev Cert.OutDaIdeal.nD,
      r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
      ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ r.2.sem = fun _ => 0)

def quiescent_OutDaReferenceIdeal [hOutDaReferenceIdeal : Cert.OutDaReferenceIdeal.Facts] : Prop :=
  ∀ (m : (ℓ : Loc Cert.OutDaReferenceIdeal.nD Cert.OutDaReferenceIdeal.τ Cert.OutDaReferenceIdeal.sig) → Buf (Elt Ideal) ℓ) (g : Dev Cert.OutDaReferenceIdeal.nD → PrngReg), Pre_OutDaReferenceIdeal m →
    θ_run (Cert.OutDaReferenceIdeal.defs (F := Ideal)) (onTc (τ := Cert.OutDaReferenceIdeal.τ) (Cert.OutDaReferenceIdeal.main (F := Ideal))) ⟨m, fun _ => 0, g⟩ (fun r => (∀ c : Dev Cert.OutDaReferenceIdeal.nD,
      r.2.mem ((c.tc : Thread Cert.OutDaReferenceIdeal.nD Cert.OutDaReferenceIdeal.τ).loc Cert.OutDaReferenceIdeal.main_arg0) = m ((c.tc : Thread Cert.OutDaReferenceIdeal.nD Cert.OutDaReferenceIdeal.τ).loc Cert.OutDaReferenceIdeal.main_arg0)
      ∧ r.2.mem ((c.tc : Thread Cert.OutDaReferenceIdeal.nD Cert.OutDaReferenceIdeal.τ).loc Cert.OutDaReferenceIdeal.main_arg1) = m ((c.tc : Thread Cert.OutDaReferenceIdeal.nD Cert.OutDaReferenceIdeal.τ).loc Cert.OutDaReferenceIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwReferenceIdeal [hOutDwReferenceIdeal : Cert.OutDwReferenceIdeal.Facts] : Prop :=
  ∀ (m : (ℓ : Loc Cert.OutDwReferenceIdeal.nD Cert.OutDwReferenceIdeal.τ Cert.OutDwReferenceIdeal.sig) → Buf (Elt Ideal) ℓ) (g : Dev Cert.OutDwReferenceIdeal.nD → PrngReg), Pre_OutDwReferenceIdeal m →
    θ_run (Cert.OutDwReferenceIdeal.defs (F := Ideal)) (onTc (τ := Cert.OutDwReferenceIdeal.τ) (Cert.OutDwReferenceIdeal.main (F := Ideal))) ⟨m, fun _ => 0, g⟩ (fun r => (∀ c : Dev Cert.OutDwReferenceIdeal.nD,
      r.2.mem ((c.tc : Thread Cert.OutDwReferenceIdeal.nD Cert.OutDwReferenceIdeal.τ).loc Cert.OutDwReferenceIdeal.main_arg0) = m ((c.tc : Thread Cert.OutDwReferenceIdeal.nD Cert.OutDwReferenceIdeal.τ).loc Cert.OutDwReferenceIdeal.main_arg0)
      ∧ r.2.mem ((c.tc : Thread Cert.OutDwReferenceIdeal.nD Cert.OutDwReferenceIdeal.τ).loc Cert.OutDwReferenceIdeal.main_arg1) = m ((c.tc : Thread Cert.OutDwReferenceIdeal.nD Cert.OutDwReferenceIdeal.τ).loc Cert.OutDwReferenceIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqReferenceIdeal [hUqReferenceIdeal : Cert.UqReferenceIdeal.Facts] : Prop :=
  ∀ (m : (ℓ : Loc Cert.UqReferenceIdeal.nD Cert.UqReferenceIdeal.τ Cert.UqReferenceIdeal.sig) → Buf (Elt Ideal) ℓ) (g : Dev Cert.UqReferenceIdeal.nD → PrngReg), Pre_UqReferenceIdeal m →
    θ_run (Cert.UqReferenceIdeal.defs (F := Ideal)) (onTc (τ := Cert.UqReferenceIdeal.τ) (Cert.UqReferenceIdeal.main (F := Ideal))) ⟨m, fun _ => 0, g⟩ (fun r => (∀ c : Dev Cert.UqReferenceIdeal.nD,
      r.2.mem ((c.tc : Thread Cert.UqReferenceIdeal.nD Cert.UqReferenceIdeal.τ).loc Cert.UqReferenceIdeal.main_arg0) = m ((c.tc : Thread Cert.UqReferenceIdeal.nD Cert.UqReferenceIdeal.τ).loc Cert.UqReferenceIdeal.main_arg0)
      ∧ r.2.mem ((c.tc : Thread Cert.UqReferenceIdeal.nD Cert.UqReferenceIdeal.τ).loc Cert.UqReferenceIdeal.main_arg1) = m ((c.tc : Thread Cert.UqReferenceIdeal.nD Cert.UqReferenceIdeal.τ).loc Cert.UqReferenceIdeal.main_arg1))
      ∧ r.2.sem = fun _ => 0)

def quiescent_UqDa [hUqDa : Cert.UqDa.Facts] : Prop :=
  ∀ (m : (ℓ : Loc Cert.UqDa.nD Cert.UqDa.τ Cert.UqDa.sig) → Buf (Elt Bits) ℓ) (g : Dev Cert.UqDa.nD → PrngReg), Pre_UqDa m →
    θ_run (Cert.UqDa.defs (F := Bits)) (onTc (τ := Cert.UqDa.τ) (Cert.UqDa.main (F := Bits))) ⟨m, fun _ => 0, g⟩ (fun r => (∀ c : Dev Cert.UqDa.nD,
      r.2.mem ((c.tc : Thread Cert.UqDa.nD Cert.UqDa.τ).loc Cert.UqDa.main_arg0) = m ((c.tc : Thread Cert.UqDa.nD Cert.UqDa.τ).loc Cert.UqDa.main_arg0)
      ∧ r.2.mem ((c.tc : Thread Cert.UqDa.nD Cert.UqDa.τ).loc Cert.UqDa.main_arg1) = m ((c.tc : Thread Cert.UqDa.nD Cert.UqDa.τ).loc Cert.UqDa.main_arg1))
      ∧ r.2.sem = fun _ => 0)

def quiescent_UqDaIdeal [hUqDaIdeal : Cert.UqDaIdeal.Facts] : Prop :=
  ∀ (m : (ℓ : Loc Cert.UqDaIdeal.nD Cert.UqDaIdeal.τ Cert.UqDaIdeal.sig) → Buf (Elt Ideal) ℓ) (g : Dev Cert.UqDaIdeal.nD → PrngReg), Pre_UqDaIdeal m →
    θ_run (Cert.UqDaIdeal.defs (F := Ideal)) (onTc (τ := Cert.UqDaIdeal.τ) (Cert.UqDaIdeal.main (F := Ideal))) ⟨m, fun _ => 0, g⟩ (fun r => (∀ c : Dev Cert.UqDaIdeal.nD,
      r.2.mem ((c.tc : Thread Cert.UqDaIdeal.nD Cert.UqDaIdeal.τ).loc Cert.UqDaIdeal.main_arg0) = m ((c.tc : Thread Cert.UqDaIdeal.nD Cert.UqDaIdeal.τ).loc Cert.UqDaIdeal.main_arg0)
      ∧ r.2.mem ((c.tc : Thread Cert.UqDaIdeal.nD Cert.UqDaIdeal.τ).loc Cert.UqDaIdeal.main_arg1) = m ((c.tc : Thread Cert.UqDaIdeal.nD Cert.UqDaIdeal.τ).loc Cert.UqDaIdeal.main_arg1))
      ∧ r.2.sem = fun _ => 0)

def quiescent_UqDaReferenceIdeal [hUqDaReferenceIdeal : Cert.UqDaReferenceIdeal.Facts] : Prop :=
  ∀ (m : (ℓ : Loc Cert.UqDaReferenceIdeal.nD Cert.UqDaReferenceIdeal.τ Cert.UqDaReferenceIdeal.sig) → Buf (Elt Ideal) ℓ) (g : Dev Cert.UqDaReferenceIdeal.nD → PrngReg), Pre_UqDaReferenceIdeal m →
    θ_run (Cert.UqDaReferenceIdeal.defs (F := Ideal)) (onTc (τ := Cert.UqDaReferenceIdeal.τ) (Cert.UqDaReferenceIdeal.main (F := Ideal))) ⟨m, fun _ => 0, g⟩ (fun r => (∀ c : Dev Cert.UqDaReferenceIdeal.nD,
      r.2.mem ((c.tc : Thread Cert.UqDaReferenceIdeal.nD Cert.UqDaReferenceIdeal.τ).loc Cert.UqDaReferenceIdeal.main_arg0) = m ((c.tc : Thread Cert.UqDaReferenceIdeal.nD Cert.UqDaReferenceIdeal.τ).loc Cert.UqDaReferenceIdeal.main_arg0)
      ∧ r.2.mem ((c.tc : Thread Cert.UqDaReferenceIdeal.nD Cert.UqDaReferenceIdeal.τ).loc Cert.UqDaReferenceIdeal.main_arg1) = m ((c.tc : Thread Cert.UqDaReferenceIdeal.nD Cert.UqDaReferenceIdeal.τ).loc Cert.UqDaReferenceIdeal.main_arg1))
      ∧ r.2.sem = fun _ => 0)

def quiescent_UqDw [hUqDw : Cert.UqDw.Facts] : Prop :=
  ∀ (m : (ℓ : Loc Cert.UqDw.nD Cert.UqDw.τ Cert.UqDw.sig) → Buf (Elt Bits) ℓ) (g : Dev Cert.UqDw.nD → PrngReg), Pre_UqDw m →
    θ_run (Cert.UqDw.defs (F := Bits)) (onTc (τ := Cert.UqDw.τ) (Cert.UqDw.main (F := Bits))) ⟨m, fun _ => 0, g⟩ (fun r => (∀ c : Dev Cert.UqDw.nD,
      r.2.mem ((c.tc : Thread Cert.UqDw.nD Cert.UqDw.τ).loc Cert.UqDw.main_arg0) = m ((c.tc : Thread Cert.UqDw.nD Cert.UqDw.τ).loc Cert.UqDw.main_arg0)
      ∧ r.2.mem ((c.tc : Thread Cert.UqDw.nD Cert.UqDw.τ).loc Cert.UqDw.main_arg1) = m ((c.tc : Thread Cert.UqDw.nD Cert.UqDw.τ).loc Cert.UqDw.main_arg1))
      ∧ r.2.sem = fun _ => 0)

def quiescent_UqDwIdeal [hUqDwIdeal : Cert.UqDwIdeal.Facts] : Prop :=
  ∀ (m : (ℓ : Loc Cert.UqDwIdeal.nD Cert.UqDwIdeal.τ Cert.UqDwIdeal.sig) → Buf (Elt Ideal) ℓ) (g : Dev Cert.UqDwIdeal.nD → PrngReg), Pre_UqDwIdeal m →
    θ_run (Cert.UqDwIdeal.defs (F := Ideal)) (onTc (τ := Cert.UqDwIdeal.τ) (Cert.UqDwIdeal.main (F := Ideal))) ⟨m, fun _ => 0, g⟩ (fun r => (∀ c : Dev Cert.UqDwIdeal.nD,
      r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
      ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ r.2.sem = fun _ => 0)

def quiescent_UqDwReferenceIdeal [hUqDwReferenceIdeal : Cert.UqDwReferenceIdeal.Facts] : Prop :=
  ∀ (m : (ℓ : Loc Cert.UqDwReferenceIdeal.nD Cert.UqDwReferenceIdeal.τ Cert.UqDwReferenceIdeal.sig) → Buf (Elt Ideal) ℓ) (g : Dev Cert.UqDwReferenceIdeal.nD → PrngReg), Pre_UqDwReferenceIdeal m →
    θ_run (Cert.UqDwReferenceIdeal.defs (F := Ideal)) (onTc (τ := Cert.UqDwReferenceIdeal.τ) (Cert.UqDwReferenceIdeal.main (F := Ideal))) ⟨m, fun _ => 0, g⟩ (fun r => (∀ c : Dev Cert.UqDwReferenceIdeal.nD,
      r.2.mem ((c.tc : Thread Cert.UqDwReferenceIdeal.nD Cert.UqDwReferenceIdeal.τ).loc Cert.UqDwReferenceIdeal.main_arg0) = m ((c.tc : Thread Cert.UqDwReferenceIdeal.nD Cert.UqDwReferenceIdeal.τ).loc Cert.UqDwReferenceIdeal.main_arg0)
      ∧ r.2.mem ((c.tc : Thread Cert.UqDwReferenceIdeal.nD Cert.UqDwReferenceIdeal.τ).loc Cert.UqDwReferenceIdeal.main_arg1) = m ((c.tc : Thread Cert.UqDwReferenceIdeal.nD Cert.UqDwReferenceIdeal.τ).loc Cert.UqDwReferenceIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvReferenceIdeal [hUkvReferenceIdeal : Cert.UkvReferenceIdeal.Facts] : Prop :=
  ∀ (m : (ℓ : Loc Cert.UkvReferenceIdeal.nD Cert.UkvReferenceIdeal.τ Cert.UkvReferenceIdeal.sig) → Buf (Elt Ideal) ℓ) (g : Dev Cert.UkvReferenceIdeal.nD → PrngReg), Pre_UkvReferenceIdeal m →
    θ_run (Cert.UkvReferenceIdeal.defs (F := Ideal)) (onTc (τ := Cert.UkvReferenceIdeal.τ) (Cert.UkvReferenceIdeal.main (F := Ideal))) ⟨m, fun _ => 0, g⟩ (fun r => (∀ c : Dev Cert.UkvReferenceIdeal.nD,
      r.2.mem ((c.tc : Thread Cert.UkvReferenceIdeal.nD Cert.UkvReferenceIdeal.τ).loc Cert.UkvReferenceIdeal.main_arg0) = m ((c.tc : Thread Cert.UkvReferenceIdeal.nD Cert.UkvReferenceIdeal.τ).loc Cert.UkvReferenceIdeal.main_arg0)
      ∧ r.2.mem ((c.tc : Thread Cert.UkvReferenceIdeal.nD Cert.UkvReferenceIdeal.τ).loc Cert.UkvReferenceIdeal.main_arg1) = m ((c.tc : Thread Cert.UkvReferenceIdeal.nD Cert.UkvReferenceIdeal.τ).loc Cert.UkvReferenceIdeal.main_arg1))
      ∧ r.2.sem = fun _ => 0)

def quiescent_UkvDa [hUkvDa : Cert.UkvDa.Facts] : Prop :=
  ∀ (m : (ℓ : Loc Cert.UkvDa.nD Cert.UkvDa.τ Cert.UkvDa.sig) → Buf (Elt Bits) ℓ) (g : Dev Cert.UkvDa.nD → PrngReg), Pre_UkvDa m →
    θ_run (Cert.UkvDa.defs (F := Bits)) (onTc (τ := Cert.UkvDa.τ) (Cert.UkvDa.main (F := Bits))) ⟨m, fun _ => 0, g⟩ (fun r => (∀ c : Dev Cert.UkvDa.nD,
      r.2.mem ((c.tc : Thread Cert.UkvDa.nD Cert.UkvDa.τ).loc Cert.UkvDa.main_arg0) = m ((c.tc : Thread Cert.UkvDa.nD Cert.UkvDa.τ).loc Cert.UkvDa.main_arg0)
      ∧ r.2.mem ((c.tc : Thread Cert.UkvDa.nD Cert.UkvDa.τ).loc Cert.UkvDa.main_arg1) = m ((c.tc : Thread Cert.UkvDa.nD Cert.UkvDa.τ).loc Cert.UkvDa.main_arg1))
      ∧ r.2.sem = fun _ => 0)

def quiescent_UkvDaIdeal [hUkvDaIdeal : Cert.UkvDaIdeal.Facts] : Prop :=
  ∀ (m : (ℓ : Loc Cert.UkvDaIdeal.nD Cert.UkvDaIdeal.τ Cert.UkvDaIdeal.sig) → Buf (Elt Ideal) ℓ) (g : Dev Cert.UkvDaIdeal.nD → PrngReg), Pre_UkvDaIdeal m →
    θ_run (Cert.UkvDaIdeal.defs (F := Ideal)) (onTc (τ := Cert.UkvDaIdeal.τ) (Cert.UkvDaIdeal.main (F := Ideal))) ⟨m, fun _ => 0, g⟩ (fun r => (∀ c : Dev Cert.UkvDaIdeal.nD,
      r.2.mem ((c.tc : Thread Cert.UkvDaIdeal.nD Cert.UkvDaIdeal.τ).loc Cert.UkvDaIdeal.main_arg0) = m ((c.tc : Thread Cert.UkvDaIdeal.nD Cert.UkvDaIdeal.τ).loc Cert.UkvDaIdeal.main_arg0)
      ∧ r.2.mem ((c.tc : Thread Cert.UkvDaIdeal.nD Cert.UkvDaIdeal.τ).loc Cert.UkvDaIdeal.main_arg1) = m ((c.tc : Thread Cert.UkvDaIdeal.nD Cert.UkvDaIdeal.τ).loc Cert.UkvDaIdeal.main_arg1))
      ∧ r.2.sem = fun _ => 0)

def quiescent_UkvDaReferenceIdeal [hUkvDaReferenceIdeal : Cert.UkvDaReferenceIdeal.Facts] : Prop :=
  ∀ (m : (ℓ : Loc Cert.UkvDaReferenceIdeal.nD Cert.UkvDaReferenceIdeal.τ Cert.UkvDaReferenceIdeal.sig) → Buf (Elt Ideal) ℓ) (g : Dev Cert.UkvDaReferenceIdeal.nD → PrngReg), Pre_UkvDaReferenceIdeal m →
    θ_run (Cert.UkvDaReferenceIdeal.defs (F := Ideal)) (onTc (τ := Cert.UkvDaReferenceIdeal.τ) (Cert.UkvDaReferenceIdeal.main (F := Ideal))) ⟨m, fun _ => 0, g⟩ (fun r => (∀ c : Dev Cert.UkvDaReferenceIdeal.nD,
      r.2.mem ((c.tc : Thread Cert.UkvDaReferenceIdeal.nD Cert.UkvDaReferenceIdeal.τ).loc Cert.UkvDaReferenceIdeal.main_arg0) = m ((c.tc : Thread Cert.UkvDaReferenceIdeal.nD Cert.UkvDaReferenceIdeal.τ).loc Cert.UkvDaReferenceIdeal.main_arg0)
      ∧ r.2.mem ((c.tc : Thread Cert.UkvDaReferenceIdeal.nD Cert.UkvDaReferenceIdeal.τ).loc Cert.UkvDaReferenceIdeal.main_arg1) = m ((c.tc : Thread Cert.UkvDaReferenceIdeal.nD Cert.UkvDaReferenceIdeal.τ).loc Cert.UkvDaReferenceIdeal.main_arg1))
      ∧ r.2.sem = fun _ => 0)

def quiescent_UkvDw [hUkvDw : Cert.UkvDw.Facts] : Prop :=
  ∀ (m : (ℓ : Loc Cert.UkvDw.nD Cert.UkvDw.τ Cert.UkvDw.sig) → Buf (Elt Bits) ℓ) (g : Dev Cert.UkvDw.nD → PrngReg), Pre_UkvDw m →
    θ_run (Cert.UkvDw.defs (F := Bits)) (onTc (τ := Cert.UkvDw.τ) (Cert.UkvDw.main (F := Bits))) ⟨m, fun _ => 0, g⟩ (fun r => (∀ c : Dev Cert.UkvDw.nD,
      r.2.mem ((c.tc : Thread Cert.UkvDw.nD Cert.UkvDw.τ).loc Cert.UkvDw.main_arg0) = m ((c.tc : Thread Cert.UkvDw.nD Cert.UkvDw.τ).loc Cert.UkvDw.main_arg0)
      ∧ r.2.mem ((c.tc : Thread Cert.UkvDw.nD Cert.UkvDw.τ).loc Cert.UkvDw.main_arg1) = m ((c.tc : Thread Cert.UkvDw.nD Cert.UkvDw.τ).loc Cert.UkvDw.main_arg1))
      ∧ r.2.sem = fun _ => 0)

def quiescent_UkvDwIdeal [hUkvDwIdeal : Cert.UkvDwIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg), Pre_UkvDwIdeal m →
    θ_run (Cert.UkvDwIdeal.defs (F := Ideal)) (onTc (τ := Cert.UkvDwIdeal.τ) (Cert.UkvDwIdeal.main (F := Ideal))) ⟨m, fun _ => 0, g⟩ (fun r => (∀ c : Dev Cert.UkvDwIdeal.nD,
      r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
      ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ r.2.sem = fun _ => 0)

def quiescent_UkvDwReferenceIdeal [hUkvDwReferenceIdeal : Cert.UkvDwReferenceIdeal.Facts] : Prop :=
  ∀ (m : (ℓ : Loc Cert.UkvDwReferenceIdeal.nD Cert.UkvDwReferenceIdeal.τ Cert.UkvDwReferenceIdeal.sig) → Buf (Elt Ideal) ℓ) (g : Dev Cert.UkvDwReferenceIdeal.nD → PrngReg), Pre_UkvDwReferenceIdeal m →
    θ_run (Cert.UkvDwReferenceIdeal.defs (F := Ideal)) (onTc (τ := Cert.UkvDwReferenceIdeal.τ) (Cert.UkvDwReferenceIdeal.main (F := Ideal))) ⟨m, fun _ => 0, g⟩ (fun r => (∀ c : Dev Cert.UkvDwReferenceIdeal.nD,
      r.2.mem ((c.tc : Thread Cert.UkvDwReferenceIdeal.nD Cert.UkvDwReferenceIdeal.τ).loc Cert.UkvDwReferenceIdeal.main_arg0) = m ((c.tc : Thread Cert.UkvDwReferenceIdeal.nD Cert.UkvDwReferenceIdeal.τ).loc Cert.UkvDwReferenceIdeal.main_arg0)
      ∧ r.2.mem ((c.tc : Thread Cert.UkvDwReferenceIdeal.nD Cert.UkvDwReferenceIdeal.τ).loc Cert.UkvDwReferenceIdeal.main_arg1) = m ((c.tc : Thread Cert.UkvDwReferenceIdeal.nD Cert.UkvDwReferenceIdeal.τ).loc Cert.UkvDwReferenceIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qkv [hFwdIdeal : Cert.FwdIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qkv m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdReferenceIdeal [hFwdReferenceIdeal : Cert.FwdReferenceIdeal.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def quiescent_FwdReferenceIdeal_pre_finite_qkv [hFwdReferenceIdeal : Cert.FwdReferenceIdeal.Facts] [hPre_finite_qkv : Cert.Pre_finite_qkv.Facts] : Prop :=
  ∀ (m : (ℓ : Loc Cert.FwdReferenceIdeal.nD Cert.FwdReferenceIdeal.τ Cert.FwdReferenceIdeal.sig) → Buf (Elt Ideal) ℓ) (g : Dev Cert.FwdReferenceIdeal.nD → PrngReg), Pre_FwdReferenceIdeal_finite_qkv m →
    θ_run (Cert.FwdReferenceIdeal.defs (F := Ideal)) (onTc (τ := Cert.FwdReferenceIdeal.τ) (Cert.FwdReferenceIdeal.main (F := Ideal))) ⟨m, fun _ => 0, g⟩ (fun r => (∀ c : Dev Cert.FwdReferenceIdeal.nD,
      r.2.mem ((c.tc : Thread Cert.FwdReferenceIdeal.nD Cert.FwdReferenceIdeal.τ).loc Cert.FwdReferenceIdeal.main_arg0) = m ((c.tc : Thread Cert.FwdReferenceIdeal.nD Cert.FwdReferenceIdeal.τ).loc Cert.FwdReferenceIdeal.main_arg0)
      ∧ r.2.mem ((c.tc : Thread Cert.FwdReferenceIdeal.nD Cert.FwdReferenceIdeal.τ).loc Cert.FwdReferenceIdeal.main_arg1) = m ((c.tc : Thread Cert.FwdReferenceIdeal.nD Cert.FwdReferenceIdeal.τ).loc Cert.FwdReferenceIdeal.main_arg1)
      ∧ r.2.mem ((c.tc : Thread Cert.FwdReferenceIdeal.nD Cert.FwdReferenceIdeal.τ).loc Cert.FwdReferenceIdeal.main_arg2) = m ((c.tc : Thread Cert.FwdReferenceIdeal.nD Cert.FwdReferenceIdeal.τ).loc Cert.FwdReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)
  ∧ IdealRules.named_const.Statement Cert.KernelIdeal.κ "scale_log2e" .f32 0x3DD53B95#32 ((((Real.sqrt 192) * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v91_0)) (v1 : (c : Dev Cert.KernelIdeal.nD) → Buf (Elt Ideal) ((c.tc : Thread Cert.KernelIdeal.nD Cert.KernelIdeal.τ).loc Cert.KernelIdeal.main_v91_1)) (v2 : (c : Dev Cert.KernelIdeal.nD) → Buf (Elt Ideal) ((c.tc : Thread Cert.KernelIdeal.nD Cert.KernelIdeal.τ).loc Cert.KernelIdeal.main_v91_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91_0) = v0 c
          ∧ r.2.mem ((c.tc : Thread Cert.KernelIdeal.nD Cert.KernelIdeal.τ).loc Cert.KernelIdeal.main_v91_1) = v1 c
          ∧ r.2.mem ((c.tc : Thread Cert.KernelIdeal.nD Cert.KernelIdeal.τ).loc Cert.KernelIdeal.main_v91_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_v131) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v1) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_UpDa_UpDaIdeal : Prop :=
  True

def algebraic_UpDaIdeal_UpDaReferenceIdeal [hUpDaIdeal : Cert.UpDaIdeal.Facts] [hUpDaReferenceIdeal : Cert.UpDaReferenceIdeal.Facts] : Prop :=
  ∀ (m : (ℓ : Loc Cert.UpDaIdeal.nD Cert.UpDaIdeal.τ Cert.UpDaIdeal.sig) → Buf (Elt Ideal) ℓ) (g : Dev Cert.UpDaIdeal.nD → PrngReg)
    (m' : (ℓ : Loc Cert.UpDaReferenceIdeal.nD Cert.UpDaReferenceIdeal.τ Cert.UpDaReferenceIdeal.sig) → Buf (Elt Ideal) ℓ) (g' : Dev Cert.UpDaReferenceIdeal.nD → PrngReg), Pre_UpDaIdeal m →
    (∀ c : Dev Cert.UpDaIdeal.nD,
      m' ((c.tc : Thread Cert.UpDaReferenceIdeal.nD Cert.UpDaReferenceIdeal.τ).loc Cert.UpDaReferenceIdeal.main_arg0) = m ((c.tc : Thread Cert.UpDaIdeal.nD Cert.UpDaIdeal.τ).loc Cert.UpDaIdeal.main_arg0)
      ∧ m' ((c.tc : Thread Cert.UpDaReferenceIdeal.nD Cert.UpDaReferenceIdeal.τ).loc Cert.UpDaReferenceIdeal.main_arg1) = m ((c.tc : Thread Cert.UpDaIdeal.nD Cert.UpDaIdeal.τ).loc Cert.UpDaIdeal.main_arg1)) →
    ∃ (v0 : (c : Dev Cert.UpDaIdeal.nD) → Buf (Elt Ideal) ((c.tc : Thread Cert.UpDaIdeal.nD Cert.UpDaIdeal.τ).loc Cert.UpDaIdeal.main_v3)),
      θ_run (Cert.UpDaIdeal.defs (F := Ideal)) (onTc (τ := Cert.UpDaIdeal.τ) (Cert.UpDaIdeal.main (F := Ideal))) ⟨m, fun _ => 0, g⟩ (fun r => ∀ c : Dev Cert.UpDaIdeal.nD,
          r.2.mem ((c.tc : Thread Cert.UpDaIdeal.nD Cert.UpDaIdeal.τ).loc Cert.UpDaIdeal.main_v3) = v0 c
          ∧ r.2.mem ((c.tc : Thread Cert.UpDaIdeal.nD Cert.UpDaIdeal.τ).loc Cert.UpDaIdeal.main_arg0) = m ((c.tc : Thread Cert.UpDaIdeal.nD Cert.UpDaIdeal.τ).loc Cert.UpDaIdeal.main_arg0)
          ∧ r.2.mem ((c.tc : Thread Cert.UpDaIdeal.nD Cert.UpDaIdeal.τ).loc Cert.UpDaIdeal.main_arg1) = m ((c.tc : Thread Cert.UpDaIdeal.nD Cert.UpDaIdeal.τ).loc Cert.UpDaIdeal.main_arg1))
      ∧ θ_run (Cert.UpDaReferenceIdeal.defs (F := Ideal)) (onTc (τ := Cert.UpDaReferenceIdeal.τ) (Cert.UpDaReferenceIdeal.main (F := Ideal))) ⟨m', fun _ => 0, g'⟩ (fun r => ∀ c : Dev Cert.UpDaReferenceIdeal.nD,
          r.2.mem ((c.tc : Thread Cert.UpDaReferenceIdeal.nD Cert.UpDaReferenceIdeal.τ).loc Cert.UpDaReferenceIdeal.main_v3) = v0 c
          ∧ r.2.mem ((c.tc : Thread Cert.UpDaReferenceIdeal.nD Cert.UpDaReferenceIdeal.τ).loc Cert.UpDaReferenceIdeal.main_arg0) = m' ((c.tc : Thread Cert.UpDaReferenceIdeal.nD Cert.UpDaReferenceIdeal.τ).loc Cert.UpDaReferenceIdeal.main_arg0)
          ∧ r.2.mem ((c.tc : Thread Cert.UpDaReferenceIdeal.nD Cert.UpDaReferenceIdeal.τ).loc Cert.UpDaReferenceIdeal.main_arg1) = m' ((c.tc : Thread Cert.UpDaReferenceIdeal.nD Cert.UpDaReferenceIdeal.τ).loc Cert.UpDaReferenceIdeal.main_arg1))

def preserves_UpDw_UpDwIdeal : Prop :=
  True

def algebraic_UpDwIdeal_UpDwReferenceIdeal [hUpDwIdeal : Cert.UpDwIdeal.Facts] [hUpDwReferenceIdeal : Cert.UpDwReferenceIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwReferenceIdeal.nD Cert.UpDwReferenceIdeal.τ Cert.UpDwReferenceIdeal.sig) → Buf (Elt Ideal) ℓ) (g' : Dev Cert.UpDwReferenceIdeal.nD → PrngReg), Pre_UpDwIdeal m →
    (∀ c : Dev Cert.UpDwIdeal.nD,
      m' ((c.tc : Thread Cert.UpDwReferenceIdeal.nD Cert.UpDwReferenceIdeal.τ).loc Cert.UpDwReferenceIdeal.main_arg0) = m ((c.tc : Thread Cert.UpDwIdeal.nD Cert.UpDwIdeal.τ).loc Cert.UpDwIdeal.main_arg0)
      ∧ m' ((c.tc : Thread Cert.UpDwReferenceIdeal.nD Cert.UpDwReferenceIdeal.τ).loc Cert.UpDwReferenceIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwReferenceIdeal.defs (F := Ideal)) (onTc (τ := Cert.UpDwReferenceIdeal.τ) (Cert.UpDwReferenceIdeal.main (F := Ideal))) ⟨m', fun _ => 0, g'⟩ (fun r => ∀ c : Dev Cert.UpDwReferenceIdeal.nD,
          r.2.mem ((c.tc : Thread Cert.UpDwReferenceIdeal.nD Cert.UpDwReferenceIdeal.τ).loc Cert.UpDwReferenceIdeal.main_v3) = v0 c
          ∧ r.2.mem ((c.tc : Thread Cert.UpDwReferenceIdeal.nD Cert.UpDwReferenceIdeal.τ).loc Cert.UpDwReferenceIdeal.main_arg0) = m' ((c.tc : Thread Cert.UpDwReferenceIdeal.nD Cert.UpDwReferenceIdeal.τ).loc Cert.UpDwReferenceIdeal.main_arg0)
          ∧ r.2.mem ((c.tc : Thread Cert.UpDwReferenceIdeal.nD Cert.UpDwReferenceIdeal.τ).loc Cert.UpDwReferenceIdeal.main_arg1) = m' ((c.tc : Thread Cert.UpDwReferenceIdeal.nD Cert.UpDwReferenceIdeal.τ).loc Cert.UpDwReferenceIdeal.main_arg1))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1))

def preserves_DownDa_DownDaIdeal : Prop :=
  True

def algebraic_DownDaIdeal_DownDaReferenceIdeal [hDownDaIdeal : Cert.DownDaIdeal.Facts] [hDownDaReferenceIdeal : Cert.DownDaReferenceIdeal.Facts] : Prop :=
  ∀ (m : (ℓ : Loc Cert.DownDaIdeal.nD Cert.DownDaIdeal.τ Cert.DownDaIdeal.sig) → Buf (Elt Ideal) ℓ) (g : Dev Cert.DownDaIdeal.nD → PrngReg)
    (m' : (ℓ : Loc Cert.DownDaReferenceIdeal.nD Cert.DownDaReferenceIdeal.τ Cert.DownDaReferenceIdeal.sig) → Buf (Elt Ideal) ℓ) (g' : Dev Cert.DownDaReferenceIdeal.nD → PrngReg), Pre_DownDaIdeal m →
    (∀ c : Dev Cert.DownDaIdeal.nD,
      m' ((c.tc : Thread Cert.DownDaReferenceIdeal.nD Cert.DownDaReferenceIdeal.τ).loc Cert.DownDaReferenceIdeal.main_arg0) = m ((c.tc : Thread Cert.DownDaIdeal.nD Cert.DownDaIdeal.τ).loc Cert.DownDaIdeal.main_arg0)
      ∧ m' ((c.tc : Thread Cert.DownDaReferenceIdeal.nD Cert.DownDaReferenceIdeal.τ).loc Cert.DownDaReferenceIdeal.main_arg1) = m ((c.tc : Thread Cert.DownDaIdeal.nD Cert.DownDaIdeal.τ).loc Cert.DownDaIdeal.main_arg1)) →
    ∃ (v0 : (c : Dev Cert.DownDaIdeal.nD) → Buf (Elt Ideal) ((c.tc : Thread Cert.DownDaIdeal.nD Cert.DownDaIdeal.τ).loc Cert.DownDaIdeal.main_v3)),
      θ_run (Cert.DownDaIdeal.defs (F := Ideal)) (onTc (τ := Cert.DownDaIdeal.τ) (Cert.DownDaIdeal.main (F := Ideal))) ⟨m, fun _ => 0, g⟩ (fun r => ∀ c : Dev Cert.DownDaIdeal.nD,
          r.2.mem ((c.tc : Thread Cert.DownDaIdeal.nD Cert.DownDaIdeal.τ).loc Cert.DownDaIdeal.main_v3) = v0 c
          ∧ r.2.mem ((c.tc : Thread Cert.DownDaIdeal.nD Cert.DownDaIdeal.τ).loc Cert.DownDaIdeal.main_arg0) = m ((c.tc : Thread Cert.DownDaIdeal.nD Cert.DownDaIdeal.τ).loc Cert.DownDaIdeal.main_arg0)
          ∧ r.2.mem ((c.tc : Thread Cert.DownDaIdeal.nD Cert.DownDaIdeal.τ).loc Cert.DownDaIdeal.main_arg1) = m ((c.tc : Thread Cert.DownDaIdeal.nD Cert.DownDaIdeal.τ).loc Cert.DownDaIdeal.main_arg1))
      ∧ θ_run (Cert.DownDaReferenceIdeal.defs (F := Ideal)) (onTc (τ := Cert.DownDaReferenceIdeal.τ) (Cert.DownDaReferenceIdeal.main (F := Ideal))) ⟨m', fun _ => 0, g'⟩ (fun r => ∀ c : Dev Cert.DownDaReferenceIdeal.nD,
          r.2.mem ((c.tc : Thread Cert.DownDaReferenceIdeal.nD Cert.DownDaReferenceIdeal.τ).loc Cert.DownDaReferenceIdeal.main_v3) = v0 c
          ∧ r.2.mem ((c.tc : Thread Cert.DownDaReferenceIdeal.nD Cert.DownDaReferenceIdeal.τ).loc Cert.DownDaReferenceIdeal.main_arg0) = m' ((c.tc : Thread Cert.DownDaReferenceIdeal.nD Cert.DownDaReferenceIdeal.τ).loc Cert.DownDaReferenceIdeal.main_arg0)
          ∧ r.2.mem ((c.tc : Thread Cert.DownDaReferenceIdeal.nD Cert.DownDaReferenceIdeal.τ).loc Cert.DownDaReferenceIdeal.main_arg1) = m' ((c.tc : Thread Cert.DownDaReferenceIdeal.nD Cert.DownDaReferenceIdeal.τ).loc Cert.DownDaReferenceIdeal.main_arg1))

def preserves_DownDw_DownDwIdeal : Prop :=
  True

def algebraic_DownDwIdeal_DownDwReferenceIdeal [hDownDwIdeal : Cert.DownDwIdeal.Facts] [hDownDwReferenceIdeal : Cert.DownDwReferenceIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwReferenceIdeal.nD Cert.DownDwReferenceIdeal.τ Cert.DownDwReferenceIdeal.sig) → Buf (Elt Ideal) ℓ) (g' : Dev Cert.DownDwReferenceIdeal.nD → PrngReg), Pre_DownDwIdeal m →
    (∀ c : Dev Cert.DownDwIdeal.nD,
      m' ((c.tc : Thread Cert.DownDwReferenceIdeal.nD Cert.DownDwReferenceIdeal.τ).loc Cert.DownDwReferenceIdeal.main_arg0) = m ((c.tc : Thread Cert.DownDwIdeal.nD Cert.DownDwIdeal.τ).loc Cert.DownDwIdeal.main_arg0)
      ∧ m' ((c.tc : Thread Cert.DownDwReferenceIdeal.nD Cert.DownDwReferenceIdeal.τ).loc Cert.DownDwReferenceIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwReferenceIdeal.defs (F := Ideal)) (onTc (τ := Cert.DownDwReferenceIdeal.τ) (Cert.DownDwReferenceIdeal.main (F := Ideal))) ⟨m', fun _ => 0, g'⟩ (fun r => ∀ c : Dev Cert.DownDwReferenceIdeal.nD,
          r.2.mem ((c.tc : Thread Cert.DownDwReferenceIdeal.nD Cert.DownDwReferenceIdeal.τ).loc Cert.DownDwReferenceIdeal.main_v3) = v0 c
          ∧ r.2.mem ((c.tc : Thread Cert.DownDwReferenceIdeal.nD Cert.DownDwReferenceIdeal.τ).loc Cert.DownDwReferenceIdeal.main_arg0) = m' ((c.tc : Thread Cert.DownDwReferenceIdeal.nD Cert.DownDwReferenceIdeal.τ).loc Cert.DownDwReferenceIdeal.main_arg0)
          ∧ r.2.mem ((c.tc : Thread Cert.DownDwReferenceIdeal.nD Cert.DownDwReferenceIdeal.τ).loc Cert.DownDwReferenceIdeal.main_arg1) = m' ((c.tc : Thread Cert.DownDwReferenceIdeal.nD Cert.DownDwReferenceIdeal.τ).loc Cert.DownDwReferenceIdeal.main_arg1))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v0) = v0 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1))

def preserves_InDa_InDaIdeal : Prop :=
  True

def algebraic_InDaIdeal_InDaReferenceIdeal [hInDaIdeal : Cert.InDaIdeal.Facts] [hInDaReferenceIdeal : Cert.InDaReferenceIdeal.Facts] : Prop :=
  ∀ (m : (ℓ : Loc Cert.InDaIdeal.nD Cert.InDaIdeal.τ Cert.InDaIdeal.sig) → Buf (Elt Ideal) ℓ) (g : Dev Cert.InDaIdeal.nD → PrngReg)
    (m' : (ℓ : Loc Cert.InDaReferenceIdeal.nD Cert.InDaReferenceIdeal.τ Cert.InDaReferenceIdeal.sig) → Buf (Elt Ideal) ℓ) (g' : Dev Cert.InDaReferenceIdeal.nD → PrngReg), Pre_InDaIdeal m →
    (∀ c : Dev Cert.InDaIdeal.nD,
      m' ((c.tc : Thread Cert.InDaReferenceIdeal.nD Cert.InDaReferenceIdeal.τ).loc Cert.InDaReferenceIdeal.main_arg0) = m ((c.tc : Thread Cert.InDaIdeal.nD Cert.InDaIdeal.τ).loc Cert.InDaIdeal.main_arg0)
      ∧ m' ((c.tc : Thread Cert.InDaReferenceIdeal.nD Cert.InDaReferenceIdeal.τ).loc Cert.InDaReferenceIdeal.main_arg1) = m ((c.tc : Thread Cert.InDaIdeal.nD Cert.InDaIdeal.τ).loc Cert.InDaIdeal.main_arg1)) →
    ∃ (v0 : (c : Dev Cert.InDaIdeal.nD) → Buf (Elt Ideal) ((c.tc : Thread Cert.InDaIdeal.nD Cert.InDaIdeal.τ).loc Cert.InDaIdeal.main_v3)),
      θ_run (Cert.InDaIdeal.defs (F := Ideal)) (onTc (τ := Cert.InDaIdeal.τ) (Cert.InDaIdeal.main (F := Ideal))) ⟨m, fun _ => 0, g⟩ (fun r => ∀ c : Dev Cert.InDaIdeal.nD,
          r.2.mem ((c.tc : Thread Cert.InDaIdeal.nD Cert.InDaIdeal.τ).loc Cert.InDaIdeal.main_v3) = v0 c
          ∧ r.2.mem ((c.tc : Thread Cert.InDaIdeal.nD Cert.InDaIdeal.τ).loc Cert.InDaIdeal.main_arg0) = m ((c.tc : Thread Cert.InDaIdeal.nD Cert.InDaIdeal.τ).loc Cert.InDaIdeal.main_arg0)
          ∧ r.2.mem ((c.tc : Thread Cert.InDaIdeal.nD Cert.InDaIdeal.τ).loc Cert.InDaIdeal.main_arg1) = m ((c.tc : Thread Cert.InDaIdeal.nD Cert.InDaIdeal.τ).loc Cert.InDaIdeal.main_arg1))
      ∧ θ_run (Cert.InDaReferenceIdeal.defs (F := Ideal)) (onTc (τ := Cert.InDaReferenceIdeal.τ) (Cert.InDaReferenceIdeal.main (F := Ideal))) ⟨m', fun _ => 0, g'⟩ (fun r => ∀ c : Dev Cert.InDaReferenceIdeal.nD,
          r.2.mem ((c.tc : Thread Cert.InDaReferenceIdeal.nD Cert.InDaReferenceIdeal.τ).loc Cert.InDaReferenceIdeal.main_v3) = v0 c
          ∧ r.2.mem ((c.tc : Thread Cert.InDaReferenceIdeal.nD Cert.InDaReferenceIdeal.τ).loc Cert.InDaReferenceIdeal.main_arg0) = m' ((c.tc : Thread Cert.InDaReferenceIdeal.nD Cert.InDaReferenceIdeal.τ).loc Cert.InDaReferenceIdeal.main_arg0)
          ∧ r.2.mem ((c.tc : Thread Cert.InDaReferenceIdeal.nD Cert.InDaReferenceIdeal.τ).loc Cert.InDaReferenceIdeal.main_arg1) = m' ((c.tc : Thread Cert.InDaReferenceIdeal.nD Cert.InDaReferenceIdeal.τ).loc Cert.InDaReferenceIdeal.main_arg1))

def preserves_InDw_InDwIdeal : Prop :=
  True

def algebraic_InDwIdeal_InDwReferenceIdeal [hInDwIdeal : Cert.InDwIdeal.Facts] [hInDwReferenceIdeal : Cert.InDwReferenceIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwReferenceIdeal.nD Cert.InDwReferenceIdeal.τ Cert.InDwReferenceIdeal.sig) → Buf (Elt Ideal) ℓ) (g' : Dev Cert.InDwReferenceIdeal.nD → PrngReg), Pre_InDwIdeal m →
    (∀ c : Dev Cert.InDwIdeal.nD,
      m' ((c.tc : Thread Cert.InDwReferenceIdeal.nD Cert.InDwReferenceIdeal.τ).loc Cert.InDwReferenceIdeal.main_arg0) = m ((c.tc : Thread Cert.InDwIdeal.nD Cert.InDwIdeal.τ).loc Cert.InDwIdeal.main_arg0)
      ∧ m' ((c.tc : Thread Cert.InDwReferenceIdeal.nD Cert.InDwReferenceIdeal.τ).loc Cert.InDwReferenceIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwReferenceIdeal.defs (F := Ideal)) (onTc (τ := Cert.InDwReferenceIdeal.τ) (Cert.InDwReferenceIdeal.main (F := Ideal))) ⟨m', fun _ => 0, g'⟩ (fun r => ∀ c : Dev Cert.InDwReferenceIdeal.nD,
          r.2.mem ((c.tc : Thread Cert.InDwReferenceIdeal.nD Cert.InDwReferenceIdeal.τ).loc Cert.InDwReferenceIdeal.main_v3) = v0 c
          ∧ r.2.mem ((c.tc : Thread Cert.InDwReferenceIdeal.nD Cert.InDwReferenceIdeal.τ).loc Cert.InDwReferenceIdeal.main_arg0) = m' ((c.tc : Thread Cert.InDwReferenceIdeal.nD Cert.InDwReferenceIdeal.τ).loc Cert.InDwReferenceIdeal.main_arg0)
          ∧ r.2.mem ((c.tc : Thread Cert.InDwReferenceIdeal.nD Cert.InDwReferenceIdeal.τ).loc Cert.InDwReferenceIdeal.main_arg1) = m' ((c.tc : Thread Cert.InDwReferenceIdeal.nD Cert.InDwReferenceIdeal.τ).loc Cert.InDwReferenceIdeal.main_arg1))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v0) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1))

def preserves_OutDa_OutDaIdeal : Prop :=
  True

def algebraic_OutDaIdeal_OutDaReferenceIdeal [hOutDaIdeal : Cert.OutDaIdeal.Facts] [hOutDaReferenceIdeal : Cert.OutDaReferenceIdeal.Facts] : Prop :=
  ∀ (m : (ℓ : Loc Cert.OutDaIdeal.nD Cert.OutDaIdeal.τ Cert.OutDaIdeal.sig) → Buf (Elt Ideal) ℓ) (g : Dev Cert.OutDaIdeal.nD → PrngReg)
    (m' : (ℓ : Loc Cert.OutDaReferenceIdeal.nD Cert.OutDaReferenceIdeal.τ Cert.OutDaReferenceIdeal.sig) → Buf (Elt Ideal) ℓ) (g' : Dev Cert.OutDaReferenceIdeal.nD → PrngReg), Pre_OutDaIdeal m →
    (∀ c : Dev Cert.OutDaIdeal.nD,
      m' ((c.tc : Thread Cert.OutDaReferenceIdeal.nD Cert.OutDaReferenceIdeal.τ).loc Cert.OutDaReferenceIdeal.main_arg0) = m ((c.tc : Thread Cert.OutDaIdeal.nD Cert.OutDaIdeal.τ).loc Cert.OutDaIdeal.main_arg0)
      ∧ m' ((c.tc : Thread Cert.OutDaReferenceIdeal.nD Cert.OutDaReferenceIdeal.τ).loc Cert.OutDaReferenceIdeal.main_arg1) = m ((c.tc : Thread Cert.OutDaIdeal.nD Cert.OutDaIdeal.τ).loc Cert.OutDaIdeal.main_arg1)) →
    ∃ (v0 : (c : Dev Cert.OutDaIdeal.nD) → Buf (Elt Ideal) ((c.tc : Thread Cert.OutDaIdeal.nD Cert.OutDaIdeal.τ).loc Cert.OutDaIdeal.main_v3)),
      θ_run (Cert.OutDaIdeal.defs (F := Ideal)) (onTc (τ := Cert.OutDaIdeal.τ) (Cert.OutDaIdeal.main (F := Ideal))) ⟨m, fun _ => 0, g⟩ (fun r => ∀ c : Dev Cert.OutDaIdeal.nD,
          r.2.mem ((c.tc : Thread Cert.OutDaIdeal.nD Cert.OutDaIdeal.τ).loc Cert.OutDaIdeal.main_v3) = v0 c
          ∧ r.2.mem ((c.tc : Thread Cert.OutDaIdeal.nD Cert.OutDaIdeal.τ).loc Cert.OutDaIdeal.main_arg0) = m ((c.tc : Thread Cert.OutDaIdeal.nD Cert.OutDaIdeal.τ).loc Cert.OutDaIdeal.main_arg0)
          ∧ r.2.mem ((c.tc : Thread Cert.OutDaIdeal.nD Cert.OutDaIdeal.τ).loc Cert.OutDaIdeal.main_arg1) = m ((c.tc : Thread Cert.OutDaIdeal.nD Cert.OutDaIdeal.τ).loc Cert.OutDaIdeal.main_arg1))
      ∧ θ_run (Cert.OutDaReferenceIdeal.defs (F := Ideal)) (onTc (τ := Cert.OutDaReferenceIdeal.τ) (Cert.OutDaReferenceIdeal.main (F := Ideal))) ⟨m', fun _ => 0, g'⟩ (fun r => ∀ c : Dev Cert.OutDaReferenceIdeal.nD,
          r.2.mem ((c.tc : Thread Cert.OutDaReferenceIdeal.nD Cert.OutDaReferenceIdeal.τ).loc Cert.OutDaReferenceIdeal.main_v3) = v0 c
          ∧ r.2.mem ((c.tc : Thread Cert.OutDaReferenceIdeal.nD Cert.OutDaReferenceIdeal.τ).loc Cert.OutDaReferenceIdeal.main_arg0) = m' ((c.tc : Thread Cert.OutDaReferenceIdeal.nD Cert.OutDaReferenceIdeal.τ).loc Cert.OutDaReferenceIdeal.main_arg0)
          ∧ r.2.mem ((c.tc : Thread Cert.OutDaReferenceIdeal.nD Cert.OutDaReferenceIdeal.τ).loc Cert.OutDaReferenceIdeal.main_arg1) = m' ((c.tc : Thread Cert.OutDaReferenceIdeal.nD Cert.OutDaReferenceIdeal.τ).loc Cert.OutDaReferenceIdeal.main_arg1))

def preserves_OutDw_OutDwIdeal : Prop :=
  True

def algebraic_OutDwIdeal_OutDwReferenceIdeal [hOutDwIdeal : Cert.OutDwIdeal.Facts] [hOutDwReferenceIdeal : Cert.OutDwReferenceIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwReferenceIdeal.nD Cert.OutDwReferenceIdeal.τ Cert.OutDwReferenceIdeal.sig) → Buf (Elt Ideal) ℓ) (g' : Dev Cert.OutDwReferenceIdeal.nD → PrngReg), Pre_OutDwIdeal m →
    (∀ c : Dev Cert.OutDwIdeal.nD,
      m' ((c.tc : Thread Cert.OutDwReferenceIdeal.nD Cert.OutDwReferenceIdeal.τ).loc Cert.OutDwReferenceIdeal.main_arg0) = m ((c.tc : Thread Cert.OutDwIdeal.nD Cert.OutDwIdeal.τ).loc Cert.OutDwIdeal.main_arg0)
      ∧ m' ((c.tc : Thread Cert.OutDwReferenceIdeal.nD Cert.OutDwReferenceIdeal.τ).loc Cert.OutDwReferenceIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwReferenceIdeal.defs (F := Ideal)) (onTc (τ := Cert.OutDwReferenceIdeal.τ) (Cert.OutDwReferenceIdeal.main (F := Ideal))) ⟨m', fun _ => 0, g'⟩ (fun r => ∀ c : Dev Cert.OutDwReferenceIdeal.nD,
          r.2.mem ((c.tc : Thread Cert.OutDwReferenceIdeal.nD Cert.OutDwReferenceIdeal.τ).loc Cert.OutDwReferenceIdeal.main_v3) = v0 c
          ∧ r.2.mem ((c.tc : Thread Cert.OutDwReferenceIdeal.nD Cert.OutDwReferenceIdeal.τ).loc Cert.OutDwReferenceIdeal.main_arg0) = m' ((c.tc : Thread Cert.OutDwReferenceIdeal.nD Cert.OutDwReferenceIdeal.τ).loc Cert.OutDwReferenceIdeal.main_arg0)
          ∧ r.2.mem ((c.tc : Thread Cert.OutDwReferenceIdeal.nD Cert.OutDwReferenceIdeal.τ).loc Cert.OutDwReferenceIdeal.main_arg1) = m' ((c.tc : Thread Cert.OutDwReferenceIdeal.nD Cert.OutDwReferenceIdeal.τ).loc Cert.OutDwReferenceIdeal.main_arg1))

def preserves_Uq_UqIdeal : Prop :=
  True

def algebraic_UqIdeal_UqReferenceIdeal [hUqIdeal : Cert.UqIdeal.Facts] [hUqReferenceIdeal : Cert.UqReferenceIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqReferenceIdeal.nD Cert.UqReferenceIdeal.τ Cert.UqReferenceIdeal.sig) → Buf (Elt Ideal) ℓ) (g' : Dev Cert.UqReferenceIdeal.nD → PrngReg), Pre_UqIdeal m →
    (∀ c : Dev Cert.UqIdeal.nD,
      m' ((c.tc : Thread Cert.UqReferenceIdeal.nD Cert.UqReferenceIdeal.τ).loc Cert.UqReferenceIdeal.main_arg0) = m ((c.tc : Thread Cert.UqIdeal.nD Cert.UqIdeal.τ).loc Cert.UqIdeal.main_arg0)
      ∧ m' ((c.tc : Thread Cert.UqReferenceIdeal.nD Cert.UqReferenceIdeal.τ).loc Cert.UqReferenceIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v2)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v2) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqReferenceIdeal.defs (F := Ideal)) (onTc (τ := Cert.UqReferenceIdeal.τ) (Cert.UqReferenceIdeal.main (F := Ideal))) ⟨m', fun _ => 0, g'⟩ (fun r => ∀ c : Dev Cert.UqReferenceIdeal.nD,
          r.2.mem ((c.tc : Thread Cert.UqReferenceIdeal.nD Cert.UqReferenceIdeal.τ).loc Cert.UqReferenceIdeal.main_v0) = v0 c
          ∧ r.2.mem ((c.tc : Thread Cert.UqReferenceIdeal.nD Cert.UqReferenceIdeal.τ).loc Cert.UqReferenceIdeal.main_arg0) = m' ((c.tc : Thread Cert.UqReferenceIdeal.nD Cert.UqReferenceIdeal.τ).loc Cert.UqReferenceIdeal.main_arg0)
          ∧ r.2.mem ((c.tc : Thread Cert.UqReferenceIdeal.nD Cert.UqReferenceIdeal.τ).loc Cert.UqReferenceIdeal.main_arg1) = m' ((c.tc : Thread Cert.UqReferenceIdeal.nD Cert.UqReferenceIdeal.τ).loc Cert.UqReferenceIdeal.main_arg1))

def preserves_UqDa_UqDaIdeal : Prop :=
  True

def algebraic_UqDaIdeal_UqDaReferenceIdeal [hUqDaIdeal : Cert.UqDaIdeal.Facts] [hUqDaReferenceIdeal : Cert.UqDaReferenceIdeal.Facts] : Prop :=
  ∀ (m : (ℓ : Loc Cert.UqDaIdeal.nD Cert.UqDaIdeal.τ Cert.UqDaIdeal.sig) → Buf (Elt Ideal) ℓ) (g : Dev Cert.UqDaIdeal.nD → PrngReg)
    (m' : (ℓ : Loc Cert.UqDaReferenceIdeal.nD Cert.UqDaReferenceIdeal.τ Cert.UqDaReferenceIdeal.sig) → Buf (Elt Ideal) ℓ) (g' : Dev Cert.UqDaReferenceIdeal.nD → PrngReg), Pre_UqDaIdeal m →
    (∀ c : Dev Cert.UqDaIdeal.nD,
      m' ((c.tc : Thread Cert.UqDaReferenceIdeal.nD Cert.UqDaReferenceIdeal.τ).loc Cert.UqDaReferenceIdeal.main_arg0) = m ((c.tc : Thread Cert.UqDaIdeal.nD Cert.UqDaIdeal.τ).loc Cert.UqDaIdeal.main_arg0)
      ∧ m' ((c.tc : Thread Cert.UqDaReferenceIdeal.nD Cert.UqDaReferenceIdeal.τ).loc Cert.UqDaReferenceIdeal.main_arg1) = m ((c.tc : Thread Cert.UqDaIdeal.nD Cert.UqDaIdeal.τ).loc Cert.UqDaIdeal.main_arg1)) →
    ∃ (v0 : (c : Dev Cert.UqDaIdeal.nD) → Buf (Elt Ideal) ((c.tc : Thread Cert.UqDaIdeal.nD Cert.UqDaIdeal.τ).loc Cert.UqDaIdeal.main_v3)),
      θ_run (Cert.UqDaIdeal.defs (F := Ideal)) (onTc (τ := Cert.UqDaIdeal.τ) (Cert.UqDaIdeal.main (F := Ideal))) ⟨m, fun _ => 0, g⟩ (fun r => ∀ c : Dev Cert.UqDaIdeal.nD,
          r.2.mem ((c.tc : Thread Cert.UqDaIdeal.nD Cert.UqDaIdeal.τ).loc Cert.UqDaIdeal.main_v3) = v0 c
          ∧ r.2.mem ((c.tc : Thread Cert.UqDaIdeal.nD Cert.UqDaIdeal.τ).loc Cert.UqDaIdeal.main_arg0) = m ((c.tc : Thread Cert.UqDaIdeal.nD Cert.UqDaIdeal.τ).loc Cert.UqDaIdeal.main_arg0)
          ∧ r.2.mem ((c.tc : Thread Cert.UqDaIdeal.nD Cert.UqDaIdeal.τ).loc Cert.UqDaIdeal.main_arg1) = m ((c.tc : Thread Cert.UqDaIdeal.nD Cert.UqDaIdeal.τ).loc Cert.UqDaIdeal.main_arg1))
      ∧ θ_run (Cert.UqDaReferenceIdeal.defs (F := Ideal)) (onTc (τ := Cert.UqDaReferenceIdeal.τ) (Cert.UqDaReferenceIdeal.main (F := Ideal))) ⟨m', fun _ => 0, g'⟩ (fun r => ∀ c : Dev Cert.UqDaReferenceIdeal.nD,
          r.2.mem ((c.tc : Thread Cert.UqDaReferenceIdeal.nD Cert.UqDaReferenceIdeal.τ).loc Cert.UqDaReferenceIdeal.main_v3) = v0 c
          ∧ r.2.mem ((c.tc : Thread Cert.UqDaReferenceIdeal.nD Cert.UqDaReferenceIdeal.τ).loc Cert.UqDaReferenceIdeal.main_arg0) = m' ((c.tc : Thread Cert.UqDaReferenceIdeal.nD Cert.UqDaReferenceIdeal.τ).loc Cert.UqDaReferenceIdeal.main_arg0)
          ∧ r.2.mem ((c.tc : Thread Cert.UqDaReferenceIdeal.nD Cert.UqDaReferenceIdeal.τ).loc Cert.UqDaReferenceIdeal.main_arg1) = m' ((c.tc : Thread Cert.UqDaReferenceIdeal.nD Cert.UqDaReferenceIdeal.τ).loc Cert.UqDaReferenceIdeal.main_arg1))

def preserves_UqDw_UqDwIdeal : Prop :=
  True

def algebraic_UqDwIdeal_UqDwReferenceIdeal [hUqDwIdeal : Cert.UqDwIdeal.Facts] [hUqDwReferenceIdeal : Cert.UqDwReferenceIdeal.Facts] : Prop :=
  ∀ (m : (ℓ : Loc Cert.UqDwIdeal.nD Cert.UqDwIdeal.τ Cert.UqDwIdeal.sig) → Buf (Elt Ideal) ℓ) (g : Dev Cert.UqDwIdeal.nD → PrngReg)
    (m' : (ℓ : Loc Cert.UqDwReferenceIdeal.nD Cert.UqDwReferenceIdeal.τ Cert.UqDwReferenceIdeal.sig) → Buf (Elt Ideal) ℓ) (g' : Dev Cert.UqDwReferenceIdeal.nD → PrngReg), Pre_UqDwIdeal m →
    (∀ c : Dev Cert.UqDwIdeal.nD,
      m' ((c.tc : Thread Cert.UqDwReferenceIdeal.nD Cert.UqDwReferenceIdeal.τ).loc Cert.UqDwReferenceIdeal.main_arg0) = m ((c.tc : Thread Cert.UqDwIdeal.nD Cert.UqDwIdeal.τ).loc Cert.UqDwIdeal.main_arg0)
      ∧ m' ((c.tc : Thread Cert.UqDwReferenceIdeal.nD Cert.UqDwReferenceIdeal.τ).loc Cert.UqDwReferenceIdeal.main_arg1) = m ((c.tc : Thread Cert.UqDwIdeal.nD Cert.UqDwIdeal.τ).loc Cert.UqDwIdeal.main_arg1)) →
    ∃ (v0 : (c : Dev Cert.UqDwIdeal.nD) → Buf (Elt Ideal) ((c.tc : Thread Cert.UqDwIdeal.nD Cert.UqDwIdeal.τ).loc Cert.UqDwIdeal.main_v2)),
      θ_run (Cert.UqDwIdeal.defs (F := Ideal)) (onTc (τ := Cert.UqDwIdeal.τ) (Cert.UqDwIdeal.main (F := Ideal))) ⟨m, fun _ => 0, g⟩ (fun r => ∀ c : Dev Cert.UqDwIdeal.nD,
          r.2.mem ((c.tc : Thread Cert.UqDwIdeal.nD Cert.UqDwIdeal.τ).loc Cert.UqDwIdeal.main_v2) = v0 c
          ∧ r.2.mem ((c.tc : Thread Cert.UqDwIdeal.nD Cert.UqDwIdeal.τ).loc Cert.UqDwIdeal.main_arg0) = m ((c.tc : Thread Cert.UqDwIdeal.nD Cert.UqDwIdeal.τ).loc Cert.UqDwIdeal.main_arg0)
          ∧ r.2.mem ((c.tc : Thread Cert.UqDwIdeal.nD Cert.UqDwIdeal.τ).loc Cert.UqDwIdeal.main_arg1) = m ((c.tc : Thread Cert.UqDwIdeal.nD Cert.UqDwIdeal.τ).loc Cert.UqDwIdeal.main_arg1))
      ∧ θ_run (Cert.UqDwReferenceIdeal.defs (F := Ideal)) (onTc (τ := Cert.UqDwReferenceIdeal.τ) (Cert.UqDwReferenceIdeal.main (F := Ideal))) ⟨m', fun _ => 0, g'⟩ (fun r => ∀ c : Dev Cert.UqDwReferenceIdeal.nD,
          r.2.mem ((c.tc : Thread Cert.UqDwReferenceIdeal.nD Cert.UqDwReferenceIdeal.τ).loc Cert.UqDwReferenceIdeal.main_v3) = v0 c
          ∧ r.2.mem ((c.tc : Thread Cert.UqDwReferenceIdeal.nD Cert.UqDwReferenceIdeal.τ).loc Cert.UqDwReferenceIdeal.main_arg0) = m' ((c.tc : Thread Cert.UqDwReferenceIdeal.nD Cert.UqDwReferenceIdeal.τ).loc Cert.UqDwReferenceIdeal.main_arg0)
          ∧ r.2.mem ((c.tc : Thread Cert.UqDwReferenceIdeal.nD Cert.UqDwReferenceIdeal.τ).loc Cert.UqDwReferenceIdeal.main_arg1) = m' ((c.tc : Thread Cert.UqDwReferenceIdeal.nD Cert.UqDwReferenceIdeal.τ).loc Cert.UqDwReferenceIdeal.main_arg1))

def preserves_Ukv_UkvIdeal : Prop :=
  True

def algebraic_UkvIdeal_UkvReferenceIdeal [hUkvIdeal : Cert.UkvIdeal.Facts] [hUkvReferenceIdeal : Cert.UkvReferenceIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvReferenceIdeal.nD Cert.UkvReferenceIdeal.τ Cert.UkvReferenceIdeal.sig) → Buf (Elt Ideal) ℓ) (g' : Dev Cert.UkvReferenceIdeal.nD → PrngReg), Pre_UkvIdeal m →
    (∀ c : Dev Cert.UkvIdeal.nD,
      m' ((c.tc : Thread Cert.UkvReferenceIdeal.nD Cert.UkvReferenceIdeal.τ).loc Cert.UkvReferenceIdeal.main_arg0) = m ((c.tc : Thread Cert.UkvIdeal.nD Cert.UkvIdeal.τ).loc Cert.UkvIdeal.main_arg0)
      ∧ m' ((c.tc : Thread Cert.UkvReferenceIdeal.nD Cert.UkvReferenceIdeal.τ).loc Cert.UkvReferenceIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v2)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v2) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvReferenceIdeal.defs (F := Ideal)) (onTc (τ := Cert.UkvReferenceIdeal.τ) (Cert.UkvReferenceIdeal.main (F := Ideal))) ⟨m', fun _ => 0, g'⟩ (fun r => ∀ c : Dev Cert.UkvReferenceIdeal.nD,
          r.2.mem ((c.tc : Thread Cert.UkvReferenceIdeal.nD Cert.UkvReferenceIdeal.τ).loc Cert.UkvReferenceIdeal.main_v0) = v0 c
          ∧ r.2.mem ((c.tc : Thread Cert.UkvReferenceIdeal.nD Cert.UkvReferenceIdeal.τ).loc Cert.UkvReferenceIdeal.main_arg0) = m' ((c.tc : Thread Cert.UkvReferenceIdeal.nD Cert.UkvReferenceIdeal.τ).loc Cert.UkvReferenceIdeal.main_arg0)
          ∧ r.2.mem ((c.tc : Thread Cert.UkvReferenceIdeal.nD Cert.UkvReferenceIdeal.τ).loc Cert.UkvReferenceIdeal.main_arg1) = m' ((c.tc : Thread Cert.UkvReferenceIdeal.nD Cert.UkvReferenceIdeal.τ).loc Cert.UkvReferenceIdeal.main_arg1))

def preserves_UkvDa_UkvDaIdeal : Prop :=
  True

def algebraic_UkvDaIdeal_UkvDaReferenceIdeal [hUkvDaIdeal : Cert.UkvDaIdeal.Facts] [hUkvDaReferenceIdeal : Cert.UkvDaReferenceIdeal.Facts] : Prop :=
  ∀ (m : (ℓ : Loc Cert.UkvDaIdeal.nD Cert.UkvDaIdeal.τ Cert.UkvDaIdeal.sig) → Buf (Elt Ideal) ℓ) (g : Dev Cert.UkvDaIdeal.nD → PrngReg)
    (m' : (ℓ : Loc Cert.UkvDaReferenceIdeal.nD Cert.UkvDaReferenceIdeal.τ Cert.UkvDaReferenceIdeal.sig) → Buf (Elt Ideal) ℓ) (g' : Dev Cert.UkvDaReferenceIdeal.nD → PrngReg), Pre_UkvDaIdeal m →
    (∀ c : Dev Cert.UkvDaIdeal.nD,
      m' ((c.tc : Thread Cert.UkvDaReferenceIdeal.nD Cert.UkvDaReferenceIdeal.τ).loc Cert.UkvDaReferenceIdeal.main_arg0) = m ((c.tc : Thread Cert.UkvDaIdeal.nD Cert.UkvDaIdeal.τ).loc Cert.UkvDaIdeal.main_arg0)
      ∧ m' ((c.tc : Thread Cert.UkvDaReferenceIdeal.nD Cert.UkvDaReferenceIdeal.τ).loc Cert.UkvDaReferenceIdeal.main_arg1) = m ((c.tc : Thread Cert.UkvDaIdeal.nD Cert.UkvDaIdeal.τ).loc Cert.UkvDaIdeal.main_arg1)) →
    ∃ (v0 : (c : Dev Cert.UkvDaIdeal.nD) → Buf (Elt Ideal) ((c.tc : Thread Cert.UkvDaIdeal.nD Cert.UkvDaIdeal.τ).loc Cert.UkvDaIdeal.main_v3)),
      θ_run (Cert.UkvDaIdeal.defs (F := Ideal)) (onTc (τ := Cert.UkvDaIdeal.τ) (Cert.UkvDaIdeal.main (F := Ideal))) ⟨m, fun _ => 0, g⟩ (fun r => ∀ c : Dev Cert.UkvDaIdeal.nD,
          r.2.mem ((c.tc : Thread Cert.UkvDaIdeal.nD Cert.UkvDaIdeal.τ).loc Cert.UkvDaIdeal.main_v3) = v0 c
          ∧ r.2.mem ((c.tc : Thread Cert.UkvDaIdeal.nD Cert.UkvDaIdeal.τ).loc Cert.UkvDaIdeal.main_arg0) = m ((c.tc : Thread Cert.UkvDaIdeal.nD Cert.UkvDaIdeal.τ).loc Cert.UkvDaIdeal.main_arg0)
          ∧ r.2.mem ((c.tc : Thread Cert.UkvDaIdeal.nD Cert.UkvDaIdeal.τ).loc Cert.UkvDaIdeal.main_arg1) = m ((c.tc : Thread Cert.UkvDaIdeal.nD Cert.UkvDaIdeal.τ).loc Cert.UkvDaIdeal.main_arg1))
      ∧ θ_run (Cert.UkvDaReferenceIdeal.defs (F := Ideal)) (onTc (τ := Cert.UkvDaReferenceIdeal.τ) (Cert.UkvDaReferenceIdeal.main (F := Ideal))) ⟨m', fun _ => 0, g'⟩ (fun r => ∀ c : Dev Cert.UkvDaReferenceIdeal.nD,
          r.2.mem ((c.tc : Thread Cert.UkvDaReferenceIdeal.nD Cert.UkvDaReferenceIdeal.τ).loc Cert.UkvDaReferenceIdeal.main_v3) = v0 c
          ∧ r.2.mem ((c.tc : Thread Cert.UkvDaReferenceIdeal.nD Cert.UkvDaReferenceIdeal.τ).loc Cert.UkvDaReferenceIdeal.main_arg0) = m' ((c.tc : Thread Cert.UkvDaReferenceIdeal.nD Cert.UkvDaReferenceIdeal.τ).loc Cert.UkvDaReferenceIdeal.main_arg0)
          ∧ r.2.mem ((c.tc : Thread Cert.UkvDaReferenceIdeal.nD Cert.UkvDaReferenceIdeal.τ).loc Cert.UkvDaReferenceIdeal.main_arg1) = m' ((c.tc : Thread Cert.UkvDaReferenceIdeal.nD Cert.UkvDaReferenceIdeal.τ).loc Cert.UkvDaReferenceIdeal.main_arg1))

def preserves_UkvDw_UkvDwIdeal : Prop :=
  True

def algebraic_UkvDwIdeal_UkvDwReferenceIdeal [hUkvDwIdeal : Cert.UkvDwIdeal.Facts] [hUkvDwReferenceIdeal : Cert.UkvDwReferenceIdeal.Facts] : Prop :=
  ∀ (m : (ℓ : Loc Cert.UkvDwIdeal.nD Cert.UkvDwIdeal.τ Cert.UkvDwIdeal.sig) → Buf (Elt Ideal) ℓ) (g : Dev Cert.UkvDwIdeal.nD → PrngReg)
    (m' : (ℓ : Loc Cert.UkvDwReferenceIdeal.nD Cert.UkvDwReferenceIdeal.τ Cert.UkvDwReferenceIdeal.sig) → Buf (Elt Ideal) ℓ) (g' : Dev Cert.UkvDwReferenceIdeal.nD → PrngReg), Pre_UkvDwIdeal m →
    (∀ c : Dev Cert.UkvDwIdeal.nD,
      m' ((c.tc : Thread Cert.UkvDwReferenceIdeal.nD Cert.UkvDwReferenceIdeal.τ).loc Cert.UkvDwReferenceIdeal.main_arg0) = m ((c.tc : Thread Cert.UkvDwIdeal.nD Cert.UkvDwIdeal.τ).loc Cert.UkvDwIdeal.main_arg0)
      ∧ m' ((c.tc : Thread Cert.UkvDwReferenceIdeal.nD Cert.UkvDwReferenceIdeal.τ).loc Cert.UkvDwReferenceIdeal.main_arg1) = m ((c.tc : Thread Cert.UkvDwIdeal.nD Cert.UkvDwIdeal.τ).loc Cert.UkvDwIdeal.main_arg1)) →
    ∃ (v0 : (c : Dev Cert.UkvDwIdeal.nD) → Buf (Elt Ideal) ((c.tc : Thread Cert.UkvDwIdeal.nD Cert.UkvDwIdeal.τ).loc Cert.UkvDwIdeal.main_v2)),
      θ_run (Cert.UkvDwIdeal.defs (F := Ideal)) (onTc (τ := Cert.UkvDwIdeal.τ) (Cert.UkvDwIdeal.main (F := Ideal))) ⟨m, fun _ => 0, g⟩ (fun r => ∀ c : Dev Cert.UkvDwIdeal.nD,
          r.2.mem ((c.tc : Thread Cert.UkvDwIdeal.nD Cert.UkvDwIdeal.τ).loc Cert.UkvDwIdeal.main_v2) = v0 c
          ∧ r.2.mem ((c.tc : Thread Cert.UkvDwIdeal.nD Cert.UkvDwIdeal.τ).loc Cert.UkvDwIdeal.main_arg0) = m ((c.tc : Thread Cert.UkvDwIdeal.nD Cert.UkvDwIdeal.τ).loc Cert.UkvDwIdeal.main_arg0)
          ∧ r.2.mem ((c.tc : Thread Cert.UkvDwIdeal.nD Cert.UkvDwIdeal.τ).loc Cert.UkvDwIdeal.main_arg1) = m ((c.tc : Thread Cert.UkvDwIdeal.nD Cert.UkvDwIdeal.τ).loc Cert.UkvDwIdeal.main_arg1))
      ∧ θ_run (Cert.UkvDwReferenceIdeal.defs (F := Ideal)) (onTc (τ := Cert.UkvDwReferenceIdeal.τ) (Cert.UkvDwReferenceIdeal.main (F := Ideal))) ⟨m', fun _ => 0, g'⟩ (fun r => ∀ c : Dev Cert.UkvDwReferenceIdeal.nD,
          r.2.mem ((c.tc : Thread Cert.UkvDwReferenceIdeal.nD Cert.UkvDwReferenceIdeal.τ).loc Cert.UkvDwReferenceIdeal.main_v3) = v0 c
          ∧ r.2.mem ((c.tc : Thread Cert.UkvDwReferenceIdeal.nD Cert.UkvDwReferenceIdeal.τ).loc Cert.UkvDwReferenceIdeal.main_arg0) = m' ((c.tc : Thread Cert.UkvDwReferenceIdeal.nD Cert.UkvDwReferenceIdeal.τ).loc Cert.UkvDwReferenceIdeal.main_arg0)
          ∧ r.2.mem ((c.tc : Thread Cert.UkvDwReferenceIdeal.nD Cert.UkvDwReferenceIdeal.τ).loc Cert.UkvDwReferenceIdeal.main_arg1) = m' ((c.tc : Thread Cert.UkvDwReferenceIdeal.nD Cert.UkvDwReferenceIdeal.τ).loc Cert.UkvDwReferenceIdeal.main_arg1))

def preserves_Fwd_FwdIdeal : Prop :=
  IdealRules.named_const.Statement Cert.FwdIdeal.κ "mask" .f32 0xF149F2CA#32 ⊥
  ∧ IdealRules.named_const.Statement Cert.FwdIdeal.κ "log2e" .f32 0x3FB8AA3B#32 (((Real.log 2)⁻¹ : ℝ) : EReal)

def algebraic_FwdIdeal_FwdReferenceIdeal_pre_finite_qkv [hFwdIdeal : Cert.FwdIdeal.Facts] [hFwdReferenceIdeal : Cert.FwdReferenceIdeal.Facts] [hPre_finite_qkv : Cert.Pre_finite_qkv.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdReferenceIdeal.nD Cert.FwdReferenceIdeal.τ Cert.FwdReferenceIdeal.sig) → Buf (Elt Ideal) ℓ) (g' : Dev Cert.FwdReferenceIdeal.nD → PrngReg), Pre_FwdIdeal_finite_qkv m →
    (∀ c : Dev Cert.FwdIdeal.nD,
      m' ((c.tc : Thread Cert.FwdReferenceIdeal.nD Cert.FwdReferenceIdeal.τ).loc Cert.FwdReferenceIdeal.main_arg0) = m ((c.tc : Thread Cert.FwdIdeal.nD Cert.FwdIdeal.τ).loc Cert.FwdIdeal.main_arg0)
      ∧ m' ((c.tc : Thread Cert.FwdReferenceIdeal.nD Cert.FwdReferenceIdeal.τ).loc Cert.FwdReferenceIdeal.main_arg1) = m ((c.tc : Thread Cert.FwdIdeal.nD Cert.FwdIdeal.τ).loc Cert.FwdIdeal.main_arg1)
      ∧ m' ((c.tc : Thread Cert.FwdReferenceIdeal.nD Cert.FwdReferenceIdeal.τ).loc Cert.FwdReferenceIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v10_0)) (v1 : (c : Dev Cert.FwdIdeal.nD) → Buf (Elt Ideal) ((c.tc : Thread Cert.FwdIdeal.nD Cert.FwdIdeal.τ).loc Cert.FwdIdeal.main_v10_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v10_0) = v0 c
          ∧ r.2.mem ((c.tc : Thread Cert.FwdIdeal.nD Cert.FwdIdeal.τ).loc Cert.FwdIdeal.main_v10_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdReferenceIdeal.defs (F := Ideal)) (onTc (τ := Cert.FwdReferenceIdeal.τ) (Cert.FwdReferenceIdeal.main (F := Ideal))) ⟨m', fun _ => 0, g'⟩ (fun r => ∀ c : Dev Cert.FwdReferenceIdeal.nD,
          r.2.mem ((c.tc : Thread Cert.FwdReferenceIdeal.nD Cert.FwdReferenceIdeal.τ).loc Cert.FwdReferenceIdeal.main_v78) = v0 c
          ∧ r.2.mem ((c.tc : Thread Cert.FwdReferenceIdeal.nD Cert.FwdReferenceIdeal.τ).loc Cert.FwdReferenceIdeal.main_v80) = v1 c
          ∧ r.2.mem ((c.tc : Thread Cert.FwdReferenceIdeal.nD Cert.FwdReferenceIdeal.τ).loc Cert.FwdReferenceIdeal.main_arg0) = m' ((c.tc : Thread Cert.FwdReferenceIdeal.nD Cert.FwdReferenceIdeal.τ).loc Cert.FwdReferenceIdeal.main_arg0)
          ∧ r.2.mem ((c.tc : Thread Cert.FwdReferenceIdeal.nD Cert.FwdReferenceIdeal.τ).loc Cert.FwdReferenceIdeal.main_arg1) = m' ((c.tc : Thread Cert.FwdReferenceIdeal.nD Cert.FwdReferenceIdeal.τ).loc Cert.FwdReferenceIdeal.main_arg1)
          ∧ r.2.mem ((c.tc : Thread Cert.FwdReferenceIdeal.nD Cert.FwdReferenceIdeal.τ).loc Cert.FwdReferenceIdeal.main_arg2) = m' ((c.tc : Thread Cert.FwdReferenceIdeal.nD Cert.FwdReferenceIdeal.τ).loc Cert.FwdReferenceIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpReferenceIdeal : Cert.UpReferenceIdeal.Facts) (hUpDa : Cert.UpDa.Facts) (hUpDaIdeal : Cert.UpDaIdeal.Facts) (hUpDaReferenceIdeal : Cert.UpDaReferenceIdeal.Facts) (hUpDw : Cert.UpDw.Facts) (hUpDwIdeal : Cert.UpDwIdeal.Facts) (hUpDwReferenceIdeal : Cert.UpDwReferenceIdeal.Facts) (hDown : Cert.Down.Facts) (hDownIdeal : Cert.DownIdeal.Facts) (hDownReferenceIdeal : Cert.DownReferenceIdeal.Facts) (hDownDa : Cert.DownDa.Facts) (hDownDaIdeal : Cert.DownDaIdeal.Facts) (hDownDaReferenceIdeal : Cert.DownDaReferenceIdeal.Facts) (hDownDw : Cert.DownDw.Facts) (hDownDwIdeal : Cert.DownDwIdeal.Facts) (hDownDwReferenceIdeal : Cert.DownDwReferenceIdeal.Facts) (hIn : Cert.In.Facts) (hInIdeal : Cert.InIdeal.Facts) (hInReferenceIdeal : Cert.InReferenceIdeal.Facts) (hInDa : Cert.InDa.Facts) (hInDaIdeal : Cert.InDaIdeal.Facts) (hInDaReferenceIdeal : Cert.InDaReferenceIdeal.Facts) (hInDw : Cert.InDw.Facts) (hInDwIdeal : Cert.InDwIdeal.Facts) (hInDwReferenceIdeal : Cert.InDwReferenceIdeal.Facts) (hOut : Cert.Out.Facts) (hOutIdeal : Cert.OutIdeal.Facts) (hOutReferenceIdeal : Cert.OutReferenceIdeal.Facts) (hOutDa : Cert.OutDa.Facts) (hOutDaIdeal : Cert.OutDaIdeal.Facts) (hOutDaReferenceIdeal : Cert.OutDaReferenceIdeal.Facts) (hOutDw : Cert.OutDw.Facts) (hOutDwIdeal : Cert.OutDwIdeal.Facts) (hOutDwReferenceIdeal : Cert.OutDwReferenceIdeal.Facts) (hUq : Cert.Uq.Facts) (hUqIdeal : Cert.UqIdeal.Facts) (hUqReferenceIdeal : Cert.UqReferenceIdeal.Facts) (hUqDa : Cert.UqDa.Facts) (hUqDaIdeal : Cert.UqDaIdeal.Facts) (hUqDaReferenceIdeal : Cert.UqDaReferenceIdeal.Facts) (hUqDw : Cert.UqDw.Facts) (hUqDwIdeal : Cert.UqDwIdeal.Facts) (hUqDwReferenceIdeal : Cert.UqDwReferenceIdeal.Facts) (hUkv : Cert.Ukv.Facts) (hUkvIdeal : Cert.UkvIdeal.Facts) (hUkvReferenceIdeal : Cert.UkvReferenceIdeal.Facts) (hUkvDa : Cert.UkvDa.Facts) (hUkvDaIdeal : Cert.UkvDaIdeal.Facts) (hUkvDaReferenceIdeal : Cert.UkvDaReferenceIdeal.Facts) (hUkvDw : Cert.UkvDw.Facts) (hUkvDwIdeal : Cert.UkvDwIdeal.Facts) (hUkvDwReferenceIdeal : Cert.UkvDwReferenceIdeal.Facts) (hFwd : Cert.Fwd.Facts) (hFwdIdeal : Cert.FwdIdeal.Facts) (hFwdReferenceIdeal : Cert.FwdReferenceIdeal.Facts) (hPre_finite : Cert.Pre_finite.Facts) (hPre_finite_qkv : Cert.Pre_finite_qkv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpReferenceIdeal (hUpReferenceIdeal := hUpReferenceIdeal)
    ∧ quiescent_UpDa (hUpDa := hUpDa)
    ∧ quiescent_UpDaIdeal (hUpDaIdeal := hUpDaIdeal)
    ∧ quiescent_UpDaReferenceIdeal (hUpDaReferenceIdeal := hUpDaReferenceIdeal)
    ∧ quiescent_UpDw (hUpDw := hUpDw)
    ∧ quiescent_UpDwIdeal (hUpDwIdeal := hUpDwIdeal)
    ∧ quiescent_UpDwReferenceIdeal (hUpDwReferenceIdeal := hUpDwReferenceIdeal)
    ∧ quiescent_Down (hDown := hDown)
    ∧ quiescent_DownIdeal (hDownIdeal := hDownIdeal)
    ∧ quiescent_DownReferenceIdeal (hDownReferenceIdeal := hDownReferenceIdeal)
    ∧ quiescent_DownDa (hDownDa := hDownDa)
    ∧ quiescent_DownDaIdeal (hDownDaIdeal := hDownDaIdeal)
    ∧ quiescent_DownDaReferenceIdeal (hDownDaReferenceIdeal := hDownDaReferenceIdeal)
    ∧ quiescent_DownDw (hDownDw := hDownDw)
    ∧ quiescent_DownDwIdeal (hDownDwIdeal := hDownDwIdeal)
    ∧ quiescent_DownDwReferenceIdeal (hDownDwReferenceIdeal := hDownDwReferenceIdeal)
    ∧ quiescent_In (hIn := hIn)
    ∧ quiescent_InIdeal (hInIdeal := hInIdeal)
    ∧ quiescent_InReferenceIdeal (hInReferenceIdeal := hInReferenceIdeal)
    ∧ quiescent_InDa (hInDa := hInDa)
    ∧ quiescent_InDaIdeal (hInDaIdeal := hInDaIdeal)
    ∧ quiescent_InDaReferenceIdeal (hInDaReferenceIdeal := hInDaReferenceIdeal)
    ∧ quiescent_InDw (hInDw := hInDw)
    ∧ quiescent_InDwIdeal (hInDwIdeal := hInDwIdeal)
    ∧ quiescent_InDwReferenceIdeal (hInDwReferenceIdeal := hInDwReferenceIdeal)
    ∧ quiescent_Out (hOut := hOut)
    ∧ quiescent_OutIdeal (hOutIdeal := hOutIdeal)
    ∧ quiescent_OutReferenceIdeal (hOutReferenceIdeal := hOutReferenceIdeal)
    ∧ quiescent_OutDa (hOutDa := hOutDa)
    ∧ quiescent_OutDaIdeal (hOutDaIdeal := hOutDaIdeal)
    ∧ quiescent_OutDaReferenceIdeal (hOutDaReferenceIdeal := hOutDaReferenceIdeal)
    ∧ quiescent_OutDw (hOutDw := hOutDw)
    ∧ quiescent_OutDwIdeal (hOutDwIdeal := hOutDwIdeal)
    ∧ quiescent_OutDwReferenceIdeal (hOutDwReferenceIdeal := hOutDwReferenceIdeal)
    ∧ quiescent_Uq (hUq := hUq)
    ∧ quiescent_UqIdeal (hUqIdeal := hUqIdeal)
    ∧ quiescent_UqReferenceIdeal (hUqReferenceIdeal := hUqReferenceIdeal)
    ∧ quiescent_UqDa (hUqDa := hUqDa)
    ∧ quiescent_UqDaIdeal (hUqDaIdeal := hUqDaIdeal)
    ∧ quiescent_UqDaReferenceIdeal (hUqDaReferenceIdeal := hUqDaReferenceIdeal)
    ∧ quiescent_UqDw (hUqDw := hUqDw)
    ∧ quiescent_UqDwIdeal (hUqDwIdeal := hUqDwIdeal)
    ∧ quiescent_UqDwReferenceIdeal (hUqDwReferenceIdeal := hUqDwReferenceIdeal)
    ∧ quiescent_Ukv (hUkv := hUkv)
    ∧ quiescent_UkvIdeal (hUkvIdeal := hUkvIdeal)
    ∧ quiescent_UkvReferenceIdeal (hUkvReferenceIdeal := hUkvReferenceIdeal)
    ∧ quiescent_UkvDa (hUkvDa := hUkvDa)
    ∧ quiescent_UkvDaIdeal (hUkvDaIdeal := hUkvDaIdeal)
    ∧ quiescent_UkvDaReferenceIdeal (hUkvDaReferenceIdeal := hUkvDaReferenceIdeal)
    ∧ quiescent_UkvDw (hUkvDw := hUkvDw)
    ∧ quiescent_UkvDwIdeal (hUkvDwIdeal := hUkvDwIdeal)
    ∧ quiescent_UkvDwReferenceIdeal (hUkvDwReferenceIdeal := hUkvDwReferenceIdeal)
    ∧ quiescent_Fwd (hFwd := hFwd)
    ∧ quiescent_FwdIdeal (hFwdIdeal := hFwdIdeal)
    ∧ quiescent_FwdIdeal_pre_finite_qkv (hFwdIdeal := hFwdIdeal) (hPre_finite_qkv := hPre_finite_qkv)
    ∧ quiescent_FwdReferenceIdeal (hFwdReferenceIdeal := hFwdReferenceIdeal)
    ∧ quiescent_FwdReferenceIdeal_pre_finite_qkv (hFwdReferenceIdeal := hFwdReferenceIdeal) (hPre_finite_qkv := hPre_finite_qkv)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpReferenceIdeal (hUpIdeal := hUpIdeal) (hUpReferenceIdeal := hUpReferenceIdeal)
    ∧ preserves_UpDa_UpDaIdeal
    ∧ algebraic_UpDaIdeal_UpDaReferenceIdeal (hUpDaIdeal := hUpDaIdeal) (hUpDaReferenceIdeal := hUpDaReferenceIdeal)
    ∧ preserves_UpDw_UpDwIdeal
    ∧ algebraic_UpDwIdeal_UpDwReferenceIdeal (hUpDwIdeal := hUpDwIdeal) (hUpDwReferenceIdeal := hUpDwReferenceIdeal)
    ∧ preserves_Down_DownIdeal
    ∧ algebraic_DownIdeal_DownReferenceIdeal (hDownIdeal := hDownIdeal) (hDownReferenceIdeal := hDownReferenceIdeal)
    ∧ preserves_DownDa_DownDaIdeal
    ∧ algebraic_DownDaIdeal_DownDaReferenceIdeal (hDownDaIdeal := hDownDaIdeal) (hDownDaReferenceIdeal := hDownDaReferenceIdeal)
    ∧ preserves_DownDw_DownDwIdeal
    ∧ algebraic_DownDwIdeal_DownDwReferenceIdeal (hDownDwIdeal := hDownDwIdeal) (hDownDwReferenceIdeal := hDownDwReferenceIdeal)
    ∧ preserves_In_InIdeal
    ∧ algebraic_InIdeal_InReferenceIdeal (hInIdeal := hInIdeal) (hInReferenceIdeal := hInReferenceIdeal)
    ∧ preserves_InDa_InDaIdeal
    ∧ algebraic_InDaIdeal_InDaReferenceIdeal (hInDaIdeal := hInDaIdeal) (hInDaReferenceIdeal := hInDaReferenceIdeal)
    ∧ preserves_InDw_InDwIdeal
    ∧ algebraic_InDwIdeal_InDwReferenceIdeal (hInDwIdeal := hInDwIdeal) (hInDwReferenceIdeal := hInDwReferenceIdeal)
    ∧ preserves_Out_OutIdeal
    ∧ algebraic_OutIdeal_OutReferenceIdeal (hOutIdeal := hOutIdeal) (hOutReferenceIdeal := hOutReferenceIdeal)
    ∧ preserves_OutDa_OutDaIdeal
    ∧ algebraic_OutDaIdeal_OutDaReferenceIdeal (hOutDaIdeal := hOutDaIdeal) (hOutDaReferenceIdeal := hOutDaReferenceIdeal)
    ∧ preserves_OutDw_OutDwIdeal
    ∧ algebraic_OutDwIdeal_OutDwReferenceIdeal (hOutDwIdeal := hOutDwIdeal) (hOutDwReferenceIdeal := hOutDwReferenceIdeal)
    ∧ preserves_Uq_UqIdeal
    ∧ algebraic_UqIdeal_UqReferenceIdeal (hUqIdeal := hUqIdeal) (hUqReferenceIdeal := hUqReferenceIdeal)
    ∧ preserves_UqDa_UqDaIdeal
    ∧ algebraic_UqDaIdeal_UqDaReferenceIdeal (hUqDaIdeal := hUqDaIdeal) (hUqDaReferenceIdeal := hUqDaReferenceIdeal)
    ∧ preserves_UqDw_UqDwIdeal
    ∧ algebraic_UqDwIdeal_UqDwReferenceIdeal (hUqDwIdeal := hUqDwIdeal) (hUqDwReferenceIdeal := hUqDwReferenceIdeal)
    ∧ preserves_Ukv_UkvIdeal
    ∧ algebraic_UkvIdeal_UkvReferenceIdeal (hUkvIdeal := hUkvIdeal) (hUkvReferenceIdeal := hUkvReferenceIdeal)
    ∧ preserves_UkvDa_UkvDaIdeal
    ∧ algebraic_UkvDaIdeal_UkvDaReferenceIdeal (hUkvDaIdeal := hUkvDaIdeal) (hUkvDaReferenceIdeal := hUkvDaReferenceIdeal)
    ∧ preserves_UkvDw_UkvDwIdeal
    ∧ algebraic_UkvDwIdeal_UkvDwReferenceIdeal (hUkvDwIdeal := hUkvDwIdeal) (hUkvDwReferenceIdeal := hUkvDwReferenceIdeal)
    ∧ preserves_Fwd_FwdIdeal
    ∧ algebraic_FwdIdeal_FwdReferenceIdeal_pre_finite_qkv (hFwdIdeal := hFwdIdeal) (hFwdReferenceIdeal := hFwdReferenceIdeal) (hPre_finite_qkv := hPre_finite_qkv)
-- ==== Pre_finite.lean ====
abbrev S8448x1536 : Shape := ⟨2, ![8448, 1536]⟩
abbrev S8448x768 : Shape := ⟨2, ![8448, 768]⟩
abbrev S_ : Shape := ⟨0, ![]⟩

class Facts : Prop where
  bcast_S_S8448x1536 : S_.BroadcastsInDim S8448x1536 (![] : Fin 0 → Fin S8448x1536.rank)
  reducesTo_S8448x1536_S_d0_1 : S8448x1536.ReducesTo [0, 1] S_
  h_S_ : 0 < S_.numel
  bcast_S_S8448x768 : S_.BroadcastsInDim S8448x768 (![] : Fin 0 → Fin S8448x768.rank)
  reducesTo_S8448x768_S_d0_1 : S8448x768.ReducesTo [0, 1] S_

variable [Facts]

def fn_part1 {F : FTy → Type} [FloatOps F] (main_v13 : IVec S_ 1) (main_v16 : IVec S8448x768 1) : IVec S_ 1 :=
  let main_c_5 : IVec S_ 1 := constantI S_ 1 1#1
  let main_v17 : IVec S_ 1 := (fun x v => Host.reduce IntOp.andi x v reducesTo_S8448x768_S_d0_1 h_S_) main_v16 main_c_5
  let main_v18 : IVec S_ 1 := andi main_v13 main_v17
  main_v18

def fn {F : FTy → Type} [FloatOps F] (main_arg0 : FVec F S8448x1536 .f32) (main_arg1 : FVec F S8448x1536 .f32) (main_arg2 : FVec F S8448x768 .f32) (main_arg3 : FVec F S8448x768 .f32) : IVec S_ 1 :=
  let main_v0 : FVec F S8448x1536 .f32 := Host.absf main_arg0
  let main_cst : FVec F S_ .f32 := constant S_ .f32 0x7F800000#32
  let main_v1 : FVec F S8448x1536 .f32 := broadcastInDim S8448x1536 ![] bcast_S_S8448x1536 main_cst
  let main_v2 : IVec S8448x1536 1 := cmpf .olt main_v0 main_v1
  let main_c : IVec S_ 1 := constantI S_ 1 1#1
  let main_v3 : IVec S_ 1 := (fun x v => Host.reduce IntOp.andi x v reducesTo_S8448x1536_S_d0_1 h_S_) main_v2 main_c
  let main_v4 : FVec F S8448x1536 .f32 := Host.absf main_arg1
  let main_cst_0 : FVec F S_ .f32 := constant S_ .f32 0x7F800000#32
  let main_v5 : FVec F S8448x1536 .f32 := broadcastInDim S8448x1536 ![] bcast_S_S8448x1536 main_cst_0
  let main_v6 : IVec S8448x1536 1 := cmpf .olt main_v4 main_v5
  let main_c_1 : IVec S_ 1 := constantI S_ 1 1#1
  let main_v7 : IVec S_ 1 := (fun x v => Host.reduce IntOp.andi x v reducesTo_S8448x1536_S_d0_1 h_S_) main_v6 main_c_1
  let main_v8 : IVec S_ 1 := andi main_v3 main_v7
  let main_v9 : FVec F S8448x768 .f32 := Host.absf main_arg2
  let main_cst_2 : FVec F S_ .f32 := constant S_ .f32 0x7F800000#32
  let main_v10 : FVec F S8448x768 .f32 := broadcastInDim S8448x768 ![] bcast_S_S8448x768 main_cst_2
  let main_v11 : IVec S8448x768 1 := cmpf .olt main_v9 main_v10
  let main_c_3 : IVec S_ 1 := constantI S_ 1 1#1
  let main_v12 : IVec S_ 1 := (fun x v => Host.reduce IntOp.andi x v reducesTo_S8448x768_S_d0_1 h_S_) main_v11 main_c_3
  let main_v13 : IVec S_ 1 := andi main_v8 main_v12
  let main_v14 : FVec F S8448x768 .f32 := Host.absf main_arg3
  let main_cst_4 : FVec F S_ .f32 := constant S_ .f32 0x7F800000#32
  let main_v15 : FVec F S8448x768 .f32 := broadcastInDim S8448x768 ![] bcast_S_S8448x768 main_cst_4
  let main_v16 : IVec S8448x768 1 := cmpf .olt main_v14 main_v15
  fn_part1 (F := F) main_v13 main_v16
-- ==== Pre_finite_qkv.lean ====
abbrev S8448x1536 : Shape := ⟨2, ![8448, 1536]⟩
abbrev S8448x768 : Shape := ⟨2, ![8448, 768]⟩
abbrev S_ : Shape := ⟨0, ![]⟩

class Facts : Prop where
  bcast_S_S8448x1536 : S_.BroadcastsInDim S8448x1536 (![] : Fin 0 → Fin S8448x1536.rank)
  reducesTo_S8448x1536_S_d0_1 : S8448x1536.ReducesTo [0, 1] S_
  h_S_ : 0 < S_.numel
  bcast_S_S8448x768 : S_.BroadcastsInDim S8448x768 (![] : Fin 0 → Fin S8448x768.rank)
  reducesTo_S8448x768_S_d0_1 : S8448x768.ReducesTo [0, 1] S_

variable [Facts]

def fn {F : FTy → Type} [FloatOps F] (main_arg0 : FVec F S8448x1536 .f32) (main_arg1 : FVec F S8448x1536 .f32) (main_arg2 : FVec F S8448x768 .f32) : IVec S_ 1 :=
  let main_v0 : FVec F S8448x1536 .f32 := Host.absf main_arg0
  let main_cst : FVec F S_ .f32 := constant S_ .f32 0x7F800000#32
  let main_v1 : FVec F S8448x1536 .f32 := broadcastInDim S8448x1536 ![] bcast_S_S8448x1536 main_cst
  let main_v2 : IVec S8448x1536 1 := cmpf .olt main_v0 main_v1
  let main_c : IVec S_ 1 := constantI S_ 1 1#1
  let main_v3 : IVec S_ 1 := (fun x v => Host.reduce IntOp.andi x v reducesTo_S8448x1536_S_d0_1 h_S_) main_v2 main_c
  let main_v4 : FVec F S8448x1536 .f32 := Host.absf main_arg1
  let main_cst_0 : FVec F S_ .f32 := constant S_ .f32 0x7F800000#32
  let main_v5 : FVec F S8448x1536 .f32 := broadcastInDim S8448x1536 ![] bcast_S_S8448x1536 main_cst_0
  let main_v6 : IVec S8448x1536 1 := cmpf .olt main_v4 main_v5
  let main_c_1 : IVec S_ 1 := constantI S_ 1 1#1
  let main_v7 : IVec S_ 1 := (fun x v => Host.reduce IntOp.andi x v reducesTo_S8448x1536_S_d0_1 h_S_) main_v6 main_c_1
  let main_v8 : IVec S_ 1 := andi main_v3 main_v7
  let main_v9 : FVec F S8448x768 .f32 := Host.absf main_arg2
  let main_cst_2 : FVec F S_ .f32 := constant S_ .f32 0x7F800000#32
  let main_v10 : FVec F S8448x768 .f32 := broadcastInDim S8448x768 ![] bcast_S_S8448x768 main_cst_2
  let main_v11 : IVec S8448x768 1 := cmpf .olt main_v9 main_v10
  let main_c_3 : IVec S_ 1 := constantI S_ 1 1#1
  let main_v12 : IVec S_ 1 := (fun x v => Host.reduce IntOp.andi x v reducesTo_S8448x768_S_d0_1 h_S_) main_v11 main_c_3
  let main_v13 : IVec S_ 1 := andi main_v8 main_v12
  main_v13
-- ==== Kernel.lean ====
abbrev S8448x1536 : Shape := ⟨2, ![8448, 1536]⟩
abbrev S8448x768 : Shape := ⟨2, ![8448, 768]⟩
abbrev S8448x6x256 : Shape := ⟨3, ![8448, 6, 256]⟩
abbrev S8448x6x128 : Shape := ⟨3, ![8448, 6, 128]⟩
abbrev S256x6x256 : Shape := ⟨3, ![256, 6, 256]⟩
abbrev S256x6x128 : Shape := ⟨3, ![256, 6, 128]⟩
abbrev S6x256x256 : Shape := ⟨3, ![6, 256, 256]⟩
abbrev S_ : Shape := ⟨0, ![]⟩
abbrev S6x256 : Shape := ⟨2, ![6, 256]⟩
abbrev S6x256x1 : Shape := ⟨3, ![6, 256, 1]⟩
abbrev S6x128x256 : Shape := ⟨3, ![6, 128, 256]⟩
abbrev S8192x6x256 : Shape := ⟨3, ![8192, 6, 256]⟩
abbrev S6x8192x8448 : Shape := ⟨3, ![6, 8192, 8448]⟩
abbrev S6x8192 : Shape := ⟨2, ![6, 8192]⟩
abbrev S6x8192x1 : Shape := ⟨3, ![6, 8192, 1]⟩
abbrev S6x128x8192 : Shape := ⟨3, ![6, 128, 8192]⟩
abbrev S8192x6x128 : Shape := ⟨3, ![8192, 6, 128]⟩
abbrev S768x8448 : Shape := ⟨2, ![768, 8448]⟩
abbrev S6x8448 : Shape := ⟨2, ![6, 8448]⟩
abbrev S6x1x8448 : Shape := ⟨3, ![6, 1, 8448]⟩
abbrev S6x8x8448 : Shape := ⟨3, ![6, 8, 8448]⟩
abbrev S6x8x128 : Shape := ⟨3, ![6, 8, 128]⟩
abbrev S1536x8448 : Shape := ⟨2, ![1536, 8448]⟩
abbrev S6x11x8x128 : Shape := ⟨4, ![6, 11, 8, 128]⟩
abbrev S768x256 : Shape := ⟨2, ![768, 256]⟩
abbrev S256x768 : Shape := ⟨2, ![256, 768]⟩
abbrev S768x128 : Shape := ⟨2, ![768, 128]⟩
abbrev S1x8x128 : Shape := ⟨3, ![1, 8, 128]⟩
abbrev S128x768 : Shape := ⟨2, ![128, 768]⟩
abbrev S1x8x768 : Shape := ⟨3, ![1, 8, 768]⟩
abbrev S8448x256 : Shape := ⟨2, ![8448, 256]⟩
abbrev S8448x128 : Shape := ⟨2, ![8448, 128]⟩
abbrev S1x1x8x128 : Shape := ⟨4, ![1, 1, 8, 128]⟩
abbrev S1x256x768 : Shape := ⟨3, ![1, 256, 768]⟩
abbrev S768 : Shape := ⟨1, ![768]⟩
abbrev S1x768 : Shape := ⟨2, ![1, 768]⟩
abbrev S8x768 : Shape := ⟨2, ![8, 768]⟩
abbrev S8x128 : Shape := ⟨2, ![8, 128]⟩
abbrev S768x768 : Shape := ⟨2, ![768, 768]⟩
abbrev S1x1x768 : Shape := ⟨3, ![1, 1, 768]⟩

abbrev nBuf : Space → Nat
  | .hbm => 116
  | .vmem => 28
  | .smem => 0
  | _ => 0

abbrev bufTy : (tb : Table) → Fin (tcTables nBuf tb) → BufTy
  | .hbm, ⟨0, _⟩ => ⟨S8448x1536, .f32⟩
  | .hbm, ⟨1, _⟩ => ⟨S8448x1536, .f32⟩
  | .hbm, ⟨2, _⟩ => ⟨S8448x768, .f32⟩
  | .hbm, ⟨3, _⟩ => ⟨S8448x768, .f32⟩
  | .hbm, ⟨4, _⟩ => ⟨S8448x6x256, .f32⟩
  | .hbm, ⟨5, _⟩ => ⟨S8448x6x256, .f32⟩
  | .hbm, ⟨6, _⟩ => ⟨S8448x6x128, .f32⟩
  | .hbm, ⟨7, _⟩ => ⟨S256x6x256, .f32⟩
  | .hbm, ⟨8, _⟩ => ⟨S256x6x256, .f32⟩
  | .hbm, ⟨9, _⟩ => ⟨S256x6x128, .f32⟩
  | .hbm, ⟨10, _⟩ => ⟨S6x256x256, .f32⟩
  | .hbm, ⟨11, _⟩ => ⟨S_, .f32⟩
  | .hbm, ⟨12, _⟩ => ⟨S_, .f32⟩
  | .hbm, ⟨13, _⟩ => ⟨S6x256x256, .f32⟩
  | .hbm, ⟨14, _⟩ => ⟨S6x256x256, .f32⟩
  | .hbm, ⟨15, _⟩ => ⟨S_, .f32⟩
  | .hbm, ⟨16, _⟩ => ⟨S6x256, .f32⟩
  | .hbm, ⟨17, _⟩ => ⟨S_, .f32⟩
  | .hbm, ⟨18, _⟩ => ⟨S6x256, .f32⟩
  | .hbm, ⟨19, _⟩ => ⟨S6x256, .f32⟩
  | .hbm, ⟨20, _⟩ => ⟨S6x256x1, .f32⟩
  | .hbm, ⟨21, _⟩ => ⟨S6x256x256, .f32⟩
  | .hbm, ⟨22, _⟩ => ⟨S6x256x256, .f32⟩
  | .hbm, ⟨23, _⟩ => ⟨S6x256x256, .f32⟩
  | .hbm, ⟨24, _⟩ => ⟨S_, .f32⟩
  | .hbm, ⟨25, _⟩ => ⟨S6x256, .f32⟩
  | .hbm, ⟨26, _⟩ => ⟨S6x256x1, .f32⟩
  | .hbm, ⟨27, _⟩ => ⟨S6x256x256, .f32⟩
  | .hbm, ⟨28, _⟩ => ⟨S6x256x256, .f32⟩
  | .hbm, ⟨29, _⟩ => ⟨S6x128x256, .f32⟩
  | .hbm, ⟨30, _⟩ => ⟨S256x6x128, .f32⟩
  | .hbm, ⟨31, _⟩ => ⟨S8192x6x256, .f32⟩
  | .hbm, ⟨32, _⟩ => ⟨S6x8192x8448, .f32⟩
  | .hbm, ⟨33, _⟩ => ⟨S_, .f32⟩
  | .hbm, ⟨34, _⟩ => ⟨S_, .f32⟩
  | .hbm, ⟨35, _⟩ => ⟨S6x8192x8448, .f32⟩
  | .hbm, ⟨36, _⟩ => ⟨S6x8192x8448, .f32⟩
  | .hbm, ⟨37, _⟩ => ⟨S_, .f32⟩
  | .hbm, ⟨38, _⟩ => ⟨S6x8192, .f32⟩
  | .hbm, ⟨39, _⟩ => ⟨S_, .f32⟩
  | .hbm, ⟨40, _⟩ => ⟨S6x8192, .f32⟩
  | .hbm, ⟨41, _⟩ => ⟨S6x8192, .f32⟩
  | .hbm, ⟨42, _⟩ => ⟨S6x8192x1, .f32⟩
  | .hbm, ⟨43, _⟩ => ⟨S6x8192x8448, .f32⟩
  | .hbm, ⟨44, _⟩ => ⟨S6x8192x8448, .f32⟩
  | .hbm, ⟨45, _⟩ => ⟨S6x8192x8448, .f32⟩
  | .hbm, ⟨46, _⟩ => ⟨S_, .f32⟩
  | .hbm, ⟨47, _⟩ => ⟨S6x8192, .f32⟩
  | .hbm, ⟨48, _⟩ => ⟨S6x8192x1, .f32⟩
  | .hbm, ⟨49, _⟩ => ⟨S6x8192x8448, .f32⟩
  | .hbm, ⟨50, _⟩ => ⟨S6x8192x8448, .f32⟩
  | .hbm, ⟨51, _⟩ => ⟨S6x128x8192, .f32⟩
  | .hbm, ⟨52, _⟩ => ⟨S8192x6x128, .f32⟩
  | .hbm, ⟨53, _⟩ => ⟨S8448x6x128, .f32⟩
  | .hbm, ⟨54, _⟩ => ⟨S8448x768, .f32⟩
  | .hbm, ⟨55, _⟩ => ⟨S768x8448, .f32⟩
  | .hbm, ⟨56, _⟩ => ⟨S_, .f32⟩
  | .hbm, ⟨57, _⟩ => ⟨S_, .f32⟩
  | .hbm, ⟨58, _⟩ => ⟨S8448x6x256, .f32⟩
  | .hbm, ⟨59, _⟩ => ⟨S8448x6x256, .f32⟩
  | .hbm, ⟨60, _⟩ => ⟨S256x6x256, .f32⟩
  | .hbm, ⟨61, _⟩ => ⟨S256x6x256, .f32⟩
  | .hbm, ⟨62, _⟩ => ⟨S6x256x256, .f32⟩
  | .hbm, ⟨63, _⟩ => ⟨S_, .f32⟩
  | .hbm, ⟨64, _⟩ => ⟨S_, .f32⟩
  | .hbm, ⟨65, _⟩ => ⟨S6x256x256, .f32⟩
  | .hbm, ⟨66, _⟩ => ⟨S6x256x256, .f32⟩
  | .hbm, ⟨67, _⟩ => ⟨S_, .f32⟩
  | .hbm, ⟨68, _⟩ => ⟨S6x256, .f32⟩
  | .hbm, ⟨69, _⟩ => ⟨S6x256x1, .f32⟩
  | .hbm, ⟨70, _⟩ => ⟨S6x256x256, .f32⟩
  | .hbm, ⟨71, _⟩ => ⟨S6x256x256, .f32⟩
  | .hbm, ⟨72, _⟩ => ⟨S6x256x256, .f32⟩
  | .hbm, ⟨73, _⟩ => ⟨S_, .f32⟩
  | .hbm, ⟨74, _⟩ => ⟨S6x256, .f32⟩
  | .hbm, ⟨75, _⟩ => ⟨S6x256, .f32⟩
  | .hbm, ⟨76, _⟩ => ⟨S6x256, .f32⟩
  | .hbm, ⟨77, _⟩ => ⟨S6x256, .f32⟩
  | .hbm, ⟨78, _⟩ => ⟨S8192x6x256, .f32⟩
  | .hbm, ⟨79, _⟩ => ⟨S6x8192x8448, .f32⟩
  | .hbm, ⟨80, _⟩ => ⟨S_, .f32⟩
  | .hbm, ⟨81, _⟩ => ⟨S_, .f32⟩
  | .hbm, ⟨82, _⟩ => ⟨S6x8192x8448, .f32⟩
  | .hbm, ⟨83, _⟩ => ⟨S6x8192x8448, .f32⟩
  | .hbm, ⟨84, _⟩ => ⟨S_, .f32⟩
  | .hbm, ⟨85, _⟩ => ⟨S6x8192, .f32⟩
  | .hbm, ⟨86, _⟩ => ⟨S6x8192x1, .f32⟩
  | .hbm, ⟨87, _⟩ => ⟨S6x8192x8448, .f32⟩
  | .hbm, ⟨88, _⟩ => ⟨S6x8192x8448, .f32⟩
  | .hbm, ⟨89, _⟩ => ⟨S6x8192x8448, .f32⟩
  | .hbm, ⟨90, _⟩ => ⟨S_, .f32⟩
  | .hbm, ⟨91, _⟩ => ⟨S6x8192, .f32⟩
  | .hbm, ⟨92, _⟩ => ⟨S6x8192, .f32⟩
  | .hbm, ⟨93, _⟩ => ⟨S6x8192, .f32⟩
  | .hbm, ⟨94, _⟩ => ⟨S6x8192, .f32⟩
  | .hbm, ⟨95, _⟩ => ⟨S6x8448, .f32⟩
  | .hbm, ⟨96, _⟩ => ⟨S6x8448, .f32⟩
  | .hbm, ⟨97, _⟩ => ⟨S6x8448, .f32⟩
  | .hbm, ⟨98, _⟩ => ⟨S6x1x8448, .f32⟩
  | .hbm, ⟨99, _⟩ => ⟨S6x8x8448, .f32⟩
  | .hbm, ⟨100, _⟩ => ⟨S_, .f32⟩
  | .hbm, ⟨101, _⟩ => ⟨S6x8x128, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S8448x1536, .f32⟩
  | .hbm, ⟨106, _⟩ => ⟨S8448x1536, .f32⟩
  | .hbm, ⟨107, _⟩ => ⟨S8448x1536, .bf16⟩
  | .hbm, ⟨108, _⟩ => ⟨S8448x1536, .bf16⟩
  | .hbm, ⟨109, _⟩ => ⟨S8448x768, .bf16⟩
  | .hbm, ⟨110, _⟩ => ⟨S1536x8448, .bf16⟩
  | .hbm, ⟨111, _⟩ => ⟨S768x8448, .f32⟩
  | .hbm, ⟨112, _⟩ => ⟨S1536x8448, .bf16⟩
  | .hbm, ⟨113, _⟩ => ⟨S8448x1536, .f32⟩
  | .hbm, ⟨114, _⟩ => ⟨S8448x768, .f32⟩
  | .hbm, ⟨115, _⟩ => ⟨S6x11x8x128, .f32⟩
  | .local _ .vmem, ⟨0, _⟩ => ⟨S768x256, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S256x768, .bf16⟩
  | .local _ .vmem, ⟨5, _⟩ => ⟨S256x768, .bf16⟩
  | .local _ .vmem, ⟨6, _⟩ => ⟨S768x128, .bf16⟩
  | .local _ .vmem, ⟨7, _⟩ => ⟨S768x128, .bf16⟩
  | .local _ .vmem, ⟨8, _⟩ => ⟨S1x8x128, .f32⟩
  | .local _ .vmem, ⟨9, _⟩ => ⟨S1x8x128, .f32⟩
  | .local _ .vmem, ⟨10, _⟩ => ⟨S128x768, .f32⟩
  | .local _ .vmem, ⟨11, _⟩ => ⟨S128x768, .f32⟩
  | .local _ .vmem, ⟨12, _⟩ => ⟨S1x8x768, .f32⟩
  | .local _ .vmem, ⟨13, _⟩ => ⟨S1x8x768, .f32⟩
  | .local _ .vmem, ⟨14, _⟩ => ⟨S768x128, .f32⟩
  | .local _ .vmem, ⟨15, _⟩ => ⟨S768x128, .f32⟩
  | .local _ .vmem, ⟨16, _⟩ => ⟨S128x768, .f32⟩
  | .local _ .vmem, ⟨17, _⟩ => ⟨S128x768, .f32⟩
  | .local _ .vmem, ⟨18, _⟩ => ⟨S256x768, .bf16⟩
  | .local _ .vmem, ⟨19, _⟩ => ⟨S256x768, .bf16⟩
  | .local _ .vmem, ⟨20, _⟩ => ⟨S8448x256, .f32⟩
  | .local _ .vmem, ⟨21, _⟩ => ⟨S8448x256, .f32⟩
  | .local _ .vmem, ⟨22, _⟩ => ⟨S8448x128, .f32⟩
  | .local _ .vmem, ⟨23, _⟩ => ⟨S8448x128, .f32⟩
  | .local _ .vmem, ⟨24, _⟩ => ⟨S1x1x8x128, .f32⟩
  | .local _ .vmem, ⟨25, _⟩ => ⟨S1x1x8x128, .f32⟩
  | .local _ .vmem, ⟨26, _⟩ => ⟨S1x256x768, .f32⟩
  | .local _ .vmem, ⟨27, _⟩ => ⟨S1x8x768, .f32⟩
  | _, _ => ⟨S8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_7 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_8 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_11 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_13 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_14 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91_0 : Ref sig .tc := ⟨.hbm, 112, rfl⟩
abbrev main_v91_1 : Ref sig .tc := ⟨.hbm, 113, rfl⟩
abbrev main_v91_2 : Ref sig .tc := ⟨.hbm, 114, rfl⟩
abbrev main_v91_3 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![6, 11, 11], ![false, false, false]⟩

def k0_cond3 (i : grid0.Coords) : BitVec 1 :=
  let arg2 : BitVec 32 := BitVec.ofNat 32 (i 2).val
  let c0_i32_4 : BitVec 32 := 0#32
  let v8 : BitVec 1 := Scalar.cmpi .sge arg2 c0_i32_4
  let arg1 : BitVec 32 := BitVec.ofNat 32 (i 1).val
  let c768_i32 : BitVec 32 := 768#32
  let v9 : BitVec 32 := Scalar.muli arg1 c768_i32
  let c256_i32 : BitVec 32 := 256#32
  let v10 : BitVec 1 := Scalar.cmpi .slt v9 c256_i32
  let v11 : BitVec 1 := Scalar.andi v8 v10
  let v12 : BitVec 32 := Scalar.extui v11
  let c0_i32_5 : BitVec 32 := 0#32
  let v13 : BitVec 1 := Scalar.cmpi .ne v12 c0_i32_5
  v13

def k0_mult1 (i : grid0.Coords) : BitVec 32 :=
  let arg2 : BitVec 32 := BitVec.ofNat 32 (i 2).val
  let c768_i32_17 : BitVec 32 := 768#32
  let v40 : BitVec 32 := Scalar.muli arg2 c768_i32_17
  v40
def k0_off1 (i : grid0.Coords) : Fin 2 → Nat :=
  let arg2 : BitVec 32 := BitVec.ofNat 32 (i 2).val
  let c768_i32_17 : BitVec 32 := 768#32
  let v40 : BitVec 32 := Scalar.muli arg2 c768_i32_17
  let v41 : BitVec 32 := v40
  let v74 : Index := Scalar.indexCast v41
  let c0_41 : Index := 0#32
  ![v74.toNat, 0]
def k0_off2 (i : grid0.Coords) : Fin 2 → Nat :=
  let arg2 : BitVec 32 := BitVec.ofNat 32 (i 2).val
  let c768_i32_17 : BitVec 32 := 768#32
  let v40 : BitVec 32 := Scalar.muli arg2 c768_i32_17
  let v41 : BitVec 32 := v40
  let v82 : Index := Scalar.indexCast v41
  let c0_44 : Index := 0#32
  ![v82.toNat, 0]
def k0_cond4 (i : grid0.Coords) : BitVec 1 :=
  let arg2 : BitVec 32 := BitVec.ofNat 32 (i 2).val
  let c0_i32_4 : BitVec 32 := 0#32
  let v8 : BitVec 1 := Scalar.cmpi .sge arg2 c0_i32_4
  let arg1 : BitVec 32 := BitVec.ofNat 32 (i 1).val
  let c768_i32 : BitVec 32 := 768#32
  let v9 : BitVec 32 := Scalar.muli arg1 c768_i32
  let c256_i32 : BitVec 32 := 256#32
  let v10 : BitVec 1 := Scalar.cmpi .slt v9 c256_i32
  let v_true : BitVec 1 := 1#1
  let v14 : BitVec 1 := Scalar.xori v10 v_true
  let v15 : BitVec 1 := Scalar.andi v8 v14
  let v16 : BitVec 32 := Scalar.extui v15
  let c0_i32_6 : BitVec 32 := 0#32
  let v17 : BitVec 1 := Scalar.cmpi .ne v16 c0_i32_6
  v17

def k0_mult2 (i : grid0.Coords) : BitVec 32 :=
  let arg2 : BitVec 32 := BitVec.ofNat 32 (i 2).val
  let c768_i32_13 : BitVec 32 := 768#32
  let v27 : BitVec 32 := Scalar.muli arg2 c768_i32_13
  v27
def k0_off3 (i : grid0.Coords) : Fin 2 → Nat :=
  let arg2 : BitVec 32 := BitVec.ofNat 32 (i 2).val
  let c768_i32_13 : BitVec 32 := 768#32
  let v27 : BitVec 32 := Scalar.muli arg2 c768_i32_13
  let v28 : BitVec 32 := v27
  let v59 : Index := Scalar.indexCast v28
  let c0_36 : Index := 0#32
  ![v59.toNat, 0]
def k0_off4 (i : grid0.Coords) : Fin 2 → Nat :=
  let arg2 : BitVec 32 := BitVec.ofNat 32 (i 2).val
  let c768_i32_13 : BitVec 32 := 768#32
  let v27 : BitVec 32 := Scalar.muli arg2 c768_i32_13
  let v28 : BitVec 32 := v27
  let v67 : Index := Scalar.indexCast v28
  let c0_39 : Index := 0#32
  ![v67.toNat, 0]
def k0_cond5 (i : grid0.Coords) : BitVec 1 :=
  let arg2 : BitVec 32 := BitVec.ofNat 32 (i 2).val
  let c10_i32 : BitVec 32 := 10#32
  let v18 : BitVec 1 := Scalar.cmpi .eq arg2 c10_i32
  let v19 : BitVec 32 := Scalar.extui v18
  let c0_i32_7 : BitVec 32 := 0#32
  let v20 : BitVec 1 := Scalar.cmpi .ne v19 c0_i32_7
  v20

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x8x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S128x768 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x768 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S8448x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, false]

abbrev stage0_11 : Fin 2 → Memref sig .tc .vmem S8448x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false, false]

abbrev stage0_12 : Fin 2 → Memref sig .tc .vmem S1x1x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== KernelIdeal.lean ====
variable {F : FTy → Type} [FloatOps F] [Named F]
def κ : String → Option EReal := fun
  | "ln2" => some ((Real.log 2 : ℝ) : EReal)
  | "mask" => some ⊥
  | "scale_log2e" => some ((((Real.sqrt 192) * (Real.log 2))⁻¹ : ℝ) : EReal)
  | _ => none
-- ==== ReferenceIdeal.lean ====
abbrev S8448x1536 : Shape := ⟨2, ![8448, 1536]⟩
abbrev S8448x768 : Shape := ⟨2, ![8448, 768]⟩
abbrev S8448x6x256 : Shape := ⟨3, ![8448, 6, 256]⟩
abbrev S8448x6x128 : Shape := ⟨3, ![8448, 6, 128]⟩
abbrev S256x6x256 : Shape := ⟨3, ![256, 6, 256]⟩
abbrev S256x6x128 : Shape := ⟨3, ![256, 6, 128]⟩
abbrev S6x256x256 : Shape := ⟨3, ![6, 256, 256]⟩
abbrev S_ : Shape := ⟨0, ![]⟩
abbrev S6x256 : Shape := ⟨2, ![6, 256]⟩
abbrev S6x256x1 : Shape := ⟨3, ![6, 256, 1]⟩
abbrev S6x128x256 : Shape := ⟨3, ![6, 128, 256]⟩
abbrev S8192x6x256 : Shape := ⟨3, ![8192, 6, 256]⟩
abbrev S6x8192x8448 : Shape := ⟨3, ![6, 8192, 8448]⟩
abbrev S6x8192 : Shape := ⟨2, ![6, 8192]⟩
abbrev S6x8192x1 : Shape := ⟨3, ![6, 8192, 1]⟩
abbrev S6x128x8192 : Shape := ⟨3, ![6, 128, 8192]⟩
abbrev S8192x6x128 : Shape := ⟨3, ![8192, 6, 128]⟩
abbrev S6x128x8448 : Shape := ⟨3, ![6, 128, 8448]⟩
abbrev S6x8448x256 : Shape := ⟨3, ![6, 8448, 256]⟩
abbrev S6x8192x256 : Shape := ⟨3, ![6, 8192, 256]⟩
abbrev S1536x8448 : Shape := ⟨2, ![1536, 8448]⟩

abbrev nBuf : Space → Nat
  | .hbm => 170
  | .vmem => 0
  | .smem => 0
  | _ => 0

abbrev hbmTy0_0 (i : Nat) : BufTy := match i % 128 with
  | 0 => ⟨S8448x1536, .f32⟩
  | 1 => ⟨S8448x1536, .f32⟩
  | 2 => ⟨S8448x768, .f32⟩
  | 3 => ⟨S8448x768, .f32⟩
  | 4 => ⟨S8448x6x256, .f32⟩
  | 5 => ⟨S8448x6x256, .f32⟩
  | 6 => ⟨S8448x6x128, .f32⟩
  | 7 => ⟨S256x6x256, .f32⟩
  | 8 => ⟨S256x6x256, .f32⟩
  | 9 => ⟨S256x6x128, .f32⟩
  | 10 => ⟨S6x256x256, .f32⟩
  | 11 => ⟨S_, .f32⟩
  | 12 => ⟨S_, .f32⟩
  | 13 => ⟨S6x256x256, .f32⟩
  | 14 => ⟨S6x256x256, .f32⟩
  | 15 => ⟨S_, .f32⟩
  | 16 => ⟨S6x256, .f32⟩
  | 17 => ⟨S6x256x1, .f32⟩
  | 18 => ⟨S6x256x256, .f32⟩
  | 19 => ⟨S6x256x256, .i1⟩
  | 20 => ⟨S6x256x256, .f32⟩
  | 21 => ⟨S_, .f32⟩
  | 22 => ⟨S6x256, .f32⟩
  | 23 => ⟨S_, .f32⟩
  | 24 => ⟨S6x256, .f32⟩
  | 25 => ⟨S6x256, .f32⟩
  | 26 => ⟨S_, .f32⟩
  | 27 => ⟨S6x256, .f32⟩
  | 28 => ⟨S6x256, .i1⟩
  | 29 => ⟨S_, .f32⟩
  | 30 => ⟨S6x256, .f32⟩
  | 31 => ⟨S6x256, .i1⟩
  | 32 => ⟨S_, .f32⟩
  | 33 => ⟨S6x256, .f32⟩
  | 34 => ⟨S_, .f32⟩
  | 35 => ⟨S6x256, .f32⟩
  | 36 => ⟨S_, .f32⟩
  | 37 => ⟨S6x256, .f32⟩
  | 38 => ⟨S6x256, .f32⟩
  | 39 => ⟨S6x256, .f32⟩
  | 40 => ⟨S6x256x1, .f32⟩
  | 41 => ⟨S6x256x256, .f32⟩
  | 42 => ⟨S6x256x256, .f32⟩
  | 43 => ⟨S6x256x256, .f32⟩
  | 44 => ⟨S_, .f32⟩
  | 45 => ⟨S6x256, .f32⟩
  | 46 => ⟨S6x256x1, .f32⟩
  | 47 => ⟨S6x256x256, .f32⟩
  | 48 => ⟨S6x256x256, .f32⟩
  | 49 => ⟨S6x256x1, .f32⟩
  | 50 => ⟨S_, .f32⟩
  | 51 => ⟨S6x256x1, .f32⟩
  | 52 => ⟨S6x256x1, .f32⟩
  | 53 => ⟨S6x128x256, .f32⟩
  | 54 => ⟨S256x6x128, .f32⟩
  | 55 => ⟨S8192x6x256, .f32⟩
  | 56 => ⟨S6x8192x8448, .f32⟩
  | 57 => ⟨S_, .f32⟩
  | 58 => ⟨S_, .f32⟩
  | 59 => ⟨S6x8192x8448, .f32⟩
  | 60 => ⟨S6x8192x8448, .f32⟩
  | 61 => ⟨S_, .f32⟩
  | 62 => ⟨S6x8192, .f32⟩
  | 63 => ⟨S6x8192x1, .f32⟩
  | 64 => ⟨S6x8192x8448, .f32⟩
  | 65 => ⟨S6x8192x8448, .i1⟩
  | 66 => ⟨S6x8192x8448, .f32⟩
  | 67 => ⟨S_, .f32⟩
  | 68 => ⟨S6x8192, .f32⟩
  | 69 => ⟨S_, .f32⟩
  | 70 => ⟨S6x8192, .f32⟩
  | 71 => ⟨S6x8192, .f32⟩
  | 72 => ⟨S_, .f32⟩
  | 73 => ⟨S6x8192, .f32⟩
  | 74 => ⟨S6x8192, .i1⟩
  | 75 => ⟨S_, .f32⟩
  | 76 => ⟨S6x8192, .f32⟩
  | 77 => ⟨S6x8192, .i1⟩
  | 78 => ⟨S_, .f32⟩
  | 79 => ⟨S6x8192, .f32⟩
  | 80 => ⟨S_, .f32⟩
  | 81 => ⟨S6x8192, .f32⟩
  | 82 => ⟨S_, .f32⟩
  | 83 => ⟨S6x8192, .f32⟩
  | 84 => ⟨S6x8192, .f32⟩
  | 85 => ⟨S6x8192, .f32⟩
  | 86 => ⟨S6x8192x1, .f32⟩
  | 87 => ⟨S6x8192x8448, .f32⟩
  | 88 => ⟨S6x8192x8448, .f32⟩
  | 89 => ⟨S6x8192x8448, .f32⟩
  | 90 => ⟨S_, .f32⟩
  | 91 => ⟨S6x8192, .f32⟩
  | 92 => ⟨S6x8192x1, .f32⟩
  | 93 => ⟨S6x8192x8448, .f32⟩
  | 94 => ⟨S6x8192x8448, .f32⟩
  | 95 => ⟨S6x8192x1, .f32⟩
  | 96 => ⟨S_, .f32⟩
  | 97 => ⟨S6x8192x1, .f32⟩
  | 98 => ⟨S6x8192x1, .f32⟩
  | 99 => ⟨S6x128x8192, .f32⟩
  | 100 => ⟨S8192x6x128, .f32⟩
  | 101 => ⟨S8448x6x128, .f32⟩
  | 102 => ⟨S8448x768, .f32⟩
  | 103 => ⟨S8448x6x128, .f32⟩
  | 104 => ⟨S256x6x128, .f32⟩
  | 105 => ⟨S8192x6x128, .f32⟩
  | 106 => ⟨S6x128x8192, .f32⟩
  | 107 => ⟨S6x8192x8448, .f32⟩
  | 108 => ⟨S6x128x8448, .f32⟩
  | 109 => ⟨S8448x6x128, .f32⟩
  | 110 => ⟨S6x8192x8448, .f32⟩
  | 111 => ⟨S6x8192x8448, .f32⟩
  | 112 => ⟨S6x8192x8448, .f32⟩
  | 113 => ⟨S_, .f32⟩
  | 114 => ⟨S6x8192, .f32⟩
  | 115 => ⟨S6x8192x1, .f32⟩
  | 116 => ⟨S6x8192x1, .f32⟩
  | 117 => ⟨S6x8192x8448, .f32⟩
  | 118 => ⟨S6x8192x8448, .f32⟩
  | 119 => ⟨S_, .f32⟩
  | 120 => ⟨S6x8192, .f32⟩
  | 121 => ⟨S6x8192x8448, .f32⟩
  | 122 => ⟨S6x8192x8448, .f32⟩
  | 123 => ⟨S6x8192x8448, .f32⟩
  | 124 => ⟨S6x8192x8448, .f32⟩
  | 125 => ⟨S6x8192x8448, .f32⟩
  | 126 => ⟨S6x8448x256, .f32⟩
  | 127 => ⟨S8448x6x256, .f32⟩
  | _ => ⟨S8448x1536, .f32⟩

abbrev hbmTy0_1 (i : Nat) : BufTy := match i % 128 with
  | 0 => ⟨S6x8192x256, .f32⟩
  | 1 => ⟨S8192x6x256, .f32⟩
  | 2 => ⟨S_, .f32⟩
  | 3 => ⟨S8448x6x256, .f32⟩
  | 4 => ⟨S6x128x256, .f32⟩
  | 5 => ⟨S6x256x256, .f32⟩
  | 6 => ⟨S6x128x256, .f32⟩
  | 7 => ⟨S256x6x128, .f32⟩
  | 8 => ⟨S6x256x256, .f32⟩
  | 9 => ⟨S6x256x256, .f32⟩
  | 10 => ⟨S6x256x256, .f32⟩
  | 11 => ⟨S_, .f32⟩
  | 12 => ⟨S6x256, .f32⟩
  | 13 => ⟨S6x256x1, .f32⟩
  | 14 => ⟨S6x256x1, .f32⟩
  | 15 => ⟨S6x256x256, .f32⟩
  | 16 => ⟨S6x256x256, .f32⟩
  | 17 => ⟨S_, .f32⟩
  | 18 => ⟨S6x256, .f32⟩
  | 19 => ⟨S6x256x256, .f32⟩
  | 20 => ⟨S6x256x256, .f32⟩
  | 21 => ⟨S6x256x256, .f32⟩
  | 22 => ⟨S6x256x256, .f32⟩
  | 23 => ⟨S6x256x256, .f32⟩
  | 24 => ⟨S6x256x256, .f32⟩
  | 25 => ⟨S256x6x256, .f32⟩
  | 26 => ⟨S6x256x256, .f32⟩
  | 27 => ⟨S256x6x256, .f32⟩
  | 28 => ⟨S_, .f32⟩
  | 29 => ⟨S8448x6x128, .f32⟩
  | 30 => ⟨S8448x6x128, .f32⟩
  | 31 => ⟨S_, .f32⟩
  | 32 => ⟨S8448x6x256, .f32⟩
  | 33 => ⟨S8448x6x256, .f32⟩
  | 34 => ⟨S_, .f32⟩
  | 35 => ⟨S8448x6x256, .f32⟩
  | 36 => ⟨S8448x6x256, .f32⟩
  | 37 => ⟨S8448x768, .f32⟩
  | 38 => ⟨S8448x1536, .f32⟩
  | 39 => ⟨S8448x1536, .f32⟩
  | 40 => ⟨S1536x8448, .f32⟩
  | 41 => ⟨S1536x8448, .bf16⟩
  | _ => ⟨S8448x1536, .f32⟩

abbrev hbmTy (i : Nat) : BufTy := match i / 128 with
  | 0 => hbmTy0_0 i
  | 1 => hbmTy0_1 i
  | _ => ⟨S8448x1536, .f32⟩

abbrev bufTy : (tb : Table) → Fin (tcTables nBuf tb) → BufTy
  | .hbm, ⟨i, _⟩ => hbmTy i
  | _, _ => ⟨S8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_11 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_cst_15 : Ref sig .tc := ⟨.hbm, 75, rfl⟩
abbrev main_v55 : Ref sig .tc := ⟨.hbm, 76, rfl⟩
abbrev main_v56 : Ref sig .tc := ⟨.hbm, 77, rfl⟩
abbrev main_cst_16 : Ref sig .tc := ⟨.hbm, 78, rfl⟩
abbrev main_v57 : Ref sig .tc := ⟨.hbm, 79, rfl⟩
abbrev main_cst_17 : Ref sig .tc := ⟨.hbm, 80, rfl⟩
abbrev main_v58 : Ref sig .tc := ⟨.hbm, 81, rfl⟩
abbrev main_cst_18 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_20 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_21 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_23 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_24 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_cst_25 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_cst_26 : Ref sig .tc := ⟨.hbm, 156, rfl⟩
abbrev main_v125 : Ref sig .tc := ⟨.hbm, 157, rfl⟩
abbrev main_v126 : Ref sig .tc := ⟨.hbm, 158, rfl⟩
abbrev main_cst_27 : Ref sig .tc := ⟨.hbm, 159, rfl⟩
abbrev main_v127 : Ref sig .tc := ⟨.hbm, 160, rfl⟩
abbrev main_v128 : Ref sig .tc := ⟨.hbm, 161, rfl⟩
abbrev main_cst_28 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩

abbrev nD : Nat := 1
abbrev τ : Topo := Topo.v7x

variable {F : FTy → Type} [FloatOps F]
-- ==== Up.lean ====
abbrev S8448x2048 : Shape := ⟨2, ![8448, 2048]⟩
abbrev S2048x5632 : Shape := ⟨2, ![2048, 5632]⟩
abbrev S8448x5632 : Shape := ⟨2, ![8448, 5632]⟩
abbrev S768x2048 : Shape := ⟨2, ![768, 2048]⟩
abbrev S2048x1408 : Shape := ⟨2, ![2048, 1408]⟩
abbrev S768x1408 : Shape := ⟨2, ![768, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x5632, .f32⟩
  | .hbm, ⟨2, _⟩ => ⟨S8448x2048, .bf16⟩
  | .hbm, ⟨3, _⟩ => ⟨S2048x5632, .bf16⟩
  | .hbm, ⟨4, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S2048x1408, .bf16⟩
  | .local _ .vmem, ⟨3, _⟩ => ⟨S2048x1408, .bf16⟩
  | .local _ .vmem, ⟨4, _⟩ => ⟨S768x1408, .bf16⟩
  | .local _ .vmem, ⟨5, _⟩ => ⟨S768x1408, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S8448x2048 : Shape := ⟨2, ![8448, 2048]⟩
abbrev S2048x5632 : Shape := ⟨2, ![2048, 5632]⟩
abbrev S8448x5632 : Shape := ⟨2, ![8448, 5632]⟩

abbrev nBuf : Space → Nat
  | .hbm => 4
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x5632, .f32⟩
  | .hbm, ⟨2, _⟩ => ⟨S8448x5632, .f32⟩
  | .hbm, ⟨3, _⟩ => ⟨S8448x5632, .bf16⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== UpDa.lean ====
abbrev S2048x5632 : Shape := ⟨2, ![2048, 5632]⟩
abbrev S8448x5632 : Shape := ⟨2, ![8448, 5632]⟩
abbrev S5632x2048 : Shape := ⟨2, ![5632, 2048]⟩
abbrev S8448x2048 : Shape := ⟨2, ![8448, 2048]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x5632, .f32⟩
  | .hbm, ⟨1, _⟩ => ⟨S8448x5632, .f32⟩
  | .hbm, ⟨2, _⟩ => ⟨S8448x5632, .bf16⟩
  | .hbm, ⟨3, _⟩ => ⟨S2048x5632, .bf16⟩
  | .hbm, ⟨4, _⟩ => ⟨S5632x2048, .bf16⟩
  | .hbm, ⟨5, _⟩ => ⟨S8448x2048, .bf16⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDaReferenceIdeal.lean ====
abbrev S2048x5632 : Shape := ⟨2, ![2048, 5632]⟩
abbrev S8448x5632 : Shape := ⟨2, ![8448, 5632]⟩
abbrev S_ : Shape := ⟨0, ![]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S8448x5632, .f32⟩
  | .hbm, ⟨2, _⟩ => ⟨S_, .f32⟩
  | .hbm, ⟨3, _⟩ => ⟨S8448x2048, .f32⟩
  | .hbm, ⟨4, _⟩ => ⟨S8448x5632, .f32⟩
  | .hbm, ⟨5, _⟩ => ⟨S8448x2048, .f32⟩
  | .hbm, ⟨6, _⟩ => ⟨S8448x2048, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S8448x2048 : Shape := ⟨2, ![8448, 2048]⟩
abbrev S8448x5632 : Shape := ⟨2, ![8448, 5632]⟩
abbrev S2048x5632 : Shape := ⟨2, ![2048, 5632]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x5632, .f32⟩
  | .hbm, ⟨2, _⟩ => ⟨S8448x2048, .bf16⟩
  | .hbm, ⟨3, _⟩ => ⟨S8448x5632, .bf16⟩
  | .hbm, ⟨4, _⟩ => ⟨S2048x5632, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwReferenceIdeal.lean ====
abbrev S8448x2048 : Shape := ⟨2, ![8448, 2048]⟩
abbrev S8448x5632 : Shape := ⟨2, ![8448, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x5632, .f32⟩
  | .hbm, ⟨2, _⟩ => ⟨S_, .f32⟩
  | .hbm, ⟨3, _⟩ => ⟨S2048x5632, .f32⟩
  | .hbm, ⟨4, _⟩ => ⟨S8448x5632, .f32⟩
  | .hbm, ⟨5, _⟩ => ⟨S5632x2048, .f32⟩
  | .hbm, ⟨6, _⟩ => ⟨S2048x5632, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S8448x5632 : Shape := ⟨2, ![8448, 5632]⟩
abbrev S5632x2048 : Shape := ⟨2, ![5632, 2048]⟩
abbrev S8448x2048 : Shape := ⟨2, ![8448, 2048]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x5632, .bf16⟩
  | .hbm, ⟨3, _⟩ => ⟨S5632x2048, .bf16⟩
  | .hbm, ⟨4, _⟩ => ⟨S8448x2048, .f32⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32_6 : BitVec 32 := 3#32
  let v13 : BitVec 1 := Scalar.cmpi .eq arg2 c3_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownReferenceIdeal.lean ====
abbrev S8448x5632 : Shape := ⟨2, ![8448, 5632]⟩
abbrev S5632x2048 : Shape := ⟨2, ![5632, 2048]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S5632x2048, .f32⟩
  | .hbm, ⟨2, _⟩ => ⟨S8448x2048, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDa.lean ====
abbrev S5632x2048 : Shape := ⟨2, ![5632, 2048]⟩
abbrev S8448x2048 : Shape := ⟨2, ![8448, 2048]⟩
abbrev S2048x5632 : Shape := ⟨2, ![2048, 5632]⟩
abbrev S8448x5632 : Shape := ⟨2, ![8448, 5632]⟩
abbrev S768x2048 : Shape := ⟨2, ![768, 2048]⟩
abbrev S2048x1408 : Shape := ⟨2, ![2048, 1408]⟩
abbrev S768x1408 : Shape := ⟨2, ![768, 1408]⟩

abbrev nBuf : Space → Nat
  | .hbm => 6
  | .vmem => 6
  | .smem => 0
  | _ => 0

abbrev bufTy : (tb : Table) → Fin (tcTables nBuf tb) → BufTy
  | .hbm, ⟨0, _⟩ => ⟨S5632x2048, .f32⟩
  | .hbm, ⟨1, _⟩ => ⟨S8448x2048, .f32⟩
  | .hbm, ⟨2, _⟩ => ⟨S8448x2048, .bf16⟩
  | .hbm, ⟨3, _⟩ => ⟨S5632x2048, .bf16⟩
  | .hbm, ⟨4, _⟩ => ⟨S2048x5632, .bf16⟩
  | .hbm, ⟨5, _⟩ => ⟨S8448x5632, .bf16⟩
  | .local _ .vmem, ⟨0, _⟩ => ⟨S768x2048, .bf16⟩
  | .local _ .vmem, ⟨1, _⟩ => ⟨S768x2048, .bf16⟩
  | .local _ .vmem, ⟨2, _⟩ => ⟨S2048x1408, .bf16⟩
  | .local _ .vmem, ⟨3, _⟩ => ⟨S2048x1408, .bf16⟩
  | .local _ .vmem, ⟨4, _⟩ => ⟨S768x1408, .bf16⟩
  | .local _ .vmem, ⟨5, _⟩ => ⟨S768x1408, .bf16⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDaReferenceIdeal.lean ====
abbrev S5632x2048 : Shape := ⟨2, ![5632, 2048]⟩
abbrev S8448x2048 : Shape := ⟨2, ![8448, 2048]⟩
abbrev S_ : Shape := ⟨0, ![]⟩
abbrev S8448x5632 : Shape := ⟨2, ![8448, 5632]⟩

abbrev nBuf : Space → Nat
  | .hbm => 7
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S8448x2048, .f32⟩
  | .hbm, ⟨2, _⟩ => ⟨S_, .f32⟩
  | .hbm, ⟨3, _⟩ => ⟨S8448x5632, .f32⟩
  | .hbm, ⟨4, _⟩ => ⟨S8448x2048, .f32⟩
  | .hbm, ⟨5, _⟩ => ⟨S8448x5632, .f32⟩
  | .hbm, ⟨6, _⟩ => ⟨S8448x5632, .bf16⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DownDw.lean ====
abbrev S8448x5632 : Shape := ⟨2, ![8448, 5632]⟩
abbrev S8448x2048 : Shape := ⟨2, ![8448, 2048]⟩
abbrev S5632x2048 : Shape := ⟨2, ![5632, 2048]⟩
abbrev S1408x512 : Shape := ⟨2, ![1408, 512]⟩
abbrev S1408x1024 : Shape := ⟨2, ![1408, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S8448x5632, .bf16⟩
  | .hbm, ⟨3, _⟩ => ⟨S8448x2048, .bf16⟩
  | .hbm, ⟨4, _⟩ => ⟨S5632x2048, .f32⟩
  | .local _ .vmem, ⟨0, _⟩ => ⟨S1408x512, .bf16⟩
  | .local _ .vmem, ⟨1, _⟩ => ⟨S1408x512, .bf16⟩
  | .local _ .vmem, ⟨2, _⟩ => ⟨S1408x1024, .bf16⟩
  | .local _ .vmem, ⟨3, _⟩ => ⟨S1408x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8448x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwReferenceIdeal.lean ====
abbrev S8448x5632 : Shape := ⟨2, ![8448, 5632]⟩
abbrev S8448x2048 : Shape := ⟨2, ![8448, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8448x5632, .f32⟩
  | .hbm, ⟨1, _⟩ => ⟨S8448x2048, .f32⟩
  | .hbm, ⟨2, _⟩ => ⟨S_, .f32⟩
  | .hbm, ⟨3, _⟩ => ⟨S5632x2048, .f32⟩
  | .hbm, ⟨4, _⟩ => ⟨S8448x2048, .f32⟩
  | .hbm, ⟨5, _⟩ => ⟨S2048x5632, .f32⟩
  | .hbm, ⟨6, _⟩ => ⟨S5632x2048, .f32⟩
  | _, _ => ⟨S8448x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8448x2048 : Shape := ⟨2, ![8448, 2048]⟩
abbrev S2048x4224 : Shape := ⟨2, ![2048, 4224]⟩
abbrev S8448x4224 : Shape := ⟨2, ![8448, 4224]⟩
abbrev S768x2048 : Shape := ⟨2, ![768, 2048]⟩
abbrev S2048x1408 : Shape := ⟨2, ![2048, 1408]⟩
abbrev S768x1408 : Shape := ⟨2, ![768, 1408]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x4224, .f32⟩
  | .hbm, ⟨2, _⟩ => ⟨S8448x2048, .bf16⟩
  | .hbm, ⟨3, _⟩ => ⟨S2048x4224, .bf16⟩
  | .hbm, ⟨4, _⟩ => ⟨S8448x4224, .f32⟩
  | .local _ .vmem, ⟨0, _⟩ => ⟨S768x2048, .bf16⟩
  | .local _ .vmem, ⟨1, _⟩ => ⟨S768x2048, .bf16⟩
  | .local _ .vmem, ⟨2, _⟩ => ⟨S2048x1408, .bf16⟩
  | .local _ .vmem, ⟨3, _⟩ => ⟨S2048x1408, .bf16⟩
  | .local _ .vmem, ⟨4, _⟩ => ⟨S768x1408, .f32⟩
  | .local _ .vmem, ⟨5, _⟩ => ⟨S768x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InReferenceIdeal.lean ====
abbrev S8448x2048 : Shape := ⟨2, ![8448, 2048]⟩
abbrev S2048x4224 : Shape := ⟨2, ![2048, 4224]⟩
abbrev S8448x4224 : Shape := ⟨2, ![8448, 4224]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x4224, .f32⟩
  | .hbm, ⟨2, _⟩ => ⟨S8448x4224, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDa.lean ====
abbrev S2048x4224 : Shape := ⟨2, ![2048, 4224]⟩
abbrev S8448x4224 : Shape := ⟨2, ![8448, 4224]⟩
abbrev S4224x2048 : Shape := ⟨2, ![4224, 2048]⟩
abbrev S8448x2048 : Shape := ⟨2, ![8448, 2048]⟩
abbrev S768x1408 : Shape := ⟨2, ![768, 1408]⟩
abbrev S1408x1024 : Shape := ⟨2, ![1408, 1024]⟩
abbrev S768x1024 : Shape := ⟨2, ![768, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x4224, .f32⟩
  | .hbm, ⟨1, _⟩ => ⟨S8448x4224, .f32⟩
  | .hbm, ⟨2, _⟩ => ⟨S8448x4224, .bf16⟩
  | .hbm, ⟨3, _⟩ => ⟨S2048x4224, .bf16⟩
  | .hbm, ⟨4, _⟩ => ⟨S4224x2048, .bf16⟩
  | .hbm, ⟨5, _⟩ => ⟨S8448x2048, .bf16⟩
  | .local _ .vmem, ⟨0, _⟩ => ⟨S768x1408, .bf16⟩
  | .local _ .vmem, ⟨1, _⟩ => ⟨S768x1408, .bf16⟩
  | .local _ .vmem, ⟨2, _⟩ => ⟨S1408x1024, .bf16⟩
  | .local _ .vmem, ⟨3, _⟩ => ⟨S1408x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S2048x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 3], ![false, false, false]⟩

def k0_cond3 (i : grid0.Coords) : BitVec 1 :=
  let arg2 : BitVec 32 := BitVec.ofNat 32 (i 2).val
  let c2_i32_6 : BitVec 32 := 2#32
  let v13 : BitVec 1 := Scalar.cmpi .eq arg2 c2_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDaReferenceIdeal.lean ====
abbrev S2048x4224 : Shape := ⟨2, ![2048, 4224]⟩
abbrev S8448x4224 : Shape := ⟨2, ![8448, 4224]⟩
abbrev S_ : Shape := ⟨0, ![]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x4224, .f32⟩
  | .hbm, ⟨1, _⟩ => ⟨S8448x4224, .f32⟩
  | .hbm, ⟨2, _⟩ => ⟨S_, .f32⟩
  | .hbm, ⟨3, _⟩ => ⟨S8448x2048, .f32⟩
  | .hbm, ⟨4, _⟩ => ⟨S8448x4224, .f32⟩
  | .hbm, ⟨5, _⟩ => ⟨S8448x2048, .f32⟩
  | .hbm, ⟨6, _⟩ => ⟨S8448x2048, .bf16⟩
  | _, _ => ⟨S2048x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S8448x2048 : Shape := ⟨2, ![8448, 2048]⟩
abbrev S8448x4224 : Shape := ⟨2, ![8448, 4224]⟩
abbrev S2048x4224 : Shape := ⟨2, ![2048, 4224]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x4224, .f32⟩
  | .hbm, ⟨2, _⟩ => ⟨S8448x2048, .bf16⟩
  | .hbm, ⟨3, _⟩ => ⟨S8448x4224, .bf16⟩
  | .hbm, ⟨4, _⟩ => ⟨S2048x4224, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwReferenceIdeal.lean ====
abbrev S8448x2048 : Shape := ⟨2, ![8448, 2048]⟩
abbrev S8448x4224 : Shape := ⟨2, ![8448, 4224]⟩
abbrev S_ : Shape := ⟨0, ![]⟩
abbrev S2048x4224 : Shape := ⟨2, ![2048, 4224]⟩
abbrev S4224x2048 : Shape := ⟨2, ![4224, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x4224, .f32⟩
  | .hbm, ⟨2, _⟩ => ⟨S_, .f32⟩
  | .hbm, ⟨3, _⟩ => ⟨S2048x4224, .f32⟩
  | .hbm, ⟨4, _⟩ => ⟨S8448x4224, .f32⟩
  | .hbm, ⟨5, _⟩ => ⟨S4224x2048, .f32⟩
  | .hbm, ⟨6, _⟩ => ⟨S2048x4224, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S8448x2048 : Shape := ⟨2, ![8448, 2048]⟩
abbrev S2048x2048 : Shape := ⟨2, ![2048, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .bf16⟩
  | .hbm, ⟨3, _⟩ => ⟨S2048x2048, .bf16⟩
  | .hbm, ⟨4, _⟩ => ⟨S8448x2048, .f32⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .f32⟩
  | .local _ .vmem, ⟨5, _⟩ => ⟨S768x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutReferenceIdeal.lean ====
abbrev S8448x2048 : Shape := ⟨2, ![8448, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x2048, .f32⟩
  | .hbm, ⟨2, _⟩ => ⟨S8448x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDa.lean ====
abbrev S2048x2048 : Shape := ⟨2, ![2048, 2048]⟩
abbrev S8448x2048 : Shape := ⟨2, ![8448, 2048]⟩
abbrev S768x2048 : Shape := ⟨2, ![768, 2048]⟩
abbrev S2048x1024 : Shape := ⟨2, ![2048, 1024]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S8448x2048, .f32⟩
  | .hbm, ⟨2, _⟩ => ⟨S8448x2048, .bf16⟩
  | .hbm, ⟨3, _⟩ => ⟨S2048x2048, .bf16⟩
  | .hbm, ⟨4, _⟩ => ⟨S2048x2048, .bf16⟩
  | .hbm, ⟨5, _⟩ => ⟨S8448x2048, .bf16⟩
  | .local _ .vmem, ⟨0, _⟩ => ⟨S768x2048, .bf16⟩
  | .local _ .vmem, ⟨1, _⟩ => ⟨S768x2048, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDaReferenceIdeal.lean ====
abbrev S2048x2048 : Shape := ⟨2, ![2048, 2048]⟩
abbrev S8448x2048 : Shape := ⟨2, ![8448, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S8448x2048, .f32⟩
  | .hbm, ⟨2, _⟩ => ⟨S_, .f32⟩
  | .hbm, ⟨3, _⟩ => ⟨S8448x2048, .f32⟩
  | .hbm, ⟨4, _⟩ => ⟨S8448x2048, .f32⟩
  | .hbm, ⟨5, _⟩ => ⟨S8448x2048, .f32⟩
  | .hbm, ⟨6, _⟩ => ⟨S8448x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S8448x2048 : Shape := ⟨2, ![8448, 2048]⟩
abbrev S2048x2048 : Shape := ⟨2, ![2048, 2048]⟩
abbrev S1408x1024 : Shape := ⟨2, ![1408, 1024]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .bf16⟩
  | .hbm, ⟨3, _⟩ => ⟨S8448x2048, .bf16⟩
  | .hbm, ⟨4, _⟩ => ⟨S2048x2048, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwReferenceIdeal.lean ====
abbrev S8448x2048 : Shape := ⟨2, ![8448, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S_, .f32⟩
  | .hbm, ⟨3, _⟩ => ⟨S2048x2048, .f32⟩
  | .hbm, ⟨4, _⟩ => ⟨S8448x2048, .f32⟩
  | .hbm, ⟨5, _⟩ => ⟨S2048x2048, .f32⟩
  | .hbm, ⟨6, _⟩ => ⟨S2048x2048, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Uq.lean ====
abbrev S8448x512 : Shape := ⟨2, ![8448, 512]⟩
abbrev S512x1536 : Shape := ⟨2, ![512, 1536]⟩
abbrev S8448x1536 : Shape := ⟨2, ![8448, 1536]⟩
abbrev S768x512 : Shape := ⟨2, ![768, 512]⟩
abbrev S512x768 : Shape := ⟨2, ![512, 768]⟩
abbrev S768x768 : Shape := ⟨2, ![768, 768]⟩

abbrev nBuf : Space → Nat
  | .hbm => 5
  | .vmem => 6
  | .smem => 0
  | _ => 0

abbrev bufTy : (tb : Table) → Fin (tcTables nBuf tb) → BufTy
  | .hbm, ⟨0, _⟩ => ⟨S8448x512, .f32⟩
  | .hbm, ⟨1, _⟩ => ⟨S512x1536, .f32⟩
  | .hbm, ⟨2, _⟩ => ⟨S8448x512, .bf16⟩
  | .hbm, ⟨3, _⟩ => ⟨S512x1536, .bf16⟩
  | .hbm, ⟨4, _⟩ => ⟨S8448x1536, .f32⟩
  | .local _ .vmem, ⟨0, _⟩ => ⟨S768x512, .bf16⟩
  | .local _ .vmem, ⟨1, _⟩ => ⟨S768x512, .bf16⟩
  | .local _ .vmem, ⟨2, _⟩ => ⟨S512x768, .bf16⟩
  | .local _ .vmem, ⟨3, _⟩ => ⟨S512x768, .bf16⟩
  | .local _ .vmem, ⟨4, _⟩ => ⟨S768x768, .f32⟩
  | .local _ .vmem, ⟨5, _⟩ => ⟨S768x768, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqReferenceIdeal.lean ====
abbrev S8448x512 : Shape := ⟨2, ![8448, 512]⟩
abbrev S512x1536 : Shape := ⟨2, ![512, 1536]⟩
abbrev S8448x1536 : Shape := ⟨2, ![8448, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S512x1536, .f32⟩
  | .hbm, ⟨2, _⟩ => ⟨S8448x1536, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UqDa.lean ====
abbrev S512x1536 : Shape := ⟨2, ![512, 1536]⟩
abbrev S8448x1536 : Shape := ⟨2, ![8448, 1536]⟩
abbrev S1536x512 : Shape := ⟨2, ![1536, 512]⟩
abbrev S8448x512 : Shape := ⟨2, ![8448, 512]⟩
abbrev S768x1536 : Shape := ⟨2, ![768, 1536]⟩
abbrev S768x512 : Shape := ⟨2, ![768, 512]⟩

abbrev nBuf : Space → Nat
  | .hbm => 6
  | .vmem => 5
  | .smem => 0
  | _ => 0

abbrev bufTy : (tb : Table) → Fin (tcTables nBuf tb) → BufTy
  | .hbm, ⟨0, _⟩ => ⟨S512x1536, .f32⟩
  | .hbm, ⟨1, _⟩ => ⟨S8448x1536, .f32⟩
  | .hbm, ⟨2, _⟩ => ⟨S8448x1536, .bf16⟩
  | .hbm, ⟨3, _⟩ => ⟨S512x1536, .bf16⟩
  | .hbm, ⟨4, _⟩ => ⟨S1536x512, .bf16⟩
  | .hbm, ⟨5, _⟩ => ⟨S8448x512, .bf16⟩
  | .local _ .vmem, ⟨0, _⟩ => ⟨S768x1536, .bf16⟩
  | .local _ .vmem, ⟨1, _⟩ => ⟨S768x1536, .bf16⟩
  | .local _ .vmem, ⟨2, _⟩ => ⟨S1536x512, .bf16⟩
  | .local _ .vmem, ⟨3, _⟩ => ⟨S768x512, .bf16⟩
  | .local _ .vmem, ⟨4, _⟩ => ⟨S768x512, .bf16⟩
  | _, _ => ⟨S512x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDaReferenceIdeal.lean ====
abbrev S512x1536 : Shape := ⟨2, ![512, 1536]⟩
abbrev S8448x1536 : Shape := ⟨2, ![8448, 1536]⟩
abbrev S_ : Shape := ⟨0, ![]⟩
abbrev S8448x512 : Shape := ⟨2, ![8448, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x1536, .f32⟩
  | .hbm, ⟨1, _⟩ => ⟨S8448x1536, .f32⟩
  | .hbm, ⟨2, _⟩ => ⟨S_, .f32⟩
  | .hbm, ⟨3, _⟩ => ⟨S8448x512, .f32⟩
  | .hbm, ⟨4, _⟩ => ⟨S8448x1536, .f32⟩
  | .hbm, ⟨5, _⟩ => ⟨S8448x512, .f32⟩
  | .hbm, ⟨6, _⟩ => ⟨S8448x512, .bf16⟩
  | _, _ => ⟨S512x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UqDw.lean ====
abbrev S8448x512 : Shape := ⟨2, ![8448, 512]⟩
abbrev S8448x1536 : Shape := ⟨2, ![8448, 1536]⟩
abbrev S512x1536 : Shape := ⟨2, ![512, 1536]⟩
abbrev S1408x512 : Shape := ⟨2, ![1408, 512]⟩
abbrev S1408x768 : Shape := ⟨2, ![1408, 768]⟩
abbrev S512x768 : Shape := ⟨2, ![512, 768]⟩

abbrev nBuf : Space → Nat
  | .hbm => 5
  | .vmem => 7
  | .smem => 0
  | _ => 0

abbrev bufTy : (tb : Table) → Fin (tcTables nBuf tb) → BufTy
  | .hbm, ⟨0, _⟩ => ⟨S8448x512, .f32⟩
  | .hbm, ⟨1, _⟩ => ⟨S8448x1536, .f32⟩
  | .hbm, ⟨2, _⟩ => ⟨S8448x512, .bf16⟩
  | .hbm, ⟨3, _⟩ => ⟨S8448x1536, .bf16⟩
  | .hbm, ⟨4, _⟩ => ⟨S512x1536, .f32⟩
  | .local _ .vmem, ⟨0, _⟩ => ⟨S1408x512, .bf16⟩
  | .local _ .vmem, ⟨1, _⟩ => ⟨S1408x512, .bf16⟩
  | .local _ .vmem, ⟨2, _⟩ => ⟨S1408x768, .bf16⟩
  | .local _ .vmem, ⟨3, _⟩ => ⟨S1408x768, .bf16⟩
  | .local _ .vmem, ⟨4, _⟩ => ⟨S512x768, .f32⟩
  | .local _ .vmem, ⟨5, _⟩ => ⟨S512x768, .f32⟩
  | .local _ .vmem, ⟨6, _⟩ => ⟨S512x768, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqDwReferenceIdeal.lean ====
abbrev S8448x512 : Shape := ⟨2, ![8448, 512]⟩
abbrev S8448x1536 : Shape := ⟨2, ![8448, 1536]⟩
abbrev S_ : Shape := ⟨0, ![]⟩
abbrev S512x1536 : Shape := ⟨2, ![512, 1536]⟩
abbrev S1536x512 : Shape := ⟨2, ![1536, 512]⟩

abbrev nBuf : Space → Nat
  | .hbm => 7
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x1536, .f32⟩
  | .hbm, ⟨2, _⟩ => ⟨S_, .f32⟩
  | .hbm, ⟨3, _⟩ => ⟨S512x1536, .f32⟩
  | .hbm, ⟨4, _⟩ => ⟨S8448x1536, .f32⟩
  | .hbm, ⟨5, _⟩ => ⟨S1536x512, .f32⟩
  | .hbm, ⟨6, _⟩ => ⟨S512x1536, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ukv.lean ====
abbrev S8448x256 : Shape := ⟨2, ![8448, 256]⟩
abbrev S256x1536 : Shape := ⟨2, ![256, 1536]⟩
abbrev S8448x1536 : Shape := ⟨2, ![8448, 1536]⟩
abbrev S768x256 : Shape := ⟨2, ![768, 256]⟩
abbrev S256x768 : Shape := ⟨2, ![256, 768]⟩
abbrev S768x768 : Shape := ⟨2, ![768, 768]⟩

abbrev nBuf : Space → Nat
  | .hbm => 5
  | .vmem => 6
  | .smem => 0
  | _ => 0

abbrev bufTy : (tb : Table) → Fin (tcTables nBuf tb) → BufTy
  | .hbm, ⟨0, _⟩ => ⟨S8448x256, .f32⟩
  | .hbm, ⟨1, _⟩ => ⟨S256x1536, .f32⟩
  | .hbm, ⟨2, _⟩ => ⟨S8448x256, .bf16⟩
  | .hbm, ⟨3, _⟩ => ⟨S256x1536, .bf16⟩
  | .hbm, ⟨4, _⟩ => ⟨S8448x1536, .f32⟩
  | .local _ .vmem, ⟨0, _⟩ => ⟨S768x256, .bf16⟩
  | .local _ .vmem, ⟨1, _⟩ => ⟨S768x256, .bf16⟩
  | .local _ .vmem, ⟨2, _⟩ => ⟨S256x768, .bf16⟩
  | .local _ .vmem, ⟨3, _⟩ => ⟨S256x768, .bf16⟩
  | .local _ .vmem, ⟨4, _⟩ => ⟨S768x768, .f32⟩
  | .local _ .vmem, ⟨5, _⟩ => ⟨S768x768, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvReferenceIdeal.lean ====
abbrev S8448x256 : Shape := ⟨2, ![8448, 256]⟩
abbrev S256x1536 : Shape := ⟨2, ![256, 1536]⟩
abbrev S8448x1536 : Shape := ⟨2, ![8448, 1536]⟩

abbrev nBuf : Space → Nat
  | .hbm => 3
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S256x1536, .f32⟩
  | .hbm, ⟨2, _⟩ => ⟨S8448x1536, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UkvDa.lean ====
abbrev S256x1536 : Shape := ⟨2, ![256, 1536]⟩
abbrev S8448x1536 : Shape := ⟨2, ![8448, 1536]⟩
abbrev S1536x256 : Shape := ⟨2, ![1536, 256]⟩
abbrev S8448x256 : Shape := ⟨2, ![8448, 256]⟩
abbrev S768x1536 : Shape := ⟨2, ![768, 1536]⟩
abbrev S768x256 : Shape := ⟨2, ![768, 256]⟩

abbrev nBuf : Space → Nat
  | .hbm => 6
  | .vmem => 5
  | .smem => 0
  | _ => 0

abbrev bufTy : (tb : Table) → Fin (tcTables nBuf tb) → BufTy
  | .hbm, ⟨0, _⟩ => ⟨S256x1536, .f32⟩
  | .hbm, ⟨1, _⟩ => ⟨S8448x1536, .f32⟩
  | .hbm, ⟨2, _⟩ => ⟨S8448x1536, .bf16⟩
  | .hbm, ⟨3, _⟩ => ⟨S256x1536, .bf16⟩
  | .hbm, ⟨4, _⟩ => ⟨S1536x256, .bf16⟩
  | .hbm, ⟨5, _⟩ => ⟨S8448x256, .bf16⟩
  | .local _ .vmem, ⟨0, _⟩ => ⟨S768x1536, .bf16⟩
  | .local _ .vmem, ⟨1, _⟩ => ⟨S768x1536, .bf16⟩
  | .local _ .vmem, ⟨2, _⟩ => ⟨S1536x256, .bf16⟩
  | .local _ .vmem, ⟨3, _⟩ => ⟨S768x256, .bf16⟩
  | .local _ .vmem, ⟨4, _⟩ => ⟨S768x256, .bf16⟩
  | _, _ => ⟨S256x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDaReferenceIdeal.lean ====
abbrev S256x1536 : Shape := ⟨2, ![256, 1536]⟩
abbrev S8448x1536 : Shape := ⟨2, ![8448, 1536]⟩
abbrev S_ : Shape := ⟨0, ![]⟩
abbrev S8448x256 : Shape := ⟨2, ![8448, 256]⟩

abbrev nBuf : Space → Nat
  | .hbm => 7
  | .vmem => 0
  | .smem => 0
  | _ => 0

abbrev bufTy : (tb : Table) → Fin (tcTables nBuf tb) → BufTy
  | .hbm, ⟨0, _⟩ => ⟨S256x1536, .f32⟩
  | .hbm, ⟨1, _⟩ => ⟨S8448x1536, .f32⟩
  | .hbm, ⟨2, _⟩ => ⟨S_, .f32⟩
  | .hbm, ⟨3, _⟩ => ⟨S8448x256, .f32⟩
  | .hbm, ⟨4, _⟩ => ⟨S8448x1536, .f32⟩
  | .hbm, ⟨5, _⟩ => ⟨S8448x256, .f32⟩
  | .hbm, ⟨6, _⟩ => ⟨S8448x256, .bf16⟩
  | _, _ => ⟨S256x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UkvDw.lean ====
abbrev S8448x256 : Shape := ⟨2, ![8448, 256]⟩
abbrev S8448x1536 : Shape := ⟨2, ![8448, 1536]⟩
abbrev S256x1536 : Shape := ⟨2, ![256, 1536]⟩
abbrev S1408x256 : Shape := ⟨2, ![1408, 256]⟩
abbrev S1408x768 : Shape := ⟨2, ![1408, 768]⟩
abbrev S256x768 : Shape := ⟨2, ![256, 768]⟩

abbrev nBuf : Space → Nat
  | .hbm => 5
  | .vmem => 7
  | .smem => 0
  | _ => 0

abbrev bufTy : (tb : Table) → Fin (tcTables nBuf tb) → BufTy
  | .hbm, ⟨0, _⟩ => ⟨S8448x256, .f32⟩
  | .hbm, ⟨1, _⟩ => ⟨S8448x1536, .f32⟩
  | .hbm, ⟨2, _⟩ => ⟨S8448x256, .bf16⟩
  | .hbm, ⟨3, _⟩ => ⟨S8448x1536, .bf16⟩
  | .hbm, ⟨4, _⟩ => ⟨S256x1536, .f32⟩
  | .local _ .vmem, ⟨0, _⟩ => ⟨S1408x256, .bf16⟩
  | .local _ .vmem, ⟨1, _⟩ => ⟨S1408x256, .bf16⟩
  | .local _ .vmem, ⟨2, _⟩ => ⟨S1408x768, .bf16⟩
  | .local _ .vmem, ⟨3, _⟩ => ⟨S1408x768, .bf16⟩
  | .local _ .vmem, ⟨4, _⟩ => ⟨S256x768, .f32⟩
  | .local _ .vmem, ⟨5, _⟩ => ⟨S256x768, .f32⟩
  | .local _ .vmem, ⟨6, _⟩ => ⟨S256x768, .f32⟩
  | _, _ => ⟨S8448x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 6], ![false, false, false]⟩

def k0_cond3 (i : grid0.Coords) : BitVec 1 :=
  let arg2 : BitVec 32 := BitVec.ofNat 32 (i 2).val
  let c5_i32_6 : BitVec 32 := 5#32
  let v13 : BitVec 1 := Scalar.cmpi .eq arg2 c5_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvDwReferenceIdeal.lean ====
abbrev S8448x256 : Shape := ⟨2, ![8448, 256]⟩
abbrev S8448x1536 : Shape := ⟨2, ![8448, 1536]⟩
abbrev S_ : Shape := ⟨0, ![]⟩
abbrev S256x1536 : Shape := ⟨2, ![256, 1536]⟩
abbrev S1536x256 : Shape := ⟨2, ![1536, 256]⟩

abbrev nBuf : Space → Nat
  | .hbm => 7
  | .vmem => 0
  | .smem => 0
  | _ => 0

abbrev bufTy : (tb : Table) → Fin (tcTables nBuf tb) → BufTy
  | .hbm, ⟨0, _⟩ => ⟨S8448x256, .f32⟩
  | .hbm, ⟨1, _⟩ => ⟨S8448x1536, .f32⟩
  | .hbm, ⟨2, _⟩ => ⟨S_, .f32⟩
  | .hbm, ⟨3, _⟩ => ⟨S256x1536, .f32⟩
  | .hbm, ⟨4, _⟩ => ⟨S8448x1536, .f32⟩
  | .hbm, ⟨5, _⟩ => ⟨S1536x256, .f32⟩
  | .hbm, ⟨6, _⟩ => ⟨S256x1536, .f32⟩
  | _, _ => ⟨S8448x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Fwd.lean ====
abbrev S8448x1536 : Shape := ⟨2, ![8448, 1536]⟩
abbrev S8448x768 : Shape := ⟨2, ![8448, 768]⟩
abbrev S_ : Shape := ⟨0, ![]⟩
abbrev S6x8x128 : Shape := ⟨3, ![6, 8, 128]⟩
abbrev S768x8448 : Shape := ⟨2, ![768, 8448]⟩
abbrev S6x8x8448 : Shape := ⟨3, ![6, 8, 8448]⟩
abbrev S768x256 : Shape := ⟨2, ![768, 256]⟩
abbrev S128x768 : Shape := ⟨2, ![128, 768]⟩
abbrev S1x8x128 : Shape := ⟨3, ![1, 8, 128]⟩
abbrev S1x8x768 : Shape := ⟨3, ![1, 8, 768]⟩
abbrev S1x128x768 : Shape := ⟨3, ![1, 128, 768]⟩
abbrev S768x768 : Shape := ⟨2, ![768, 768]⟩
abbrev S1x1x768 : Shape := ⟨3, ![1, 1, 768]⟩
abbrev S1x768 : Shape := ⟨2, ![1, 768]⟩
abbrev S768 : Shape := ⟨1, ![768]⟩
abbrev S8x768 : Shape := ⟨2, ![8, 768]⟩

abbrev nBuf : Space → Nat
  | .hbm => 18
  | .vmem => 15
  | .smem => 0
  | _ => 0

abbrev bufTy : (tb : Table) → Fin (tcTables nBuf tb) → BufTy
  | .hbm, ⟨0, _⟩ => ⟨S8448x1536, .f32⟩
  | .hbm, ⟨1, _⟩ => ⟨S8448x1536, .f32⟩
  | .hbm, ⟨2, _⟩ => ⟨S8448x768, .f32⟩
  | .hbm, ⟨3, _⟩ => ⟨S_, .f32⟩
  | .hbm, ⟨4, _⟩ => ⟨S6x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8448x1536, .f32⟩
  | .hbm, ⟨11, _⟩ => ⟨S8448x1536, .f32⟩
  | .hbm, ⟨12, _⟩ => ⟨S8448x1536, .bf16⟩
  | .hbm, ⟨13, _⟩ => ⟨S8448x1536, .bf16⟩
  | .hbm, ⟨14, _⟩ => ⟨S8448x768, .bf16⟩
  | .hbm, ⟨15, _⟩ => ⟨S768x8448, .bf16⟩
  | .hbm, ⟨16, _⟩ => ⟨S768x8448, .f32⟩
  | .hbm, ⟨17, _⟩ => ⟨S6x8x8448, .f32⟩
  | .local _ .vmem, ⟨0, _⟩ => ⟨S768x256, .bf16⟩
  | .local _ .vmem, ⟨1, _⟩ => ⟨S768x256, .bf16⟩
  | .local _ .vmem, ⟨2, _⟩ => ⟨S768x256, .bf16⟩
  | .local _ .vmem, ⟨3, _⟩ => ⟨S768x256, .bf16⟩
  | .local _ .vmem, ⟨4, _⟩ => ⟨S128x768, .bf16⟩
  | .local _ .vmem, ⟨5, _⟩ => ⟨S128x768, .bf16⟩
  | .local _ .vmem, ⟨6, _⟩ => ⟨S1x8x128, .f32⟩
  | .local _ .vmem, ⟨7, _⟩ => ⟨S1x8x128, .f32⟩
  | .local _ .vmem, ⟨8, _⟩ => ⟨S128x768, .f32⟩
  | .local _ .vmem, ⟨9, _⟩ => ⟨S128x768, .f32⟩
  | .local _ .vmem, ⟨10, _⟩ => ⟨S1x8x768, .f32⟩
  | .local _ .vmem, ⟨11, _⟩ => ⟨S1x8x768, .f32⟩
  | .local _ .vmem, ⟨12, _⟩ => ⟨S1x8x768, .f32⟩
  | .local _ .vmem, ⟨13, _⟩ => ⟨S1x8x768, .f32⟩
  | .local _ .vmem, ⟨14, _⟩ => ⟨S1x128x768, .f32⟩
  | _, _ => ⟨S8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![6, 11, 11], ![false, false, false]⟩

def k0_cond4 (i : grid0.Coords) : BitVec 1 :=
  let arg2 : BitVec 32 := BitVec.ofNat 32 (i 2).val
  let c10_i32 : BitVec 32 := 10#32
  let v13 : BitVec 1 := Scalar.cmpi .eq arg2 c10_i32
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FwdIdeal.lean ====
variable {F : FTy → Type} [FloatOps F] [Named F]
def κ : String → Option EReal := fun
  | "log2e" => some (((Real.log 2)⁻¹ : ℝ) : EReal)
  | "mask" => some ⊥
  | _ => none
-- ==== FwdReferenceIdeal.lean ====
abbrev S8448x1536 : Shape := ⟨2, ![8448, 1536]⟩
abbrev S8448x768 : Shape := ⟨2, ![8448, 768]⟩
abbrev S8448x6x256 : Shape := ⟨3, ![8448, 6, 256]⟩
abbrev S256x6x256 : Shape := ⟨3, ![256, 6, 256]⟩
abbrev S6x256x256 : Shape := ⟨3, ![6, 256, 256]⟩
abbrev S_ : Shape := ⟨0, ![]⟩
abbrev S6x256 : Shape := ⟨2, ![6, 256]⟩
abbrev S6x256x1 : Shape := ⟨3, ![6, 256, 1]⟩
abbrev S8192x6x256 : Shape := ⟨3, ![8192, 6, 256]⟩
abbrev S6x8192x8448 : Shape := ⟨3, ![6, 8192, 8448]⟩
abbrev S6x8192 : Shape := ⟨2, ![6, 8192]⟩
abbrev S6x8192x1 : Shape := ⟨3, ![6, 8192, 1]⟩
abbrev S6x8448 : Shape := ⟨2, ![6, 8448]⟩
abbrev S8448x6x128 : Shape := ⟨3, ![8448, 6, 128]⟩
abbrev S256x6x128 : Shape := ⟨3, ![256, 6, 128]⟩
abbrev S6x128x256 : Shape := ⟨3, ![6, 128, 256]⟩
abbrev S6x128x8192 : Shape := ⟨3, ![6, 128, 8192]⟩
abbrev S8192x6x128 : Shape := ⟨3, ![8192, 6, 128]⟩
abbrev S768x8448 : Shape := ⟨2, ![768, 8448]⟩
abbrev S6x1x8448 : Shape := ⟨3, ![6, 1, 8448]⟩
abbrev S6x8x8448 : Shape := ⟨3, ![6, 8, 8448]⟩

abbrev nBuf : Space → Nat
  | .hbm => 99
  | .vmem => 0
  | .smem => 0
  | _ => 0

abbrev bufTy : (tb : Table) → Fin (tcTables nBuf tb) → BufTy
  | .hbm, ⟨0, _⟩ => ⟨S8448x1536, .f32⟩
  | .hbm, ⟨1, _⟩ => ⟨S8448x1536, .f32⟩
  | .hbm, ⟨2, _⟩ => ⟨S8448x768, .f32⟩
  | .hbm, ⟨3, _⟩ => ⟨S8448x6x256, .f32⟩
  | .hbm, ⟨4, _⟩ => ⟨S8448x6x256, .f32⟩
  | .hbm, ⟨5, _⟩ => ⟨S256x6x256, .f32⟩
  | .hbm, ⟨6, _⟩ => ⟨S256x6x256, .f32⟩
  | .hbm, ⟨7, _⟩ => ⟨S6x256x256, .f32⟩
  | .hbm, ⟨8, _⟩ => ⟨S_, .f32⟩
  | .hbm, ⟨9, _⟩ => ⟨S_, .f32⟩
  | .hbm, ⟨10, _⟩ => ⟨S6x256x256, .f32⟩
  | .hbm, ⟨11, _⟩ => ⟨S6x256x256, .f32⟩
  | .hbm, ⟨12, _⟩ => ⟨S_, .f32⟩
  | .hbm, ⟨13, _⟩ => ⟨S6x256, .f32⟩
  | .hbm, ⟨14, _⟩ => ⟨S6x256x1, .f32⟩
  | .hbm, ⟨15, _⟩ => ⟨S6x256x256, .f32⟩
  | .hbm, ⟨16, _⟩ => ⟨S6x256x256, .f32⟩
  | .hbm, ⟨17, _⟩ => ⟨S6x256x256, .f32⟩
  | .hbm, ⟨18, _⟩ => ⟨S_, .f32⟩
  | .hbm, ⟨19, _⟩ => ⟨S6x256, .f32⟩
  | .hbm, ⟨20, _⟩ => ⟨S6x256, .f32⟩
  | .hbm, ⟨21, _⟩ => ⟨S6x256, .f32⟩
  | .hbm, ⟨22, _⟩ => ⟨S6x256, .f32⟩
  | .hbm, ⟨23, _⟩ => ⟨S8192x6x256, .f32⟩
  | .hbm, ⟨24, _⟩ => ⟨S6x8192x8448, .f32⟩
  | .hbm, ⟨25, _⟩ => ⟨S_, .f32⟩
  | .hbm, ⟨26, _⟩ => ⟨S_, .f32⟩
  | .hbm, ⟨27, _⟩ => ⟨S6x8192x8448, .f32⟩
  | .hbm, ⟨28, _⟩ => ⟨S6x8192x8448, .f32⟩
  | .hbm, ⟨29, _⟩ => ⟨S_, .f32⟩
  | .hbm, ⟨30, _⟩ => ⟨S6x8192, .f32⟩
  | .hbm, ⟨31, _⟩ => ⟨S6x8192x1, .f32⟩
  | .hbm, ⟨32, _⟩ => ⟨S6x8192x8448, .f32⟩
  | .hbm, ⟨33, _⟩ => ⟨S6x8192x8448, .f32⟩
  | .hbm, ⟨34, _⟩ => ⟨S6x8192x8448, .f32⟩
  | .hbm, ⟨35, _⟩ => ⟨S_, .f32⟩
  | .hbm, ⟨36, _⟩ => ⟨S6x8192, .f32⟩
  | .hbm, ⟨37, _⟩ => ⟨S6x8192, .f32⟩
  | .hbm, ⟨38, _⟩ => ⟨S6x8192, .f32⟩
  | .hbm, ⟨39, _⟩ => ⟨S6x8192, .f32⟩
  | .hbm, ⟨40, _⟩ => ⟨S6x8448, .f32⟩
  | .hbm, ⟨41, _⟩ => ⟨S_, .f32⟩
  | .hbm, ⟨42, _⟩ => ⟨S_, .f32⟩
  | .hbm, ⟨43, _⟩ => ⟨S6x8448, .f32⟩
  | .hbm, ⟨44, _⟩ => ⟨S6x8448, .f32⟩
  | .hbm, ⟨45, _⟩ => ⟨S8448x6x256, .f32⟩
  | .hbm, ⟨46, _⟩ => ⟨S8448x6x256, .f32⟩
  | .hbm, ⟨47, _⟩ => ⟨S8448x6x128, .f32⟩
  | .hbm, ⟨48, _⟩ => ⟨S256x6x256, .f32⟩
  | .hbm, ⟨49, _⟩ => ⟨S256x6x256, .f32⟩
  | .hbm, ⟨50, _⟩ => ⟨S256x6x128, .f32⟩
  | .hbm, ⟨51, _⟩ => ⟨S6x256x256, .f32⟩
  | .hbm, ⟨52, _⟩ => ⟨S_, .f32⟩
  | .hbm, ⟨53, _⟩ => ⟨S_, .f32⟩
  | .hbm, ⟨54, _⟩ => ⟨S6x256x256, .f32⟩
  | .hbm, ⟨55, _⟩ => ⟨S6x256x256, .f32⟩
  | .hbm, ⟨56, _⟩ => ⟨S_, .f32⟩
  | .hbm, ⟨57, _⟩ => ⟨S6x256, .f32⟩
  | .hbm, ⟨58, _⟩ => ⟨S_, .f32⟩
  | .hbm, ⟨59, _⟩ => ⟨S6x256, .f32⟩
  | .hbm, ⟨60, _⟩ => ⟨S6x256, .f32⟩
  | .hbm, ⟨61, _⟩ => ⟨S6x256x1, .f32⟩
  | .hbm, ⟨62, _⟩ => ⟨S6x256x256, .f32⟩
  | .hbm, ⟨63, _⟩ => ⟨S6x256x256, .f32⟩
  | .hbm, ⟨64, _⟩ => ⟨S6x256x256, .f32⟩
  | .hbm, ⟨65, _⟩ => ⟨S_, .f32⟩
  | .hbm, ⟨66, _⟩ => ⟨S6x256, .f32⟩
  | .hbm, ⟨67, _⟩ => ⟨S6x256x1, .f32⟩
  | .hbm, ⟨68, _⟩ => ⟨S6x256x256, .f32⟩
  | .hbm, ⟨69, _⟩ => ⟨S6x256x256, .f32⟩
  | .hbm, ⟨70, _⟩ => ⟨S6x128x256, .f32⟩
  | .hbm, ⟨71, _⟩ => ⟨S256x6x128, .f32⟩
  | .hbm, ⟨72, _⟩ => ⟨S8192x6x256, .f32⟩
  | .hbm, ⟨73, _⟩ => ⟨S6x8192x8448, .f32⟩
  | .hbm, ⟨74, _⟩ => ⟨S_, .f32⟩
  | .hbm, ⟨75, _⟩ => ⟨S_, .f32⟩
  | .hbm, ⟨76, _⟩ => ⟨S6x8192x8448, .f32⟩
  | .hbm, ⟨77, _⟩ => ⟨S6x8192x8448, .f32⟩
  | .hbm, ⟨78, _⟩ => ⟨S_, .f32⟩
  | .hbm, ⟨79, _⟩ => ⟨S6x8192, .f32⟩
  | .hbm, ⟨80, _⟩ => ⟨S_, .f32⟩
  | .hbm, ⟨81, _⟩ => ⟨S6x8192, .f32⟩
  | .hbm, ⟨82, _⟩ => ⟨S6x8192, .f32⟩
  | .hbm, ⟨83, _⟩ => ⟨S6x8192x1, .f32⟩
  | .hbm, ⟨84, _⟩ => ⟨S6x8192x8448, .f32⟩
  | .hbm, ⟨85, _⟩ => ⟨S6x8192x8448, .f32⟩
  | .hbm, ⟨86, _⟩ => ⟨S6x8192x8448, .f32⟩
  | .hbm, ⟨87, _⟩ => ⟨S_, .f32⟩
  | .hbm, ⟨88, _⟩ => ⟨S6x8192, .f32⟩
  | .hbm, ⟨89, _⟩ => ⟨S6x8192x1, .f32⟩
  | .hbm, ⟨90, _⟩ => ⟨S6x8192x8448, .f32⟩
  | .hbm, ⟨91, _⟩ => ⟨S6x8192x8448, .f32⟩
  | .hbm, ⟨92, _⟩ => ⟨S6x128x8192, .f32⟩
  | .hbm, ⟨93, _⟩ => ⟨S8192x6x128, .f32⟩
  | .hbm, ⟨94, _⟩ => ⟨S8448x6x128, .f32⟩
  | .hbm, ⟨95, _⟩ => ⟨S8448x768, .f32⟩
  | .hbm, ⟨96, _⟩ => ⟨S768x8448, .f32⟩
  | .hbm, ⟨97, _⟩ => ⟨S6x1x8448, .f32⟩
  | .hbm, ⟨98, _⟩ => ⟨S6x8x8448, .f32⟩
  | _, _ => ⟨S8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_10 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩
abbrev main_cst_12 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩

abbrev nD : Nat := 1
abbrev τ : Topo := Topo.v7x

variable {F : FTy → Type} [FloatOps F]
-- ==== Proof.Step.lean ====
/- What one grid point of the kernel does to what it carries: the running gradient of the tile's queries, the
   gradients of the head's keys and values, and the tile's row of output-gradient products. -/
module

public import proofs.«01_k».proof.Proof.Gen.KernelIdeal.Skeleton
public import Idealize.ShloMosaic.Lib.VecWindow

@[expose] public section

set_option maxRecDepth 16384

noncomputable section

namespace Cert.KernelIdeal.Value

open Idealize.ShloMosaic Idealize.SL.Sem
open Cert.KernelIdeal Cert.KernelIdeal.Gen

variable {F : FTy → Type} [FloatOps F] [Named F]

/-- The blocks of a grid point: the tile's queries, the tile's keys (by rows and by columns) and values, a block
    the kernel never reads, and for the tile's queries the forward result, its log-sum row, and the result's
    gradient by rows and by columns. -/
structure Blocks (F : FTy → Type) [FloatOps F] where
  q : Vec F S768x256 .bf16
  k : Vec F S768x256 .bf16
  kt : Vec F S256x768 .bf16
  v : Vec F S768x128 .bf16
  sink : Vec F S1x8x128 .f32
  ot : Vec F S128x768 .f32
  lse : Vec F S1x8x768 .f32
  o : Vec F S768x128 .f32
  od : Vec F S128x768 .f32

/-- What is carried from a grid point to the next. -/
structure Carry (F : FTy → Type) [FloatOps F] where
  dk : Vec F S8448x256 .f32
  dv : Vec F S8448x128 .f32
  acc : Vec F S1x256x768 .f32
  dl : Vec F S1x8x768 .f32

/-- The first of eight equal rows. -/
def row0 (x : Vec F S1x8x768 .f32) : Vec F S1x1x768 .f32 :=
  VecWindow.window x ![0, 0, 0] S1x1x768.size inb_S1x8x768_S1x1x768_0_0_0

theorem inbK (i : grid0.Coords) : ∀ a, (![768 * (i 2).val, 0] : Fin 2 → ℕ) a + S768x256.size a ≤ S8448x256.size a := by
  have h : (i 2).val < 11 := (i 2).isLt
  intro a; fin_cases a
  · show 768 * (i 2).val + 768 ≤ 8448; omega
  · show 0 + 256 ≤ 256; omega

theorem inbV (i : grid0.Coords) : ∀ a, (![768 * (i 2).val, 0] : Fin 2 → ℕ) a + S768x128.size a ≤ S8448x128.size a := by
  have h : (i 2).val < 11 := (i 2).isLt
  intro a; fin_cases a
  · show 768 * (i 2).val + 768 ≤ 8448; omega
  · show 0 + 128 ≤ 128; omega

/-- The tile's rows of the keys' gradient. -/
def rowsK (i : grid0.Coords) (x : Vec F S8448x256 .f32) : Vec F S768x256 .f32 :=
  VecWindow.window x ![768 * (i 2).val, 0] S768x256.size (inbK i)

/-- The tile's rows of the values' gradient. -/
def rowsV (i : grid0.Coords) (x : Vec F S8448x128 .f32) : Vec F S768x128 .f32 :=
  VecWindow.window x ![768 * (i 2).val, 0] S768x128.size (inbV i)

/-- The keys' gradient with the tile's rows replaced. -/
def putK (i : grid0.Coords) (x : Vec F S8448x256 .f32) (w : Vec F S768x256 .f32) : Vec F S8448x256 .f32 :=
  VecWindow.put x ![768 * (i 2).val, 0] S768x256.size w

/-- The values' gradient with the tile's rows replaced. -/
def putV (i : grid0.Coords) (x : Vec F S8448x128 .f32) (w : Vec F S768x128 .f32) : Vec F S8448x128 .f32 :=
  VecWindow.put x ![768 * (i 2).val, 0] S768x128.size w

/-- At a head's first point the gradients of its keys and values are cleared. -/
def newHead (s : Carry F) : Carry F := { s with dk := k0_pay1 (F := F), dv := k0_pay2 (F := F) }

/-- At a query tile's first point its running gradient is cleared and its row of products taken. -/
def newTile (x : Blocks F) (s : Carry F) : Carry F := { s with acc := k0_pay3 (F := F), dl := k0_pay4 x.od x.ot }

/-- The first query tile's weights, masked. -/
def weightsM (i : grid0.Coords) (x : Blocks F) : FVec F S768x768 .f32 :=
  k0_pay15 (BitVec.ofNat 32 (i 1).val) (BitVec.ofNat 32 (i 2).val) x.k x.q (row0 x.lse)

/-- A key tile's contributions, masked: the first query tile's. -/
def stepM (i : grid0.Coords) (x : Blocks F) (s : Carry F) : Carry F where
  dk := putK i s.dk (k0_pay8 (k0_pay14 x.q) (weightsM i x) (k0_pay16 x.v x.od) (row0 s.dl) (rowsK i s.dk))
  dv := putV i s.dv (k0_pay9 (weightsM i x) x.o (rowsV i s.dv))
  acc := k0_pay7 (k0_pay13 x.kt) (weightsM i x) (k0_pay16 x.v x.od) (row0 s.dl) s.acc
  dl := s.dl

/-- A key tile's contributions, unmasked: every other query tile's. -/
def stepU (i : grid0.Coords) (x : Blocks F) (s : Carry F) : Carry F where
  dk := putK i s.dk (k0_pay10 (k0_pay17 x.q) (k0_pay19 x.k x.v x.q (row0 x.lse) x.od (row0 s.dl)) (rowsK i s.dk))
  dv := putV i s.dv (k0_pay11 (k0_pay18 x.k x.q (row0 x.lse)) x.o (rowsV i s.dv))
  acc := k0_pay20 x.k x.kt x.v x.q (row0 x.lse) x.od (row0 s.dl) s.acc
  dl := s.dl

end Cert.KernelIdeal.Value

end
-- ==== Proof.Loads.lean ====
/- The loads and stores of the kernel's body, read: what each load finds and what each store leaves. -/
module

public import proofs.«01_k».proof.Proof.Step
public import proofs.«01_k».proof.Proof.Gen.KernelIdeal.Frame

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem load_768x256_bf16 (v : View sig .tc .vmem S768x256 .bf16) (f : v.ty.Contents (Elt F)) (inb : ∀ a, (![0, 0] : Fin S768x256.rank → ℕ) a + (![768, 256] : Fin S768x256.rank → ℕ) a ≤ S768x256.size a) :
    v.readAt (Elt F) (Rect.unit (s := S768x256) ![0, 0] ![768, 256] inb).toLoadRect f = v.read (Elt F) f :=
  View.readAt_full (s := S768x256) v f inb

theorem load_256x768_bf16 (v : View sig .tc .vmem S256x768 .bf16) (f : v.ty.Contents (Elt F)) (inb : ∀ a, (![0, 0] : Fin S256x768.rank → ℕ) a + (![256, 768] : Fin S256x768.rank → ℕ) a ≤ S256x768.size a) :
    v.readAt (Elt F) (Rect.unit (s := S256x768) ![0, 0] ![256, 768] inb).toLoadRect f = v.read (Elt F) f :=
  View.readAt_full (s := S256x768) v f inb

theorem load_768x128_bf16 (v : View sig .tc .vmem S768x128 .bf16) (f : v.ty.Contents (Elt F)) (inb : ∀ a, (![0, 0] : Fin S768x128.rank → ℕ) a + (![768, 128] : Fin S768x128.rank → ℕ) a ≤ S768x128.size a) :
    v.readAt (Elt F) (Rect.unit (s := S768x128) ![0, 0] ![768, 128] inb).toLoadRect f = v.read (Elt F) f :=
  View.readAt_full (s := S768x128) v f inb

theorem load_768x128_f32 (v : View sig .tc .vmem S768x128 .f32) (f : v.ty.Contents (Elt F)) (inb : ∀ a, (![0, 0] : Fin S768x128.rank → ℕ) a + (![768, 128] : Fin S768x128.rank → ℕ) a ≤ S768x128.size a) :
    v.readAt (Elt F) (Rect.unit (s := S768x128) ![0, 0] ![768, 128] inb).toLoadRect f = v.read (Elt F) f :=
  View.readAt_full (s := S768x128) v f inb

theorem load_128x768_f32 (v : View sig .tc .vmem S128x768 .f32) (f : v.ty.Contents (Elt F)) (inb : ∀ a, (![0, 0] : Fin S128x768.rank → ℕ) a + (![128, 768] : Fin S128x768.rank → ℕ) a ≤ S128x768.size a) :
    v.readAt (Elt F) (Rect.unit (s := S128x768) ![0, 0] ![128, 768] inb).toLoadRect f = v.read (Elt F) f :=
  View.readAt_full (s := S128x768) v f inb

theorem load_1x256x768_f32 (v : View sig .tc .vmem S1x256x768 .f32) (f : v.ty.Contents (Elt F)) (inb : ∀ a, (![0, 0, 0] : Fin S1x256x768.rank → ℕ) a + (![1, 256, 768] : Fin S1x256x768.rank → ℕ) a ≤ S1x256x768.size a) :
    v.readAt (Elt F) (Rect.unit (s := S1x256x768) ![0, 0, 0] ![1, 256, 768] inb).toLoadRect f = v.read (Elt F) f :=
  View.readAt_full (s := S1x256x768) v f inb

theorem load_row (v : View sig .tc .vmem S1x8x768 .f32) (f : v.ty.Contents (Elt F)) (inb : ∀ a, (![0, 0, 0] : Fin S1x8x768.rank → ℕ) a + (![1, 1, 768] : Fin S1x8x768.rank → ℕ) a ≤ S1x8x768.size a) :
    v.readAt (Elt F) (Rect.unit (s := S1x8x768) ![0, 0, 0] ![1, 1, 768] inb).toLoadRect f = row0 (v.read (Elt F) f) :=
  View.readAt_unit v f inb rfl _

/-- Where the tile's rows begin, as the program computes it. -/
abbrev tileOff (i : grid0.Coords) : Fin 2 → ℕ := ![(Scalar.indexCast (Scalar.muli (BitVec.ofNat 32 (i 2).val) 768#32)).toNat, 0]

theorem load_tileK (v : View sig .tc .vmem S8448x256 .f32) (f : v.ty.Contents (Elt F)) (i : grid0.Coords) (inb : ∀ a, tileOff i a + (![768, 256] : Fin S8448x256.rank → ℕ) a ≤ S8448x256.size a) :
    v.readAt (Elt F) (Rect.unit (s := S8448x256) (tileOff i) ![768, 256] inb).toLoadRect f = rowsK i (v.read (Elt F) f) :=
  View.readAt_unit v f inb (k0_off1_eq i) _

theorem store_tileK (v : View sig .tc .vmem S8448x256 .f32) (f : v.ty.Contents (Elt F)) (i : grid0.Coords) (inb : ∀ a, tileOff i a + (![768, 256] : Fin S8448x256.rank → ℕ) a ≤ S8448x256.size a)
    (w : Vec F S768x256 .f32) (L : List (View.Piece (Elt F) S8448x256 .f32)) :
    v.read (Elt F) (v.writes (Elt F) f (⟨Rect.unit (s := S8448x256) (tileOff i) ![768, 256] inb, w⟩ :: L)) = putK i (v.read (Elt F) (v.writes (Elt F) f L)) w :=
  View.read_writes_cons_put v f inb w L (k0_off1_eq i)

theorem load_tileV (v : View sig .tc .vmem S8448x128 .f32) (f : v.ty.Contents (Elt F)) (i : grid0.Coords) (inb : ∀ a, tileOff i a + (![768, 128] : Fin S8448x128.rank → ℕ) a ≤ S8448x128.size a) :
    v.readAt (Elt F) (Rect.unit (s := S8448x128) (tileOff i) ![768, 128] inb).toLoadRect f = rowsV i (v.read (Elt F) f) :=
  View.readAt_unit v f inb (k0_off2_eq i) _

theorem store_tileV (v : View sig .tc .vmem S8448x128 .f32) (f : v.ty.Contents (Elt F)) (i : grid0.Coords) (inb : ∀ a, tileOff i a + (![768, 128] : Fin S8448x128.rank → ℕ) a ≤ S8448x128.size a)
    (w : Vec F S768x128 .f32) (L : List (View.Piece (Elt F) S8448x128 .f32)) :
    v.read (Elt F) (v.writes (Elt F) f (⟨Rect.unit (s := S8448x128) (tileOff i) ![768, 128] inb, w⟩ :: L)) = putV i (v.read (Elt F) (v.writes (Elt F) f L)) w :=
  View.read_writes_cons_put v f inb w L (k0_off2_eq i)

theorem store_256x768_bf16 (v : View sig .tc .vmem S256x768 .bf16) (f : v.ty.Contents (Elt F)) (inb : ∀ a, (![0, 0] : Fin S256x768.rank → ℕ) a + (![256, 768] : Fin S256x768.rank → ℕ) a ≤ S256x768.size a)
    (w : Vec F S256x768 .bf16) (L : List (View.Piece (Elt F) S256x768 .bf16)) :
    v.read (Elt F) (v.writes (Elt F) f (⟨Rect.unit (s := S256x768) ![0, 0] ![256, 768] inb, w⟩ :: L)) = w :=
  View.read_writes_full (s := S256x768) v f inb w L

theorem store_8448x256_f32 (v : View sig .tc .vmem S8448x256 .f32) (f : v.ty.Contents (Elt F)) (inb : ∀ a, (![0, 0] : Fin S8448x256.rank → ℕ) a + (![8448, 256] : Fin S8448x256.rank → ℕ) a ≤ S8448x256.size a)
    (w : Vec F S8448x256 .f32) (L : List (View.Piece (Elt F) S8448x256 .f32)) :
    v.read (Elt F) (v.writes (Elt F) f (⟨Rect.unit (s := S8448x256) ![0, 0] ![8448, 256] inb, w⟩ :: L)) = w :=
  View.read_writes_full (s := S8448x256) v f inb w L

theorem store_8448x128_f32 (v : View sig .tc .vmem S8448x128 .f32) (f : v.ty.Contents (Elt F)) (inb : ∀ a, (![0, 0] : Fin S8448x128.rank → ℕ) a + (![8448, 128] : Fin S8448x128.rank → ℕ) a ≤ S8448x128.size a)
    (w : Vec F S8448x128 .f32) (L : List (View.Piece (Elt F) S8448x128 .f32)) :
    v.read (Elt F) (v.writes (Elt F) f (⟨Rect.unit (s := S8448x128) ![0, 0] ![8448, 128] inb, w⟩ :: L)) = w :=
  View.read_writes_full (s := S8448x128) v f inb w L

theorem store_1x256x768_f32 (v : View sig .tc .vmem S1x256x768 .f32) (f : v.ty.Contents (Elt F)) (inb : ∀ a, (![0, 0, 0] : Fin S1x256x768.rank → ℕ) a + (![1, 256, 768] : Fin S1x256x768.rank → ℕ) a ≤ S1x256x768.size a)
    (w : Vec F S1x256x768 .f32) (L : List (View.Piece (Elt F) S1x256x768 .f32)) :
    v.read (Elt F) (v.writes (Elt F) f (⟨Rect.unit (s := S1x256x768) ![0, 0, 0] ![1, 256, 768] inb, w⟩ :: L)) = w :=
  View.read_writes_full (s := S1x256x768) v f inb w L

theorem store_1x8x768_f32 (v : View sig .tc .vmem S1x8x768 .f32) (f : v.ty.Contents (Elt F)) (inb : ∀ a, (![0, 0, 0] : Fin S1x8x768.rank → ℕ) a + (![1, 8, 768] : Fin S1x8x768.rank → ℕ) a ≤ S1x8x768.size a)
    (w : Vec F S1x8x768 .f32) (L : List (View.Piece (Elt F) S1x8x768 .f32)) :
    v.read (Elt F) (v.writes (Elt F) f (⟨Rect.unit (s := S1x8x768) ![0, 0, 0] ![1, 8, 768] inb, w⟩ :: L)) = w :=
  View.read_writes_full (s := S1x8x768) v f inb w L

theorem store_1x1x8x128_f32 (v : View sig .tc .vmem S1x1x8x128 .f32) (f : v.ty.Contents (Elt F)) (inb : ∀ a, (![0, 0, 0, 0] : Fin S1x1x8x128.rank → ℕ) a + (![1, 1, 8, 128] : Fin S1x1x8x128.rank → ℕ) a ≤ S1x1x8x128.size a)
    (w : Vec F S1x1x8x128 .f32) (L : List (View.Piece (Elt F) S1x1x8x128 .f32)) :
    v.read (Elt F) (v.writes (Elt F) f (⟨Rect.unit (s := S1x1x8x128) ![0, 0, 0, 0] ![1, 1, 8, 128] inb, w⟩ :: L)) = w :=
  View.read_writes_full (s := S1x1x8x128) v f inb w L

section
variable (c : Dev nD) (arg3 : Memref sig .tc .vmem S768x256 .bf16) (arg4 : Memref sig .tc .vmem S768x256 .bf16)
  (arg5 : Memref sig .tc .vmem S256x768 .bf16) (arg6 : Memref sig .tc .vmem S768x128 .bf16) (arg7 : Memref sig .tc .vmem S1x8x128 .f32)
  (arg8 : Memref sig .tc .vmem S128x768 .f32) (arg9 : Memref sig .tc .vmem S1x8x768 .f32) (arg10 : Memref sig .tc .vmem S768x128 .f32)
  (arg11 : Memref sig .tc .vmem S128x768 .f32) (arg12 : Memref sig .tc .vmem S256x768 .bf16) (arg13 : Memref sig .tc .vmem S8448x256 .f32)
  (arg14 : Memref sig .tc .vmem S8448x128 .f32) (arg15 : Memref sig .tc .vmem S1x1x8x128 .f32) (arg16 : Memref sig .tc .vmem S1x256x768 .f32)
  (arg17 : Memref sig .tc .vmem S1x8x768 .f32)

/-- The memrefs of a point hold its blocks, `y9` and `y12`, and what is carried. -/
def holds (x : Blocks F) (y9 : Vec F S256x768 .bf16) (y12 : Vec F S1x1x8x128 .f32) (s : Carry F) : sProp 𝕄 :=
  iprop(owns (c : Thread nD τ) arg3 fullShare x.q ∗ owns (c : Thread nD τ) arg4 fullShare x.k ∗ owns (c : Thread nD τ) arg5 fullShare x.kt
    ∗ owns (c : Thread nD τ) arg6 fullShare x.v ∗ owns (c : Thread nD τ) arg7 fullShare x.sink ∗ owns (c : Thread nD τ) arg8 fullShare x.ot
    ∗ owns (c : Thread nD τ) arg9 fullShare x.lse ∗ owns (c : Thread nD τ) arg10 fullShare x.o ∗ owns (c : Thread nD τ) arg11 fullShare x.od
    ∗ owns (c : Thread nD τ) arg12 fullShare y9 ∗ owns (c : Thread nD τ) arg13 fullShare s.dk ∗ owns (c : Thread nD τ) arg14 fullShare s.dv
    ∗ owns (c : Thread nD τ) arg15 fullShare y12 ∗ owns (c : Thread nD τ) arg16 fullShare s.acc ∗ owns (c : Thread nD τ) arg17 fullShare s.dl)
end

end Cert.KernelIdeal.Value

end
-- ==== Proof.RunA.lean ====
/- The body's run at a head's first point. -/
module

public import proofs.«01_k».proof.Proof.Loads

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

set_option maxHeartbeats 4000000 in
/-- A head's first point: everything is cleared, then the key tile's contributions are added. -/
theorem run_A (hc0 : k0_cond1 i = 1#1) (hc1 : k0_cond2 i = 1#1) (hc2 : k0_cond3 i = 1#1) (hc3 : ¬ k0_cond4 i = 1#1) (hc4 : ¬ k0_cond5 i = 1#1)
    (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x y9 (k0_pay5 (F := F)) (stepM i x (newTile x (newHead s))) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_bwd_eq_skeleton]; unfold cc0_mla_bwd_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hfs0; obtain rfl := harg17.eq_unread hfs1
  sl_exec (disch := first | sl_exact hc0 | sl_exact hc1 | sl_exact hc2 | sl_exact hc3 | sl_exact hc4)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact harg9.read_unread _
                  iexact H6
  isplitl [H7]; · iexists _; isplitr; · ipureintro; exact harg10.read_unread _
                  iexact H7
  isplitl [H8]; · iexists _; isplitr; · ipureintro; exact harg11.read_unread _
                  iexact H8
  isplitl [H9]; · iexists _; isplitr; · ipureintro; exact harg12.read_unread _
                  iexact H9
  isplitl [H10]
  · iexists _; isplitr
    swap; · iexact H10
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H11]
  · iexists _; isplitr
    swap; · iexact H11
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H12]
  · iexists _; isplitr
    swap; · iexact H12
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
  isplitl [HS0]
  · iexists _; isplitr
    swap; · iexact HS0
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  iexists _; isplitr
  swap; · iexact HS1
  ipureintro
  sl_unfold_words
  set_option backward.isDefEq.respectTransparency false in
  simp only [View.readCov, load_768x256_bf16, load_256x768_bf16, load_768x128_bf16, load_768x128_f32, load_128x768_f32, load_1x256x768_f32, load_row,
    load_tileK, load_tileV, store_tileK, store_tileV, store_256x768_bf16, store_8448x256_f32,
    store_8448x128_f32, store_1x256x768_f32, store_1x8x768_f32, store_1x1x8x128_f32, View.writes_nil, hf0, hf1, hf2, hf3, hf5, hf6, hf7, hf8, hf10, hf11, hfs0, hfs1]
  rfl
end

end Cert.KernelIdeal.Value

end
-- ==== Proof.RunB.lean ====
/- The body's run at a point of the first query tile that is neither its first nor its last. -/
module

public import proofs.«01_k».proof.Proof.Loads

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

set_option maxHeartbeats 4000000 in
/-- A masked point, neither first nor last: the key tile's contributions are added. -/
theorem run_B (hc0 : ¬ k0_cond1 i = 1#1) (hc1 : ¬ k0_cond2 i = 1#1) (hc2 : k0_cond3 i = 1#1) (hc3 : ¬ k0_cond4 i = 1#1) (hc4 : ¬ k0_cond5 i = 1#1)
    (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x y9 y12 (stepM i x s) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_bwd_eq_skeleton]; unfold cc0_mla_bwd_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hfs0; obtain rfl := harg17.eq_unread hfs1
  sl_exec (disch := first | sl_exact hc0 | sl_exact hc1 | sl_exact hc2 | sl_exact hc3 | sl_exact hc4)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact harg9.read_unread _
                  iexact H6
  isplitl [H7]; · iexists _; isplitr; · ipureintro; exact harg10.read_unread _
                  iexact H7
  isplitl [H8]; · iexists _; isplitr; · ipureintro; exact harg11.read_unread _
                  iexact H8
  isplitl [H9]; · iexists _; isplitr; · ipureintro; exact harg12.read_unread _
                  iexact H9
  isplitl [H10]
  · iexists _; isplitr
    swap; · iexact H10
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H11]
  · iexists _; isplitr
    swap; · iexact H11
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H12]; · iexists _; isplitr; · ipureintro; exact harg15.read_unread _
                   iexact H12
  isplitl [HS0]
  · iexists _; isplitr
    swap; · iexact HS0
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  iexists _; isplitr; · ipureintro; exact harg17.read_unread _
  iexact HS1
end

end Cert.KernelIdeal.Value

end
-- ==== Proof.RunC.lean ====
/- The body's run at the first query tile's last point. -/
module

public import proofs.«01_k».proof.Proof.Loads

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

set_option maxHeartbeats 4000000 in
/-- The first query tile's last point: its gradient is also stored. -/
theorem run_C (hc0 : ¬ k0_cond1 i = 1#1) (hc1 : ¬ k0_cond2 i = 1#1) (hc2 : k0_cond3 i = 1#1) (hc3 : ¬ k0_cond4 i = 1#1) (hc4 : k0_cond5 i = 1#1)
    (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x (k0_pay12 (stepM i x s).acc) y12 (stepM i x s) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_bwd_eq_skeleton]; unfold cc0_mla_bwd_skel
  simp only [k0_part1_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hfs0; obtain rfl := harg17.eq_unread hfs1
  sl_exec (disch := first | sl_exact hc0 | sl_exact hc1 | sl_exact hc2 | sl_exact hc3 | sl_exact hc4)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact harg9.read_unread _
                  iexact H6
  isplitl [H7]; · iexists _; isplitr; · ipureintro; exact harg10.read_unread _
                  iexact H7
  isplitl [H8]; · iexists _; isplitr; · ipureintro; exact harg11.read_unread _
                  iexact H8
  isplitl [H9]
  · iexists _; isplitr
    swap; · iexact H9
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H10]
  · iexists _; isplitr
    swap; · iexact H10
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H11]
  · iexists _; isplitr
    swap; · iexact H11
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H12]; · iexists _; isplitr; · ipureintro; exact harg15.read_unread _
                   iexact H12
  isplitl [HS0]
  · iexists _; isplitr
    swap; · iexact HS0
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  iexists _; isplitr; · ipureintro; exact harg17.read_unread _
  iexact HS1
end

end Cert.KernelIdeal.Value

end
-- ==== Proof.RunD.lean ====
/- The body's run at a later query tile's first point. -/
module

public import proofs.«01_k».proof.Proof.Loads

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

set_option maxHeartbeats 4000000 in
/-- A later query tile's first point: its running gradient is cleared first. -/
theorem run_D (hc0 : ¬ k0_cond1 i = 1#1) (hc1 : k0_cond2 i = 1#1) (hc2 : ¬ k0_cond3 i = 1#1) (hc3 : k0_cond4 i = 1#1) (hc4 : ¬ k0_cond5 i = 1#1)
    (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x y9 (k0_pay5 (F := F)) (stepU i x (newTile x s)) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_bwd_eq_skeleton]; unfold cc0_mla_bwd_skel
  simp only [k0_part2_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hfs0; obtain rfl := harg17.eq_unread hfs1
  sl_exec (disch := first | sl_exact hc0 | sl_exact hc1 | sl_exact hc2 | sl_exact hc3 | sl_exact hc4)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact harg9.read_unread _
                  iexact H6
  isplitl [H7]; · iexists _; isplitr; · ipureintro; exact harg10.read_unread _
                  iexact H7
  isplitl [H8]; · iexists _; isplitr; · ipureintro; exact harg11.read_unread _
                  iexact H8
  isplitl [H9]; · iexists _; isplitr; · ipureintro; exact harg12.read_unread _
                  iexact H9
  isplitl [H10]
  · iexists _; isplitr
    swap; · iexact H10
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H11]
  · iexists _; isplitr
    swap; · iexact H11
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H12]
  · iexists _; isplitr
    swap; · iexact H12
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
  isplitl [HS0]
  · iexists _; isplitr
    swap; · iexact HS0
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  iexists _; isplitr
  swap; · iexact HS1
  ipureintro
  sl_unfold_words
  set_option backward.isDefEq.respectTransparency false in
  simp only [View.readCov, load_768x256_bf16, load_256x768_bf16, load_768x128_bf16, load_768x128_f32, load_128x768_f32, load_1x256x768_f32, load_row,
    load_tileK, load_tileV, store_tileK, store_tileV, store_256x768_bf16, store_8448x256_f32,
    store_8448x128_f32, store_1x256x768_f32, store_1x8x768_f32, store_1x1x8x128_f32, View.writes_nil, hf0, hf1, hf2, hf3, hf5, hf6, hf7, hf8, hf10, hf11, hfs0, hfs1]
  rfl
end

end Cert.KernelIdeal.Value

end
-- ==== Proof.RunE.lean ====
/- The body's run at a later query tile's point that is neither its first nor its last. -/
module

public import proofs.«01_k».proof.Proof.Loads

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

set_option maxHeartbeats 4000000 in
/-- An unmasked point, neither first nor last: the key tile's contributions are added. -/
theorem run_E (hc0 : ¬ k0_cond1 i = 1#1) (hc1 : ¬ k0_cond2 i = 1#1) (hc2 : ¬ k0_cond3 i = 1#1) (hc3 : k0_cond4 i = 1#1) (hc4 : ¬ k0_cond5 i = 1#1)
    (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x y9 y12 (stepU i x s) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_bwd_eq_skeleton]; unfold cc0_mla_bwd_skel
  simp only [k0_part2_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hfs0; obtain rfl := harg17.eq_unread hfs1
  sl_exec (disch := first | sl_exact hc0 | sl_exact hc1 | sl_exact hc2 | sl_exact hc3 | sl_exact hc4)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact harg9.read_unread _
                  iexact H6
  isplitl [H7]; · iexists _; isplitr; · ipureintro; exact harg10.read_unread _
                  iexact H7
  isplitl [H8]; · iexists _; isplitr; · ipureintro; exact harg11.read_unread _
                  iexact H8
  isplitl [H9]; · iexists _; isplitr; · ipureintro; exact harg12.read_unread _
                  iexact H9
  isplitl [H10]
  · iexists _; isplitr
    swap; · iexact H10
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H11]
  · iexists _; isplitr
    swap; · iexact H11
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H12]; · iexists _; isplitr; · ipureintro; exact harg15.read_unread _
                   iexact H12
  isplitl [HS0]
  · iexists _; isplitr
    swap; · iexact HS0
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  iexists _; isplitr; · ipureintro; exact harg17.read_unread _
  iexact HS1
end

end Cert.KernelIdeal.Value

end
-- ==== Proof.RunF.lean ====
/- The body's run at a later query tile's last point. -/
module

public import proofs.«01_k».proof.Proof.Loads

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section
variable (c : Dev nD) (i : grid0.Coords)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

set_option maxHeartbeats 4000000 in
/-- A later query tile's last point: its gradient is also stored. -/
theorem run_F (hc0 : ¬ k0_cond1 i = 1#1) (hc1 : ¬ k0_cond2 i = 1#1) (hc2 : ¬ k0_cond3 i = 1#1) (hc3 : k0_cond4 i = 1#1) (hc4 : k0_cond5 i = 1#1)
    (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x (k0_pay12 (stepU i x s).acc) y12 (stepU i x s) -∗ K ⟨⟩))
      ⊢ wp frame (wpE (defs₀ (F := F)) Variants.none c none) E (cc0_mla_bwd i arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_mla_bwd_eq_skeleton]; unfold cc0_mla_bwd_skel
  simp only [k0_part2_eq_skeleton]
  unfold holds owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3
  obtain rfl := harg7.eq_unread hf4; obtain rfl := harg8.eq_unread hf5; obtain rfl := harg9.eq_unread hf6; obtain rfl := harg10.eq_unread hf7
  obtain rfl := harg11.eq_unread hf8; obtain rfl := harg12.eq_unread hf9; obtain rfl := harg13.eq_unread hf10; obtain rfl := harg14.eq_unread hf11
  obtain rfl := harg15.eq_unread hf12; obtain rfl := harg16.eq_unread hfs0; obtain rfl := harg17.eq_unread hfs1
  sl_exec (disch := first | sl_exact hc0 | sl_exact hc1 | sl_exact hc2 | sl_exact hc3 | sl_exact hc4)
  sl_step
  iapply Hk
  isplitl [H0]; · iexists _; isplitr; · ipureintro; exact harg3.read_unread _
                  iexact H0
  isplitl [H1]; · iexists _; isplitr; · ipureintro; exact harg4.read_unread _
                  iexact H1
  isplitl [H2]; · iexists _; isplitr; · ipureintro; exact harg5.read_unread _
                  iexact H2
  isplitl [H3]; · iexists _; isplitr; · ipureintro; exact harg6.read_unread _
                  iexact H3
  isplitl [H4]; · iexists _; isplitr; · ipureintro; exact harg7.read_unread _
                  iexact H4
  isplitl [H5]; · iexists _; isplitr; · ipureintro; exact harg8.read_unread _
                  iexact H5
  isplitl [H6]; · iexists _; isplitr; · ipureintro; exact harg9.read_unread _
                  iexact H6
  isplitl [H7]; · iexists _; isplitr; · ipureintro; exact harg10.read_unread _
                  iexact H7
  isplitl [H8]; · iexists _; isplitr; · ipureintro; exact harg11.read_unread _
                  iexact H8
  isplitl [H9]
  · iexists _; isplitr
    swap; · iexact H9
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H10]
  · iexists _; isplitr
    swap; · iexact H10
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H11]
  · iexists _; isplitr
    swap; · iexact H11
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  isplitl [H12]; · iexists _; isplitr; · ipureintro; exact harg15.read_unread _
                   iexact H12
  isplitl [HS0]
  · iexists _; isplitr
    swap; · iexact HS0
    ipureintro
    sl_unfold_words
    set_option backward.isDefEq.respectTransparency false in
    simp only [View.readCov, load_768x256_bf16, load_256x768_bf16, load_768x128_bf16, load_768x128_f32, load_128x768_f32, load_1x256x768_f32, load_row,
      load_tileK, load_tileV, store_tileK, store_tileV, store_256x768_bf16, store_8448x256_f32,
      store_8448x128_f32, store_1x256x768_f32, store_1x8x768_f32, store_1x1x8x128_f32, View.writes_nil, hf0, hf1, hf2, hf3, hf5, hf6, hf7, hf8, hf10, hf11, hfs0, hfs1]
    rfl
  iexists _; isplitr; · ipureintro; exact harg17.read_unread _
  iexact HS1
end

end Cert.KernelIdeal.Value

end
-- ==== Proof.Point.lean ====
/- One grid point of the kernel, whatever its place in the grid: the six runs of the body as one. -/
module

public import proofs.«01_k».proof.Proof.RunA
public import proofs.«01_k».proof.Proof.RunB
public import proofs.«01_k».proof.Proof.RunC
public import proofs.«01_k».proof.Proof.RunD
public import proofs.«01_k».proof.Proof.RunE
public import proofs.«01_k».proof.Proof.RunF

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The body's first test: the head's first point. -/
theorem cond1_iff : ∀ t : Fin cfg0.N, k0_cond1 (grid0.coords t) = 1#1 ↔ t.val % 121 = 0 :=
  (by decide +kernel : ∀ t : Fin grid0.N, k0_cond1 (grid0.coords t) = 1#1 ↔ t.val % 121 = 0)

/-- The second: the query tile's first point. -/
theorem cond2_iff : ∀ t : Fin cfg0.N, k0_cond2 (grid0.coords t) = 1#1 ↔ t.val % 11 = 0 :=
  (by decide +kernel : ∀ t : Fin grid0.N, k0_cond2 (grid0.coords t) = 1#1 ↔ t.val % 11 = 0)

/-- The third: a point of the first query tile. -/
theorem cond3_iff : ∀ t : Fin cfg0.N, k0_cond3 (grid0.coords t) = 1#1 ↔ t.val / 11 % 11 = 0 :=
  (by decide +kernel : ∀ t : Fin grid0.N, k0_cond3 (grid0.coords t) = 1#1 ↔ t.val / 11 % 11 = 0)

/-- The fourth: a point of a later query tile. -/
theorem cond4_iff : ∀ t : Fin cfg0.N, k0_cond4 (grid0.coords t) = 1#1 ↔ ¬ t.val / 11 % 11 = 0 :=
  (by decide +kernel : ∀ t : Fin grid0.N, k0_cond4 (grid0.coords t) = 1#1 ↔ ¬ t.val / 11 % 11 = 0)

/-- The fifth: the query tile's last point. -/
theorem cond5_iff : ∀ t : Fin cfg0.N, k0_cond5 (grid0.coords t) = 1#1 ↔ t.val % 11 = 10 :=
  (by decide +kernel : ∀ t : Fin grid0.N, k0_cond5 (grid0.coords t) = 1#1 ↔ t.val % 11 = 10)

/-- What a grid point does to what is carried. -/
def stepAt (i : grid0.Coords) (x : Blocks F) (s : Carry F) : Carry F :=
  if k0_cond3 i = 1#1 then
    stepM i x (if k0_cond2 i = 1#1 then newTile x (if k0_cond1 i = 1#1 then newHead s else s) else if k0_cond1 i = 1#1 then newHead s else s)
  else
    stepU i x (if k0_cond2 i = 1#1 then newTile x (if k0_cond1 i = 1#1 then newHead s else s) else if k0_cond1 i = 1#1 then newHead s else s)

section
variable (c : Dev nD) (t : Fin cfg0.N)
  (arg3 : Memref sig .tc .vmem S768x256 .bf16) (harg3 : arg3.IsWhole) (arg4 : Memref sig .tc .vmem S768x256 .bf16) (harg4 : arg4.IsWhole)
  (arg5 : Memref sig .tc .vmem S256x768 .bf16) (harg5 : arg5.IsWhole) (arg6 : Memref sig .tc .vmem S768x128 .bf16) (harg6 : arg6.IsWhole)
  (arg7 : Memref sig .tc .vmem S1x8x128 .f32) (harg7 : arg7.IsWhole) (arg8 : Memref sig .tc .vmem S128x768 .f32) (harg8 : arg8.IsWhole)
  (arg9 : Memref sig .tc .vmem S1x8x768 .f32) (harg9 : arg9.IsWhole) (arg10 : Memref sig .tc .vmem S768x128 .f32) (harg10 : arg10.IsWhole)
  (arg11 : Memref sig .tc .vmem S128x768 .f32) (harg11 : arg11.IsWhole) (arg12 : Memref sig .tc .vmem S256x768 .bf16) (harg12 : arg12.IsWhole)
  (arg13 : Memref sig .tc .vmem S8448x256 .f32) (harg13 : arg13.IsWhole) (arg14 : Memref sig .tc .vmem S8448x128 .f32) (harg14 : arg14.IsWhole)
  (arg15 : Memref sig .tc .vmem S1x1x8x128 .f32) (harg15 : arg15.IsWhole) (arg16 : Memref sig .tc .vmem S1x256x768 .f32) (harg16 : arg16.IsWhole)
  (arg17 : Memref sig .tc .vmem S1x8x768 .f32) (harg17 : arg17.IsWhole)

/-- The body at any point of the grid. -/
theorem run_point (x : Blocks F) (y9 : Vec F S256x768 .bf16) (y12 : Vec F S1x1x8x128 .f32) (s : Carry F) (E : Set ℕ) (K : PUnit → sProp 𝕄) :
    iprop(holds c arg3 arg4 arg5 arg6 arg7 arg8 arg9 arg10 arg11 arg12 arg13 arg14 arg15 arg16 arg17 x y9 y12 s
        ∗ (holds c arg3 arg4 arg5 arg6 arg7 arg8 arg9 arg10 arg11 arg12 arg13 arg14 arg15 arg16 arg17 x
            (if k0_cond5 (grid0.coords t) = 1#1 then k0_pay12 (stepAt (grid0.coords t) x s).acc else y9)
            (if k0_cond2 (grid0.coords t) = 1#1 then k0_pay5 (F := F) else y12) (stepAt (grid0.coords t) x s) -∗ K ⟨⟩))
      ⊢ wp frame (wpE (defs₀ (F := F)) Variants.none c none) E (cc0_mla_bwd (grid0.coords t) arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  have h1 := cond1_iff t; have h2 := cond2_iff t; have h3 := cond3_iff t; have h4 := cond4_iff t; have h5 := cond5_iff t
  by_cases i0 : t.val / 11 % 11 = 0
  · have c3 := h3.mpr i0
    have c4 : ¬ k0_cond4 (grid0.coords t) = 1#1 := fun h => h4.mp h i0
    by_cases s0 : t.val % 11 = 0
    · have c1 := h1.mpr (by omega)
      have c2 := h2.mpr s0
      have c5 : ¬ k0_cond5 (grid0.coords t) = 1#1 := fun h => by have := h5.mp h; omega
      rw [show stepAt (grid0.coords t) x s = stepM (grid0.coords t) x (newTile x (newHead s)) from by unfold stepAt; rw [if_pos c3, if_pos c2, if_pos c1], if_neg c5, if_pos c2]
      exact run_A c _ _ _ _ _ _ _ _ _ _ _ _ _ _ _ _ _ _ _ _ _ _ _ _ _ _ _ _ _ _ _ c1 c2 c3 c4 c5 x y9 y12 s E K
    · have c1 : ¬ k0_cond1 (grid0.coords t) = 1#1 := fun h => by have := h1.mp h; omega
      have c2 : ¬ k0_cond2 (grid0.coords t) = 1#1 := fun h => s0 (h2.mp h)
      rw [show stepAt (grid0.coords t) x s = stepM (grid0.coords t) x s from by unfold stepAt; rw [if_pos c3, if_neg c2, if_neg c1], if_neg c2]
      by_cases s10 : t.val % 11 = 10
      · have c5 := h5.mpr s10
        rw [if_pos c5]
        exact run_C c _ _ _ _ _ _ _ _ _ _ _ _ _ _ _ _ _ _ _ _ _ _ _ _ _ _ _ _ _ _ _ c1 c2 c3 c4 c5 x y9 y12 s E K
      · have c5 : ¬ k0_cond5 (grid0.coords t) = 1#1 := fun h => s10 (h5.mp h)
        rw [if_neg c5]
        exact run_B c _ _ _ _ _ _ _ _ _ _ _ _ _ _ _ _ _ _ _ _ _ _ _ _ _ _ _ _ _ _ _ c1 c2 c3 c4 c5 x y9 y12 s E K
  · have c3 : ¬ k0_cond3 (grid0.coords t) = 1#1 := fun h => i0 (h3.mp h)
    have c4 := h4.mpr i0
    have c1 : ¬ k0_cond1 (grid0.coords t) = 1#1 := fun h => by have := h1.mp h; omega
    by_cases s0 : t.val % 11 = 0
    · have c2 := h2.mpr s0
      have c5 : ¬ k0_cond5 (grid0.coords t) = 1#1 := fun h => by have := h5.mp h; omega
      rw [show stepAt (grid0.coords t) x s = stepU (grid0.coords t) x (newTile x s) from by unfold stepAt; rw [if_neg c3, if_pos c2, if_neg c1], if_neg c5, if_pos c2]
      exact run_D c _ _ _ _ _ _ _ _ _ _ _ _ _ _ _ _ _ _ _ _ _ _ _ _ _ _ _ _ _ _ _ c1 c2 c3 c4 c5 x y9 y12 s E K
    · have c2 : ¬ k0_cond2 (grid0.coords t) = 1#1 := fun h => s0 (h2.mp h)
      rw [show stepAt (grid0.coords t) x s = stepU (grid0.coords t) x s from by unfold stepAt; rw [if_neg c3, if_neg c2, if_neg c1], if_neg c2]
      by_cases s10 : t.val % 11 = 10
      · have c5 := h5.mpr s10
        rw [if_pos c5]
        exact run_F c _ _ _ _ _ _ _ _ _ _ _ _ _ _ _ _ _ _ _ _ _ _ _ _ _ _ _ _ _ _ _ c1 c2 c3 c4 c5 x y9 y12 s E K
      · have c5 : ¬ k0_cond5 (grid0.coords t) = 1#1 := fun h => s10 (h5.mp h)
        rw [if_neg c5]
        exact run_E c _ _ _ _ _ _ _ _ _ _ _ _ _ _ _ _ _ _ _ _ _ _ _ _ _ _ _ _ _ _ _ c1 c2 c3 c4 c5 x y9 y12 s E K
end

end Cert.KernelIdeal.Value

end
-- ==== Proof.Launch.lean ====
/- The kernel's run over the whole grid: what is carried up to each point, and that every execution of the launch
   ends with the arrays the points wrote. -/
module

public import proofs.«01_k».proof.Proof.Point
public import Idealize.ShloMosaic.Lib.Pipeline.FrameBody
public import Idealize.ShloMosaic.Lib.Pipeline.TableIdle

@[expose] public section

set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The blocks the pipeline hands the body at point `t`. -/
def blk (c : Dev nD) (t : Fin cfg0.N) : Blocks F where
  q := iblk m c 0 t
  k := iblk m c 1 t
  kt := iblk m c 2 t
  v := iblk m c 3 t
  sink := iblk m c 4 t
  ot := iblk m c 5 t
  lse := iblk m c 6 t
  o := iblk m c 7 t
  od := iblk m c 8 t

/-- What is carried after the first `n` points. -/
def carried (c : Dev nD) : ℕ → Carry F
  | 0 => { dk := k0_pay1 (F := F), dv := k0_pay2 (F := F), acc := k0_pay3 (F := F), dl := fun _ => Scalar.ofBits .f32 0#32 }
  | n + 1 => if h : n < cfg0.N then stepAt (grid0.coords ⟨n, h⟩) (blk m c ⟨n, h⟩) (carried c n) else carried c n

theorem carried_succ (c : Dev nD) (t : Fin cfg0.N) :
    carried m c (t.val + 1) = stepAt (grid0.coords t) (blk m c t) (carried m c t.val) := by
  rw [carried, dif_pos t.isLt]

/-- A head's first point depends on nothing carried; a later point only on what the point before left. -/
theorem stepAt_congr (t : Fin cfg0.N) (x : Blocks F) (s s' : Carry F)
    (hk : ¬ t.val % 121 = 0 → s.dk = s'.dk ∧ s.dv = s'.dv) (ha : ¬ t.val = 0 → s.acc = s'.acc ∧ s.dl = s'.dl) :
    stepAt (grid0.coords t) x s = stepAt (grid0.coords t) x s' := by
  by_cases h : t.val % 121 = 0
  · have c1 := (cond1_iff t).mpr h
    have c2 := (cond2_iff t).mpr (by omega)
    unfold stepAt
    rw [if_pos c1, if_pos c1, if_pos c2, if_pos c2]
    rfl
  · obtain ⟨a, b⟩ := hk h
    obtain ⟨d, e⟩ := ha (fun hz => h (by omega))
    cases s; cases s'
    simp only at a b d e
    subst a; subst b; subst d; subst e
    rfl

/-- The running gradient, as the kernel's own buffer. -/
abbrev accM : Memref sig .tc .vmem S1x256x768 .f32 := Memref.whole cc0_scratch0
/-- The row of products, as the kernel's own buffer. -/
abbrev dlM : Memref sig .tc .vmem S1x8x768 .f32 := Memref.whole cc0_scratch1

theorem ΦA_eq (c : Dev nD) :
    (Pipeline.ΦA spec0 c : sProp 𝕄)
      = iprop(iprop((∃ d, owns (c : Thread nD τ) accM fullShare d) ∗ (∃ d, owns (c : Thread nD τ) dlM fullShare d)) ∗ (∃ r, prngReg c r)) := by
  unfold Pipeline.ΦA; rw [scopedRest0_eq]; simp only [accM, dlM, owns_whole]; try rfl

/-- What holds between points: the kernel's own buffers hold what is carried, after the first point. -/
def inv (c : Dev nD) : ℕ → sProp 𝕄
  | 0 => Pipeline.ΦA spec0 c
  | n + 1 => iprop(iprop(owns (c : Thread nD τ) accM fullShare (carried m c (n + 1)).acc ∗ owns (c : Thread nD τ) dlM fullShare (carried m c (n + 1)).dl) ∗ (∃ r, prngReg c r))

theorem inv_open (c : Dev nD) (n : ℕ) :
    inv m c n ⊢ iprop(∃ a d, ⌜¬ n = 0 → a = (carried m c n).acc ∧ d = (carried m c n).dl⌝ ∗ owns (c : Thread nD τ) accM fullShare a ∗ owns (c : Thread nD τ) dlM fullShare d ∗ (∃ r, prngReg c r)) := by
  cases n with
  | zero =>
    rw [inv, ΦA_eq]
    iintro ⟨⟨⟨%a, HA⟩, ⟨%d, HD⟩⟩, Hg⟩
    iexists a; iexists d
    isplitr; · ipureintro; exact fun h => absurd rfl h
    isplitl [HA]; · iexact HA
    isplitl [HD]; · iexact HD
    iexact Hg
  | succ n =>
    rw [inv]
    iintro ⟨⟨HA, HD⟩, Hg⟩
    iexists _; iexists _
    isplitr
    swap
    · isplitl [HA]; · iexact HA
      isplitl [HD]; · iexact HD
      iexact Hg
    ipureintro; exact fun _ => ⟨rfl, rfl⟩

/-- The fourth output, eight rows of zeros per query tile, is no result: nothing is said of it. -/
def forgets0 : Fin 13 → Bool := fun w => w.val == 12

/-- The run's data: the arrays as the launch finds them, and what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay12 (carried m c (t.val + 1)).acc
    | ⟨10, _⟩ => (carried m c (t.val + 1)).dk
    | ⟨11, _⟩ => (carried m c (t.val + 1)).dv
    | ⟨12, h⟩ => Pipeline.Dat.unnamed (cfg := cfg0) ⟨12, h⟩ t
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = k0_pay12 (carried m c (t.val + 1)).acc := by dsimp only [dats]
theorem after_10 (c : Dev nD) (t : Fin cfg0.N) : (dats m 0 c).after 10 t = (carried m c (t.val + 1)).dk := by dsimp only [dats]
theorem after_11 (c : Dev nD) (t : Fin cfg0.N) : (dats m 0 c).after 11 t = (carried m c (t.val + 1)).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- The keys' gradient is stored into at every point. -/
theorem live_10 (t : Fin cfg0.N) : cfg0.idle 10 (grid0.coords t) = false := by
  show (!(k0_cond1 (grid0.coords t) == 1#1) && !(k0_cond3 (grid0.coords t) == 1#1) && !(k0_cond4 (grid0.coords t) == 1#1)) = false
  by_cases h : t.val / 11 % 11 = 0
  · rw [(cond3_iff t).mpr h]; simp
  · rw [(cond4_iff t).mpr h]; simp

/-- So is the values'. -/
theorem live_11 (t : Fin cfg0.N) : cfg0.idle 11 (grid0.coords t) = false := live_10 t

/-- The queries' gradient is stored into at a query tile's last point only. -/
theorem live_9 (t : Fin cfg0.N) (h : t.val % 11 = 10) : cfg0.idle 9 (grid0.coords t) = false := by
  show (!(k0_cond5 (grid0.coords t) == 1#1)) = false
  rw [(cond5_iff t).mpr h]; rfl

theorem idle_9 (t : Fin cfg0.N) (h : ¬ t.val % 11 = 10) : cfg0.idle 9 (grid0.coords t) = true := by
  show (!(k0_cond5 (grid0.coords t) == 1#1)) = true
  have : ¬ k0_cond5 (grid0.coords t) = 1#1 := fun e => h ((cond5_iff t).mp e)
  simpa using this

/-- Within a head the buffer keeps what the point before left in it. -/
theorem before_10 (c : Dev nD) (t : Fin cfg0.N) (h : ¬ t.val % 121 = 0) (d) : (dats m 0 c).before 10 t d = (carried m c t.val).dk := by
  have hz : t.val ≠ 0 := fun hz => h (by omega)
  obtain ⟨n, hn⟩ : ∃ n, t.val = n + 1 := ⟨t.val - 1, by omega⟩
  have hN : n < cfg0.N := by have := t.isLt; omega
  rw [Dat.before_out_traj _ 10 rfl (fun _ _ => rfl) (fun t _ hi _ => absurd hi (by rw [show cfg0.grid.coords t = grid0.coords t from rfl, live_10]; exact Bool.false_ne_true)) t.val t rfl d,
    if_neg, after_10]
  · show (carried m c (t.val - 1 + 1)).dk = _
    rw [show t.val - 1 + 1 = t.val from by omega]
  · rw [hn, Cfg.fresh_succ cfg0 10 n hN, show cfg0.grid.coords ⟨n, hN⟩ = grid0.coords ⟨n, hN⟩ from rfl, live_10, Bool.false_and, Bool.or_false]
    intro e
    have e' : n % 121 = 120 := (flush0_10 ⟨n, hN⟩).mp e
    omega

/-- Within a head the buffer keeps what the point before left in it. -/
theorem before_11 (c : Dev nD) (t : Fin cfg0.N) (h : ¬ t.val % 121 = 0) (d) : (dats m 0 c).before 11 t d = (carried m c t.val).dv := by
  have hz : t.val ≠ 0 := fun hz => h (by omega)
  obtain ⟨n, hn⟩ : ∃ n, t.val = n + 1 := ⟨t.val - 1, by omega⟩
  have hN : n < cfg0.N := by have := t.isLt; omega
  rw [Dat.before_out_traj _ 11 rfl (fun _ _ => rfl) (fun t _ hi _ => absurd hi (by rw [show cfg0.grid.coords t = grid0.coords t from rfl, live_11]; exact Bool.false_ne_true)) t.val t rfl d,
    if_neg, after_11]
  · show (carried m c (t.val - 1 + 1)).dv = _
    rw [show t.val - 1 + 1 = t.val from by omega]
  · rw [hn, Cfg.fresh_succ cfg0 11 n hN, show cfg0.grid.coords ⟨n, hN⟩ = grid0.coords ⟨n, hN⟩ from rfl, live_11, Bool.false_and, Bool.or_false]
    intro e
    have e' : n % 121 = 120 := (flush0_11 ⟨n, hN⟩).mp e
    omega

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (st0_12 t) fullShare d))

theorem leaves_0 (c : Dev nD) (t : Fin cfg0.N) : (dats m 0 c).leavesExact 0 t = owns (c : Thread nD τ) (st0_0 t) fullShare (iblk m c 0 t) := by
  unfold Dat.leavesExact
  rw [show cfg0.idle 0 (cfg0.grid.coords t) = false from rfl, after_0]
theorem leaves_1 (c : Dev nD) (t : Fin cfg0.N) : (dats m 0 c).leavesExact 1 t = owns (c : Thread nD τ) (st0_1 t) fullShare (iblk m c 1 t) := by
  unfold Dat.leavesExact
  rw [show cfg0.idle 1 (cfg0.grid.coords t) = false from rfl, after_1]
theorem leaves_2 (c : Dev nD) (t : Fin cfg0.N) : (dats m 0 c).leavesExact 2 t = owns (c : Thread nD τ) (st0_2 t) fullShare (iblk m c 2 t) := by
  unfold Dat.leavesExact
  rw [show cfg0.idle 2 (cfg0.grid.coords t) = false from rfl, after_2]
theorem leaves_3 (c : Dev nD) (t : Fin cfg0.N) : (dats m 0 c).leavesExact 3 t = owns (c : Thread nD τ) (st0_3 t) fullShare (iblk m c 3 t) := by
  unfold Dat.leavesExact
  rw [show cfg0.idle 3 (cfg0.grid.coords t) = false from rfl, after_3]
theorem leaves_4 (c : Dev nD) (t : Fin cfg0.N) : (dats m 0 c).leavesExact 4 t = owns (c : Thread nD τ) (st0_4 t) fullShare (iblk m c 4 t) := by
  unfold Dat.leavesExact
  rw [show cfg0.idle 4 (cfg0.grid.coords t) = false from rfl, after_4]
theorem leaves_5 (c : Dev nD) (t : Fin cfg0.N) : (dats m 0 c).leavesExact 5 t = owns (c : Thread nD τ) (st0_5 t) fullShare (iblk m c 5 t) := by
  unfold Dat.leavesExact
  rw [show cfg0.idle 5 (cfg0.grid.coords t) = false from rfl, after_5]
theorem leaves_6 (c : Dev nD) (t : Fin cfg0.N) : (dats m 0 c).leavesExact 6 t = owns (c : Thread nD τ) (st0_6 t) fullShare (iblk m c 6 t) := by
  unfold Dat.leavesExact
  rw [show cfg0.idle 6 (cfg0.grid.coords t) = false from rfl, after_6]
theorem leaves_7 (c : Dev nD) (t : Fin cfg0.N) : (dats m 0 c).leavesExact 7 t = owns (c : Thread nD τ) (st0_7 t) fullShare (iblk m c 7 t) := by
  unfold Dat.leavesExact
  rw [show cfg0.idle 7 (cfg0.grid.coords t) = false from rfl, after_7]
theorem leaves_8 (c : Dev nD) (t : Fin cfg0.N) : (dats m 0 c).leavesExact 8 t = owns (c : Thread nD τ) (st0_8 t) fullShare (iblk m c 8 t) := by
  unfold Dat.leavesExact
  rw [show cfg0.idle 8 (cfg0.grid.coords t) = false from rfl, after_8]
theorem leaves_10 (c : Dev nD) (t : Fin cfg0.N) : (dats m 0 c).leavesExact 10 t = owns (c : Thread nD τ) (st0_10 t) fullShare ((carried m c (t.val + 1)).dk) := by
  unfold Dat.leavesExact
  rw [show cfg0.idle 10 (cfg0.grid.coords t) = false from live_10 t, after_10]
theorem leaves_11 (c : Dev nD) (t : Fin cfg0.N) : (dats m 0 c).leavesExact 11 t = owns (c : Thread nD τ) (st0_11 t) fullShare ((carried m c (t.val + 1)).dv) := by
  unfold Dat.leavesExact
  rw [show cfg0.idle 11 (cfg0.grid.coords t) = false from live_11 t, after_11]

/-- The queries' gradient after a point: the running gradient scaled at the tile's last point, else untouched. -/
theorem leaves_9 (c : Dev nD) (t : Fin cfg0.N) (d) (a : Vec F S1x256x768 .f32) (ha : a = (carried m c (t.val + 1)).acc) :
    owns (c : Thread nD τ) (st0_9 t) fullShare (if k0_cond5 (grid0.coords t) = 1#1 then k0_pay12 a else (dats m 0 c).before 9 t d)
      ⊢ ((dats m 0 c).leavesExact 9 t : sProp 𝕄) := by
  subst ha
  by_cases h : t.val % 11 = 10
  · rw [if_pos ((cond5_iff t).mpr h)]
    unfold Dat.leavesExact
    rw [show cfg0.idle 9 (cfg0.grid.coords t) = false from live_9 t h, after_9]
  · rw [if_neg (fun e => h ((cond5_iff t).mp e)),
      Dat.leavesExact_idle (dats m 0 c) 9 t (idle_9 t h) (by rw [Bool.eq_false_iff]; exact fun e => h ((flush0_9 t).mp e))]
    iintro H
    iexists d
    iexact H

set_option maxHeartbeats 4000000 in
/-- The body at any point, from what the pipeline hands it to what the pipeline takes back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8,
    leaves_0, leaves_1, leaves_2, leaves_3, leaves_4, leaves_5, leaves_6, leaves_7, leaves_8, leaves_10, leaves_11]
  rw [show (dats m 0 c).owesAt () t.succ = (dats m 0 c).owesAt () t.castSucc from rfl,
    show (dats m 0 c).Φ t.castSucc = inv m c t.val from rfl, show (dats m 0 c).Φ t.succ = inv m c (t.val + 1) from rfl]
  rw [show inv m c (t.val + 1) = iprop(iprop(owns (c : Thread nD τ) accM fullShare (carried m c (t.val + 1)).acc ∗ owns (c : Thread nD τ) dlM fullShare (carried m c (t.val + 1)).dl) ∗ (∃ r, prngReg c r)) from rfl]
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HI := (inv_open m c t.val) $$ HI
  icases HI with ⟨%a, %dl, %hs, HA, HD, Hg⟩
  have hstep : stepAt (grid0.coords t) (blk m c t) { dk := (dats m 0 c).before 10 t d10, dv := (dats m 0 c).before 11 t d11, acc := a, dl := dl } = carried m c (t.val + 1) := by
    rw [carried_succ]
    exact stepAt_congr t _ _ _ (fun h => ⟨before_10 m c t h d10, before_11 m c t h d11⟩) hs
  iapply (run_point c t _ _ _ _ _ _ _ _ _ _ _ _ _ _ _ _ _ _ _ _ _ _ _ _ _ _ _ _ _ _ (blk m c t) ((dats m 0 c).before 9 t d9) d12
    { dk := (dats m 0 c).before 10 t d10, dv := (dats m 0 c).before 11 t d11, acc := a, dl := dl } Set.univ _)
  rw [hstep]
  unfold holds
  isplitl [H0 H1 H2 H3 H4 H5 H6 H7 H8 H9 H10 H11 H12 HA HD]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HA]; · iexact HA
    iexact HD
  iintro ⟨H0, H1, H2, H3, H4, H5, H6, H7, H8, H9, H10, H11, H12, HA, HD⟩
  isplitl [HA HD Hg]
  · isplitl [HA HD]
    · isplitl [HA]; · iexact HA
      iexact HD
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves_9 m c t d9 _ rfl); iexact H9
  isplitl [H10]; · iexact H10
  isplitl [H11]; · iexact H11
  iexists _; iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N) = inv m c (725 + 1) from by
    rw [show (dats m 0 c).Φ (Fin.last cfg0.N) = inv m c cfg0.N from rfl, show cfg0.N = 726 from N_0], inv, ΦA_eq]
  iintro ⟨⟨HA, HD⟩, Hg⟩
  isplitl [HA HD]
  · isplitl [HA]
    · iexists _; iexact HA
    iexists _; iexact HD
  iexact Hg

set_option backward.isDefEq.respectTransparency.types false in
/-- The launch: every execution ends, with the arrays the points wrote and every counter at zero. -/
theorem run_main : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The launch leaves the arguments as they were. -/
theorem args_kept {r : PUnit × MemSt nD τ sig (Elt F)} (h : (Pipeline.RDat.FramePost (cfgs 0) (fun c => (dats m 0 c).toRForget forgets0) (V m)) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (Pipeline.RDat.FramePost.arr_in h c 7 rfl).trans ((A_eq m c 7).trans (V_main_arg3 m c))⟩

/-- The frame, over any arithmetic: the launch ends, its argument arrays unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨args_kept m h.1, h.2⟩) (run_main m ρ)

end Cert.KernelIdeal.Value

end
-- ==== Proof.Frames.lean ====
/- The frames of the kernel as it is written and of its ideal reading, and what the named literals stand for. -/
module

public import proofs.«01_k».proof.Defs
public import proofs.«01_k».proof.Proof.Launch
public import proofs.«01_k».proof.Proof.Written.Launch
public import proofs.«01_k».proof.Proof.Gen.ReferenceIdeal.Run

@[expose] public section

set_option maxRecDepth 16384

noncomputable section

namespace Cert.Proof

open Idealize.ShloMosaic Idealize.SL.Sem

/-- The kernel as written ends, its arguments unchanged and every counter at zero. -/
theorem frame_kernel : Cert.quiescent_Kernel := fun m ρ _ => Cert.Kernel.Value.run_frame (F := Bits) m ρ

/-- So does its ideal reading. -/
theorem frame_kernelIdeal : Cert.quiescent_KernelIdeal := fun m ρ _ => Cert.KernelIdeal.Value.run_frame (F := Ideal) m ρ

/-- So does the reference. -/
theorem frame_referenceIdeal : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

/-- The three named literals stand for the reals their names say. -/
theorem preserves_kernel : Cert.preserves_Kernel_KernelIdeal :=
  ⟨IdealRules.named_const.statement _ _ _ _ _ rfl, IdealRules.named_const.statement _ _ _ _ _ rfl, IdealRules.named_const.statement _ _ _ _ _ rfl⟩

end Cert.Proof

end
-- ==== Proof.Spec.lean ====
/- The mathematics of the gradient of the attention, over the real numbers, of one head: what the kernel and the
   reference are both shown to compute. -/
module

public import Idealize.ShloMosaic.PureOps.Ideal
public import Mathlib.Analysis.SpecialFunctions.Pow.Real

@[expose] public section

noncomputable section

namespace Attn

/-- Row `i` sees column `j`: a context row (one of the first 256) sees the context only, a latent row sees everything. -/
def Vis (i j : ℕ) : Prop := j < 256 ∨ 256 ≤ i

instance (i j : ℕ) : Decidable (Vis i j) := by unfold Vis; infer_instance

variable {n dk dv : ℕ} (q k : Fin n → Fin dk → ℝ) (v o : Fin n → Fin dv → ℝ)

/-- The scaled score of row `i` against column `j`. -/
def score (i j : Fin n) : ℝ := (∑ d, q i d * k j d) / √192

/-- The sum of the exponentials of the scores that row `i` sees. -/
def total (i : Fin n) : ℝ := ∑ j : Fin n, if Vis i j then Real.exp (score q k i j) else 0

/-- The attention weight of row `i` on column `j`. -/
def prob (i j : Fin n) : ℝ := if Vis i j then Real.exp (score q k i j) / total q k i else 0

/-- The attention's output. -/
def out (i : Fin n) (e : Fin dv) : ℝ := ∑ j, prob q k i j * v j e

/-- The gradient of the weights. -/
def dprob (i j : Fin n) : ℝ := ∑ e, o i e * v j e

/-- The mean over row `i`'s weights of their gradient. -/
def delta (i : Fin n) : ℝ := ∑ j, prob q k i j * dprob v o i j

/-- The gradient of the scaled scores. -/
def dscore (i j : Fin n) : ℝ := prob q k i j * (dprob v o i j - delta q k v o i)

/-- The gradient of `q`. -/
def dq (i : Fin n) (d : Fin dk) : ℝ := (∑ j, dscore q k v o i j * k j d) / √192

/-- The gradient of `k`. -/
def dk_ (j : Fin n) (d : Fin dk) : ℝ := (∑ i, dscore q k v o i j * q i d) / √192

/-- The gradient of `v`. -/
def dv_ (j : Fin n) (e : Fin dv) : ℝ := ∑ i, prob q k i j * o i e

theorem sqrt192_pos : 0 < √(192 : ℝ) := Real.sqrt_pos.2 (by norm_num)
theorem log2_pos : 0 < Real.log 2 := Real.log_pos (by norm_num)

/-- Every row sees a column, so its total is positive (`n > 0` and the first column is a context column). -/
theorem total_pos (i : Fin n) : 0 < total q k i := by
  have hn : 0 < n := i.pos
  unfold total
  refine Finset.sum_pos' (fun j _ => ?_) ⟨⟨0, hn⟩, Finset.mem_univ _, ?_⟩
  · split_ifs
    · exact (Real.exp_pos _).le
    · exact le_rfl
  · have : Vis i.val 0 := Or.inl (by norm_num)
    simp only [this, if_true]; exact Real.exp_pos _

/-- The mean of the gradient is the product of the output with the output's gradient. -/
theorem delta_eq_out (i : Fin n) : delta q k v o i = ∑ e, o i e * out q k v i e := by
  unfold delta out dprob
  simp only [Finset.mul_sum]
  rw [Finset.sum_comm]
  exact Finset.sum_congr rfl fun e _ => Finset.sum_congr rfl fun j _ => by ring

/-- The weight, as the kernel computes it: a power of two of the score in units of `log 2`, less the row's total's logarithm to base two. -/
theorem prob_eq_exp2 (i j : Fin n) (h : Vis i j) :
    (2 : ℝ) ^ ((∑ d, k j d * (q i d / (√192 * Real.log 2))) - Real.log (total q k i) / Real.log 2) = prob q k i j := by
  have h2 := log2_pos; have h3 := sqrt192_pos
  have e : (∑ d, k j d * (q i d / (√192 * Real.log 2))) = score q k i j / Real.log 2 := by
    unfold score
    rw [div_div, Finset.sum_div]
    exact Finset.sum_congr rfl fun d _ => by ring
  rw [e, ← sub_div, Real.rpow_def_of_pos (by norm_num), mul_div_cancel₀ _ h2.ne', Real.exp_sub, Real.exp_log (total_pos q k i)]
  simp only [prob, h, if_true]

/-- The gradient of `q`, in the kernel's order of the scales. -/
theorem dq_eq (i : Fin n) (d : Fin dk) :
    (∑ j, k j d * dscore q k v o i j) * Real.log 2 * (√192 * Real.log 2)⁻¹ = dq q k v o i d := by
  have h2 := log2_pos; have h3 := sqrt192_pos
  unfold dq
  rw [Finset.sum_congr rfl fun j _ => mul_comm (dscore q k v o i j) (k j d)]
  field_simp

/-- The gradient of `k`, in the kernel's order of the scales: the queries come scaled. -/
theorem dk_eq (j : Fin n) (d : Fin dk) :
    (∑ i, dscore q k v o i j * (q i d / (√192 * Real.log 2)) * Real.log 2) = dk_ q k v o j d := by
  have h2 := log2_pos; have h3 := sqrt192_pos
  unfold dk_
  rw [Finset.sum_div]
  refine Finset.sum_congr rfl fun i _ => ?_
  field_simp

end Attn

end
-- ==== Proof.Coe.lean ====
/- Sums of real numbers among the extended reals, and sums tile by tile. -/
module

public import proofs.«01_k».proof.Proof.Spec
public import Idealize.ShloMosaic.Lib.Pointwise

@[expose] public section

noncomputable section

namespace Attn

open Idealize.ShloMosaic

/-- A sum of real numbers is their sum among the extended reals. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Row `r` of tile `i`. -/
def row (i : Fin 11) (r : Fin 768) : Fin 8448 := ⟨i.val * 768 + r.val, by have := i.isLt; have := r.isLt; omega⟩

theorem row_val (i : Fin 11) (r : Fin 768) : (row i r).val = i.val * 768 + r.val := rfl

theorem eq_row (n : Fin 8448) : ∃ i r, n = row i r :=
  ⟨⟨n.val / 768, by have := n.isLt; omega⟩, ⟨n.val % 768, Nat.mod_lt _ (by norm_num)⟩, Fin.ext (by rw [row_val]; show n.val = n.val / 768 * 768 + n.val % 768; omega)⟩

/-- The sum over the first `n` tiles. -/
def tileSum (f : Fin 8448 → ℝ) (n : ℕ) : ℝ := ∑ i : Fin 11, if i.val < n then ∑ r, f (row i r) else 0

theorem tileSum_zero (f : Fin 8448 → ℝ) : tileSum f 0 = 0 := by
  unfold tileSum
  exact Finset.sum_eq_zero fun i _ => if_neg (Nat.not_lt_zero _)

theorem tileSum_succ (f : Fin 8448 → ℝ) (i : Fin 11) : tileSum f (i.val + 1) = tileSum f i.val + ∑ r, f (row i r) := by
  unfold tileSum
  rw [show (∑ r, f (row i r)) = ∑ i' : Fin 11, if i' = i then ∑ r, f (row i' r) else 0 from by rw [Finset.sum_ite_eq' Finset.univ i]; simp,
    ← Finset.sum_add_distrib]
  refine Finset.sum_congr rfl fun i' _ => ?_
  by_cases h : i' = i
  · subst h; simp
  · have : i'.val ≠ i.val := fun e => h (Fin.ext e)
    rw [if_neg h, add_zero]
    exact if_congr (by omega) rfl rfl

theorem tileSum_all (f : Fin 8448 → ℝ) : tileSum f 11 = ∑ j, f j := by
  rw [Fin.sum_univ_tiles 11 768 (by norm_num) f]
  unfold tileSum
  exact Finset.sum_congr rfl fun i _ => if_pos i.isLt

/-- Row `i` of the context, and latent row `i`. -/
def ctx (i : Fin 256) : Fin 8448 := ⟨i.val, by have := i.isLt; omega⟩
def lat (i : Fin 8192) : Fin 8448 := ⟨256 + i.val, by have := i.isLt; omega⟩

theorem ctx_val (i : Fin 256) : (ctx i).val = i.val := rfl
theorem lat_val (i : Fin 8192) : (lat i).val = 256 + i.val := rfl

theorem eq_ctx_or_lat (n : Fin 8448) : (∃ i, n = ctx i) ∨ ∃ i, n = lat i := by
  by_cases h : n.val < 256
  · exact .inl ⟨⟨n.val, h⟩, rfl⟩
  · exact .inr ⟨⟨n.val - 256, by have := n.isLt; omega⟩, Fin.ext (by rw [lat_val]; show n.val = 256 + (n.val - 256); omega)⟩

/-- A head's columns. -/
def colK (h : Fin 6) (d : Fin 256) : Fin 1536 := ⟨h.val * 256 + d.val, by have := h.isLt; have := d.isLt; omega⟩
def colV (h : Fin 6) (e : Fin 128) : Fin 768 := ⟨h.val * 128 + e.val, by have := h.isLt; have := e.isLt; omega⟩

theorem colK_val (h : Fin 6) (d : Fin 256) : (colK h d).val = h.val * 256 + d.val := rfl
theorem colV_val (h : Fin 6) (e : Fin 128) : (colV h e).val = h.val * 128 + e.val := rfl

/-- The head and the column in it of a column of the queries and the keys, -/
def headK (a : Fin 1536) : Fin 6 := ⟨a.val / 256, by have := a.isLt; omega⟩
def inK (a : Fin 1536) : Fin 256 := ⟨a.val % 256, Nat.mod_lt _ (by norm_num)⟩
/-- and of a column of the values. -/
def headV (a : Fin 768) : Fin 6 := ⟨a.val / 128, by have := a.isLt; omega⟩
def inV (a : Fin 768) : Fin 128 := ⟨a.val % 128, Nat.mod_lt _ (by norm_num)⟩

theorem colK_headK (a : Fin 1536) : colK (headK a) (inK a) = a := Fin.ext (show a.val / 256 * 256 + a.val % 256 = a.val by omega)
theorem colV_headV (a : Fin 768) : colV (headV a) (inV a) = a := Fin.ext (show a.val / 128 * 128 + a.val % 128 = a.val by omega)

end Attn

end
-- ==== Proof.Finite.lean ====
/- The precondition: every entry of the four arguments is a real number. -/
module

public import proofs.«01_k».proof.Pre_finite
public import proofs.«01_k».proof.Proof.Coe
public import Idealize.ShloMosaic.Lib.ReduceAll
public import Idealize.ShloMosaic.Lib.Affine
public import Idealize.ShloMosaic.Lib.Decide

@[expose] public section

set_option maxRecDepth 16384

noncomputable section

namespace Cert.Pre_finite.Value

open Idealize.ShloMosaic Cert.Pre_finite

instance facts : Cert.Pre_finite.Facts where
  bcast_S_S8448x1536 := by decide
  reducesTo_S8448x1536_S_d0_1 := by decide
  h_S_ := by decide
  bcast_S_S8448x768 := by decide
  reducesTo_S8448x768_S_d0_1 := by decide

instance : Subsingleton S_.Idx := ⟨fun a b => funext fun i => i.elim0⟩

/-- A number whose magnitude is below +∞ is a real number. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  refine (EReal.coe_toReal ?_ ?_).symm
  · rintro rfl; revert h; simp [Ideal.cmp]
  · rintro rfl; revert h; simp [Ideal.cmp]

/-- An array all of whose magnitudes are below +∞ is an array of real numbers. -/
theorem real_of_all {s : Shape} {axes : List (Fin s.rank)} (x : FVec Ideal s .f32) (hb : S_.BroadcastsInDim s (![] : Fin 0 → Fin s.rank)) (hr : s.ReducesTo axes S_)
    (e : Host.reduce IntOp.andi (cmpf .olt (Host.absf x) (broadcastInDim s ![] hb (constant S_ .f32 0x7F800000#32))) (constantI S_ 1 1#1) hr Facts.h_S_ (fun i => i.elim0) = 1#1)
    (i : s.Idx) : x i = ((x i : EReal).toReal : EReal) :=
  real_of_lt (x i) (Host.reduce_andi_all _ _ hr Facts.h_S_ _ e i)

/-- The precondition, read. -/
theorem real_of_finite (a0 a1 : FVec Ideal S8448x1536 .f32) (a2 a3 : FVec Ideal S8448x768 .f32) (h : fn (F := Ideal) a0 a1 a2 a3 = fun _ => 1#1) :
    (∀ i, a0 i = ((a0 i : EReal).toReal : EReal)) ∧ (∀ i, a1 i = ((a1 i : EReal).toReal : EReal))
      ∧ (∀ i, a2 i = ((a2 i : EReal).toReal : EReal)) ∧ ∀ i, a3 i = ((a3 i : EReal).toReal : EReal) := by
  have e := congrFun h (fun i => i.elim0)
  obtain ⟨e, e3⟩ := IntOp.andi_eq_one.1 e
  obtain ⟨e, e2⟩ := IntOp.andi_eq_one.1 e
  obtain ⟨e0, e1⟩ := IntOp.andi_eq_one.1 e
  exact ⟨real_of_all a0 _ _ e0, real_of_all a1 _ _ e1, real_of_all a2 _ _ e2, real_of_all a3 _ _ e3⟩

end Cert.Pre_finite.Value

end
-- ==== Proof.RefStages.lean ====
/- The reference's attention gradient, stage by stage: of the context rows against the context's columns (C), and of the
   latent rows against every column (L). -/
module

public import proofs.«01_k».proof.Proof.Gen.ReferenceIdeal.Run
public import proofs.«01_k».proof.Proof.Coe
public import Idealize.ShloMosaic.Lib.Pointwise
public import Idealize.ShloMosaic.Lib.ValueIdx

@[expose] public section

set_option maxRecDepth 16384

noncomputable section

namespace Cert.ReferenceIdeal.Value

open Idealize.ShloMosaic Idealize.SL.Sem
open Cert.ReferenceIdeal Cert.ReferenceIdeal.Gen Attn

/-- The heads of the queries, keys and values; their context rows and their latent rows. -/
abbrev q3 (a : FVec Ideal S8448x1536 .f32) : FVec Ideal S8448x6x256 .f32 := shapeCast _ a shapeCasts_S8448x1536_S8448x6x256
abbrev v3 (a : FVec Ideal S8448x768 .f32) : FVec Ideal S8448x6x128 .f32 := shapeCast _ a shapeCasts_S8448x768_S8448x6x128
abbrev ctxK (a : FVec Ideal S8448x1536 .f32) : FVec Ideal S256x6x256 .f32 := extractStridedSlice S256x6x256 ![0, 0, 0] (q3 a) slices_S8448x6x256_S256x6x256_0_0_0
abbrev latK (a : FVec Ideal S8448x1536 .f32) : FVec Ideal S8192x6x256 .f32 := extractStridedSlice S8192x6x256 ![256, 0, 0] (q3 a) slices_S8448x6x256_S8192x6x256_256_0_0
abbrev ctxV (a : FVec Ideal S8448x768 .f32) : FVec Ideal S256x6x128 .f32 := extractStridedSlice S256x6x128 ![0, 0, 0] (v3 a) slices_S8448x6x128_S256x6x128_0_0_0
abbrev latV (a : FVec Ideal S8448x768 .f32) : FVec Ideal S8192x6x128 .f32 := extractStridedSlice S8192x6x128 ![256, 0, 0] (v3 a) slices_S8448x6x128_S8192x6x128_256_0_0

/-- The scaled scores of the context rows. -/
def scC (a0 a1 : FVec Ideal S8448x1536 .f32) : FVec Ideal S6x256x256 .f32 :=
  Host.divf (Host.dotGeneral dot_S256x6x256_S256x6x256_S6x256x256_2_2_0_0_1_1 none (ctxK a0) (ctxK a1)) (broadcastInDim S6x256x256 ![] bcast_S_S6x256x256 (Host.sqrt (constant S_ .f32 0x43400000#32)))

/-- Their rows' greatest, -/
def maxC (s : FVec Ideal S6x256x256 .f32) : FVec Ideal S6x256 .f32 :=
  Host.reduce FloatOps.maximumf s (constant S_ .f32 0xFF800000#32) reducesTo_S6x256x256_S6x256_d2 h_S_

/-- as differentiating the softmax takes it. -/
def topC (s : FVec Ideal S6x256x256 .f32) : FVec Ideal S6x256 .f32 :=
  maximumf (broadcastInDim S6x256 ![] bcast_S_S6x256 (constant S_ .f32 0xFF800000#32)) (maxC s)

/-- A number for each row, along the row. -/
def alongC (x : FVec Ideal S6x256 .f32) : FVec Ideal S6x256x256 .f32 :=
  broadcastInDim S6x256x256 ![0, 1, 2] bcast_S6x256x1_S6x256x256_0_1_2 (broadcastInDim S6x256x1 ![0, 1] bcast_S6x256_S6x256x1_0_1 x)

/-- The exponentials of the shifted scores, -/
def exC (s : FVec Ideal S6x256x256 .f32) (t : FVec Ideal S6x256 .f32) : FVec Ideal S6x256x256 .f32 := Host.exp (subf s (alongC t))

/-- their rows' sums -/
def sumC (e : FVec Ideal S6x256x256 .f32) : FVec Ideal S6x256 .f32 :=
  Host.reduceAdd e (constant S_ .f32 0x00000000#32) reducesTo_S6x256x256_S6x256_d2 h_S_

/-- and the weights. -/
def wtC (e : FVec Ideal S6x256x256 .f32) : FVec Ideal S6x256x256 .f32 := Host.divf e (alongC (sumC e))

/-- The gradient of the output, per head. -/
def doC (a3 : FVec Ideal S8448x768 .f32) : FVec Ideal S6x128x256 .f32 := transpose S6x128x256 [1, 2, 0] (ctxV a3) transposes_S256x6x128_S6x128x256_1_2_0

/-- The gradient of the weights. -/
def dpC (a2 a3 : FVec Ideal S8448x768 .f32) : FVec Ideal S6x256x256 .f32 :=
  Host.dotGeneral dot_S6x128x256_S256x6x128_S6x256x256_1_2_2_0_0_1 none (doC a3) (ctxV a2)

/-- The reciprocal of the sum's square, along the row. -/
def recipC (e : FVec Ideal S6x256x256 .f32) : FVec Ideal S6x256x256 .f32 :=
  broadcastInDim S6x256x256 ![0, 1, 2] bcast_S6x256x1_S6x256x256_0_1_2 (Host.divf (broadcastInDim S6x256x1 ![] bcast_S_S6x256x1 (constant S_ .f32 0x3F800000#32))
    (mulf (broadcastInDim S6x256x1 ![0, 1] bcast_S6x256_S6x256x1_0_1 (sumC e)) (broadcastInDim S6x256x1 ![0, 1] bcast_S6x256_S6x256x1_0_1 (sumC e))))

/-- What reaches a row's sum from its quotients. -/
def backC (e dp : FVec Ideal S6x256x256 .f32) : FVec Ideal S6x256 .f32 :=
  Host.reduceAdd (Host.negf (shapeCast S6x256x1 (Host.reduceAdd (mulf (mulf dp (recipC e)) e) (constant S_ .f32 0x00000000#32) reducesTo_S6x256x256_S6x256_d2 h_S_) shapeCasts_S6x256_S6x256x1))
    (constant S_ .f32 0x00000000#32) reducesTo_S6x256x1_S6x256_d2 h_S_

/-- The gradient of the unscaled scores. -/
def dsC (e dp : FVec Ideal S6x256x256 .f32) : FVec Ideal S6x256x256 .f32 :=
  Host.divf (mulf (addf (Host.divf dp (alongC (sumC e))) (broadcastInDim S6x256x256 ![0, 1] bcast_S6x256_S6x256x256_0_1 (backC e dp))) e)
    (broadcastInDim S6x256x256 ![] bcast_S_S6x256x256 (Host.sqrt (constant S_ .f32 0x43400000#32)))

/-- The gradients of the values, -/
def dvC (e : FVec Ideal S6x256x256 .f32) (a3 : FVec Ideal S8448x768 .f32) : FVec Ideal S256x6x128 .f32 :=
  transpose S256x6x128 [2, 0, 1] (Host.dotGeneral dot_S6x128x256_S6x256x256_S6x128x256_2_1_1_2_0_0 none (doC a3) (wtC e)) transposes_S6x128x256_S256x6x128_2_0_1

/-- of the keys -/
def dkC (ds : FVec Ideal S6x256x256 .f32) (a0 : FVec Ideal S8448x1536 .f32) : FVec Ideal S256x6x256 .f32 :=
  transpose S256x6x256 [1, 0, 2] (Host.dotGeneral dot_S6x256x256_S256x6x256_S6x256x256_1_0_2_2_0_1 none ds (ctxK a0)) transposes_S6x256x256_S256x6x256_1_0_2

/-- and of the queries. -/
def dqC (ds : FVec Ideal S6x256x256 .f32) (a1 : FVec Ideal S8448x1536 .f32) : FVec Ideal S256x6x256 .f32 :=
  transpose S256x6x256 [1, 0, 2] (Host.dotGeneral dot_S6x256x256_S256x6x256_S6x256x256_2_0_1_2_0_1 none ds (ctxK a1)) transposes_S6x256x256_S256x6x256_1_0_2

/-- The same stages of the latent rows: the scaled scores, -/
def scL (a0 a1 : FVec Ideal S8448x1536 .f32) : FVec Ideal S6x8192x8448 .f32 :=
  Host.divf (Host.dotGeneral dot_S8192x6x256_S8448x6x256_S6x8192x8448_2_2_0_0_1_1 none (latK a0) (q3 a1)) (broadcastInDim S6x8192x8448 ![] bcast_S_S6x8192x8448 (Host.sqrt (constant S_ .f32 0x43400000#32)))

/-- their rows' greatest, -/
def maxL (s : FVec Ideal S6x8192x8448 .f32) : FVec Ideal S6x8192 .f32 :=
  Host.reduce FloatOps.maximumf s (constant S_ .f32 0xFF800000#32) reducesTo_S6x8192x8448_S6x8192_d2 h_S_

/-- as differentiating the softmax takes it, -/
def topL (s : FVec Ideal S6x8192x8448 .f32) : FVec Ideal S6x8192 .f32 :=
  maximumf (broadcastInDim S6x8192 ![] bcast_S_S6x8192 (constant S_ .f32 0xFF800000#32)) (maxL s)

/-- a number for each row, along the row, -/
def alongL (x : FVec Ideal S6x8192 .f32) : FVec Ideal S6x8192x8448 .f32 :=
  broadcastInDim S6x8192x8448 ![0, 1, 2] bcast_S6x8192x1_S6x8192x8448_0_1_2 (broadcastInDim S6x8192x1 ![0, 1] bcast_S6x8192_S6x8192x1_0_1 x)

/-- the exponentials of the shifted scores, -/
def exL (s : FVec Ideal S6x8192x8448 .f32) (t : FVec Ideal S6x8192 .f32) : FVec Ideal S6x8192x8448 .f32 := Host.exp (subf s (alongL t))

/-- their rows' sums -/
def sumL (e : FVec Ideal S6x8192x8448 .f32) : FVec Ideal S6x8192 .f32 :=
  Host.reduceAdd e (constant S_ .f32 0x00000000#32) reducesTo_S6x8192x8448_S6x8192_d2 h_S_

/-- and the weights; -/
def wtL (e : FVec Ideal S6x8192x8448 .f32) : FVec Ideal S6x8192x8448 .f32 := Host.divf e (alongL (sumL e))

/-- the gradient of the output, per head, -/
def doL (a3 : FVec Ideal S8448x768 .f32) : FVec Ideal S6x128x8192 .f32 := transpose S6x128x8192 [1, 2, 0] (latV a3) transposes_S8192x6x128_S6x128x8192_1_2_0

/-- the gradient of the weights, -/
def dpL (a2 a3 : FVec Ideal S8448x768 .f32) : FVec Ideal S6x8192x8448 .f32 :=
  Host.dotGeneral dot_S6x128x8192_S8448x6x128_S6x8192x8448_1_2_2_0_0_1 none (doL a3) (v3 a2)

/-- the reciprocal of the sum's square, along the row, -/
def recipL (e : FVec Ideal S6x8192x8448 .f32) : FVec Ideal S6x8192x8448 .f32 :=
  broadcastInDim S6x8192x8448 ![0, 1, 2] bcast_S6x8192x1_S6x8192x8448_0_1_2 (Host.divf (broadcastInDim S6x8192x1 ![] bcast_S_S6x8192x1 (constant S_ .f32 0x3F800000#32))
    (mulf (broadcastInDim S6x8192x1 ![0, 1] bcast_S6x8192_S6x8192x1_0_1 (sumL e)) (broadcastInDim S6x8192x1 ![0, 1] bcast_S6x8192_S6x8192x1_0_1 (sumL e))))

/-- what reaches a row's sum from its quotients -/
def backL (e dp : FVec Ideal S6x8192x8448 .f32) : FVec Ideal S6x8192 .f32 :=
  Host.reduceAdd (Host.negf (shapeCast S6x8192x1 (Host.reduceAdd (mulf (mulf dp (recipL e)) e) (constant S_ .f32 0x00000000#32) reducesTo_S6x8192x8448_S6x8192_d2 h_S_) shapeCasts_S6x8192_S6x8192x1))
    (constant S_ .f32 0x00000000#32) reducesTo_S6x8192x1_S6x8192_d2 h_S_

/-- and the gradient of the unscaled scores; -/
def dsL (e dp : FVec Ideal S6x8192x8448 .f32) : FVec Ideal S6x8192x8448 .f32 :=
  Host.divf (mulf (addf (Host.divf dp (alongL (sumL e))) (broadcastInDim S6x8192x8448 ![0, 1] bcast_S6x8192_S6x8192x8448_0_1 (backL e dp))) e)
    (broadcastInDim S6x8192x8448 ![] bcast_S_S6x8192x8448 (Host.sqrt (constant S_ .f32 0x43400000#32)))

/-- the gradients of the values, -/
def dvL (e : FVec Ideal S6x8192x8448 .f32) (a3 : FVec Ideal S8448x768 .f32) : FVec Ideal S8448x6x128 .f32 :=
  transpose S8448x6x128 [2, 0, 1] (Host.dotGeneral dot_S6x128x8192_S6x8192x8448_S6x128x8448_2_1_1_2_0_0 none (doL a3) (wtL e)) transposes_S6x128x8448_S8448x6x128_2_0_1

/-- of the keys -/
def dkL (ds : FVec Ideal S6x8192x8448 .f32) (a0 : FVec Ideal S8448x1536 .f32) : FVec Ideal S8448x6x256 .f32 :=
  transpose S8448x6x256 [1, 0, 2] (Host.dotGeneral dot_S6x8192x8448_S8192x6x256_S6x8448x256_1_0_2_2_0_1 none ds (latK a0)) transposes_S6x8448x256_S8448x6x256_1_0_2

/-- and of the queries. -/
def dqL (ds : FVec Ideal S6x8192x8448 .f32) (a1 : FVec Ideal S8448x1536 .f32) : FVec Ideal S8192x6x256 .f32 :=
  transpose S8192x6x256 [1, 0, 2] (Host.dotGeneral dot_S6x8192x8448_S8448x6x256_S6x8192x256_2_0_1_2_0_1 none ds (q3 a1)) transposes_S6x8192x256_S8192x6x256_1_0_2

/-- The gradient of the values: the latent rows' share and, at the context, the context rows'. -/
def dvA (a0 a1 : FVec Ideal S8448x1536 .f32) (a3 : FVec Ideal S8448x768 .f32) : FVec Ideal S8448x768 .f32 :=
  shapeCast _ (addf (dvL (exL (scL a0 a1) (topL (scL a0 a1))) a3)
    (pad S8448x6x128 ![0, 0, 0] ![8192, 0, 0] ![0, 0, 0] (dvC (exC (scC a0 a1) (topC (scC a0 a1))) a3) (constant S_ .f32 0x00000000#32) pads_S256x6x128_S8448x6x128_081920_000_000 h_S_))
    shapeCasts_S8448x6x128_S8448x768

/-- The gradient of the keys, likewise. -/
def dkA (a0 a1 : FVec Ideal S8448x1536 .f32) (a2 a3 : FVec Ideal S8448x768 .f32) : FVec Ideal S8448x1536 .f32 :=
  shapeCast _ (addf (dkL (dsL (exL (scL a0 a1) (topL (scL a0 a1))) (dpL a2 a3)) a0)
    (pad S8448x6x256 ![0, 0, 0] ![8192, 0, 0] ![0, 0, 0] (dkC (dsC (exC (scC a0 a1) (topC (scC a0 a1))) (dpC a2 a3)) a0) (constant S_ .f32 0x00000000#32) pads_S256x6x256_S8448x6x256_081920_000_000 h_S_))
    shapeCasts_S8448x6x256_S8448x1536

/-- The gradient of the queries, transposed: each row from its own part. -/
def dqT (a0 a1 : FVec Ideal S8448x1536 .f32) (a2 a3 : FVec Ideal S8448x768 .f32) : FVec Ideal S1536x8448 .bf16 :=
  truncf .bf16 (transpose S1536x8448 [1, 0] (shapeCast _ (addf
    (pad S8448x6x256 ![256, 0, 0] ![0, 0, 0] ![0, 0, 0] (dqL (dsL (exL (scL a0 a1) (topL (scL a0 a1))) (dpL a2 a3)) a1) (constant S_ .f32 0x00000000#32) pads_S8192x6x256_S8448x6x256_25600_000_000 h_S_)
    (pad S8448x6x256 ![0, 0, 0] ![8192, 0, 0] ![0, 0, 0] (dqC (dsC (exC (scC a0 a1) (topC (scC a0 a1))) (dpC a2 a3)) a1) (constant S_ .f32 0x00000000#32) pads_S256x6x256_S8448x6x256_081920_000_000 h_S_))
    shapeCasts_S8448x6x256_S8448x1536) transposes_S8448x1536_S1536x8448_1_0) bitsLt_bf16_f32

variable (m : (ℓ : Loc nD τ sig) → Buf (Elt Ideal) ℓ) (c : Dev nD)

/-- These are what the reference's run leaves. -/
theorem res_dv : res_main_v131 m c = dvA (m ((c.tc : Thread nD τ).loc main_arg0)) (m ((c.tc : Thread nD τ).loc main_arg1)) (m ((c.tc : Thread nD τ).loc main_arg3)) := rfl
theorem res_dk : res_main_v132 m c = dkA (m ((c.tc : Thread nD τ).loc main_arg0)) (m ((c.tc : Thread nD τ).loc main_arg1)) (m ((c.tc : Thread nD τ).loc main_arg2)) (m ((c.tc : Thread nD τ).loc main_arg3)) := rfl
theorem res_dq : res_main_v135 m c = dqT (m ((c.tc : Thread nD τ).loc main_arg0)) (m ((c.tc : Thread nD τ).loc main_arg1)) (m ((c.tc : Thread nD τ).loc main_arg2)) (m ((c.tc : Thread nD τ).loc main_arg3)) := rfl

end Cert.ReferenceIdeal.Value

end
-- ==== Proof.HostStages.lean ====
/- The arrays that the host lines of the kernel's program hand the launch. -/
module

public import proofs.«01_k».proof.Proof.Gen.KernelIdeal.Frame
public import proofs.«01_k».proof.Proof.RefStages
public import Idealize.ShloMosaic.Lib.Claim

@[expose] public section

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen
open Cert.ReferenceIdeal.Value (scC scL maxC maxL topC topL alongC alongL exC exL sumC sumL wtC wtL ctxV v3)

def outC (a0 a1 : FVec Ideal S8448x1536 .f32) (a2 : FVec Ideal S8448x768 .f32) : FVec Ideal S256x6x128 .f32 :=
  transpose S256x6x128 [2, 0, 1] (Host.dotGeneral dot_S256x6x128_S6x256x256_S6x128x256_0_2_2_1_1_0 none (ctxV a2) (wtC (exC (scC a0 a1) (topC (scC a0 a1)))))
    transposes_S6x128x256_S256x6x128_2_0_1

def outL (a0 a1 : FVec Ideal S8448x1536 .f32) (a2 : FVec Ideal S8448x768 .f32) : FVec Ideal S8192x6x128 .f32 :=
  transpose S8192x6x128 [2, 0, 1] (Host.dotGeneral dot_S8448x6x128_S6x8192x8448_S6x128x8192_0_2_2_1_1_0 none (v3 a2) (wtL (exL (scL a0 a1) (topL (scL a0 a1)))))
    transposes_S6x128x8192_S8192x6x128_2_0_1

/-- The forward result, transposed. -/
def outT (a0 a1 : FVec Ideal S8448x1536 .f32) (a2 : FVec Ideal S8448x768 .f32) : FVec Ideal S768x8448 .f32 :=
  transpose S768x8448 [1, 0] (shapeCast _ (concatenate S8448x6x128 0 [⟨S256x6x128, outC a0 a1 a2⟩, ⟨S8192x6x128, outL a0 a1 a2⟩] concatenates_S256x6x128_S8192x6x128_S8448x6x128_d0)
    shapeCasts_S8448x6x128_S8448x768) transposes_S8448x768_S768x8448_1_0

def lseC (a0 a1 : FVec Ideal S8448x1536 .f32) : FVec Ideal S6x256 .f32 :=
  addf (Host.log (sumC (exC (scC a0 a1) (maxC (scC a0 a1)))))
    (shapeCast _ (broadcastInDim S6x256x1 ![0, 1] bcast_S6x256_S6x256x1_0_1 (maxC (scC a0 a1))) shapeCasts_S6x256x1_S6x256)

def lseL (a0 a1 : FVec Ideal S8448x1536 .f32) : FVec Ideal S6x8192 .f32 :=
  addf (Host.log (sumL (exL (scL a0 a1) (maxL (scL a0 a1)))))
    (shapeCast _ (broadcastInDim S6x8192x1 ![0, 1] bcast_S6x8192_S6x8192x1_0_1 (maxL (scL a0 a1))) shapeCasts_S6x8192x1_S6x8192)

/-- The logarithms to the base two of the rows' sums. -/
def lseA (a0 a1 : FVec Ideal S8448x1536 .f32) : FVec Ideal S6x8x8448 .f32 :=
  broadcastInDim S6x8x8448 ![0, 1, 2] bcast_S6x1x8448_S6x8x8448_0_1_2 (broadcastInDim S6x1x8448 ![0, 2] bcast_S6x8448_S6x1x8448_0_2
    (Host.divf (concatenate S6x8448 1 [⟨S6x256, lseC a0 a1⟩, ⟨S6x8192, lseL a0 a1⟩] concatenates_S6x256_S6x8192_S6x8448_d1)
      (broadcastInDim S6x8448 ![] bcast_S_S6x8448 (Host.log (constant S_ .f32 0x40000000#32)))))

/-- The queries in units of the scale and of `log 2`. -/
def qsA (a0 : FVec Ideal S8448x1536 .f32) : FVec Ideal S8448x1536 .bf16 :=
  truncf .bf16 (Host.divf a0 (broadcastInDim S8448x1536 ![] bcast_S_S8448x1536
    (mulf (Host.sqrt (constant S_ .f32 0x43400000#32)) (Host.log (constant S_ .f32 0x40000000#32))))) bitsLt_bf16_f32

/-- The keys, the values, the keys transposed and the gradient transposed. -/
def kA (a1 : FVec Ideal S8448x1536 .f32) : FVec Ideal S8448x1536 .bf16 := truncf .bf16 a1 bitsLt_bf16_f32
def vA (a2 : FVec Ideal S8448x768 .f32) : FVec Ideal S8448x768 .bf16 := truncf .bf16 a2 bitsLt_bf16_f32
def kT (a1 : FVec Ideal S8448x1536 .f32) : FVec Ideal S1536x8448 .bf16 := transpose S1536x8448 [1, 0] (kA a1) transposes_S8448x1536_S1536x8448_1_0
def oT (a3 : FVec Ideal S8448x768 .f32) : FVec Ideal S768x8448 .f32 := transpose S768x8448 [1, 0] a3 transposes_S8448x768_S768x8448_1_0

variable (m : (ℓ : Loc nD τ sig) → Buf (Elt Ideal) ℓ) (c : Dev nD)

theorem V_v86 : V m c main_v86 = qsA (m ((c : Thread nD τ).loc main_arg0)) := by
  unfold_abbrev_sides
  after_results_simp <;> rfl

theorem V_v87 : V m c main_v87 = kA (m ((c : Thread nD τ).loc main_arg1)) := by
  unfold_abbrev_sides
  after_results_simp <;> rfl

theorem V_v88 : V m c main_v88 = vA (m ((c : Thread nD τ).loc main_arg2)) := by
  unfold_abbrev_sides
  after_results_simp <;> rfl

theorem V_v89 : V m c main_v89 = kT (m ((c : Thread nD τ).loc main_arg1)) := by
  unfold_abbrev_sides
  after_results_simp <;> rfl

theorem V_v90 : V m c main_v90 = oT (m ((c : Thread nD τ).loc main_arg3)) := by
  unfold_abbrev_sides
  after_results_simp <;> rfl

theorem V_v43 : V m c main_v43 = outT (m ((c : Thread nD τ).loc main_arg0)) (m ((c : Thread nD τ).loc main_arg1)) (m ((c : Thread nD τ).loc main_arg2)) := by
  unfold_abbrev_sides
  after_results
  rfl

theorem V_v80 : V m c main_v80 = lseA (m ((c : Thread nD τ).loc main_arg0)) (m ((c : Thread nD τ).loc main_arg1)) := by
  unfold_abbrev_sides
  after_results
  rfl

end Cert.KernelIdeal.Value

end
-- ==== Proof.Rows.lean ====
/- One row of a softmax and of its gradient, as the host's lines compute it among the extended reals. -/
module

public import proofs.«01_k».proof.Proof.Coe

@[expose] public section

noncomputable section

namespace Attn

open Idealize.ShloMosaic

theorem ofBits_192 : Ideal.ofBits FTy.f32 1128267776#32 = ((192 : ℝ) : EReal) := by
  simp [Ideal.ofBits, Ideal.ieee, -EReal.coe_mul]; norm_num
theorem ofBits_two : Ideal.ofBits FTy.f32 1073741824#32 = ((2 : ℝ) : EReal) := by
  simp [Ideal.ofBits, Ideal.ieee, -EReal.coe_mul]; norm_num
theorem ofBits_neg_inf : Ideal.ofBits FTy.f32 4286578688#32 = ⊥ := by simp [Ideal.ofBits, Ideal.ieee]

theorem sqrt_192 : Ideal.sqrt (Ideal.ofBits FTy.f32 1128267776#32) = ((√192 : ℝ) : EReal) := by
  rw [ofBits_192, Ideal.sqrt_coe, if_neg (by norm_num)]

theorem log_two : Ideal.log (Ideal.ofBits FTy.f32 1073741824#32) = ((Real.log 2 : ℝ) : EReal) := by
  rw [ofBits_two, Ideal.log_coe, if_neg (by norm_num)]

/-- A quotient of real numbers, the divisor not zero. -/
theorem div_real (x : ℝ) {y : ℝ} (h : y ≠ 0) : Ideal.div (x : EReal) (y : EReal) = ((x / y : ℝ) : EReal) := by
  rw [Ideal.div_coe h, ← EReal.coe_mul]
  exact congrArg _ (by rw [one_div, div_eq_mul_inv])

/-- The greatest of finitely many real numbers, at least one, is a real number. -/
theorem fold_max_real {κ : Type*} (s : Finset κ) (hs : s.Nonempty) (f : κ → EReal) (hf : ∀ x, ∃ r : ℝ, f x = r) :
    ∃ M : ℝ, s.fold max ⊥ f = M := by
  classical
  induction hs using Finset.Nonempty.cons_induction with
  | singleton a => obtain ⟨r, hr⟩ := hf a; exact ⟨r, by rw [Finset.fold_singleton, hr]; exact max_bot_right _⟩
  | cons a s h _ ih =>
    obtain ⟨r, hr⟩ := hf a
    obtain ⟨M, hM⟩ := ih
    exact ⟨max r M, by rw [Finset.fold_cons, hr, hM, Monotone.map_max EReal.coe_strictMono.monotone]⟩

/-- So the host's greatest along an axis that is not empty, begun from −∞, is a real number. -/
theorem reduce_max_real {s t u : Shape} {a : Fin s.rank} (h' : s.ReducesTo [a] t) (h : s.Reduces [a] t) (hu : 0 < u.numel) (hp : 0 < s.size a)
    (x : s.Idx → EReal) (init : u.Idx → EReal) (hi : init (Shape.Idx.first hu) = ⊥) (hx : ∀ y, ∃ r : ℝ, x y = r) (y : t.Idx) :
    ∃ M : ℝ, Host.reduce (FloatOps.maximumf (F := Ideal) (φ := .f32)) x init h' hu y = M := by
  rw [Host.reduce_eq_fold_single (FloatOps.maximumf (F := Ideal) (φ := .f32)) x init h' h hu y, hi]
  exact fold_max_real _ ⟨⟨0, hp⟩, Finset.mem_univ _⟩ _ fun z => hx _

variable {κ : Type*} [Fintype κ] [Nonempty κ] (S dp : κ → ℝ) (M : ℝ)

/-- The weights of a row of scores. -/
def weight (j : κ) : ℝ := Real.exp (S j) / ∑ x, Real.exp (S x)

theorem sum_exp_pos (T : κ → ℝ) : 0 < ∑ x, Real.exp (T x) := Finset.sum_pos (fun _ _ => Real.exp_pos _) Finset.univ_nonempty

theorem exp_shift (j : κ) : Real.exp (S j - M) = Real.exp (S j) * Real.exp (-M) := by rw [sub_eq_add_neg, Real.exp_add]

theorem sum_shift : ∑ x, Real.exp (S x - M) = (∑ x, Real.exp (S x)) * Real.exp (-M) := by
  rw [Finset.sum_mul]; exact Finset.sum_congr rfl fun x _ => exp_shift S M x

/-- The scores may be shifted. -/
theorem weight_shift (j : κ) : Real.exp (S j - M) / ∑ x, Real.exp (S x - M) = weight S j := by
  rw [sum_shift, exp_shift, weight, mul_div_mul_right _ _ (Real.exp_pos _).ne']

theorem row_exp (j : κ) : Ideal.exp ((S j : EReal) - M) = ((Real.exp (S j - M) : ℝ) : EReal) := by
  rw [← EReal.coe_sub, Ideal.exp_coe]

theorem row_sum : (∑ x, Ideal.exp ((S x : EReal) - M)) = ((∑ x, Real.exp (S x - M) : ℝ) : EReal) := by
  simp only [row_exp, coe_sum]

theorem row_weight (j : κ) : Ideal.div (Ideal.exp ((S j : EReal) - M)) (∑ x, Ideal.exp ((S x : EReal) - M)) = (weight S j : EReal) := by
  rw [row_sum, row_exp, div_real _ (sum_exp_pos _).ne', weight_shift]

/-- The logarithm of a row's sum. -/
theorem row_log : Ideal.log (∑ x, Ideal.exp ((S x : EReal) - M)) + M = ((Real.log (∑ x, Real.exp (S x)) : ℝ) : EReal) := by
  rw [row_sum, Ideal.log_coe, if_neg (not_le.2 (sum_exp_pos _)), ← EReal.coe_add]
  refine congrArg _ ?_
  rw [sum_shift, Real.log_mul (sum_exp_pos S).ne' (Real.exp_pos _).ne', Real.log_exp]
  ring

/-- The gradient of a row of scores, in the order in which differentiating the quotient leaves it. -/
theorem row_grad (j : κ) :
    Ideal.div ((Ideal.div (dp j : EReal) (∑ x, Ideal.exp ((S x : EReal) - M))
        + ∑ _x : Fin 1, -∑ x, (dp x : EReal) * Ideal.div 1 ((∑ x, Ideal.exp ((S x : EReal) - M)) * ∑ x, Ideal.exp ((S x : EReal) - M)) * Ideal.exp ((S x : EReal) - M))
      * Ideal.exp ((S j : EReal) - M)) (Ideal.sqrt (Ideal.ofBits FTy.f32 1128267776#32))
    = ((weight S j * (dp j - ∑ x, weight S x * dp x) / √192 : ℝ) : EReal) := by
  have hD := (sum_exp_pos fun x => S x - M).ne'
  have h192 := sqrt192_pos.ne'
  rw [row_sum, sqrt_192, ← EReal.coe_mul, ← EReal.coe_one, div_real _ hD, div_real _ (mul_ne_zero hD hD), Fin.sum_univ_one]
  simp only [row_exp, ← EReal.coe_mul, ← coe_sum, ← EReal.coe_neg, ← EReal.coe_add]
  rw [div_real _ h192]
  refine congrArg _ ?_
  simp only [← weight_shift S M]
  generalize hE : (fun x => Real.exp (S x - M)) = E
  have hE' : ∀ x, Real.exp (S x - M) = E x := fun x => congrFun hE x
  simp only [hE'] at hD ⊢
  generalize hd : ∑ x, E x = D at hD ⊢
  rw [show (∑ x, dp x * (1 / (D * D)) * E x) = (∑ x, E x / D * dp x) / D from by
    rw [Finset.sum_div]; exact Finset.sum_congr rfl fun x _ => by field_simp]
  generalize (∑ x, E x / D * dp x) = w
  field_simp
  ring

/-- A sum over the rows is the sum over the context's rows and the sum over the latent rows. -/
theorem sum_ctx_lat (f : Fin 8448 → ℝ) : ∑ i, f i = (∑ i, f (ctx i)) + ∑ i, f (lat i) := by
  rw [Fin.sum_univ_add (a := 256) (b := 8192) f]
  rfl

section
variable (q k : Fin 8448 → Fin 256 → ℝ) (v o : Fin 8448 → Fin 128 → ℝ)

theorem vis_lat (i : Fin 8192) (j : Fin 8448) : Vis (lat i) j := Or.inr (by rw [lat_val]; omega)
theorem vis_ctx (i j : Fin 256) : Vis (ctx i) (ctx j) := Or.inl j.isLt
theorem not_vis (i : Fin 256) (j : Fin 8192) : ¬ Vis (ctx i) (lat j) := by
  unfold Vis; rw [ctx_val, lat_val]; have := i.isLt; omega

/-- A latent row's total is over every column. -/
theorem total_lat (i : Fin 8192) : total q k (lat i) = ∑ j, Real.exp (score q k (lat i) j) :=
  Finset.sum_congr rfl fun j _ => if_pos (vis_lat i j)

/-- A context row's total is over the context's columns. -/
theorem total_ctx (i : Fin 256) : total q k (ctx i) = ∑ j, Real.exp (score q k (ctx i) (ctx j)) := by
  unfold total
  rw [sum_ctx_lat, Finset.sum_congr rfl fun j _ => if_pos (vis_ctx i j), Finset.sum_congr rfl fun j _ => if_neg (not_vis i j)]
  simp

theorem prob_lat (i : Fin 8192) (j : Fin 8448) : prob q k (lat i) j = weight (score q k (lat i)) j := by
  rw [prob, if_pos (vis_lat i j), total_lat, weight]

theorem prob_ctx (i j : Fin 256) : prob q k (ctx i) (ctx j) = weight (fun j => score q k (ctx i) (ctx j)) j := by
  rw [prob, if_pos (vis_ctx i j), total_ctx, weight]

theorem prob_zero (i : Fin 256) (j : Fin 8192) : prob q k (ctx i) (lat j) = 0 := by rw [prob, if_neg (not_vis i j)]

theorem dscore_zero (i : Fin 256) (j : Fin 8192) : dscore q k v o (ctx i) (lat j) = 0 := by rw [dscore, prob_zero, zero_mul]

theorem dscore_lat (i : Fin 8192) (j : Fin 8448) :
    weight (score q k (lat i)) j * (dprob v o (lat i) j - ∑ x, weight (score q k (lat i)) x * dprob v o (lat i) x) = dscore q k v o (lat i) j := by
  simp only [← prob_lat]; rfl

theorem dscore_ctx (i j : Fin 256) :
    weight (fun j => score q k (ctx i) (ctx j)) j
        * (dprob v o (ctx i) (ctx j) - ∑ x, weight (fun j => score q k (ctx i) (ctx j)) x * dprob v o (ctx i) (ctx x))
      = dscore q k v o (ctx i) (ctx j) := by
  simp only [← prob_ctx]
  rw [dscore, delta, sum_ctx_lat]
  simp [prob_zero]
end

end Attn

end
-- ==== Proof.RefReadsC.lean ====
/- What each stage of the attention's gradient on the host computes of the context rows, at an index, over the real numbers. -/
module

public import proofs.«01_k».proof.Proof.RefStages
public import proofs.«01_k».proof.Proof.Rows

@[expose] public section

set_option maxRecDepth 16384

noncomputable section

namespace Cert.ReferenceIdeal.Value

open Idealize.ShloMosaic Idealize.SL.Sem
open Cert.ReferenceIdeal Cert.ReferenceIdeal.Gen Attn

variable {a0 a1 : FVec Ideal S8448x1536 .f32} {a2 a3 : FVec Ideal S8448x768 .f32}
variable {q k : Fin 6 → Fin 8448 → Fin 256 → ℝ} {v o : Fin 6 → Fin 8448 → Fin 128 → ℝ}

section
variable {s : FVec Ideal S6x256x256 .f32} {t : FVec Ideal S6x256 .f32} {dp ds : FVec Ideal S6x256x256 .f32}

/-- The scores of the context rows. -/
theorem scC_eq (h0 : ∀ i h d, a0 (ix2 i (colK h d)) = (q h i d : EReal)) (h1 : ∀ i h d, a1 (ix2 i (colK h d)) = (k h i d : EReal))
    (h : Fin 6) (i : Fin 256) (j : Fin 256) : scC a0 a1 (ix3 h i j) = (score (q h) (k h) (ctx i) (ctx j) : EReal) := by
  have e : scC a0 a1 (ix3 h i j) = Ideal.div (∑ x : Fin 256, a0 (ix2 (ctx i) (colK h x)) * a1 (ix2 (ctx j) (colK h x))) (Ideal.sqrt (Ideal.ofBits FTy.f32 1128267776#32)) := by
    unfold scC
    pointwise <;> rfl
  rw [e, sqrt_192]
  simp only [h0, h1, ← EReal.coe_mul, ← coe_sum]
  rw [div_real _ sqrt192_pos.ne']
  rfl

theorem reducesC : S6x256x256.Reduces [2] S6x256 := by decide

/-- The greatest score of a row is a real number. -/
theorem maxC_real (hs : ∀ y, ∃ r : ℝ, s y = r) (y : S6x256.Idx) : ∃ M : ℝ, maxC s y = M := by
  exact reduce_max_real reducesTo_S6x256x256_S6x256_d2 reducesC h_S_ (show 0 < 256 by norm_num) s _ ofBits_neg_inf hs y

/-- Nothing is less than −∞. -/
theorem bot_maxC (x : FVec Ideal S6x256 .f32) :
    maximumf (broadcastInDim S6x256 ![] bcast_S_S6x256 (constant S_ .f32 0xFF800000#32)) x = x := by
  funext y
  have e : maximumf (broadcastInDim S6x256 ![] bcast_S_S6x256 (constant S_ .f32 0xFF800000#32)) x y = max (Ideal.ofBits FTy.f32 4286578688#32) (x y) := rfl
  rw [e, ofBits_neg_inf]
  exact max_bot_left _

theorem topC_eq : topC s = maxC s := bot_maxC (maxC s)

theorem exC_apply (h : Fin 6) (i : Fin 256) (j : Fin 256) : exC s t (ix3 h i j) = Ideal.exp (s (ix3 h i j) - t (ix2 h i)) := by
  unfold exC alongC
  pointwise <;> rfl

theorem sumC_apply (h : Fin 6) (i : Fin 256) : sumC s (ix2 h i) = ∑ x : Fin 256, s (ix3 h i x) := by
  unfold sumC
  pointwise <;> rfl

/-- The weights of the context rows. -/
theorem wtC_eq {S : Fin 256 → ℝ} {M : ℝ} {h : Fin 6} {i : Fin 256} (hs : ∀ j, s (ix3 h i j) = (S j : EReal)) (ht : t (ix2 h i) = (M : EReal)) (j : Fin 256) :
    wtC (exC s t) (ix3 h i j) = (weight S j : EReal) := by
  have e : wtC (exC s t) (ix3 h i j) = Ideal.div (exC s t (ix3 h i j)) (∑ x : Fin 256, exC s t (ix3 h i x)) := by
    generalize exC s t = e
    unfold wtC alongC sumC
    pointwise <;> rfl
  rw [e]
  simp only [exC_apply, hs, ht]
  exact row_weight S M j

/-- The gradient of the weights. -/
theorem dpC_eq (h2 : ∀ i h d, a2 (ix2 i (colV h d)) = (v h i d : EReal)) (h3 : ∀ i h d, a3 (ix2 i (colV h d)) = (o h i d : EReal))
    (h : Fin 6) (i : Fin 256) (j : Fin 256) : dpC a2 a3 (ix3 h i j) = (dprob (v h) (o h) (ctx i) (ctx j) : EReal) := by
  have e : dpC a2 a3 (ix3 h i j) = ∑ x : Fin 128, a3 (ix2 (ctx i) (colV h x)) * a2 (ix2 (ctx j) (colV h x)) := by
    unfold dpC doC
    pointwise <;> rfl
  rw [e]
  simp only [h2, h3, ← EReal.coe_mul, ← coe_sum]
  rfl

theorem dsC_apply (e : FVec Ideal S6x256x256 .f32) (h : Fin 6) (i : Fin 256) (j : Fin 256) :
    dsC e dp (ix3 h i j) = Ideal.div ((Ideal.div (dp (ix3 h i j)) (∑ x : Fin 256, e (ix3 h i x))
        + ∑ _x : Fin 1, -∑ x : Fin 256, dp (ix3 h i x) * Ideal.div 1 ((∑ x : Fin 256, e (ix3 h i x)) * ∑ x : Fin 256, e (ix3 h i x)) * e (ix3 h i x))
      * e (ix3 h i j)) (Ideal.sqrt (Ideal.ofBits FTy.f32 1128267776#32)) := by
  unfold dsC alongC backC recipC sumC
  pointwise <;> rfl

/-- The gradient of the scores. -/
theorem dsC_eq {S D : Fin 256 → ℝ} {M : ℝ} {h : Fin 6} {i : Fin 256} (hs : ∀ j, s (ix3 h i j) = (S j : EReal)) (ht : t (ix2 h i) = (M : EReal))
    (hd : ∀ j, dp (ix3 h i j) = (D j : EReal)) (j : Fin 256) :
    dsC (exC s t) dp (ix3 h i j) = ((weight S j * (D j - ∑ x, weight S x * D x) / √192 : ℝ) : EReal) := by
  rw [dsC_apply]
  simp only [exC_apply, hs, ht, hd]
  exact row_grad S D M j

theorem dvC_apply (e : FVec Ideal S6x256x256 .f32) (j : Fin 256) (h : Fin 6) (d : Fin 128) :
    dvC e a3 (ix3 j h d) = ∑ x : Fin 256, a3 (ix2 (ctx x) (colV h d)) * wtC e (ix3 h x j) := by
  unfold dvC doC
  generalize wtC e = w
  pointwise <;> rfl

theorem dkC_apply (j : Fin 256) (h : Fin 6) (d : Fin 256) :
    dkC ds a0 (ix3 j h d) = ∑ x : Fin 256, ds (ix3 h x j) * a0 (ix2 (ctx x) (colK h d)) := by
  unfold dkC
  pointwise <;> rfl

theorem dqC_apply (i : Fin 256) (h : Fin 6) (d : Fin 256) :
    dqC ds a1 (ix3 i h d) = ∑ x : Fin 256, ds (ix3 h i x) * a1 (ix2 (ctx x) (colK h d)) := by
  unfold dqC
  pointwise <;> rfl

section
variable (h0 : ∀ i h d, a0 (ix2 i (colK h d)) = (q h i d : EReal)) (h1 : ∀ i h d, a1 (ix2 i (colK h d)) = (k h i d : EReal))
include h0 h1

/-- The scores are real numbers. -/
theorem scC_real (y : S6x256x256.Idx) : ∃ r : ℝ, scC a0 a1 y = r := by
  rw [eq_ix3 y]
  exact ⟨_, scC_eq h0 h1 _ _ _⟩

/-- The weights of the context rows are the attention's. -/
theorem weightsC (h : Fin 6) (i : Fin 256) (j : Fin 256) :
    wtC (exC (scC a0 a1) (topC (scC a0 a1))) (ix3 h i j) = (prob (q h) (k h) (ctx i) (ctx j) : EReal) := by
  obtain ⟨M, hM⟩ := maxC_real (scC_real h0 h1) (ix2 h i)
  rw [topC_eq, prob_ctx]
  exact wtC_eq (fun j => scC_eq h0 h1 h i j) hM j

/-- The logarithms of the context rows' totals. -/
theorem logC (h : Fin 6) (i : Fin 256) :
    Ideal.log (sumC (exC (scC a0 a1) (maxC (scC a0 a1))) (ix2 h i)) + maxC (scC a0 a1) (ix2 h i)
      = ((Real.log (total (q h) (k h) (ctx i)) : ℝ) : EReal) := by
  obtain ⟨M, hM⟩ := maxC_real (scC_real h0 h1) (ix2 h i)
  rw [sumC_apply]
  simp only [exC_apply, hM, scC_eq h0 h1, total_ctx]
  exact row_log _ M

/-- The gradients of the context rows' scores. -/
theorem gradsC (h2 : ∀ i h d, a2 (ix2 i (colV h d)) = (v h i d : EReal)) (h3 : ∀ i h d, a3 (ix2 i (colV h d)) = (o h i d : EReal))
    (h : Fin 6) (i : Fin 256) (j : Fin 256) :
    dsC (exC (scC a0 a1) (topC (scC a0 a1))) (dpC a2 a3) (ix3 h i j) = ((dscore (q h) (k h) (v h) (o h) (ctx i) (ctx j) / √192 : ℝ) : EReal) := by
  obtain ⟨M, hM⟩ := maxC_real (scC_real h0 h1) (ix2 h i)
  rw [topC_eq, ← dscore_ctx]
  exact dsC_eq (fun j => scC_eq h0 h1 h i j) hM (fun j => dpC_eq h2 h3 h i j) j
end
end

end Cert.ReferenceIdeal.Value

end
-- ==== Proof.RefReadsL.lean ====
/- What each stage of the attention's gradient on the host computes of the latent rows, at an index, over the real numbers. -/
module

public import proofs.«01_k».proof.Proof.RefStages
public import proofs.«01_k».proof.Proof.Rows

@[expose] public section

set_option maxRecDepth 16384

noncomputable section

namespace Cert.ReferenceIdeal.Value

open Idealize.ShloMosaic Idealize.SL.Sem
open Cert.ReferenceIdeal Cert.ReferenceIdeal.Gen Attn

variable {a0 a1 : FVec Ideal S8448x1536 .f32} {a2 a3 : FVec Ideal S8448x768 .f32}
variable {q k : Fin 6 → Fin 8448 → Fin 256 → ℝ} {v o : Fin 6 → Fin 8448 → Fin 128 → ℝ}

section
variable {s : FVec Ideal S6x8192x8448 .f32} {t : FVec Ideal S6x8192 .f32} {dp ds : FVec Ideal S6x8192x8448 .f32}

/-- The scores of the latent rows. -/
theorem scL_eq (h0 : ∀ i h d, a0 (ix2 i (colK h d)) = (q h i d : EReal)) (h1 : ∀ i h d, a1 (ix2 i (colK h d)) = (k h i d : EReal))
    (h : Fin 6) (i : Fin 8192) (j : Fin 8448) : scL a0 a1 (ix3 h i j) = (score (q h) (k h) (lat i) j : EReal) := by
  have e : scL a0 a1 (ix3 h i j) = Ideal.div (∑ x : Fin 256, a0 (ix2 (lat i) (colK h x)) * a1 (ix2 j (colK h x))) (Ideal.sqrt (Ideal.ofBits FTy.f32 1128267776#32)) := by
    unfold scL
    pointwise <;> rfl
  rw [e, sqrt_192]
  simp only [h0, h1, ← EReal.coe_mul, ← coe_sum]
  rw [div_real _ sqrt192_pos.ne']
  rfl

theorem reducesL : S6x8192x8448.Reduces [2] S6x8192 := by decide

/-- The greatest score of a row is a real number. -/
theorem maxL_real (hs : ∀ y, ∃ r : ℝ, s y = r) (y : S6x8192.Idx) : ∃ M : ℝ, maxL s y = M := by
  exact reduce_max_real reducesTo_S6x8192x8448_S6x8192_d2 reducesL h_S_ (show 0 < 8448 by norm_num) s _ ofBits_neg_inf hs y

/-- Nothing is less than −∞. -/
theorem bot_maxL (x : FVec Ideal S6x8192 .f32) :
    maximumf (broadcastInDim S6x8192 ![] bcast_S_S6x8192 (constant S_ .f32 0xFF800000#32)) x = x := by
  funext y
  have e : maximumf (broadcastInDim S6x8192 ![] bcast_S_S6x8192 (constant S_ .f32 0xFF800000#32)) x y = max (Ideal.ofBits FTy.f32 4286578688#32) (x y) := rfl
  rw [e, ofBits_neg_inf]
  exact max_bot_left _

theorem topL_eq : topL s = maxL s := bot_maxL (maxL s)

theorem exL_apply (h : Fin 6) (i : Fin 8192) (j : Fin 8448) : exL s t (ix3 h i j) = Ideal.exp (s (ix3 h i j) - t (ix2 h i)) := by
  unfold exL alongL
  pointwise <;> rfl

theorem sumL_apply (h : Fin 6) (i : Fin 8192) : sumL s (ix2 h i) = ∑ x : Fin 8448, s (ix3 h i x) := by
  unfold sumL
  pointwise <;> rfl

/-- The weights of the latent rows. -/
theorem wtL_eq {S : Fin 8448 → ℝ} {M : ℝ} {h : Fin 6} {i : Fin 8192} (hs : ∀ j, s (ix3 h i j) = (S j : EReal)) (ht : t (ix2 h i) = (M : EReal)) (j : Fin 8448) :
    wtL (exL s t) (ix3 h i j) = (weight S j : EReal) := by
  have e : wtL (exL s t) (ix3 h i j) = Ideal.div (exL s t (ix3 h i j)) (∑ x : Fin 8448, exL s t (ix3 h i x)) := by
    generalize exL s t = e
    unfold wtL alongL sumL
    pointwise <;> rfl
  rw [e]
  simp only [exL_apply, hs, ht]
  exact row_weight S M j

/-- The gradient of the weights. -/
theorem dpL_eq (h2 : ∀ i h d, a2 (ix2 i (colV h d)) = (v h i d : EReal)) (h3 : ∀ i h d, a3 (ix2 i (colV h d)) = (o h i d : EReal))
    (h : Fin 6) (i : Fin 8192) (j : Fin 8448) : dpL a2 a3 (ix3 h i j) = (dprob (v h) (o h) (lat i) j : EReal) := by
  have e : dpL a2 a3 (ix3 h i j) = ∑ x : Fin 128, a3 (ix2 (lat i) (colV h x)) * a2 (ix2 j (colV h x)) := by
    unfold dpL doL
    pointwise <;> rfl
  rw [e]
  simp only [h2, h3, ← EReal.coe_mul, ← coe_sum]
  rfl

theorem dsL_apply (e : FVec Ideal S6x8192x8448 .f32) (h : Fin 6) (i : Fin 8192) (j : Fin 8448) :
    dsL e dp (ix3 h i j) = Ideal.div ((Ideal.div (dp (ix3 h i j)) (∑ x : Fin 8448, e (ix3 h i x))
        + ∑ _x : Fin 1, -∑ x : Fin 8448, dp (ix3 h i x) * Ideal.div 1 ((∑ x : Fin 8448, e (ix3 h i x)) * ∑ x : Fin 8448, e (ix3 h i x)) * e (ix3 h i x))
      * e (ix3 h i j)) (Ideal.sqrt (Ideal.ofBits FTy.f32 1128267776#32)) := by
  unfold dsL alongL backL recipL sumL
  pointwise <;> rfl

/-- The gradient of the scores. -/
theorem dsL_eq {S D : Fin 8448 → ℝ} {M : ℝ} {h : Fin 6} {i : Fin 8192} (hs : ∀ j, s (ix3 h i j) = (S j : EReal)) (ht : t (ix2 h i) = (M : EReal))
    (hd : ∀ j, dp (ix3 h i j) = (D j : EReal)) (j : Fin 8448) :
    dsL (exL s t) dp (ix3 h i j) = ((weight S j * (D j - ∑ x, weight S x * D x) / √192 : ℝ) : EReal) := by
  rw [dsL_apply]
  simp only [exL_apply, hs, ht, hd]
  exact row_grad S D M j

theorem dvL_apply (e : FVec Ideal S6x8192x8448 .f32) (j : Fin 8448) (h : Fin 6) (d : Fin 128) :
    dvL e a3 (ix3 j h d) = ∑ x : Fin 8192, a3 (ix2 (lat x) (colV h d)) * wtL e (ix3 h x j) := by
  unfold dvL doL
  generalize wtL e = w
  pointwise <;> rfl

theorem dkL_apply (j : Fin 8448) (h : Fin 6) (d : Fin 256) :
    dkL ds a0 (ix3 j h d) = ∑ x : Fin 8192, ds (ix3 h x j) * a0 (ix2 (lat x) (colK h d)) := by
  unfold dkL
  pointwise <;> rfl

theorem dqL_apply (i : Fin 8192) (h : Fin 6) (d : Fin 256) :
    dqL ds a1 (ix3 i h d) = ∑ x : Fin 8448, ds (ix3 h i x) * a1 (ix2 x (colK h d)) := by
  unfold dqL
  pointwise <;> rfl

section
variable (h0 : ∀ i h d, a0 (ix2 i (colK h d)) = (q h i d : EReal)) (h1 : ∀ i h d, a1 (ix2 i (colK h d)) = (k h i d : EReal))
include h0 h1

/-- The scores are real numbers. -/
theorem scL_real (y : S6x8192x8448.Idx) : ∃ r : ℝ, scL a0 a1 y = r := by
  rw [eq_ix3 y]
  exact ⟨_, scL_eq h0 h1 _ _ _⟩

/-- The weights of the latent rows are the attention's. -/
theorem weightsL (h : Fin 6) (i : Fin 8192) (j : Fin 8448) :
    wtL (exL (scL a0 a1) (topL (scL a0 a1))) (ix3 h i j) = (prob (q h) (k h) (lat i) j : EReal) := by
  obtain ⟨M, hM⟩ := maxL_real (scL_real h0 h1) (ix2 h i)
  rw [topL_eq, prob_lat]
  exact wtL_eq (fun j => scL_eq h0 h1 h i j) hM j

/-- The logarithms of the latent rows' totals. -/
theorem logL (h : Fin 6) (i : Fin 8192) :
    Ideal.log (sumL (exL (scL a0 a1) (maxL (scL a0 a1))) (ix2 h i)) + maxL (scL a0 a1) (ix2 h i)
      = ((Real.log (total (q h) (k h) (lat i)) : ℝ) : EReal) := by
  obtain ⟨M, hM⟩ := maxL_real (scL_real h0 h1) (ix2 h i)
  rw [sumL_apply]
  simp only [exL_apply, hM, scL_eq h0 h1, total_lat]
  exact row_log _ M

/-- The gradients of the latent rows' scores. -/
theorem gradsL (h2 : ∀ i h d, a2 (ix2 i (colV h d)) = (v h i d : EReal)) (h3 : ∀ i h d, a3 (ix2 i (colV h d)) = (o h i d : EReal))
    (h : Fin 6) (i : Fin 8192) (j : Fin 8448) :
    dsL (exL (scL a0 a1) (topL (scL a0 a1))) (dpL a2 a3) (ix3 h i j) = ((dscore (q h) (k h) (v h) (o h) (lat i) j / √192 : ℝ) : EReal) := by
  obtain ⟨M, hM⟩ := maxL_real (scL_real h0 h1) (ix2 h i)
  rw [topL_eq, ← dscore_lat]
  exact dsL_eq (fun j => scL_eq h0 h1 h i j) hM (fun j => dpL_eq h2 h3 h i j) j
end
end

end Cert.ReferenceIdeal.Value

end
-- ==== Proof.PayReads.lean ====
/- What each value the kernel's body computes is at an index, over the extended reals. -/
module

public import proofs.«01_k».proof.Proof.Gen.KernelIdeal.Skeleton
public import proofs.«01_k».proof.Proof.Spec
public import Idealize.ShloMosaic.Lib.WordCmp
public import Idealize.ShloMosaic.Lib.Pointwise
public import Idealize.ShloMosaic.Lib.ValueIdx

@[expose] public section

set_option maxRecDepth 16384

noncomputable section

namespace Cert.KernelIdeal.Value

open Idealize.ShloMosaic Idealize.SL.Sem
open Cert.KernelIdeal Cert.KernelIdeal.Gen Idealize.ShloMosaic.WordCmp

/-- `log 2`, the constant named "ln2". -/
theorem named_ln2 : Named.named (F := Ideal) (φ := .f32) κ "ln2" 0x3F317218#32 = ((Real.log 2 : ℝ) : EReal) :=
  IdealRules.named_const.ideal_named_scalar _ _ _ _ rfl

/-- `1/(√192 log 2)`, the constant named "scale_log2e". -/
theorem named_scale : Named.named (F := Ideal) (φ := .f32) κ "scale_log2e" 0x3DD53B95#32 = (((√192 * Real.log 2)⁻¹ : ℝ) : EReal) :=
  IdealRules.named_const.ideal_named_scalar _ _ _ _ rfl

/-- `-∞`, the constant named "mask". -/
theorem named_mask : Named.named (F := Ideal) (φ := .f32) κ "mask" 0xF149F2CA#32 = (⊥ : EReal) :=
  IdealRules.named_const.ideal_named_scalar _ _ _ _ rfl

theorem pay3_apply (a : Fin 1) (d : Fin 256) (r : Fin 768) : k0_pay3 (F := Ideal) (ix3 a d r) = 0 := by
  unfold k0_pay3
  pointwise

theorem pay4_apply (x y : Vec Ideal S128x768 .f32) (a : Fin 1) (b : Fin 8) (r : Fin 768) :
    k0_pay4 (F := Ideal) x y (ix3 a b r) = ∑ e : Fin 128, x (ix2 e r) * y (ix2 e r) := by
  unfold k0_pay4
  pointwise

theorem pay7_apply (kt : FVec Ideal S256x768 .bf16) (p dp : FVec Ideal S768x768 .f32) (dl : Vec Ideal S1x1x768 .f32)
    (acc : Vec Ideal S1x256x768 .f32) (d : Fin 256) (r : Fin 768) :
    k0_pay7 (F := Ideal) kt p dp dl acc (ix3 0 d r)
      = acc (ix3 0 d r) + ∑ j : Fin 768, kt (ix2 d j) * (p (ix2 j r) * (dp (ix2 j r) - dl (ix3 0 0 r))) := by
  unfold k0_pay7 k0_pay6
  pointwise

theorem pay8_apply (q : FVec Ideal S768x256 .bf16) (p dp : FVec Ideal S768x768 .f32) (dl : Vec Ideal S1x1x768 .f32)
    (acc : Vec Ideal S768x256 .f32) (j : Fin 768) (d : Fin 256) :
    k0_pay8 (F := Ideal) q p dp dl acc (ix2 j d)
      = acc (ix2 j d) + (∑ r : Fin 768, (p (ix2 j r) * (dp (ix2 j r) - dl (ix3 0 0 r))) * q (ix2 r d)) * (Real.log 2 : ℝ) := by
  unfold k0_pay8 k0_pay6
  pointwise
  simp only [named_ln2, named_scale]

theorem pay9_apply (p : FVec Ideal S768x768 .f32) (o : Vec Ideal S768x128 .f32)
    (acc : Vec Ideal S768x128 .f32) (j : Fin 768) (e : Fin 128) :
    k0_pay9 (F := Ideal) p o acc (ix2 j e)
      = acc (ix2 j e) + ∑ r : Fin 768, p (ix2 j r) * o (ix2 r e) := by
  unfold k0_pay9
  pointwise

theorem pay12_apply (acc : Vec Ideal S1x256x768 .f32) (d : Fin 256) (r : Fin 768) :
    k0_pay12 (F := Ideal) acc (ix2 d r) = acc (ix3 0 d r) * (Real.log 2 : ℝ) * ((√192 * Real.log 2)⁻¹ : ℝ) := by
  unfold k0_pay12
  pointwise
  simp only [named_ln2, named_scale]

theorem pay16_apply (v : Vec Ideal S768x128 .bf16) (o : Vec Ideal S128x768 .f32) (j r : Fin 768) :
    k0_pay16 (F := Ideal) v o (ix2 j r) = ∑ e : Fin 128, v (ix2 j e) * o (ix2 e r) := by
  unfold k0_pay16
  pointwise

theorem pay18_apply (k q : Vec Ideal S768x256 .bf16) (l : Vec Ideal S1x1x768 .f32) (j r : Fin 768) :
    k0_pay18 (F := Ideal) k q l (ix2 j r) = Ideal.exp2 ((∑ d : Fin 256, k (ix2 j d) * q (ix2 r d)) - l (ix3 0 0 r)) := by
  unfold k0_pay18 k0_pay17
  pointwise
  rfl

/-- The masked step's weights: of the keys that the query does not see, zero. -/
theorem pay15_apply (i st : ℕ) (hi : i < 11) (hst : st < 11) (k q : Vec Ideal S768x256 .bf16) (l : Vec Ideal S1x1x768 .f32) (j r : Fin 768) :
    k0_pay15 (F := Ideal) (BitVec.ofNat 32 i) (BitVec.ofNat 32 st) k q l (ix2 j r)
      = if Attn.Vis (i * 768 + r.val) (st * 768 + j.val) then Ideal.exp2 ((∑ d : Fin 256, k (ix2 j d) * q (ix2 r d)) - l (ix3 0 0 r)) else 0 := by
  unfold k0_pay15 k0_pay14
  pointwise
  simp only [named_mask, show ∀ x y : BitVec 32, Scalar.muli x y = IntOp.muli x y from fun _ _ => rfl, muli_ofNat, addi_ofNat]
  have hr := r.isLt; have hj := j.isLt
  rw [cmpi_slt_ofNat (by omega) (by norm_num), cmpi_sge_ofNat (by omega) (by norm_num), ori_ofBool]
  by_cases h : Attn.Vis (i * 768 + r.val) (st * 768 + j.val)
  · rw [if_pos h]
    have : (decide (st * 768 + j.val < 256) || decide (256 ≤ i * 768 + r.val)) = true := by
      unfold Attn.Vis at h; simpa using h
    rw [this]
    rfl
  · rw [if_neg h]
    have : (decide (st * 768 + j.val < 256) || decide (256 ≤ i * 768 + r.val)) = false := by
      unfold Attn.Vis at h; simpa using h
    rw [this]
    show Ideal.exp2 (⊥ - _) = 0
    rw [sub_eq_add_neg, EReal.bot_add]; rfl

theorem pay10_apply (q : FVec Ideal S768x256 .bf16) (ds : FVec Ideal S768x768 .bf16) (acc : Vec Ideal S768x256 .f32)
    (j : Fin 768) (d : Fin 256) :
    k0_pay10 (F := Ideal) q ds acc (ix2 j d)
      = acc (ix2 j d) + (∑ r : Fin 768, ds (ix2 j r) * q (ix2 r d)) * (Real.log 2 : ℝ) := by
  unfold k0_pay10
  pointwise
  simp only [named_ln2]

theorem pay11_apply (p : FVec Ideal S768x768 .f32) (o : Vec Ideal S768x128 .f32) (acc : Vec Ideal S768x128 .f32)
    (j : Fin 768) (e : Fin 128) :
    k0_pay11 (F := Ideal) p o acc (ix2 j e) = acc (ix2 j e) + ∑ r : Fin 768, p (ix2 j r) * o (ix2 r e) := by
  unfold k0_pay11
  pointwise

theorem pay19_apply (k : Vec Ideal S768x256 .bf16) (v : Vec Ideal S768x128 .bf16) (q : Vec Ideal S768x256 .bf16)
    (l : Vec Ideal S1x1x768 .f32) (o : Vec Ideal S128x768 .f32) (dl : Vec Ideal S1x1x768 .f32) (j r : Fin 768) :
    k0_pay19 (F := Ideal) k v q l o dl (ix2 j r)
      = k0_pay18 (F := Ideal) k q l (ix2 j r) * ((∑ e : Fin 128, v (ix2 j e) * o (ix2 e r)) - dl (ix3 0 0 r)) := by
  unfold k0_pay19
  generalize k0_pay18 (F := Ideal) k q l = p
  pointwise

theorem pay20_apply (k : Vec Ideal S768x256 .bf16) (kt : Vec Ideal S256x768 .bf16) (v : Vec Ideal S768x128 .bf16) (q : Vec Ideal S768x256 .bf16)
    (l : Vec Ideal S1x1x768 .f32) (o : Vec Ideal S128x768 .f32) (dl : Vec Ideal S1x1x768 .f32) (acc : Vec Ideal S1x256x768 .f32)
    (d : Fin 256) (r : Fin 768) :
    k0_pay20 (F := Ideal) k kt v q l o dl acc (ix3 0 d r)
      = acc (ix3 0 d r) + ∑ j : Fin 768, kt (ix2 d j) * k0_pay19 (F := Ideal) k v q l o dl (ix2 j r) := by
  unfold k0_pay20
  generalize k0_pay19 (F := Ideal) k v q l o dl = p
  pointwise

theorem pay1_apply (j : Fin 8448) (d : Fin 256) : k0_pay1 (F := Ideal) (ix2 j d) = 0 := by
  unfold k0_pay1
  pointwise

theorem pay2_apply (j : Fin 8448) (d : Fin 128) : k0_pay2 (F := Ideal) (ix2 j d) = 0 := by
  unfold k0_pay2
  pointwise

theorem pay13_eq (x : Vec Ideal S256x768 .bf16) : k0_pay13 (F := Ideal) x = x := by
  unfold k0_pay13; exact shapeCast_self _ _

theorem pay14_eq (x : Vec Ideal S768x256 .bf16) : k0_pay14 (F := Ideal) x = x := by
  unfold k0_pay14; exact shapeCast_self _ _

theorem pay17_eq (x : Vec Ideal S768x256 .bf16) : k0_pay17 (F := Ideal) x = x := by
  unfold k0_pay17; exact shapeCast_self _ _

end Cert.KernelIdeal.Value

end
-- ==== Proof.Tiles.lean ====
/- What the kernel carries, over the real numbers: after each key tile the running gradients are sums over the tiles
   done so far. -/
module

public import proofs.«01_k».proof.Proof.PayReads
public import proofs.«01_k».proof.Proof.Step
public import proofs.«01_k».proof.Proof.Coe

@[expose] public section

set_option maxRecDepth 16384

noncomputable section

namespace Cert.KernelIdeal.Value

open Idealize.ShloMosaic Idealize.SL.Sem
open Cert.KernelIdeal Cert.KernelIdeal.Gen Attn

theorem row0_apply (x : Vec Ideal S1x8x768 .f32) (r : Fin 768) : row0 x (ix3 0 0 r) = x (ix3 0 0 r) := by
  unfold row0 VecWindow.window
  refine congrArg x (funext fun a => Fin.ext ?_)
  match a with
  | ⟨0, _⟩ => rfl
  | ⟨1, _⟩ => rfl
  | ⟨2, _⟩ => show 0 + 1 * r.val = r.val; omega

section
variable (g : grid0.Coords) (st : Fin 11) (hg : (g 2).val = st.val)
include hg

theorem rowsK_apply (x : Vec Ideal S8448x256 .f32) (j : Fin 768) (d : Fin 256) : rowsK g x (ix2 j d) = x (ix2 (row st j) d) := by
  unfold rowsK VecWindow.window
  refine congrArg x (funext fun a => Fin.ext ?_)
  match a with
  | ⟨0, _⟩ => show 768 * (g 2).val + 1 * j.val = st.val * 768 + j.val; omega
  | ⟨1, _⟩ => show 0 + 1 * d.val = d.val; omega

theorem rowsV_apply (x : Vec Ideal S8448x128 .f32) (j : Fin 768) (d : Fin 128) : rowsV g x (ix2 j d) = x (ix2 (row st j) d) := by
  unfold rowsV VecWindow.window
  refine congrArg x (funext fun a => Fin.ext ?_)
  match a with
  | ⟨0, _⟩ => show 768 * (g 2).val + 1 * j.val = st.val * 768 + j.val; omega
  | ⟨1, _⟩ => show 0 + 1 * d.val = d.val; omega

theorem putK_row (x : Vec Ideal S8448x256 .f32) (w : Vec Ideal S768x256 .f32) (j : Fin 768) (d : Fin 256) :
    putK g x w (ix2 (row st j) d) = w (ix2 j d) := by
  unfold putK VecWindow.put
  have hj := j.isLt; have hd := d.isLt
  rw [dif_pos]
  · refine congrArg w (funext fun a => Fin.ext ?_)
    match a with
    | ⟨0, _⟩ => show st.val * 768 + j.val - 768 * (g 2).val = j.val; omega
    | ⟨1, _⟩ => show d.val - 0 = d.val; omega
  · intro a
    match a with
    | ⟨0, _⟩ => show 768 * (g 2).val ≤ st.val * 768 + j.val ∧ st.val * 768 + j.val < 768 * (g 2).val + 768; omega
    | ⟨1, _⟩ => show 0 ≤ d.val ∧ d.val < 0 + 256; omega

theorem putV_row (x : Vec Ideal S8448x128 .f32) (w : Vec Ideal S768x128 .f32) (j : Fin 768) (d : Fin 128) :
    putV g x w (ix2 (row st j) d) = w (ix2 j d) := by
  unfold putV VecWindow.put
  have hj := j.isLt; have hd := d.isLt
  rw [dif_pos]
  · refine congrArg w (funext fun a => Fin.ext ?_)
    match a with
    | ⟨0, _⟩ => show st.val * 768 + j.val - 768 * (g 2).val = j.val; omega
    | ⟨1, _⟩ => show d.val - 0 = d.val; omega
  · intro a
    match a with
    | ⟨0, _⟩ => show 768 * (g 2).val ≤ st.val * 768 + j.val ∧ st.val * 768 + j.val < 768 * (g 2).val + 768; omega
    | ⟨1, _⟩ => show 0 ≤ d.val ∧ d.val < 0 + 128; omega

theorem putK_other (x : Vec Ideal S8448x256 .f32) (w : Vec Ideal S768x256 .f32) (i : Fin 11) (j : Fin 768) (d : Fin 256) (h : ¬ i = st) :
    putK g x w (ix2 (row i j) d) = x (ix2 (row i j) d) := by
  unfold putK VecWindow.put
  have hj := j.isLt
  have hne : i.val ≠ st.val := fun e => h (Fin.ext e)
  rw [dif_neg]
  intro hall
  have h0 : 768 * (g 2).val ≤ i.val * 768 + j.val ∧ i.val * 768 + j.val < 768 * (g 2).val + 768 := hall (0 : Fin 2)
  omega

theorem putV_other (x : Vec Ideal S8448x128 .f32) (w : Vec Ideal S768x128 .f32) (i : Fin 11) (j : Fin 768) (d : Fin 128) (h : ¬ i = st) :
    putV g x w (ix2 (row i j) d) = x (ix2 (row i j) d) := by
  unfold putV VecWindow.put
  have hj := j.isLt
  have hne : i.val ≠ st.val := fun e => h (Fin.ext e)
  rw [dif_neg]
  intro hall
  have h0 : 768 * (g 2).val ≤ i.val * 768 + j.val ∧ i.val * 768 + j.val < 768 * (g 2).val + 768 := hall (0 : Fin 2)
  omega
end

variable (q k : Fin 8448 → Fin 256 → ℝ) (v o : Fin 8448 → Fin 128 → ℝ)

/-- A query as the kernel takes it, in units of the scale and of `log 2`. -/
def qs (i : Fin 8448) (d : Fin 256) : ℝ := q i d / (√192 * Real.log 2)

/-- The blocks at query tile `i` and key tile `st` are these of the head's arrays. -/
structure BlockReads (i st : Fin 11) (x : Blocks Ideal) : Prop where
  q_eq : ∀ r d, x.q (ix2 r d) = (qs q (row i r) d : EReal)
  k_eq : ∀ j d, x.k (ix2 j d) = (k (row st j) d : EReal)
  kt_eq : ∀ d j, x.kt (ix2 d j) = (k (row st j) d : EReal)
  v_eq : ∀ j e, x.v (ix2 j e) = (v (row st j) e : EReal)
  ot_eq : ∀ e r, x.ot (ix2 e r) = (Attn.out q k v (row i r) e : EReal)
  lse_eq : ∀ r, x.lse (ix3 0 0 r) = ((Real.log (total q k (row i r)) / Real.log 2 : ℝ) : EReal)
  o_eq : ∀ r e, x.o (ix2 r e) = (o (row i r) e : EReal)
  od_eq : ∀ e r, x.od (ix2 e r) = (o (row i r) e : EReal)

/-- What is carried into key tile `st` of query tile `i`. -/
structure Ready (i : Fin 11) (st : ℕ) (s : Carry Ideal) : Prop where
  dl : ∀ b r, s.dl (ix3 0 b r) = (delta q k v o (row i r) : EReal)
  acc : ∀ d r, s.acc (ix3 0 d r) = (tileSum (fun j => k j d * dscore q k v o (row i r) j) st : EReal)
  dk : ∀ (i' : Fin 11) j d, s.dk (ix2 (row i' j) d)
    = (tileSum (fun n => dscore q k v o n (row i' j) * qs q n d * Real.log 2) (if i'.val < st then i.val + 1 else i.val) : EReal)
  dv : ∀ (i' : Fin 11) j e, s.dv (ix2 (row i' j) e)
    = (tileSum (fun n => prob q k n (row i' j) * o n e) (if i'.val < st then i.val + 1 else i.val) : EReal)

variable {q k v o}

theorem BlockReads.score {i st : Fin 11} {x : Blocks Ideal} (hx : BlockReads q k v o i st x) (j r : Fin 768) (h : Vis (row i r) (row st j)) :
    Ideal.exp2 ((∑ d : Fin 256, x.k (ix2 j d) * x.q (ix2 r d)) - row0 x.lse (ix3 0 0 r)) = (prob q k (row i r) (row st j) : EReal) := by
  rw [row0_apply, hx.lse_eq]
  simp only [hx.k_eq, hx.q_eq, ← EReal.coe_mul, ← coe_sum, ← EReal.coe_sub]
  rw [Ideal.exp2_coe]
  exact congrArg _ (prob_eq_exp2 q k (row i r) (row st j) h)

theorem BlockReads.weightsM {i st : Fin 11} {x : Blocks Ideal} (hx : BlockReads q k v o i st x) (g : grid0.Coords)
    (h1 : (g 1).val = i.val) (h2 : (g 2).val = st.val) (j r : Fin 768) :
    weightsM g x (ix2 j r) = (prob q k (row i r) (row st j) : EReal) := by
  unfold Value.weightsM
  rw [h1, h2, pay15_apply i.val st.val i.isLt st.isLt]
  by_cases h : Vis (row i r) (row st j)
  · rw [if_pos (show Vis (i.val * 768 + r.val) (st.val * 768 + j.val) from h)]
    exact hx.score j r h
  · rw [if_neg (show ¬ Vis (i.val * 768 + r.val) (st.val * 768 + j.val) from h)]
    unfold prob
    rw [if_neg h]
    rfl

theorem BlockReads.weightsU {i st : Fin 11} {x : Blocks Ideal} (hx : BlockReads q k v o i st x) (hi : 1 ≤ i.val) (j r : Fin 768) :
    k0_pay18 x.k x.q (row0 x.lse) (ix2 j r) = (prob q k (row i r) (row st j) : EReal) := by
  rw [pay18_apply]
  exact hx.score j r (Or.inr (by rw [row_val]; omega))

/-- The gradient of the weights. -/
theorem BlockReads.dp {i st : Fin 11} {x : Blocks Ideal} (hx : BlockReads q k v o i st x) (j r : Fin 768) :
    (∑ e : Fin 128, x.v (ix2 j e) * x.od (ix2 e r)) = (dprob v o (row i r) (row st j) : EReal) := by
  unfold dprob
  simp only [hx.v_eq, hx.od_eq, ← EReal.coe_mul, ← coe_sum]
  exact congrArg _ (Finset.sum_congr rfl fun e _ => mul_comm _ _)

/-- The products of the forward result with its gradient. -/
theorem BlockReads.delta {i st : Fin 11} {x : Blocks Ideal} (hx : BlockReads q k v o i st x) (b : Fin 8) (r : Fin 768) :
    k0_pay4 x.od x.ot (ix3 0 b r) = (Attn.delta q k v o (row i r) : EReal) := by
  rw [pay4_apply, delta_eq_out]
  simp only [hx.od_eq, hx.ot_eq, ← EReal.coe_mul, ← coe_sum]

/-- A key tile's contributions take what is carried into it to what is carried into the next. -/
theorem Ready.next {i st : Fin 11} {x : Blocks Ideal} {s s' : Carry Ideal} (hr : Ready q k v o i st.val s) (hx : BlockReads q k v o i st x)
    (g : grid0.Coords) (hg : (g 2).val = st.val) (wk : Vec Ideal S768x256 .f32) (wv : Vec Ideal S768x128 .f32)
    (hdl : s'.dl = s.dl)
    (hacc : ∀ d r, s'.acc (ix3 0 d r) = s.acc (ix3 0 d r) + ∑ j : Fin 768, x.kt (ix2 d j) * (dscore q k v o (row i r) (row st j) : EReal))
    (hdk : s'.dk = putK g s.dk wk) (hwk : ∀ j d, wk (ix2 j d) = rowsK g s.dk (ix2 j d)
      + (∑ r : Fin 768, (dscore q k v o (row i r) (row st j) : EReal) * x.q (ix2 r d)) * (Real.log 2 : ℝ))
    (hdv : s'.dv = putV g s.dv wv) (hwv : ∀ j e, wv (ix2 j e) = rowsV g s.dv (ix2 j e)
      + ∑ r : Fin 768, (prob q k (row i r) (row st j) : EReal) * x.o (ix2 r e)) :
    Ready q k v o i (st.val + 1) s' where
  dl b r := by rw [hdl]; exact hr.dl b r
  acc d r := by
    rw [hacc, hr.acc, tileSum_succ]
    simp only [hx.kt_eq, ← EReal.coe_mul, ← coe_sum, ← EReal.coe_add]
  dk i' j d := by
    rw [hdk]
    by_cases h : i' = st
    · subst h
      rw [putK_row g i' hg, hwk, rowsK_apply g i' hg, hr.dk, if_neg (by omega), if_pos (by omega), tileSum_succ]
      simp only [hx.q_eq, ← EReal.coe_mul, ← coe_sum, ← EReal.coe_add]
      rw [Finset.sum_mul]
    · have hne : i'.val ≠ st.val := fun e => h (Fin.ext e)
      rw [putK_other g st hg _ _ i' j d h, hr.dk]
      exact congrArg (fun n => ((tileSum _ n : ℝ) : EReal)) (if_congr (by omega) rfl rfl)
  dv i' j e := by
    rw [hdv]
    by_cases h : i' = st
    · subst h
      rw [putV_row g i' hg, hwv, rowsV_apply g i' hg, hr.dv, if_neg (by omega), if_pos (by omega), tileSum_succ]
      simp only [hx.o_eq, ← EReal.coe_mul, ← coe_sum, ← EReal.coe_add]
    · have hne : i'.val ≠ st.val := fun e => h (Fin.ext e)
      rw [putV_other g st hg _ _ i' j e h, hr.dv]
      exact congrArg (fun n => ((tileSum _ n : ℝ) : EReal)) (if_congr (by omega) rfl rfl)

/-- The first query tile's key tiles. -/
theorem Ready.stepM {i st : Fin 11} {x : Blocks Ideal} {s : Carry Ideal} (hr : Ready q k v o i st.val s) (hx : BlockReads q k v o i st x)
    (g : grid0.Coords) (h1 : (g 1).val = i.val) (h2 : (g 2).val = st.val) : Ready q k v o i (st.val + 1) (stepM g x s) := by
  have hds : ∀ j r : Fin 768, weightsM g x (ix2 j r) * (k0_pay16 x.v x.od (ix2 j r) - row0 s.dl (ix3 0 0 r)) = (dscore q k v o (row i r) (row st j) : EReal) := by
    intro j r
    rw [hx.weightsM g h1 h2, pay16_apply, hx.dp, row0_apply, hr.dl, ← EReal.coe_sub, ← EReal.coe_mul]
    rfl
  refine hr.next hx g h2 _ _ rfl (fun d r => ?_) rfl (fun j d => ?_) rfl (fun j e => ?_)
  · show k0_pay7 _ _ _ _ _ _ = _
    rw [pay7_apply, pay13_eq]
    simp only [hds]
  · rw [pay8_apply, pay14_eq]
    simp only [hds]
  · rw [pay9_apply]
    simp only [hx.weightsM g h1 h2]

/-- The later query tiles' key tiles. -/
theorem Ready.stepU {i st : Fin 11} {x : Blocks Ideal} {s : Carry Ideal} (hr : Ready q k v o i st.val s) (hx : BlockReads q k v o i st x)
    (g : grid0.Coords) (hi : 1 ≤ i.val) (h2 : (g 2).val = st.val) : Ready q k v o i (st.val + 1) (stepU g x s) := by
  have hds : ∀ j r : Fin 768, k0_pay19 x.k x.v x.q (row0 x.lse) x.od (row0 s.dl) (ix2 j r) = (dscore q k v o (row i r) (row st j) : EReal) := by
    intro j r
    rw [pay19_apply, hx.weightsU hi, hx.dp, row0_apply, hr.dl, ← EReal.coe_sub, ← EReal.coe_mul]
    rfl
  refine hr.next hx g h2 _ _ rfl (fun d r => ?_) rfl (fun j d => ?_) rfl (fun j e => ?_)
  · show k0_pay20 _ _ _ _ _ _ _ _ _ = _
    rw [pay20_apply]
    simp only [hds]
  · rw [pay10_apply, pay17_eq]
    simp only [hds]
  · rw [pay11_apply]
    simp only [hx.weightsU hi]

/-- A head's first query tile begins. -/
theorem ready_newHead {i st : Fin 11} (hi : i.val = 0) {x : Blocks Ideal} (s : Carry Ideal) (hx : BlockReads q k v o i st x) :
    Ready q k v o i 0 (newTile x (newHead s)) where
  dl b r := hx.delta b r
  acc d r := by rw [tileSum_zero]; exact pay3_apply 0 d r
  dk i' j d := by rw [if_neg (Nat.not_lt_zero _), hi, tileSum_zero]; exact pay1_apply (row i' j) d
  dv i' j e := by rw [if_neg (Nat.not_lt_zero _), hi, tileSum_zero]; exact pay2_apply (row i' j) e

/-- The next query tile begins where the last key tile of the one before ends. -/
theorem Ready.newTile {i i' st : Fin 11} (hi : i'.val = i.val + 1) {x : Blocks Ideal} {s : Carry Ideal} (hr : Ready q k v o i 11 s)
    (hx : BlockReads q k v o i' st x) : Ready q k v o i' 0 (newTile x s) where
  dl b r := hx.delta b r
  acc d r := by rw [tileSum_zero]; exact pay3_apply 0 d r
  dk a j d := by
    rw [if_neg (Nat.not_lt_zero _), hi]
    exact (hr.dk a j d).trans (by rw [if_pos a.isLt])
  dv a j e := by
    rw [if_neg (Nat.not_lt_zero _), hi]
    exact (hr.dv a j e).trans (by rw [if_pos a.isLt])

/-- A query tile's running gradient, scaled, is the gradient of its queries. -/
theorem Ready.dq {i : Fin 11} {s : Carry Ideal} (hr : Ready q k v o i 11 s) (d : Fin 256) (r : Fin 768) :
    k0_pay12 s.acc (ix2 d r) = (Attn.dq q k v o (row i r) d : EReal) := by
  rw [pay12_apply, hr.acc, tileSum_all, ← EReal.coe_mul, ← EReal.coe_mul]
  exact congrArg _ (dq_eq q k v o (row i r) d)

/-- After a head's last point the gradients of its keys, -/
theorem Ready.dk_all {i : Fin 11} {s : Carry Ideal} (hi : i.val = 10) (hr : Ready q k v o i 11 s) (n : Fin 8448) (d : Fin 256) :
    s.dk (ix2 n d) = (dk_ q k v o n d : EReal) := by
  obtain ⟨a, j, rfl⟩ := eq_row n
  rw [hr.dk, if_pos a.isLt, hi, tileSum_all]
  exact congrArg _ (dk_eq q k v o (row a j) d)

/-- and its values are whole. -/
theorem Ready.dv_all {i : Fin 11} {s : Carry Ideal} (hi : i.val = 10) (hr : Ready q k v o i 11 s) (n : Fin 8448) (e : Fin 128) :
    s.dv (ix2 n e) = (dv_ q k o n e : EReal) := by
  obtain ⟨a, j, rfl⟩ := eq_row n
  rw [hr.dv, if_pos a.isLt, hi, tileSum_all]
  rfl

end Cert.KernelIdeal.Value

end
-- ==== Proof.Windows.lean ====
/- The blocks of a grid point as parts of the arrays that the launch finds. -/
module

public import proofs.«01_k».proof.Proof.Launch
public import proofs.«01_k».proof.Proof.Coe

@[expose] public section

set_option maxRecDepth 16384

noncomputable section

namespace Cert.KernelIdeal.Value

open Idealize.ShloMosaic Idealize.ShloMosaic.TcCoe Idealize.SL.Sem
open Cert.KernelIdeal Cert.KernelIdeal.Gen Attn

variable {F : FTy → Type} [FloatOps F] [Named F]
variable (m : (ℓ : Loc nD τ sig) → Buf (Elt F) ℓ)

/-- A grid point's head, -/
def headOf (t : Fin cfg0.N) : Fin 6 := ⟨t.val / 121, by have : t.val < 726 := N_0 ▸ t.isLt; omega⟩
/-- its query tile, -/
def qTile (t : Fin cfg0.N) : Fin 11 := ⟨t.val / 11 % 11, Nat.mod_lt _ (by norm_num)⟩
/-- and its key tile. -/
def kTile (t : Fin cfg0.N) : Fin 11 := ⟨t.val % 11, Nat.mod_lt _ (by norm_num)⟩

theorem coords_1 : ∀ t : Fin cfg0.N, (grid0.coords t 1).val = t.val / 11 % 11 :=
  (by decide +kernel : ∀ t : Fin grid0.N, (grid0.coords t 1).val = t.val / 11 % 11)
theorem coords_2 : ∀ t : Fin cfg0.N, (grid0.coords t 2).val = t.val % 11 :=
  (by decide +kernel : ∀ t : Fin grid0.N, (grid0.coords t 2).val = t.val % 11)

theorem index_0 : ∀ t : Fin cfg0.N, win0_0.index t (0 : Fin 2) = t.val / 11 % 11 ∧ win0_0.index t (1 : Fin 2) = t.val / 121 :=
  (by decide +kernel : ∀ t : Fin grid0.N, win0_0.index t (0 : Fin 2) = t.val / 11 % 11 ∧ win0_0.index t (1 : Fin 2) = t.val / 121)
theorem index_1 : ∀ t : Fin cfg0.N, win0_1.index t (0 : Fin 2) = t.val % 11 ∧ win0_1.index t (1 : Fin 2) = t.val / 121 :=
  (by decide +kernel : ∀ t : Fin grid0.N, win0_1.index t (0 : Fin 2) = t.val % 11 ∧ win0_1.index t (1 : Fin 2) = t.val / 121)
theorem index_2 : ∀ t : Fin cfg0.N, win0_2.index t (0 : Fin 2) = t.val / 121 ∧ win0_2.index t (1 : Fin 2) = t.val % 11 :=
  (by decide +kernel : ∀ t : Fin grid0.N, win0_2.index t (0 : Fin 2) = t.val / 121 ∧ win0_2.index t (1 : Fin 2) = t.val % 11)
theorem index_3 : ∀ t : Fin cfg0.N, win0_3.index t (0 : Fin 2) = t.val % 11 ∧ win0_3.index t (1 : Fin 2) = t.val / 121 :=
  (by decide +kernel : ∀ t : Fin grid0.N, win0_3.index t (0 : Fin 2) = t.val % 11 ∧ win0_3.index t (1 : Fin 2) = t.val / 121)
theorem index_5 : ∀ t : Fin cfg0.N, win0_5.index t (0 : Fin 2) = t.val / 121 ∧ win0_5.index t (1 : Fin 2) = t.val / 11 % 11 :=
  (by decide +kernel : ∀ t : Fin grid0.N, win0_5.index t (0 : Fin 2) = t.val / 121 ∧ win0_5.index t (1 : Fin 2) = t.val / 11 % 11)
theorem index_6 : ∀ t : Fin cfg0.N, win0_6.index t (0 : Fin 3) = t.val / 121 ∧ win0_6.index t (1 : Fin 3) = 0 ∧ win0_6.index t (2 : Fin 3) = t.val / 11 % 11 :=
  (by decide +kernel : ∀ t : Fin grid0.N, win0_6.index t (0 : Fin 3) = t.val / 121 ∧ win0_6.index t (1 : Fin 3) = 0 ∧ win0_6.index t (2 : Fin 3) = t.val / 11 % 11)
theorem index_7 : ∀ t : Fin cfg0.N, win0_7.index t (0 : Fin 2) = t.val / 11 % 11 ∧ win0_7.index t (1 : Fin 2) = t.val / 121 :=
  (by decide +kernel : ∀ t : Fin grid0.N, win0_7.index t (0 : Fin 2) = t.val / 11 % 11 ∧ win0_7.index t (1 : Fin 2) = t.val / 121)
theorem index_8 : ∀ t : Fin cfg0.N, win0_8.index t (0 : Fin 2) = t.val / 121 ∧ win0_8.index t (1 : Fin 2) = t.val / 11 % 11 :=
  (by decide +kernel : ∀ t : Fin grid0.N, win0_8.index t (0 : Fin 2) = t.val / 121 ∧ win0_8.index t (1 : Fin 2) = t.val / 11 % 11)

section
variable {c : Dev nD} (W : (b : Ref sig .tc) → Buf (Elt F) ((c : Thread nD τ).loc b))

theorem read_q (t : Fin cfg0.N) (r : Fin 768) (d : Fin 256) :
    ((cfg0.win 0).blk t).view.read (Elt F) (W (Pipeline.arrRef spec0 0)) (ix2 r d) = W main_v86 (ix2 (row (qTile t) r) (colK (headOf t) d)) := by
  obtain ⟨e0, e1⟩ := index_0 t
  refine congrArg (W main_v86) (funext fun a => Fin.ext ?_)
  match a with
  | ⟨0, _⟩ => show win0_0.index t (0 : Fin 2) * 768 + 1 * r.val = t.val / 11 % 11 * 768 + r.val; omega
  | ⟨1, _⟩ => show win0_0.index t (1 : Fin 2) * 256 + 1 * d.val = t.val / 121 * 256 + d.val; omega

theorem read_k (t : Fin cfg0.N) (j : Fin 768) (d : Fin 256) :
    ((cfg0.win 1).blk t).view.read (Elt F) (W (Pipeline.arrRef spec0 1)) (ix2 j d) = W main_v87 (ix2 (row (kTile t) j) (colK (headOf t) d)) := by
  obtain ⟨e0, e1⟩ := index_1 t
  refine congrArg (W main_v87) (funext fun a => Fin.ext ?_)
  match a with
  | ⟨0, _⟩ => show win0_1.index t (0 : Fin 2) * 768 + 1 * j.val = t.val % 11 * 768 + j.val; omega
  | ⟨1, _⟩ => show win0_1.index t (1 : Fin 2) * 256 + 1 * d.val = t.val / 121 * 256 + d.val; omega

theorem read_kt (t : Fin cfg0.N) (d : Fin 256) (j : Fin 768) :
    ((cfg0.win 2).blk t).view.read (Elt F) (W (Pipeline.arrRef spec0 2)) (ix2 d j) = W main_v89 (ix2 (colK (headOf t) d) (row (kTile t) j)) := by
  obtain ⟨e0, e1⟩ := index_2 t
  refine congrArg (W main_v89) (funext fun a => Fin.ext ?_)
  match a with
  | ⟨0, _⟩ => show win0_2.index t (0 : Fin 2) * 256 + 1 * d.val = t.val / 121 * 256 + d.val; omega
  | ⟨1, _⟩ => show win0_2.index t (1 : Fin 2) * 768 + 1 * j.val = t.val % 11 * 768 + j.val; omega

theorem read_v (t : Fin cfg0.N) (j : Fin 768) (e : Fin 128) :
    ((cfg0.win 3).blk t).view.read (Elt F) (W (Pipeline.arrRef spec0 3)) (ix2 j e) = W main_v88 (ix2 (row (kTile t) j) (colV (headOf t) e)) := by
  obtain ⟨e0, e1⟩ := index_3 t
  refine congrArg (W main_v88) (funext fun a => Fin.ext ?_)
  match a with
  | ⟨0, _⟩ => show win0_3.index t (0 : Fin 2) * 768 + 1 * j.val = t.val % 11 * 768 + j.val; omega
  | ⟨1, _⟩ => show win0_3.index t (1 : Fin 2) * 128 + 1 * e.val = t.val / 121 * 128 + e.val; omega

theorem read_ot (t : Fin cfg0.N) (e : Fin 128) (r : Fin 768) :
    ((cfg0.win 5).blk t).view.read (Elt F) (W (Pipeline.arrRef spec0 5)) (ix2 e r) = W main_v43 (ix2 (colV (headOf t) e) (row (qTile t) r)) := by
  obtain ⟨e0, e1⟩ := index_5 t
  refine congrArg (W main_v43) (funext fun a => Fin.ext ?_)
  match a with
  | ⟨0, _⟩ => show win0_5.index t (0 : Fin 2) * 128 + 1 * e.val = t.val / 121 * 128 + e.val; omega
  | ⟨1, _⟩ => show win0_5.index t (1 : Fin 2) * 768 + 1 * r.val = t.val / 11 % 11 * 768 + r.val; omega

theorem read_lse (t : Fin cfg0.N) (r : Fin 768) :
    ((cfg0.win 6).blk t).view.read (Elt F) (W (Pipeline.arrRef spec0 6)) (ix3 0 0 r) = W main_v80 (ix3 (headOf t) 0 (row (qTile t) r)) := by
  obtain ⟨e0, e1, e2⟩ := index_6 t
  refine congrArg (W main_v80) (funext fun a => Fin.ext ?_)
  match a with
  | ⟨0, _⟩ => show win0_6.index t (0 : Fin 3) * 1 + 1 * 0 = t.val / 121; omega
  | ⟨1, _⟩ => show win0_6.index t (1 : Fin 3) * 8 + 1 * 0 = 0; omega
  | ⟨2, _⟩ => show win0_6.index t (2 : Fin 3) * 768 + 1 * r.val = t.val / 11 % 11 * 768 + r.val; omega

theorem read_o (t : Fin cfg0.N) (r : Fin 768) (e : Fin 128) :
    ((cfg0.win 7).blk t).view.read (Elt F) (W (Pipeline.arrRef spec0 7)) (ix2 r e) = W main_arg3 (ix2 (row (qTile t) r) (colV (headOf t) e)) := by
  obtain ⟨e0, e1⟩ := index_7 t
  refine congrArg (W main_arg3) (funext fun a => Fin.ext ?_)
  match a with
  | ⟨0, _⟩ => show win0_7.index t (0 : Fin 2) * 768 + 1 * r.val = t.val / 11 % 11 * 768 + r.val; omega
  | ⟨1, _⟩ => show win0_7.index t (1 : Fin 2) * 128 + 1 * e.val = t.val / 121 * 128 + e.val; omega

theorem read_od (t : Fin cfg0.N) (e : Fin 128) (r : Fin 768) :
    ((cfg0.win 8).blk t).view.read (Elt F) (W (Pipeline.arrRef spec0 8)) (ix2 e r) = W main_v90 (ix2 (colV (headOf t) e) (row (qTile t) r)) := by
  obtain ⟨e0, e1⟩ := index_8 t
  refine congrArg (W main_v90) (funext fun a => Fin.ext ?_)
  match a with
  | ⟨0, _⟩ => show win0_8.index t (0 : Fin 2) * 128 + 1 * e.val = t.val / 121 * 128 + e.val; omega
  | ⟨1, _⟩ => show win0_8.index t (1 : Fin 2) * 768 + 1 * r.val = t.val / 11 % 11 * 768 + r.val; omega

end

theorem blk_q (c : Dev nD) (t : Fin cfg0.N) (r : Fin 768) (d : Fin 256) : (blk m c t).q (ix2 r d) = V m c main_v86 (ix2 (row (qTile t) r) (colK (headOf t) d)) :=
  read_q (V m c) t r d
theorem blk_k (c : Dev nD) (t : Fin cfg0.N) (j : Fin 768) (d : Fin 256) : (blk m c t).k (ix2 j d) = V m c main_v87 (ix2 (row (kTile t) j) (colK (headOf t) d)) :=
  read_k (V m c) t j d
theorem blk_kt (c : Dev nD) (t : Fin cfg0.N) (d : Fin 256) (j : Fin 768) : (blk m c t).kt (ix2 d j) = V m c main_v89 (ix2 (colK (headOf t) d) (row (kTile t) j)) :=
  read_kt (V m c) t d j
theorem blk_v (c : Dev nD) (t : Fin cfg0.N) (j : Fin 768) (e : Fin 128) : (blk m c t).v (ix2 j e) = V m c main_v88 (ix2 (row (kTile t) j) (colV (headOf t) e)) :=
  read_v (V m c) t j e
theorem blk_ot (c : Dev nD) (t : Fin cfg0.N) (e : Fin 128) (r : Fin 768) : (blk m c t).ot (ix2 e r) = V m c main_v43 (ix2 (colV (headOf t) e) (row (qTile t) r)) :=
  read_ot (V m c) t e r
theorem blk_lse (c : Dev nD) (t : Fin cfg0.N) (r : Fin 768) : (blk m c t).lse (ix3 0 0 r) = V m c main_v80 (ix3 (headOf t) 0 (row (qTile t) r)) :=
  read_lse (V m c) t r
theorem blk_o (c : Dev nD) (t : Fin cfg0.N) (r : Fin 768) (e : Fin 128) : (blk m c t).o (ix2 r e) = V m c main_arg3 (ix2 (row (qTile t) r) (colV (headOf t) e)) :=
  read_o (V m c) t r e
theorem blk_od (c : Dev nD) (t : Fin cfg0.N) (e : Fin 128) (r : Fin 768) : (blk m c t).od (ix2 e r) = V m c main_v90 (ix2 (colV (headOf t) e) (row (qTile t) r)) :=
  read_od (V m c) t e r

end Cert.KernelIdeal.Value

end
-- ==== Proof.Carried.lean ====
/- What is carried through the grid, and what the launch's result arrays hold. -/
module

public import proofs.«01_k».proof.Proof.Tiles
public import proofs.«01_k».proof.Proof.Windows
public import Idealize.ShloMosaic.Lib.Pipeline.ArrRel

@[expose] public section

set_option maxRecDepth 16384

noncomputable section

namespace Cert.KernelIdeal.Value

open Idealize.ShloMosaic Idealize.ShloMosaic.TcCoe Idealize.SL.Sem
open Cert.KernelIdeal Cert.KernelIdeal.Gen Attn

variable (m : (ℓ : Loc nD τ sig) → Buf (Elt Ideal) ℓ) (c : Dev nD)
variable (q k : Fin 6 → Fin 8448 → Fin 256 → ℝ) (v o : Fin 6 → Fin 8448 → Fin 128 → ℝ)

/-- Every grid point's blocks are those of its head's arrays. -/
def AllRead : Prop :=
  ∀ t : Fin cfg0.N, BlockReads (q (headOf t)) (k (headOf t)) (v (headOf t)) (o (headOf t)) (qTile t) (kTile t) (blk m c t)

variable {m c q k v o}

/-- After every point the carried arrays hold the sums up to its query tile and its key tile. -/
theorem ready_of (hB : AllRead m c q k v o) (n : ℕ) (hn : n < cfg0.N) :
    Ready (q (headOf ⟨n, hn⟩)) (k (headOf ⟨n, hn⟩)) (v (headOf ⟨n, hn⟩)) (o (headOf ⟨n, hn⟩)) (qTile ⟨n, hn⟩) ((kTile ⟨n, hn⟩).val + 1)
      (carried m c (n + 1)) := by
  induction n with
  | zero =>
    rw [carried_succ m c ⟨0, hn⟩, stepAt, if_pos ((cond3_iff ⟨0, hn⟩).2 (show 0 / 11 % 11 = 0 by norm_num)),
      if_pos ((cond2_iff ⟨0, hn⟩).2 (Nat.zero_mod 11)), if_pos ((cond1_iff ⟨0, hn⟩).2 (Nat.zero_mod 121))]
    exact (ready_newHead (st := kTile ⟨0, hn⟩) (show 0 / 11 % 11 = 0 by norm_num) _ (hB ⟨0, hn⟩)).stepM (hB ⟨0, hn⟩) _ (coords_1 ⟨0, hn⟩) (coords_2 ⟨0, hn⟩)
  | succ n ih =>
    have hn' : n < cfg0.N := Nat.lt_of_succ_lt hn
    have hlt : n + 1 < 726 := N_0 ▸ hn
    have hr := ih hn'
    have hx := hB ⟨n + 1, hn⟩
    -- what is carried into the point's key tile
    have hin : Ready (q (headOf ⟨n + 1, hn⟩)) (k (headOf ⟨n + 1, hn⟩)) (v (headOf ⟨n + 1, hn⟩)) (o (headOf ⟨n + 1, hn⟩)) (qTile ⟨n + 1, hn⟩)
        (kTile ⟨n + 1, hn⟩).val
        (if k0_cond2 (grid0.coords ⟨n + 1, hn⟩) = 1#1 then newTile (blk m c ⟨n + 1, hn⟩)
            (if k0_cond1 (grid0.coords ⟨n + 1, hn⟩) = 1#1 then newHead (carried m c (n + 1)) else carried m c (n + 1))
          else if k0_cond1 (grid0.coords ⟨n + 1, hn⟩) = 1#1 then newHead (carried m c (n + 1)) else carried m c (n + 1)) := by
      by_cases h2 : (n + 1) % 11 = 0
      · have hk : (kTile ⟨n + 1, hn⟩).val = 0 := h2
        rw [if_pos ((cond2_iff ⟨n + 1, hn⟩).2 h2), hk]
        by_cases h1 : (n + 1) % 121 = 0
        · rw [if_pos ((cond1_iff ⟨n + 1, hn⟩).2 h1)]
          exact ready_newHead (show (n + 1) / 11 % 11 = 0 by omega) _ hx
        · rw [if_neg (fun e => h1 ((cond1_iff ⟨n + 1, hn⟩).1 e))]
          have eh : headOf ⟨n, hn'⟩ = headOf ⟨n + 1, hn⟩ := Fin.ext (show n / 121 = (n + 1) / 121 by omega)
          have ek : (kTile ⟨n, hn'⟩).val + 1 = 11 := show n % 11 + 1 = 11 by omega
          rw [eh, ek] at hr
          exact hr.newTile (show (n + 1) / 11 % 11 = n / 11 % 11 + 1 by omega) hx
      · have h1 : ¬ (n + 1) % 121 = 0 := by omega
        rw [if_neg (fun e => h2 ((cond2_iff ⟨n + 1, hn⟩).1 e)), if_neg (fun e => h1 ((cond1_iff ⟨n + 1, hn⟩).1 e))]
        have eh : headOf ⟨n, hn'⟩ = headOf ⟨n + 1, hn⟩ := Fin.ext (show n / 121 = (n + 1) / 121 by omega)
        have eq : qTile ⟨n, hn'⟩ = qTile ⟨n + 1, hn⟩ := Fin.ext (show n / 11 % 11 = (n + 1) / 11 % 11 by omega)
        have ek : (kTile ⟨n, hn'⟩).val + 1 = (kTile ⟨n + 1, hn⟩).val := show n % 11 + 1 = (n + 1) % 11 by omega
        rw [eh, eq, ek] at hr
        exact hr
    rw [carried_succ m c ⟨n + 1, hn⟩, stepAt]
    by_cases h3 : (n + 1) / 11 % 11 = 0
    · rw [if_pos ((cond3_iff ⟨n + 1, hn⟩).2 h3)]
      exact hin.stepM hx _ (coords_1 ⟨n + 1, hn⟩) (coords_2 ⟨n + 1, hn⟩)
    · rw [if_neg (fun e => h3 ((cond3_iff ⟨n + 1, hn⟩).1 e))]
      exact hin.stepU hx _ (show 1 ≤ (n + 1) / 11 % 11 by omega) (coords_2 ⟨n + 1, hn⟩)

variable (q k v o)

/-- The gradients as the launch leaves them: of the queries, transposed, -/
def dqT : Vec Ideal S1536x8448 .bf16 := fun i => (Attn.dq (q (headK (i 0))) (k (headK (i 0))) (v (headK (i 0))) (o (headK (i 0))) (i 1) (inK (i 0)) : EReal)
/-- of the keys -/
def dkA : Vec Ideal S8448x1536 .f32 := fun i => (dk_ (q (headK (i 1))) (k (headK (i 1))) (v (headK (i 1))) (o (headK (i 1))) (i 0) (inK (i 1)) : EReal)
/-- and of the values. -/
def dvA : Vec Ideal S8448x768 .f32 := fun i => (dv_ (q (headV (i 1))) (k (headV (i 1))) (o (headV (i 1))) (i 0) (inV (i 1)) : EReal)

variable {q k v o}

theorem index_9 : ∀ t : Fin cfg0.N, win0_9.index t (0 : Fin 2) = t.val / 121 ∧ win0_9.index t (1 : Fin 2) = t.val / 11 % 11 :=
  (by decide +kernel : ∀ t : Fin grid0.N, win0_9.index t (0 : Fin 2) = t.val / 121 ∧ win0_9.index t (1 : Fin 2) = t.val / 11 % 11)
theorem index_10 : ∀ t : Fin cfg0.N, win0_10.index t (0 : Fin 2) = 0 ∧ win0_10.index t (1 : Fin 2) = t.val / 121 :=
  (by decide +kernel : ∀ t : Fin grid0.N, win0_10.index t (0 : Fin 2) = 0 ∧ win0_10.index t (1 : Fin 2) = t.val / 121)
theorem index_11 : ∀ t : Fin cfg0.N, win0_11.index t (0 : Fin 2) = 0 ∧ win0_11.index t (1 : Fin 2) = t.val / 121 :=
  (by decide +kernel : ∀ t : Fin grid0.N, win0_11.index t (0 : Fin 2) = 0 ∧ win0_11.index t (1 : Fin 2) = t.val / 121)

/-- What a point that writes a block of the queries' gradient writes there. -/
theorem block_9 (hB : AllRead m c q k v o) (t : Fin cfg0.N) (hf : t.val % 11 = 10) (y : S256x768.Idx) :
    k0_pay12 (carried m c (t.val + 1)).acc y = dqT q k v o (((cfg0.win 9).blk t).view.emb y) := by
  have hr := ready_of hB t.val t.isLt
  have ek : (kTile t).val + 1 = 11 := show t.val % 11 + 1 = 11 by omega
  rw [ek] at hr
  obtain ⟨e0, e1⟩ := index_9 t
  have hy0 : (y 0).val < 256 := (y 0).isLt
  have hy1 : (y 1).val < 768 := (y 1).isLt
  have hy : y = ix2 (y 0) (y 1) := eq_ix2 y
  have hb0 : (((cfg0.win 9).blk t).view.emb y 0).val = win0_9.index t (0 : Fin 2) * 256 + 1 * (y 0).val := rfl
  have hb1 : (((cfg0.win 9).blk t).view.emb y 1).val = win0_9.index t (1 : Fin 2) * 768 + 1 * (y 1).val := rfl
  have hh : headK (((cfg0.win 9).blk t).view.emb y 0) = headOf t := Fin.ext (by
    show (((cfg0.win 9).blk t).view.emb y 0).val / 256 = t.val / 121
    rw [hb0]; omega)
  have hd : inK (((cfg0.win 9).blk t).view.emb y 0) = y 0 := Fin.ext (by
    show (((cfg0.win 9).blk t).view.emb y 0).val % 256 = (y 0).val
    rw [hb0]; omega)
  have hi : (((cfg0.win 9).blk t).view.emb y 1 : Fin 8448) = row (qTile t) (y 1) := Fin.ext (by
    show (((cfg0.win 9).blk t).view.emb y 1).val = t.val / 11 % 11 * 768 + (y 1).val
    rw [hb1]; omega)
  unfold dqT
  rw [hh, hd, hi]
  exact (congrArg _ hy).trans (hr.dq (y 0) (y 1))

theorem block_10 (hB : AllRead m c q k v o) (t : Fin cfg0.N) (hf : t.val % 121 = 120) (y : S8448x256.Idx) :
    (carried m c (t.val + 1)).dk y = dkA q k v o (((cfg0.win 10).blk t).view.emb y) := by
  have hr := ready_of hB t.val t.isLt
  have ek : (kTile t).val + 1 = 11 := show t.val % 11 + 1 = 11 by omega
  rw [ek] at hr
  obtain ⟨e0, e1⟩ := index_10 t
  have hy1 : (y 1).val < 256 := (y 1).isLt
  have hy : y = ix2 (y 0) (y 1) := eq_ix2 y
  have hb0 : (((cfg0.win 10).blk t).view.emb y 0).val = win0_10.index t (0 : Fin 2) * 8448 + 1 * (y 0).val := rfl
  have hb1 : (((cfg0.win 10).blk t).view.emb y 1).val = win0_10.index t (1 : Fin 2) * 256 + 1 * (y 1).val := rfl
  have hh : headK (((cfg0.win 10).blk t).view.emb y 1) = headOf t := Fin.ext (by
    show (((cfg0.win 10).blk t).view.emb y 1).val / 256 = t.val / 121
    rw [hb1]; omega)
  have hd : inK (((cfg0.win 10).blk t).view.emb y 1) = y 1 := Fin.ext (by
    show (((cfg0.win 10).blk t).view.emb y 1).val % 256 = (y 1).val
    rw [hb1]; omega)
  have hi : (((cfg0.win 10).blk t).view.emb y 0 : Fin 8448) = y 0 := Fin.ext (by rw [hb0]; omega)
  unfold dkA
  rw [hh, hd, hi]
  exact (congrArg _ hy).trans (hr.dk_all (show t.val / 11 % 11 = 10 by omega) (y 0) (y 1))

theorem block_11 (hB : AllRead m c q k v o) (t : Fin cfg0.N) (hf : t.val % 121 = 120) (y : S8448x128.Idx) :
    (carried m c (t.val + 1)).dv y = dvA q k o (((cfg0.win 11).blk t).view.emb y) := by
  have hr := ready_of hB t.val t.isLt
  have ek : (kTile t).val + 1 = 11 := show t.val % 11 + 1 = 11 by omega
  rw [ek] at hr
  obtain ⟨e0, e1⟩ := index_11 t
  have hy1 : (y 1).val < 128 := (y 1).isLt
  have hy : y = ix2 (y 0) (y 1) := eq_ix2 y
  have hb0 : (((cfg0.win 11).blk t).view.emb y 0).val = win0_11.index t (0 : Fin 2) * 8448 + 1 * (y 0).val := rfl
  have hb1 : (((cfg0.win 11).blk t).view.emb y 1).val = win0_11.index t (1 : Fin 2) * 128 + 1 * (y 1).val := rfl
  have hh : headV (((cfg0.win 11).blk t).view.emb y 1) = headOf t := Fin.ext (by
    show (((cfg0.win 11).blk t).view.emb y 1).val / 128 = t.val / 121
    rw [hb1]; omega)
  have hd : inV (((cfg0.win 11).blk t).view.emb y 1) = y 1 := Fin.ext (by
    show (((cfg0.win 11).blk t).view.emb y 1).val % 128 = (y 1).val
    rw [hb1]; omega)
  have hi : (((cfg0.win 11).blk t).view.emb y 0 : Fin 8448) = y 0 := Fin.ext (by rw [hb0]; omega)
  unfold dvA
  rw [hh, hd, hi]
  exact (congrArg _ hy).trans (hr.dv_all (show t.val / 11 % 11 = 10 by omega) (y 0) (y 1))

/-- Exact data that a launch may have followed agree with these on the gradient windows wherever a block is written back. -/
theorem leaves_eq {w : Fin cfg0.W} (hw : forgets0 w = false) (hl : cfg0.loose w = false) {t : Fin cfg0.N} (hf : (cfg0.win w).flush t = true)
    {X : (cfg0.win w).block.Idx → Elt Ideal (cfg0.win w).elt} (h : ((dats m 0 c).toRForget forgets0).Leaves w t X) : X = (dats m 0 c).after w t := by
  obtain ⟨Y, -, h⟩ := h
  have h' : (dats m 0 c).Leaves w t X := by
    unfold Pipeline.Dat.toRForget Pipeline.RDat.override at h
    simp only [hw] at h
    exact h
  have := (Pipeline.Dat.Leaves.live_iff (dats m 0 c) (Or.inr hf)).1 h'
  rw [hl] at this
  exact this

set_option maxHeartbeats 1600000 in
/-- The launch leaves the three gradients in its result arrays. -/
theorem results (hB : AllRead m c q k v o) {r : PUnit × MemSt nD τ sig (Elt Ideal)}
    (h : (Pipeline.RDat.FramePost (cfgs 0) (fun c => (dats m 0 c).toRForget forgets0) (V m)) r) :
    r.2.mem ((c : Thread nD τ).loc main_v91_0) = dqT q k v o ∧ r.2.mem ((c : Thread nD τ).loc main_v91_1) = dkA q k v o
      ∧ r.2.mem ((c : Thread nD τ).loc main_v91_2) = dvA q k o := by
  obtain ⟨after, hL, hA⟩ := Pipeline.RDat.FramePost.exists_exact h c
  refine ⟨(hA 9).trans ?_, (hA 10).trans ?_, (hA 11).trans ?_⟩
  · refine Pipeline.Dat.arrAt_eq_of_covers (cfg := cfg0) (c := c) (((dats m 0 c).toRForget forgets0).withAfter after) 9 (dqT q k v o) (by decide +kernel) fun t hf y => ?_
    have e := leaves_eq rfl rfl hf (hL 9 t hf)
    exact (congrFun e _).trans (block_9 hB t ((flush0_9 t).1 hf) y)
  · refine Pipeline.Dat.arrAt_eq_of_covers (cfg := cfg0) (c := c) (((dats m 0 c).toRForget forgets0).withAfter after) 10 (dkA q k v o) (by decide +kernel) fun t hf y => ?_
    have e := leaves_eq rfl rfl hf (hL 10 t hf)
    exact (congrFun e _).trans (block_10 hB t ((flush0_10 t).1 hf) y)
  · refine Pipeline.Dat.arrAt_eq_of_covers (cfg := cfg0) (c := c) (((dats m 0 c).toRForget forgets0).withAfter after) 11 (dvA q k o) (by decide +kernel) fun t hf y => ?_
    have e := leaves_eq rfl rfl hf (hL 11 t hf)
    exact (congrFun e _).trans (block_11 hB t ((flush0_11 t).1 hf) y)

end Cert.KernelIdeal.Value

end
-- ==== Proof.HostReads.lean ====
/- The arrays that the host lines hand the launch, over the real numbers. -/
module

public import proofs.«01_k».proof.Proof.HostStages
public import proofs.«01_k».proof.Proof.RefReadsC
public import proofs.«01_k».proof.Proof.RefReadsL
public import proofs.«01_k».proof.Proof.Carried

@[expose] public section

set_option maxRecDepth 16384

noncomputable section

namespace Cert.KernelIdeal.Value

open Idealize.ShloMosaic Idealize.ShloMosaic.TcCoe Idealize.SL.Sem
open Cert.KernelIdeal Cert.KernelIdeal.Gen Attn
open Cert.ReferenceIdeal.Value (scC scL maxC maxL topC topL alongC alongL exC exL sumC sumL wtC wtL ctxV v3 weightsC weightsL logC logL)

variable {a0 a1 : FVec Ideal S8448x1536 .f32} {a2 a3 : FVec Ideal S8448x768 .f32}
variable {q k : Fin 6 → Fin 8448 → Fin 256 → ℝ} {v o : Fin 6 → Fin 8448 → Fin 128 → ℝ}

/-- The queries come scaled. -/
theorem qsA_eq (h0 : ∀ i h d, a0 (ix2 i (colK h d)) = (q h i d : EReal)) (h : Fin 6) (i : Fin 8448) (d : Fin 256) :
    qsA a0 (ix2 i (colK h d)) = (qs (q h) i d : EReal) := by
  have e : qsA a0 (ix2 i (colK h d)) = Ideal.div (a0 (ix2 i (colK h d))) (Ideal.sqrt (Ideal.ofBits FTy.f32 1128267776#32) * Ideal.log (Ideal.ofBits FTy.f32 1073741824#32)) := by
    unfold qsA
    pointwise <;> rfl
  rw [e, h0, sqrt_192, log_two, ← EReal.coe_mul, div_real _ (mul_ne_zero sqrt192_pos.ne' log2_pos.ne')]
  rfl

theorem kT_apply (a : Fin 1536) (i : Fin 8448) : kT a1 (ix2 a i) = a1 (ix2 i a) := by
  unfold kT kA
  pointwise <;> rfl

theorem oT_apply (a : Fin 768) (i : Fin 8448) : oT a3 (ix2 a i) = a3 (ix2 i a) := by
  unfold oT
  pointwise <;> rfl

theorem outC_apply (i : Fin 256) (h : Fin 6) (e : Fin 128) : outC a0 a1 a2 (ix3 i h e)
    = ∑ x : Fin 256, a2 (ix2 (ctx x) (colV h e)) * wtC (exC (scC a0 a1) (topC (scC a0 a1))) (ix3 h i x) := by
  unfold outC
  generalize wtC (exC (scC a0 a1) (topC (scC a0 a1))) = w
  pointwise <;> rfl

theorem outL_apply (i : Fin 8192) (h : Fin 6) (e : Fin 128) : outL a0 a1 a2 (ix3 i h e)
    = ∑ x : Fin 8448, a2 (ix2 x (colV h e)) * wtL (exL (scL a0 a1) (topL (scL a0 a1))) (ix3 h i x) := by
  unfold outL
  generalize wtL (exL (scL a0 a1) (topL (scL a0 a1))) = w
  pointwise <;> rfl

theorem headV_colV (h : Fin 6) (e : Fin 128) : headV (colV h e) = h :=
  Fin.ext (show (h.val * 128 + e.val) / 128 = h.val by have := e.isLt; omega)
theorem inV_colV (h : Fin 6) (e : Fin 128) : inV (colV h e) = e :=
  Fin.ext (show (h.val * 128 + e.val) % 128 = e.val by have := e.isLt; omega)

/-- The forward result, transposed, is made of the context rows and the latent rows. -/
theorem outT_apply (a : Fin 768) (i : Fin 8448) : outT a0 a1 a2 (ix2 a i)
    = if h : i.val < 256 then outC a0 a1 a2 (ix3 ⟨i.val, h⟩ (headV a) (inV a))
      else outL a0 a1 a2 (ix3 ⟨i.val - 256, by have := i.isLt; omega⟩ (headV a) (inV a)) := by
  unfold outT
  generalize outC a0 a1 a2 = x
  generalize outL a0 a1 a2 = y
  pointwise <;> rfl

theorem lseA_apply (h : Fin 6) (i : Fin 8448) : lseA a0 a1 (ix3 h 0 i)
    = Ideal.div (if h' : i.val < 256 then lseC a0 a1 (ix2 h ⟨i.val, h'⟩) else lseL a0 a1 (ix2 h ⟨i.val - 256, by have := i.isLt; omega⟩))
      (Ideal.log (Ideal.ofBits FTy.f32 1073741824#32)) := by
  unfold lseA
  generalize lseC a0 a1 = x
  generalize lseL a0 a1 = y
  pointwise <;> rfl

/-- The logarithms of the totals, -/
theorem lseC_apply (h : Fin 6) (i : Fin 256) : lseC a0 a1 (ix2 h i)
    = Ideal.log (sumC (exC (scC a0 a1) (maxC (scC a0 a1))) (ix2 h i)) + maxC (scC a0 a1) (ix2 h i) := by
  unfold lseC
  generalize sumC (exC (scC a0 a1) (maxC (scC a0 a1))) = x
  generalize maxC (scC a0 a1) = y
  pointwise <;> rfl

theorem lseL_apply (h : Fin 6) (i : Fin 8192) : lseL a0 a1 (ix2 h i)
    = Ideal.log (sumL (exL (scL a0 a1) (maxL (scL a0 a1))) (ix2 h i)) + maxL (scL a0 a1) (ix2 h i) := by
  unfold lseL
  generalize sumL (exL (scL a0 a1) (maxL (scL a0 a1))) = x
  generalize maxL (scL a0 a1) = y
  pointwise <;> rfl

theorem lat_of (i : Fin 8192) : (⟨(lat i).val - 256, by have := (lat i).isLt; omega⟩ : Fin 8192) = i :=
  Fin.ext (show 256 + i.val - 256 = i.val by omega)

section
variable (h0 : ∀ i h d, a0 (ix2 i (colK h d)) = (q h i d : EReal)) (h1 : ∀ i h d, a1 (ix2 i (colK h d)) = (k h i d : EReal))
include h0 h1

/-- The forward result is the attention's output. -/
theorem outT_eq (h2 : ∀ i h d, a2 (ix2 i (colV h d)) = (v h i d : EReal)) (h : Fin 6) (e : Fin 128) (i : Fin 8448) :
    outT a0 a1 a2 (ix2 (colV h e) i) = (out (q h) (k h) (v h) i e : EReal) := by
  unfold out
  rw [outT_apply, headV_colV, inV_colV]
  rcases eq_ctx_or_lat i with ⟨n, rfl⟩ | ⟨n, rfl⟩
  · rw [dif_pos (show (ctx n).val < 256 from n.isLt), sum_ctx_lat]
    refine (outC_apply n h e).trans ?_
    simp only [weightsC h0 h1, h2, ← EReal.coe_mul, ← coe_sum, prob_zero, zero_mul, Finset.sum_const_zero, add_zero]
    exact congrArg _ (Finset.sum_congr rfl fun x _ => mul_comm _ _)
  · rw [dif_neg (show ¬ (lat n).val < 256 by rw [lat_val]; omega), lat_of, outL_apply]
    simp only [weightsL h0 h1, h2, ← EReal.coe_mul, ← coe_sum]
    exact congrArg _ (Finset.sum_congr rfl fun x _ => mul_comm _ _)

/-- The logarithms are the totals', to the base two. -/
theorem lseA_eq (h : Fin 6) (i : Fin 8448) : lseA a0 a1 (ix3 h 0 i) = ((Real.log (total (q h) (k h) i) / Real.log 2 : ℝ) : EReal) := by
  rw [lseA_apply, log_two, ← div_real _ log2_pos.ne']
  refine congrArg (fun x => Ideal.div x _) ?_
  rcases eq_ctx_or_lat i with ⟨n, rfl⟩ | ⟨n, rfl⟩
  · rw [dif_pos (show (ctx n).val < 256 from n.isLt)]
    exact (lseC_apply h n).trans (logC h0 h1 h n)
  · rw [dif_neg (show ¬ (lat n).val < 256 by rw [lat_val]; omega), lat_of, lseL_apply, logL h0 h1]
end

variable (m : (ℓ : Loc nD τ sig) → Buf (Elt Ideal) ℓ) (c : Dev nD)

/-- Every grid point takes its head's arrays. -/
theorem allRead
    (h0 : ∀ i h d, (m ((c : Thread nD τ).loc main_arg0) : FVec Ideal S8448x1536 .f32) (ix2 i (colK h d)) = (q h i d : EReal))
    (h1 : ∀ i h d, (m ((c : Thread nD τ).loc main_arg1) : FVec Ideal S8448x1536 .f32) (ix2 i (colK h d)) = (k h i d : EReal))
    (h2 : ∀ i h d, (m ((c : Thread nD τ).loc main_arg2) : FVec Ideal S8448x768 .f32) (ix2 i (colV h d)) = (v h i d : EReal))
    (h3 : ∀ i h d, (m ((c : Thread nD τ).loc main_arg3) : FVec Ideal S8448x768 .f32) (ix2 i (colV h d)) = (o h i d : EReal)) :
    AllRead m c q k v o := fun t =>
  { q_eq := fun r d => by rw [blk_q, V_v86]; exact qsA_eq h0 _ _ _
    k_eq := fun j d => by rw [blk_k, V_v87]; exact h1 _ _ _
    kt_eq := fun d j => by rw [blk_kt, V_v89]; exact (kT_apply _ _).trans (h1 _ _ _)
    v_eq := fun j e => by rw [blk_v, V_v88]; exact h2 _ _ _
    ot_eq := fun e r => by rw [blk_ot, V_v43]; exact outT_eq h0 h1 h2 _ _ _
    lse_eq := fun r => by rw [blk_lse, V_v80]; exact lseA_eq h0 h1 _ _
    o_eq := fun r e => by rw [blk_o]; exact h3 _ _ _
    od_eq := fun e r => by rw [blk_od, V_v90]; exact (oT_apply _ _).trans (h3 _ _ _) }

end Cert.KernelIdeal.Value

end
-- ==== Proof.RefPlace.lean ====
/- Where the reference puts the context's and the latent rows' gradients in its three results. -/
module

public import proofs.«01_k».proof.Proof.RefStages
public import proofs.«01_k».proof.Proof.Rows

@[expose] public section

set_option maxRecDepth 16384

noncomputable section

namespace Cert.ReferenceIdeal.Value

open Idealize.ShloMosaic Idealize.SL.Sem
open Cert.ReferenceIdeal Cert.ReferenceIdeal.Gen Attn

variable (a0 a1 : FVec Ideal S8448x1536 .f32) (a2 a3 : FVec Ideal S8448x768 .f32)

/-- The gradient of the values at a context row, -/
theorem dvA_ctx (j : Fin 256) (a : Fin 768) : dvA a0 a1 a3 (ix2 (ctx j) a)
    = dvL (exL (scL a0 a1) (topL (scL a0 a1))) a3 (ix3 (ctx j) (headV a) (inV a)) + dvC (exC (scC a0 a1) (topC (scC a0 a1))) a3 (ix3 j (headV a) (inV a)) := by
  unfold dvA
  generalize dvL (exL (scL a0 a1) (topL (scL a0 a1))) a3 = x
  generalize dvC (exC (scC a0 a1) (topC (scC a0 a1))) a3 = y
  pointwise
  rw [dif_pos ⟨j.isLt, show a.val / 128 < 6 by have := a.isLt; omega, Nat.mod_lt _ (by norm_num)⟩]
  rfl

/-- and at a latent row. -/
theorem dvA_lat (j : Fin 8192) (a : Fin 768) : dvA a0 a1 a3 (ix2 (lat j) a)
    = dvL (exL (scL a0 a1) (topL (scL a0 a1))) a3 (ix3 (lat j) (headV a) (inV a)) := by
  unfold dvA
  generalize dvL (exL (scL a0 a1) (topL (scL a0 a1))) a3 = x
  generalize dvC (exC (scC a0 a1) (topC (scC a0 a1))) a3 = y
  pointwise
  rw [dif_neg (fun h => by have h1 := h.1; rw [lat_val] at h1; omega), add_zero]
  rfl

/-- The gradient of the keys at a context row, -/
theorem dkA_ctx (j : Fin 256) (a : Fin 1536) : dkA a0 a1 a2 a3 (ix2 (ctx j) a)
    = dkL (dsL (exL (scL a0 a1) (topL (scL a0 a1))) (dpL a2 a3)) a0 (ix3 (ctx j) (headK a) (inK a))
      + dkC (dsC (exC (scC a0 a1) (topC (scC a0 a1))) (dpC a2 a3)) a0 (ix3 j (headK a) (inK a)) := by
  unfold dkA
  generalize dkL _ a0 = x
  generalize dkC _ a0 = y
  pointwise
  rw [dif_pos ⟨j.isLt, show a.val / 256 < 6 by have := a.isLt; omega, Nat.mod_lt _ (by norm_num)⟩]
  rfl

/-- and at a latent row. -/
theorem dkA_lat (j : Fin 8192) (a : Fin 1536) : dkA a0 a1 a2 a3 (ix2 (lat j) a)
    = dkL (dsL (exL (scL a0 a1) (topL (scL a0 a1))) (dpL a2 a3)) a0 (ix3 (lat j) (headK a) (inK a)) := by
  unfold dkA
  generalize dkL _ a0 = x
  generalize dkC _ a0 = y
  pointwise
  rw [dif_neg (fun h => by have h1 := h.1; rw [lat_val] at h1; omega), add_zero]
  rfl

/-- The gradient of the queries, transposed, at a context row, -/
theorem dqT_ctx (a : Fin 1536) (j : Fin 256) : dqT a0 a1 a2 a3 (ix2 a (ctx j))
    = dqC (dsC (exC (scC a0 a1) (topC (scC a0 a1))) (dpC a2 a3)) a1 (ix3 j (headK a) (inK a)) := by
  unfold dqT
  generalize dqL _ a1 = x
  generalize dqC _ a1 = y
  pointwise
  rw [dif_neg (fun h => by have h1 := h.1.1; rw [ctx_val] at h1; have := j.isLt; omega), dif_pos ⟨j.isLt, show a.val / 256 < 6 by have := a.isLt; omega, Nat.mod_lt _ (by norm_num)⟩, zero_add]
  rfl

/-- and at a latent row. -/
theorem dqT_lat (a : Fin 1536) (j : Fin 8192) : dqT a0 a1 a2 a3 (ix2 a (lat j))
    = dqL (dsL (exL (scL a0 a1) (topL (scL a0 a1))) (dpL a2 a3)) a1 (ix3 j (headK a) (inK a)) := by
  unfold dqT
  generalize dqL _ a1 = x
  generalize dqC _ a1 = y
  pointwise
  rw [dif_pos ⟨⟨by rw [lat_val]; omega, by rw [lat_val]; have := j.isLt; omega⟩, show a.val / 256 < 6 by have := a.isLt; omega, Nat.mod_lt _ (by norm_num)⟩,
    dif_neg (fun h => by have h1 := h.1; rw [lat_val] at h1; omega), add_zero]
  exact congrArg (fun n => x (ix3 n _ _)) (Fin.ext (by show 256 + j.val - 256 = j.val; omega))

end Cert.ReferenceIdeal.Value

end
-- ==== Proof.RefValue.lean ====
/- The reference's three results are the attention's gradients, over the real numbers. -/
module

public import proofs.«01_k».proof.Proof.RefReadsC
public import proofs.«01_k».proof.Proof.RefReadsL
public import proofs.«01_k».proof.Proof.RefPlace

@[expose] public section

set_option maxRecDepth 16384

noncomputable section

namespace Cert.ReferenceIdeal.Value

open Idealize.ShloMosaic Idealize.SL.Sem
open Cert.ReferenceIdeal Cert.ReferenceIdeal.Gen Attn

variable {a0 a1 : FVec Ideal S8448x1536 .f32} {a2 a3 : FVec Ideal S8448x768 .f32}
variable {q k : Fin 6 → Fin 8448 → Fin 256 → ℝ} {v o : Fin 6 → Fin 8448 → Fin 128 → ℝ}
variable (h0 : ∀ i h d, a0 (ix2 i (colK h d)) = (q h i d : EReal)) (h1 : ∀ i h d, a1 (ix2 i (colK h d)) = (k h i d : EReal))
variable (h2 : ∀ i h d, a2 (ix2 i (colV h d)) = (v h i d : EReal)) (h3 : ∀ i h d, a3 (ix2 i (colV h d)) = (o h i d : EReal))

section
include h0 h1 h3

/-- The latent rows' share of the gradient of the values, -/
theorem dvL_value (j : Fin 8448) (h : Fin 6) (d : Fin 128) : dvL (exL (scL a0 a1) (topL (scL a0 a1))) a3 (ix3 j h d)
    = ((∑ x, prob (q h) (k h) (lat x) j * o h (lat x) d : ℝ) : EReal) := by
  rw [dvL_apply]
  simp only [weightsL h0 h1, h3, ← EReal.coe_mul, ← coe_sum]
  exact congrArg _ (Finset.sum_congr rfl fun x _ => mul_comm _ _)

/-- and the context rows' share. -/
theorem dvC_value (j : Fin 256) (h : Fin 6) (d : Fin 128) : dvC (exC (scC a0 a1) (topC (scC a0 a1))) a3 (ix3 j h d)
    = ((∑ x, prob (q h) (k h) (ctx x) (ctx j) * o h (ctx x) d : ℝ) : EReal) := by
  rw [dvC_apply]
  simp only [weightsC h0 h1, h3, ← EReal.coe_mul, ← coe_sum]
  exact congrArg _ (Finset.sum_congr rfl fun x _ => mul_comm _ _)

/-- The gradient of the values. -/
theorem dvA_value (j : Fin 8448) (a : Fin 768) :
    dvA a0 a1 a3 (ix2 j a) = (dv_ (q (headV a)) (k (headV a)) (o (headV a)) j (inV a) : EReal) := by
  unfold dv_
  rw [sum_ctx_lat]
  rcases eq_ctx_or_lat j with ⟨i, rfl⟩ | ⟨i, rfl⟩
  · rw [dvA_ctx, dvL_value h0 h1 h3, dvC_value h0 h1 h3, ← EReal.coe_add, add_comm]
  · rw [dvA_lat, dvL_value h0 h1 h3]
    simp only [prob_zero, zero_mul, Finset.sum_const_zero, zero_add]
end

include h0 h1 h2 h3

/-- The latent rows' share of the gradient of the keys, -/
theorem dkL_value (j : Fin 8448) (h : Fin 6) (d : Fin 256) : dkL (dsL (exL (scL a0 a1) (topL (scL a0 a1))) (dpL a2 a3)) a0 (ix3 j h d)
    = (((∑ x, dscore (q h) (k h) (v h) (o h) (lat x) j * q h (lat x) d) / √192 : ℝ) : EReal) := by
  rw [dkL_apply]
  simp only [gradsL h0 h1 h2 h3, h0, ← EReal.coe_mul, ← coe_sum]
  rw [Finset.sum_div]
  exact congrArg _ (Finset.sum_congr rfl fun x _ => div_mul_eq_mul_div _ _ _)

/-- and the context rows' share. -/
theorem dkC_value (j : Fin 256) (h : Fin 6) (d : Fin 256) : dkC (dsC (exC (scC a0 a1) (topC (scC a0 a1))) (dpC a2 a3)) a0 (ix3 j h d)
    = (((∑ x, dscore (q h) (k h) (v h) (o h) (ctx x) (ctx j) * q h (ctx x) d) / √192 : ℝ) : EReal) := by
  rw [dkC_apply]
  simp only [gradsC h0 h1 h2 h3, h0, ← EReal.coe_mul, ← coe_sum]
  rw [Finset.sum_div]
  exact congrArg _ (Finset.sum_congr rfl fun x _ => div_mul_eq_mul_div _ _ _)

/-- The gradient of the keys. -/
theorem dkA_value (j : Fin 8448) (a : Fin 1536) :
    dkA a0 a1 a2 a3 (ix2 j a) = (dk_ (q (headK a)) (k (headK a)) (v (headK a)) (o (headK a)) j (inK a) : EReal) := by
  unfold dk_
  rw [sum_ctx_lat, add_div]
  rcases eq_ctx_or_lat j with ⟨i, rfl⟩ | ⟨i, rfl⟩
  · rw [dkA_ctx, dkL_value h0 h1 h2 h3, dkC_value h0 h1 h2 h3, ← EReal.coe_add, add_comm]
  · rw [dkA_lat, dkL_value h0 h1 h2 h3]
    simp only [dscore_zero, zero_mul, Finset.sum_const_zero, zero_div, zero_add]

/-- The gradient of the queries, transposed. -/
theorem dqT_value (a : Fin 1536) (j : Fin 8448) :
    dqT a0 a1 a2 a3 (ix2 a j) = (dq (q (headK a)) (k (headK a)) (v (headK a)) (o (headK a)) j (inK a) : EReal) := by
  unfold dq
  rcases eq_ctx_or_lat j with ⟨i, rfl⟩ | ⟨i, rfl⟩
  · rw [dqT_ctx, dqC_apply, sum_ctx_lat]
    simp only [gradsC h0 h1 h2 h3, h1, ← EReal.coe_mul, ← coe_sum, dscore_zero, zero_mul, Finset.sum_const_zero, add_zero]
    rw [Finset.sum_div]
    exact congrArg _ (Finset.sum_congr rfl fun x _ => div_mul_eq_mul_div _ _ _)
  · rw [dqT_lat, dqL_apply]
    simp only [gradsL h0 h1 h2 h3, h1, ← EReal.coe_mul, ← coe_sum]
    rw [Finset.sum_div]
    exact congrArg _ (Finset.sum_congr rfl fun x _ => div_mul_eq_mul_div _ _ _)

end Cert.ReferenceIdeal.Value

end
-- ==== Proof.Algebraic.lean ====
/- On real arguments the kernel's three results are the reference's. -/
module

public import proofs.«01_k».proof.Proof.Frames
public import proofs.«01_k».proof.Proof.Finite
public import proofs.«01_k».proof.Proof.HostReads
public import proofs.«01_k».proof.Proof.RefValue

@[expose] public section

set_option maxRecDepth 16384

noncomputable section

namespace Cert.Proof

open Idealize.ShloMosaic Idealize.SL.Sem Attn

/-- The frames on real arguments are the frames. -/
theorem frame_kernelIdeal_finite : Cert.quiescent_KernelIdeal_pre_finite := fun m ρ _ => Cert.KernelIdeal.Value.run_frame (F := Ideal) m ρ
theorem frame_referenceIdeal_finite : Cert.quiescent_ReferenceIdeal_pre_finite := fun m ρ _ => frame_referenceIdeal m ρ trivial

/-- The heads' queries or keys, and the heads' values or gradients, in an argument. -/
def rowsK (a : FVec Ideal ⟨2, ![8448, 1536]⟩ .f32) (h : Fin 6) (i : Fin 8448) (d : Fin 256) : ℝ := (a (ix2 i (colK h d)) : EReal).toReal
def rowsV (a : FVec Ideal ⟨2, ![8448, 768]⟩ .f32) (h : Fin 6) (i : Fin 8448) (e : Fin 128) : ℝ := (a (ix2 i (colV h e)) : EReal).toReal

section
open Cert.KernelIdeal Cert.KernelIdeal.Gen Cert.KernelIdeal.Value

/-- The kernel's run leaves the attention's gradients, and its arguments as they were. -/
theorem run_kernelIdeal (m : (ℓ : Loc nD τ sig) → Buf (Elt Ideal) ℓ) (g : Dev nD → PrngReg) (q k : Dev nD → Fin 6 → Fin 8448 → Fin 256 → ℝ)
    (v o : Dev nD → Fin 6 → Fin 8448 → Fin 128 → ℝ) (hB : ∀ c, AllRead m c (q c) (k c) (v c) (o c)) :
    θ_run (defs (F := Ideal)) (onTc (τ := τ) (main (F := Ideal))) ⟨m, fun _ => 0, g⟩ (fun r => ∀ c : Dev nD,
      r.2.mem ((c.tc : Thread nD τ).loc main_v91_0) = dqT (q c) (k c) (v c) (o c)
      ∧ r.2.mem ((c.tc : Thread nD τ).loc main_v91_1) = dkA (q c) (k c) (v c) (o c)
      ∧ r.2.mem ((c.tc : Thread nD τ).loc main_v91_2) = dvA (q c) (k c) (o c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    obtain ⟨e0, e1, e2⟩ := results (hB c) h.1
    exact ⟨e0, e1, e2, (args_kept m h.1 c).1, (args_kept m h.1 c).2.1, (args_kept m h.1 c).2.2.1, (args_kept m h.1 c).2.2.2⟩) (run_main m g)
end

/-- On real arguments the kernel and the reference leave the same three arrays. -/
theorem algebraic : Cert.algebraic_KernelIdeal_ReferenceIdeal_pre_finite := by
  intro m g m' g' hpre hargs
  have hr := fun c => Cert.Pre_finite.Value.real_of_finite _ _ _ _ (hpre c)
  refine ⟨fun c => Cert.KernelIdeal.Value.dqT (rowsK (m ((c.tc : Thread _ _).loc Cert.KernelIdeal.main_arg0))) (rowsK (m ((c.tc : Thread _ _).loc Cert.KernelIdeal.main_arg1)))
      (rowsV (m ((c.tc : Thread _ _).loc Cert.KernelIdeal.main_arg2))) (rowsV (m ((c.tc : Thread _ _).loc Cert.KernelIdeal.main_arg3))),
    fun c => Cert.KernelIdeal.Value.dkA (rowsK (m ((c.tc : Thread _ _).loc Cert.KernelIdeal.main_arg0))) (rowsK (m ((c.tc : Thread _ _).loc Cert.KernelIdeal.main_arg1)))
      (rowsV (m ((c.tc : Thread _ _).loc Cert.KernelIdeal.main_arg2))) (rowsV (m ((c.tc : Thread _ _).loc Cert.KernelIdeal.main_arg3))),
    fun c => Cert.KernelIdeal.Value.dvA (rowsK (m ((c.tc : Thread _ _).loc Cert.KernelIdeal.main_arg0))) (rowsK (m ((c.tc : Thread _ _).loc Cert.KernelIdeal.main_arg1)))
      (rowsV (m ((c.tc : Thread _ _).loc Cert.KernelIdeal.main_arg3))), ?_, ?_⟩
  · exact run_kernelIdeal m g _ _ _ _ fun c => Cert.KernelIdeal.Value.allRead m c (fun i h d => (hr c).1 _) (fun i h d => (hr c).2.1 _)
      (fun i h d => (hr c).2.2.1 _) (fun i h d => (hr c).2.2.2 _)
  · refine (θ_run Cert.ReferenceIdeal.defs _ _).mono (fun r h c => ?_) (Cert.ReferenceIdeal.Value.run m' g')
    obtain ⟨e0, e1, e2, e3⟩ := hargs c
    obtain ⟨r0, r1, r2, rest⟩ := h c
    refine ⟨r0.trans ?_, r1.trans ?_, r2.trans ?_, rest⟩
    · rw [Cert.ReferenceIdeal.Value.res_dq, e0, e1, e2, e3]
      funext y
      rw [eq_ix2 y]
      exact Cert.ReferenceIdeal.Value.dqT_value (fun i h d => (hr c).1 _) (fun i h d => (hr c).2.1 _) (fun i h d => (hr c).2.2.1 _) (fun i h d => (hr c).2.2.2 _) _ _
    · rw [Cert.ReferenceIdeal.Value.res_dk, e0, e1, e2, e3]
      funext y
      rw [eq_ix2 y]
      exact Cert.ReferenceIdeal.Value.dkA_value (fun i h d => (hr c).1 _) (fun i h d => (hr c).2.1 _) (fun i h d => (hr c).2.2.1 _) (fun i h d => (hr c).2.2.2 _) _ _
    · rw [Cert.ReferenceIdeal.Value.res_dv, e0, e1, e3]
      funext y
      rw [eq_ix2 y]
      exact Cert.ReferenceIdeal.Value.dvA_value (fun i h d => (hr c).1 _) (fun i h d => (hr c).2.1 _) (fun i h d => (hr c).2.2.2 _) _ _

end Cert.Proof

end
-- ==== Proof.Products.lean ====
/- A product summed tile by tile. -/
module

public import Idealize.ShloMosaic.Lib.Pointwise
public import Idealize.ShloMosaic.Lib.ValueIdx

@[expose] public section

noncomputable section

namespace Product

open Idealize.ShloMosaic

theorem origin : (![0, 0] : Fin 2 → Nat) = fun _ => 0 := funext fun a => by fin_cases a <;> rfl

/-- What a run of tiles adds up is the sum over all positions. -/
theorem sum_tiles {N : ℕ} (J T : ℕ) (hN : J * T = N) (f : Fin N → EReal) (p : ℕ → EReal)
    (hp : ∀ (s : ℕ) (hs : s < J), p s = ∑ t : Fin T, f ⟨s * T + t.val, by
      have ht := t.isLt
      have h := Nat.mul_le_mul_right T (Nat.succ_le_of_lt hs)
      rw [Nat.succ_mul, hN] at h
      omega⟩) : ∑ s ∈ Finset.range J, p s = ∑ k, f k := by
  rw [Finset.sum_range, Fin.sum_univ_tiles J T hN]
  exact Finset.sum_congr rfl fun j _ => hp j.val j.isLt

end Product

end
-- ==== Proof.UpValue.lean ====
/- The feed-forward block's first product: the product of the rows' and the columns' tiles, block by block, is the reference's product. -/
module

public import proofs.«01_k».proof.Defs
public import proofs.«01_k».proof.Proof.Products
public import proofs.«01_k».proof.Proof.Gen.Up.Frame
public import proofs.«01_k».proof.Proof.Gen.UpIdeal.Value
public import proofs.«01_k».proof.Proof.Gen.UpReferenceIdeal.Run

@[expose] public section

set_option maxRecDepth 16384

noncomputable section

namespace Cert.UpIdeal.Value

open Idealize.ShloMosaic Idealize.ShloMosaic.TcCoe Idealize.SL.Sem
open Cert.UpIdeal Cert.UpIdeal.Gen Product

/-- The product of two tiles at an index. -/
theorem tile_apply (x : Vec Ideal S768x2048 .bf16) (w : Vec Ideal S2048x1408 .bf16) (r : Fin 768) (s : Fin 1408) :
    (out0_2 x w : FVec Ideal S768x1408 .bf16) (ix2 r s) = ∑ k : Fin 2048, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 4 ∧ win0_0.index t (1 : Fin 2) = t.val % 1 :=
  (by decide +kernel : ∀ t : Fin grid0.N, win0_0.index t (0 : Fin 2) = t.val / 4 ∧ win0_0.index t (1 : Fin 2) = t.val % 1)
theorem index_1 : ∀ t : Fin cfg0.N, win0_1.index t (0 : Fin 2) = t.val % 1 ∧ win0_1.index t (1 : Fin 2) = t.val / 1 % 4 :=
  (by decide +kernel : ∀ t : Fin grid0.N, win0_1.index t (0 : Fin 2) = t.val % 1 ∧ win0_1.index t (1 : Fin 2) = t.val / 1 % 4)
theorem index_2 : ∀ t : Fin cfg0.N, win0_2.index t (0 : Fin 2) = t.val / 4 ∧ win0_2.index t (1 : Fin 2) = t.val / 1 % 4 :=
  (by decide +kernel : ∀ t : Fin grid0.N, win0_2.index t (0 : Fin 2) = t.val / 4 ∧ win0_2.index t (1 : Fin 2) = t.val / 1 % 4)

/-- The arguments. -/
def arg0 (c : Dev nD) : FVec Ideal S8448x2048 .f32 := m ((c : Thread nD τ).loc main_arg0)
def arg1 (c : Dev nD) : FVec Ideal S2048x5632 .f32 := m ((c : Thread nD τ).loc main_arg1)

/-- The two arrays that the grid reads. -/
def left (c : Dev nD) : FVec Ideal S8448x2048 .bf16 := V m c main_v0
def right (c : Dev nD) : FVec Ideal S2048x5632 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 2048) : left m c (ix2 i k) = arg0 m c (ix2 i k) := by
  rw [left_eq]
  pointwise
theorem right_apply (c : Dev nD) (k : Fin 2048) (j : Fin 5632) : right m c (ix2 k j) = arg1 m c (ix2 k j) := by
  rw [right_eq]
  pointwise

/-- The result array after the run. -/
abbrev result (c : Dev nD) : FVec Ideal S8448x5632 .bf16 := (dats m 0 c).arrAt 2 cfg0.N

/-- The result is the product. -/
theorem product (c : Dev nD) (i : Fin 8448) (j : Fin 5632) :
    result m c (ix2 i j) = ∑ k : Fin 2048, left m c (ix2 i k) * right m c (ix2 k j) := by
  have hi := i.isLt
  have hj := j.isLt
  have hN : cfg0.N = 44 := N_0
  have ht : 4 * (i.val / 768) + j.val / 1408 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 1408, Nat.mod_lt _ (by norm_num)⟩ : Fin 1408))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v1) (funext fun a => Fin.ext ?_)))))
  · match a with
    | ⟨0, _⟩ => show i.val = win0_2.index _ (0 : Fin 2) * 768 + 1 * (i.val % 768); omega
    | ⟨1, _⟩ => show j.val = win0_2.index _ (1 : Fin 2) * 1408 + 1 * (j.val % 1408); omega
  · match a with
    | ⟨0, _⟩ => show win0_0.index _ (0 : Fin 2) * 768 + 1 * (i.val % 768) = i.val; omega
    | ⟨1, _⟩ => show win0_0.index _ (1 : Fin 2) * 2048 + 1 * k.val = k.val; omega
  · match a with
    | ⟨0, _⟩ => show win0_1.index _ (0 : Fin 2) * 2048 + 1 * k.val = k.val; omega
    | ⟨1, _⟩ => show win0_1.index _ (1 : Fin 2) * 1408 + 1 * (j.val % 1408) = j.val; omega

/-- And so it is the product of the arguments. -/
theorem result_apply (c : Dev nD) (i : Fin 8448) (j : Fin 5632) :
    result m c (ix2 i j) = ∑ k : Fin 2048, arg0 m c (ix2 i k) * arg1 m c (ix2 k j) := by
  have e : (∑ k : Fin 2048, left m c (ix2 i k) * right m c (ix2 k j) : EReal) = ∑ k : Fin 2048, arg0 m c (ix2 i k) * arg1 m c (ix2 k j) := by
    refine Finset.sum_congr rfl fun k _ => ?_
    rw [left_apply, right_apply]
  exact (product m c i j).trans e

/-- The reference's result at an index. -/
theorem reference_apply (x : FVec Ideal S8448x2048 .f32) (w : FVec Ideal S2048x5632 .f32) (i : Fin 8448) (j : Fin 5632) :
    truncf .bf16 (Host.dotGeneral Cert.UpReferenceIdeal.dot_S8448x2048_S2048x5632_S8448x5632_1_0_0_1_n_n none x w) Cert.UpReferenceIdeal.Gen.bitsLt_bf16_f32 (ix2 i j) = ∑ k : Fin 2048, x (ix2 i k) * w (ix2 k j) := by
  pointwise

end Cert.UpIdeal.Value

namespace Cert.Proof

open Idealize.ShloMosaic Idealize.SL.Sem

/-- The kernel, its ideal reading and the reference end, their arguments unchanged and every counter at zero. -/
theorem frame_Up : Cert.quiescent_Up := fun m ρ _ => Cert.Up.Gen.frame m ρ
theorem frame_UpIdeal : Cert.quiescent_UpIdeal := fun m ρ _ => Cert.UpIdeal.Gen.frame m ρ
theorem frame_UpReference : Cert.quiescent_UpReferenceIdeal := fun m ρ _ =>
  (θ_run Cert.UpReferenceIdeal.defs _ _).mono (fun r h => ⟨fun c => (h c).2, sem_eq_zero_of_no_sems (by decide) r.2⟩) (Cert.UpReferenceIdeal.Value.run m ρ)

/-- Kernel and reference leave the same product, for all arguments. -/
theorem algebraic_Up : Cert.algebraic_UpIdeal_UpReferenceIdeal := by
  intro m g m' g' _ hargs
  refine ⟨fun c => Cert.UpIdeal.Value.result m c, Cert.UpIdeal.Value.run_blocks m g, ?_⟩
  refine (θ_run Cert.UpReferenceIdeal.defs _ _).mono (fun r h c => ?_) (Cert.UpReferenceIdeal.Value.run m' g')
  obtain ⟨e0, e1⟩ := hargs c
  obtain ⟨r0, rest⟩ := h c
  refine ⟨r0.trans ?_, rest⟩
  rw [e0, e1]
  funext y
  rw [eq_ix2 y]
  exact (Cert.UpIdeal.Value.reference_apply _ _ _ _).trans (Cert.UpIdeal.Value.result_apply m c _ _).symm

end Cert.Proof

end
-- ==== Proof.UpDaValue.lean ====
/- The gradient of the feed-forward block's first product in its rows: what its kernel accumulates over the tiles of the summed axis is the reference's product. -/
module

public import proofs.«01_k».proof.Defs
public import proofs.«01_k».proof.Proof.Products
public import proofs.«01_k».proof.Proof.Gen.UpDa.Frame
public import proofs.«01_k».proof.Proof.Gen.UpDaIdeal.Value
public import proofs.«01_k».proof.Proof.Gen.UpDaReferenceIdeal.Run

@[expose] public section

set_option maxRecDepth 16384

noncomputable section

namespace Cert.UpDaIdeal.Value

open Idealize.ShloMosaic Idealize.ShloMosaic.TcCoe Idealize.SL.Sem
open Cert.UpDaIdeal Cert.UpDaIdeal.Gen Product

section
variable (c : Dev nD) (i : grid0.Coords) (a0 : Memref sig .tc .vmem S768x1408 .bf16) (h0 : a0.IsWhole)
  (a1 : Memref sig .tc .vmem S1408x1024 .bf16) (h1 : a1.IsWhole) (a2 : Memref sig .tc .vmem S768x1024 .bf16) (h2 : a2.IsWhole)
  (a3 : Memref sig .tc .vmem S768x1024 .f32) (h3 : a3.IsWhole) (x : Vec Ideal S768x1408 .bf16) (w : Vec Ideal S1408x1024 .bf16) (acc : Vec Ideal S768x1024 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S768x1408) origin, View.ld_unit_zero (S := S1408x1024) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S768x1408) origin,
    View.ld_unit_zero (S := S1408x1024) origin, View.ld_unit_zero (S := S768x1024) origin, shapeCast_self]

/-- and the last tile's sum is what the result's block gets. -/
theorem last (e0 : ¬cond0_0 i) (e1 : ¬cond0_1 i) (e2 : cond0_2 i) (y : S768x1024.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S768x1408) origin,
    View.ld_unit_zero (S := S1408x1024) origin, View.ld_unit_zero (S := S768x1024) origin, shapeCast_self]
  rfl

/-- The product of two tiles at an index. -/
theorem tile_apply (r : Fin 768) (s : Fin 1024) : k0_pay1 x w (ix2 r s) = ∑ k : Fin 1408, x (ix2 r k) * w (ix2 k s) := by
  unfold k0_pay1
  pointwise
end

variable (m : (ℓ : Loc nD τ sig) → Buf (Elt Ideal) ℓ)

/-- The product of the two tiles of point `n`. -/
def part (c : Dev nD) (n : ℕ) (y : S768x1024.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S768x1024.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 2) (h : 4 * q + j < cfg0.N) (y : S768x1024.Idx),
    (outsAt0 m c (4 * q + j) h).2 y = ∑ s ∈ Finset.range (j + 1), part m c (4 * q + s) y
  | 0, _, h, y => by
    have e := outsAt0_A m c ⟨4 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨4 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 4 * q + 3 < cfg0.N) (y : S768x1024.Idx) :
    (outsAt0 m c (4 * q + 3) h).1 y = ∑ s ∈ Finset.range 4, part m c (4 * q + s) y := by
  have e := outsAt0_C m c ⟨4 * q + 3, h⟩ (by dsimp only; omega) (by dsimp only; omega) (by dsimp only; omega)
  dsimp only at e
  rw [e, Finset.sum_range_succ, ← carried m c q 2 (le_refl _) (by omega), part_eq m c h]
  dsimp only
  rw [last]
  rfl

theorem index_0 : ∀ t : Fin cfg0.N, win0_0.index t (0 : Fin 2) = t.val / 8 ∧ win0_0.index t (1 : Fin 2) = t.val % 4 :=
  (by decide +kernel : ∀ t : Fin grid0.N, win0_0.index t (0 : Fin 2) = t.val / 8 ∧ win0_0.index t (1 : Fin 2) = t.val % 4)
theorem index_1 : ∀ t : Fin cfg0.N, win0_1.index t (0 : Fin 2) = t.val % 4 ∧ win0_1.index t (1 : Fin 2) = t.val / 4 % 2 :=
  (by decide +kernel : ∀ t : Fin grid0.N, win0_1.index t (0 : Fin 2) = t.val % 4 ∧ win0_1.index t (1 : Fin 2) = t.val / 4 % 2)

/-- The arguments. -/
def arg0 (c : Dev nD) : FVec Ideal S2048x5632 .f32 := m ((c : Thread nD τ).loc main_arg0)
def arg1 (c : Dev nD) : FVec Ideal S8448x5632 .f32 := m ((c : Thread nD τ).loc main_arg1)

/-- The two arrays that the grid reads. -/
def left (c : Dev nD) : FVec Ideal S8448x5632 .bf16 := V m c main_v0
def right (c : Dev nD) : FVec Ideal S5632x2048 .bf16 := V m c main_v2

/-- They are the arguments, cast, the weight transposed. -/
theorem left_eq (c : Dev nD) : left m c = truncf .bf16 (arg1 m c) bitsLt_bf16_f32 := by
  unfold left arg1
  unfold_abbrev_sides
  after_results_simp <;> rfl
theorem right_eq (c : Dev nD) : right m c = transpose S5632x2048 [1, 0] (truncf .bf16 (arg0 m c) bitsLt_bf16_f32) transposes_S2048x5632_S5632x2048_1_0 := by
  unfold right arg0
  unfold_abbrev_sides
  after_results_simp <;> rfl
theorem left_apply (c : Dev nD) (i : Fin 8448) (k : Fin 5632) : left m c (ix2 i k) = arg1 m c (ix2 i k) := by
  rw [left_eq]
  pointwise
theorem right_apply (c : Dev nD) (k : Fin 5632) (j : Fin 2048) : right m c (ix2 k j) = arg0 m c (ix2 j k) := by
  rw [right_eq]
  pointwise

/-- The result is the product. -/
theorem product (c : Dev nD) (i : Fin 8448) (j : Fin 2048) :
    (G2 m c : FVec Ideal S8448x2048 .bf16) (ix2 i j) = ∑ k : Fin 5632, left m c (ix2 i k) * right m c (ix2 k j) := by
  have hi := i.isLt
  have hj := j.isLt
  have hN : cfg0.N = 88 := N_0
  have hpt : 4 * (2 * (i.val / 768) + j.val / 1024) + 3 < cfg0.N := by rw [hN]; omega
  have hp : pt2Of (ix2 i j) = 4 * (2 * (i.val / 768) + j.val / 1024) + 3 := by
    show 4 * (2 * (i.val / 768 - 0) + 1 * (j.val / 1024 - 0)) + 3 = _
    omega
  have hl : loc2Of (ix2 i j) = ix2 (⟨i.val % 768, Nat.mod_lt _ (by norm_num)⟩ : Fin 768) (⟨j.val % 1024, Nat.mod_lt _ (by norm_num)⟩ : Fin 1024) :=
    eq_ix2 _
  have hb : (G2 m c : FVec Ideal S8448x2048 .bf16) (ix2 i j) = ∑ s ∈ Finset.range 4, part m c (4 * (2 * (i.val / 768) + j.val / 1024) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 4 1408 rfl (fun k : Fin 5632 => left m c (ix2 i k) * right m c (ix2 k j)) _ fun s hs => ?_
  have hs' : 4 * (2 * (i.val / 768) + j.val / 1024) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v2) (funext fun a => Fin.ext ?_))
  · match a with
    | ⟨0, _⟩ => show win0_0.index _ (0 : Fin 2) * 768 + 1 * (i.val % 768) = i.val; omega
    | ⟨1, _⟩ => show win0_0.index _ (1 : Fin 2) * 1408 + 1 * k.val = s * 1408 + k.val; omega
  · match a with
    | ⟨0, _⟩ => show win0_1.index _ (0 : Fin 2) * 1408 + 1 * k.val = s * 1408 + k.val; omega
    | ⟨1, _⟩ => show win0_1.index _ (1 : Fin 2) * 1024 + 1 * (j.val % 1024) = j.val; omega

/-- And so it is the product of the arguments. -/
theorem result_apply (c : Dev nD) (i : Fin 8448) (j : Fin 2048) :
    (G2 m c : FVec Ideal S8448x2048 .bf16) (ix2 i j) = ∑ k : Fin 5632, arg1 m c (ix2 i k) * arg0 m c (ix2 j k) := by
  have e : (∑ k : Fin 5632, left m c (ix2 i k) * right m c (ix2 k j) : EReal) = ∑ k : Fin 5632, arg1 m c (ix2 i k) * arg0 m c (ix2 j k) := by
    refine Finset.sum_congr rfl fun k _ => ?_
    rw [left_apply, right_apply]
  exact (product m c i j).trans e

/-- The reference's result at an index. -/
theorem reference_apply (x : FVec Ideal S2048x5632 .f32) (w : FVec Ideal S8448x5632 .f32) (i : Fin 8448) (j : Fin 2048) :
    truncf .bf16 (Host.dotGeneral Cert.UpDaReferenceIdeal.dot_S8448x5632_S2048x5632_S8448x2048_1_1_0_0_n_n none w x) Cert.UpDaReferenceIdeal.Gen.bitsLt_bf16_f32 (ix2 i j) = ∑ k : Fin 5632, w (ix2 i k) * x (ix2 j k) := by
  pointwise

end Cert.UpDaIdeal.Value

namespace Cert.Proof

open Idealize.ShloMosaic Idealize.SL.Sem

/-- The kernel, its ideal reading and the reference end, their arguments unchanged and every counter at zero. -/
theorem frame_UpDa : Cert.quiescent_UpDa := fun m ρ _ => Cert.UpDa.Gen.frame m ρ
theorem frame_UpDaIdeal : Cert.quiescent_UpDaIdeal := fun m ρ _ => Cert.UpDaIdeal.Gen.frame m ρ
theorem frame_UpDaReference : Cert.quiescent_UpDaReferenceIdeal := fun m ρ _ =>
  (θ_run Cert.UpDaReferenceIdeal.defs _ _).mono (fun r h => ⟨fun c => (h c).2, sem_eq_zero_of_no_sems (by decide) r.2⟩) (Cert.UpDaReferenceIdeal.Value.run m ρ)

/-- Kernel and reference leave the same product, for all arguments. -/
theorem algebraic_UpDa : Cert.algebraic_UpDaIdeal_UpDaReferenceIdeal := by
  intro m g m' g' _ hargs
  refine ⟨fun c => Cert.UpDaIdeal.Value.G2 m c, Cert.UpDaIdeal.Value.run m g, ?_⟩
  refine (θ_run Cert.UpDaReferenceIdeal.defs _ _).mono (fun r h c => ?_) (Cert.UpDaReferenceIdeal.Value.run m' g')
  obtain ⟨e0, e1⟩ := hargs c
  obtain ⟨r0, rest⟩ := h c
  refine ⟨r0.trans ?_, rest⟩
  rw [e0, e1]
  funext y
  rw [eq_ix2 y]
  exact (Cert.UpDaIdeal.Value.reference_apply _ _ _ _).trans (Cert.UpDaIdeal.Value.result_apply m c _ _).symm

end Cert.Proof

end
-- ==== Proof.UpDwValue.lean ====
/- The gradient of the feed-forward block's first product in its weights: what its kernel accumulates over the tiles of the summed axis is the reference's product. -/
module

public import proofs.«01_k».proof.Defs
public import proofs.«01_k».proof.Proof.Products
public import proofs.«01_k».proof.Proof.Gen.UpDw.Frame
public import proofs.«01_k».proof.Proof.Gen.UpDwIdeal.Value
public import proofs.«01_k».proof.Proof.Gen.UpDwReferenceIdeal.Run

@[expose] public section

set_option maxRecDepth 16384

noncomputable section

namespace Cert.UpDwIdeal.Value

open Idealize.ShloMosaic Idealize.ShloMosaic.TcCoe Idealize.SL.Sem
open Cert.UpDwIdeal Cert.UpDwIdeal.Gen Product

section
variable (c : Dev nD) (i : grid0.Coords) (a0 : Memref sig .tc .vmem S1408x1024 .bf16) (h0 : a0.IsWhole)
  (a1 : Memref sig .tc .vmem S1408x1408 .bf16) (h1 : a1.IsWhole) (a2 : Memref sig .tc .vmem S1024x1408 .f32) (h2 : a2.IsWhole)
  (a3 : Memref sig .tc .vmem S1024x1408 .f32) (h3 : a3.IsWhole) (x : Vec Ideal S1408x1024 .bf16) (w : Vec Ideal S1408x1408 .bf16) (acc : Vec Ideal S1024x1408 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S1408x1024) origin, View.ld_unit_zero (S := S1408x1408) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S1408x1024) origin,
    View.ld_unit_zero (S := S1408x1408) origin, View.ld_unit_zero (S := S1024x1408) origin, shapeCast_self]

/-- and the last tile's sum is what the result's block gets. -/
theorem last (e0 : ¬cond0_0 i) (e1 : ¬cond0_1 i) (e2 : cond0_2 i) (y : S1024x1408.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S1408x1024) origin,
    View.ld_unit_zero (S := S1408x1408) origin, View.ld_unit_zero (S := S1024x1408) origin, shapeCast_self]
  rfl

/-- The product of two tiles at an index. -/
theorem tile_apply (r : Fin 1024) (s : Fin 1408) : k0_pay1 x w (ix2 r s) = ∑ k : Fin 1408, x (ix2 k r) * w (ix2 k s) := by
  unfold k0_pay1
  pointwise
end

variable (m : (ℓ : Loc nD τ sig) → Buf (Elt Ideal) ℓ)

/-- The product of the two tiles of point `n`. -/
def part (c : Dev nD) (n : ℕ) (y : S1024x1408.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S1024x1408.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 4) (h : 6 * q + j < cfg0.N) (y : S1024x1408.Idx),
    (outsAt0 m c (6 * q + j) h).2 y = ∑ s ∈ Finset.range (j + 1), part m c (6 * q + s) y
  | 0, _, h, y => by
    have e := outsAt0_A m c ⟨6 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨6 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 6 * q + 5 < cfg0.N) (y : S1024x1408.Idx) :
    (outsAt0 m c (6 * q + 5) h).1 y = ∑ s ∈ Finset.range 6, part m c (6 * q + s) y := by
  have e := outsAt0_C m c ⟨6 * q + 5, h⟩ (by dsimp only; omega) (by dsimp only; omega) (by dsimp only; omega)
  dsimp only at e
  rw [e, Finset.sum_range_succ, ← carried m c q 4 (le_refl _) (by omega), part_eq m c h]
  dsimp only
  rw [last]
  rfl

theorem index_0 : ∀ t : Fin cfg0.N, win0_0.index t (0 : Fin 2) = t.val % 6 ∧ win0_0.index t (1 : Fin 2) = t.val / 24 :=
  (by decide +kernel : ∀ t : Fin grid0.N, win0_0.index t (0 : Fin 2) = t.val % 6 ∧ win0_0.index t (1 : Fin 2) = t.val / 24)
theorem index_1 : ∀ t : Fin cfg0.N, win0_1.index t (0 : Fin 2) = t.val % 6 ∧ win0_1.index t (1 : Fin 2) = t.val / 6 % 4 :=
  (by decide +kernel : ∀ t : Fin grid0.N, win0_1.index t (0 : Fin 2) = t.val % 6 ∧ win0_1.index t (1 : Fin 2) = t.val / 6 % 4)

/-- The arguments. -/
def arg0 (c : Dev nD) : FVec Ideal S8448x2048 .f32 := m ((c : Thread nD τ).loc main_arg0)
def arg1 (c : Dev nD) : FVec Ideal S8448x5632 .f32 := m ((c : Thread nD τ).loc main_arg1)

/-- The two arrays that the grid reads. -/
def left (c : Dev nD) : FVec Ideal S8448x2048 .bf16 := V m c main_v0
def right (c : Dev nD) : FVec Ideal S8448x5632 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 2048) : left m c (ix2 i k) = arg0 m c (ix2 i k) := by
  rw [left_eq]
  pointwise
theorem right_apply (c : Dev nD) (k : Fin 8448) (j : Fin 5632) : right m c (ix2 k j) = arg1 m c (ix2 k j) := by
  rw [right_eq]
  pointwise

/-- The result is the product. -/
theorem product (c : Dev nD) (i : Fin 2048) (j : Fin 5632) :
    (G2 m c : FVec Ideal S2048x5632 .f32) (ix2 i j) = ∑ k : Fin 8448, left m c (ix2 k i) * right m c (ix2 k j) := by
  have hi := i.isLt
  have hj := j.isLt
  have hN : cfg0.N = 48 := N_0
  have hpt : 6 * (4 * (i.val / 1024) + j.val / 1408) + 5 < cfg0.N := by rw [hN]; omega
  have hp : pt2Of (ix2 i j) = 6 * (4 * (i.val / 1024) + j.val / 1408) + 5 := by
    show 6 * (4 * (i.val / 1024 - 0) + 1 * (j.val / 1408 - 0)) + 5 = _
    omega
  have hl : loc2Of (ix2 i j) = ix2 (⟨i.val % 1024, Nat.mod_lt _ (by norm_num)⟩ : Fin 1024) (⟨j.val % 1408, Nat.mod_lt _ (by norm_num)⟩ : Fin 1408) :=
    eq_ix2 _
  have hb : (G2 m c : FVec Ideal S2048x5632 .f32) (ix2 i j) = ∑ s ∈ Finset.range 6, part m c (6 * (4 * (i.val / 1024) + j.val / 1408) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 6 1408 rfl (fun k : Fin 8448 => left m c (ix2 k i) * right m c (ix2 k j)) _ fun s hs => ?_
  have hs' : 6 * (4 * (i.val / 1024) + j.val / 1408) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 1408 + 1 * k.val = s * 1408 + k.val; omega
    | ⟨1, _⟩ => show win0_0.index _ (1 : Fin 2) * 1024 + 1 * (i.val % 1024) = i.val; omega
  · match a with
    | ⟨0, _⟩ => show win0_1.index _ (0 : Fin 2) * 1408 + 1 * k.val = s * 1408 + k.val; omega
    | ⟨1, _⟩ => show win0_1.index _ (1 : Fin 2) * 1408 + 1 * (j.val % 1408) = j.val; omega

/-- And so it is the product of the arguments. -/
theorem result_apply (c : Dev nD) (i : Fin 2048) (j : Fin 5632) :
    (G2 m c : FVec Ideal S2048x5632 .f32) (ix2 i j) = ∑ k : Fin 8448, arg1 m c (ix2 k j) * arg0 m c (ix2 k i) := by
  have e : (∑ k : Fin 8448, left m c (ix2 k i) * right m c (ix2 k j) : EReal) = ∑ k : Fin 8448, arg1 m c (ix2 k j) * arg0 m c (ix2 k i) := by
    refine Finset.sum_congr rfl fun k _ => ?_
    rw [left_apply, right_apply]
    exact EReal.mul_comm _ _
  exact (product m c i j).trans e

/-- The reference's result at an index. -/
theorem reference_apply (x : FVec Ideal S8448x2048 .f32) (w : FVec Ideal S8448x5632 .f32) (i : Fin 2048) (j : Fin 5632) :
    transpose _ [1, 0] (Host.dotGeneral Cert.UpDwReferenceIdeal.dot_S8448x5632_S8448x2048_S5632x2048_0_0_1_1_n_n none w x) Cert.UpDwReferenceIdeal.Gen.transposes_S5632x2048_S2048x5632_1_0 (ix2 i j) = ∑ k : Fin 8448, w (ix2 k j) * x (ix2 k i) := by
  pointwise

end Cert.UpDwIdeal.Value

namespace Cert.Proof

open Idealize.ShloMosaic Idealize.SL.Sem

/-- The kernel, its ideal reading and the reference end, their arguments unchanged and every counter at zero. -/
theorem frame_UpDw : Cert.quiescent_UpDw := fun m ρ _ => Cert.UpDw.Gen.frame m ρ
theorem frame_UpDwIdeal : Cert.quiescent_UpDwIdeal := fun m ρ _ => Cert.UpDwIdeal.Gen.frame m ρ
theorem frame_UpDwReference : Cert.quiescent_UpDwReferenceIdeal := fun m ρ _ =>
  (θ_run Cert.UpDwReferenceIdeal.defs _ _).mono (fun r h => ⟨fun c => (h c).2, sem_eq_zero_of_no_sems (by decide) r.2⟩) (Cert.UpDwReferenceIdeal.Value.run m ρ)

/-- Kernel and reference leave the same product, for all arguments. -/
theorem algebraic_UpDw : Cert.algebraic_UpDwIdeal_UpDwReferenceIdeal := by
  intro m g m' g' _ hargs
  refine ⟨fun c => Cert.UpDwIdeal.Value.G2 m c, Cert.UpDwIdeal.Value.run m g, ?_⟩
  refine (θ_run Cert.UpDwReferenceIdeal.defs _ _).mono (fun r h c => ?_) (Cert.UpDwReferenceIdeal.Value.run m' g')
  obtain ⟨e0, e1⟩ := hargs c
  obtain ⟨r0, rest⟩ := h c
  refine ⟨r0.trans ?_, rest⟩
  rw [e0, e1]
  funext y
  rw [eq_ix2 y]
  exact (Cert.UpDwIdeal.Value.reference_apply _ _ _ _).trans (Cert.UpDwIdeal.Value.result_apply m c _ _).symm

end Cert.Proof

end
-- ==== Proof.DownValue.lean ====
/- The feed-forward block's second product: what its kernel accumulates over the tiles of the summed axis is the reference's product. -/
module

public import proofs.«01_k».proof.Defs
public import proofs.«01_k».proof.Proof.Products
public import proofs.«01_k».proof.Proof.Gen.Down.Frame
public import proofs.«01_k».proof.Proof.Gen.DownIdeal.Value
public import proofs.«01_k».proof.Proof.Gen.DownReferenceIdeal.Run

@[expose] public section

set_option maxRecDepth 16384

noncomputable section

namespace Cert.DownIdeal.Value

open Idealize.ShloMosaic Idealize.ShloMosaic.TcCoe Idealize.SL.Sem
open Cert.DownIdeal Cert.DownIdeal.Gen Product

section
variable (c : Dev nD) (i : grid0.Coords) (a0 : Memref sig .tc .vmem S768x1408 .bf16) (h0 : a0.IsWhole)
  (a1 : Memref sig .tc .vmem S1408x1024 .bf16) (h1 : a1.IsWhole) (a2 : Memref sig .tc .vmem S768x1024 .f32) (h2 : a2.IsWhole)
  (a3 : Memref sig .tc .vmem S768x1024 .f32) (h3 : a3.IsWhole) (x : Vec Ideal S768x1408 .bf16) (w : Vec Ideal S1408x1024 .bf16) (acc : Vec Ideal S768x1024 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S768x1408) origin, View.ld_unit_zero (S := S1408x1024) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S768x1408) origin,
    View.ld_unit_zero (S := S1408x1024) origin, View.ld_unit_zero (S := S768x1024) origin, shapeCast_self]

/-- and the last tile's sum is what the result's block gets. -/
theorem last (e0 : ¬cond0_0 i) (e1 : ¬cond0_1 i) (e2 : cond0_2 i) (y : S768x1024.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S768x1408) origin,
    View.ld_unit_zero (S := S1408x1024) origin, View.ld_unit_zero (S := S768x1024) origin, shapeCast_self]
  rfl

/-- The product of two tiles at an index. -/
theorem tile_apply (r : Fin 768) (s : Fin 1024) : k0_pay1 x w (ix2 r s) = ∑ k : Fin 1408, x (ix2 r k) * w (ix2 k s) := by
  unfold k0_pay1
  pointwise
end

variable (m : (ℓ : Loc nD τ sig) → Buf (Elt Ideal) ℓ)

/-- The product of the two tiles of point `n`. -/
def part (c : Dev nD) (n : ℕ) (y : S768x1024.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S768x1024.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 2) (h : 4 * q + j < cfg0.N) (y : S768x1024.Idx),
    (outsAt0 m c (4 * q + j) h).2 y = ∑ s ∈ Finset.range (j + 1), part m c (4 * q + s) y
  | 0, _, h, y => by
    have e := outsAt0_A m c ⟨4 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨4 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 4 * q + 3 < cfg0.N) (y : S768x1024.Idx) :
    (outsAt0 m c (4 * q + 3) h).1 y = ∑ s ∈ Finset.range 4, part m c (4 * q + s) y := by
  have e := outsAt0_C m c ⟨4 * q + 3, h⟩ (by dsimp only; omega) (by dsimp only; omega) (by dsimp only; omega)
  dsimp only at e
  rw [e, Finset.sum_range_succ, ← carried m c q 2 (le_refl _) (by omega), part_eq m c h]
  dsimp only
  rw [last]
  rfl

theorem index_0 : ∀ t : Fin cfg0.N, win0_0.index t (0 : Fin 2) = t.val / 8 ∧ win0_0.index t (1 : Fin 2) = t.val % 4 :=
  (by decide +kernel : ∀ t : Fin grid0.N, win0_0.index t (0 : Fin 2) = t.val / 8 ∧ win0_0.index t (1 : Fin 2) = t.val % 4)
theorem index_1 : ∀ t : Fin cfg0.N, win0_1.index t (0 : Fin 2) = t.val % 4 ∧ win0_1.index t (1 : Fin 2) = t.val / 4 % 2 :=
  (by decide +kernel : ∀ t : Fin grid0.N, win0_1.index t (0 : Fin 2) = t.val % 4 ∧ win0_1.index t (1 : Fin 2) = t.val / 4 % 2)

/-- The arguments. -/
def arg0 (c : Dev nD) : FVec Ideal S8448x5632 .f32 := m ((c : Thread nD τ).loc main_arg0)
def arg1 (c : Dev nD) : FVec Ideal S5632x2048 .f32 := m ((c : Thread nD τ).loc main_arg1)

/-- The two arrays that the grid reads. -/
def left (c : Dev nD) : FVec Ideal S8448x5632 .bf16 := V m c main_v0
def right (c : Dev nD) : FVec Ideal S5632x2048 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 5632) : left m c (ix2 i k) = arg0 m c (ix2 i k) := by
  rw [left_eq]
  pointwise
theorem right_apply (c : Dev nD) (k : Fin 5632) (j : Fin 2048) : right m c (ix2 k j) = arg1 m c (ix2 k j) := by
  rw [right_eq]
  pointwise

/-- The result is the product. -/
theorem product (c : Dev nD) (i : Fin 8448) (j : Fin 2048) :
    (G2 m c : FVec Ideal S8448x2048 .f32) (ix2 i j) = ∑ k : Fin 5632, left m c (ix2 i k) * right m c (ix2 k j) := by
  have hi := i.isLt
  have hj := j.isLt
  have hN : cfg0.N = 88 := N_0
  have hpt : 4 * (2 * (i.val / 768) + j.val / 1024) + 3 < cfg0.N := by rw [hN]; omega
  have hp : pt2Of (ix2 i j) = 4 * (2 * (i.val / 768) + j.val / 1024) + 3 := by
    show 4 * (2 * (i.val / 768 - 0) + 1 * (j.val / 1024 - 0)) + 3 = _
    omega
  have hl : loc2Of (ix2 i j) = ix2 (⟨i.val % 768, Nat.mod_lt _ (by norm_num)⟩ : Fin 768) (⟨j.val % 1024, Nat.mod_lt _ (by norm_num)⟩ : Fin 1024) :=
    eq_ix2 _
  have hb : (G2 m c : FVec Ideal S8448x2048 .f32) (ix2 i j) = ∑ s ∈ Finset.range 4, part m c (4 * (2 * (i.val / 768) + j.val / 1024) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 4 1408 rfl (fun k : Fin 5632 => left m c (ix2 i k) * right m c (ix2 k j)) _ fun s hs => ?_
  have hs' : 4 * (2 * (i.val / 768) + j.val / 1024) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 768 + 1 * (i.val % 768) = i.val; omega
    | ⟨1, _⟩ => show win0_0.index _ (1 : Fin 2) * 1408 + 1 * k.val = s * 1408 + k.val; omega
  · match a with
    | ⟨0, _⟩ => show win0_1.index _ (0 : Fin 2) * 1408 + 1 * k.val = s * 1408 + k.val; omega
    | ⟨1, _⟩ => show win0_1.index _ (1 : Fin 2) * 1024 + 1 * (j.val % 1024) = j.val; omega

/-- And so it is the product of the arguments. -/
theorem result_apply (c : Dev nD) (i : Fin 8448) (j : Fin 2048) :
    (G2 m c : FVec Ideal S8448x2048 .f32) (ix2 i j) = ∑ k : Fin 5632, arg0 m c (ix2 i k) * arg1 m c (ix2 k j) := by
  have e : (∑ k : Fin 5632, left m c (ix2 i k) * right m c (ix2 k j) : EReal) = ∑ k : Fin 5632, arg0 m c (ix2 i k) * arg1 m c (ix2 k j) := by
    refine Finset.sum_congr rfl fun k _ => ?_
    rw [left_apply, right_apply]
  exact (product m c i j).trans e

/-- The reference's result at an index. -/
theorem reference_apply (x : FVec Ideal S8448x5632 .f32) (w : FVec Ideal S5632x2048 .f32) (i : Fin 8448) (j : Fin 2048) :
    Host.dotGeneral Cert.DownReferenceIdeal.dot_S8448x5632_S5632x2048_S8448x2048_1_0_0_1_n_n none x w (ix2 i j) = ∑ k : Fin 5632, x (ix2 i k) * w (ix2 k j) := by
  pointwise

end Cert.DownIdeal.Value

namespace Cert.Proof

open Idealize.ShloMosaic Idealize.SL.Sem

/-- The kernel, its ideal reading and the reference end, their arguments unchanged and every counter at zero. -/
theorem frame_Down : Cert.quiescent_Down := fun m ρ _ => Cert.Down.Gen.frame m ρ
theorem frame_DownIdeal : Cert.quiescent_DownIdeal := fun m ρ _ => Cert.DownIdeal.Gen.frame m ρ
theorem frame_DownReference : Cert.quiescent_DownReferenceIdeal := fun m ρ _ =>
  (θ_run Cert.DownReferenceIdeal.defs _ _).mono (fun r h => ⟨fun c => (h c).2, sem_eq_zero_of_no_sems (by decide) r.2⟩) (Cert.DownReferenceIdeal.Value.run m ρ)

/-- Kernel and reference leave the same product, for all arguments. -/
theorem algebraic_Down : Cert.algebraic_DownIdeal_DownReferenceIdeal := by
  intro m g m' g' _ hargs
  refine ⟨fun c => Cert.DownIdeal.Value.G2 m c, Cert.DownIdeal.Value.run m g, ?_⟩
  refine (θ_run Cert.DownReferenceIdeal.defs _ _).mono (fun r h c => ?_) (Cert.DownReferenceIdeal.Value.run m' g')
  obtain ⟨e0, e1⟩ := hargs c
  obtain ⟨r0, rest⟩ := h c
  refine ⟨r0.trans ?_, rest⟩
  rw [e0, e1]
  funext y
  rw [eq_ix2 y]
  exact (Cert.DownIdeal.Value.reference_apply _ _ _ _).trans (Cert.DownIdeal.Value.result_apply m c _ _).symm

end Cert.Proof

end
-- ==== Proof.DownDaValue.lean ====
/- The gradient of the feed-forward block's second product in its rows: the product of the rows' and the columns' tiles, block by block, is the reference's product. -/
module

public import proofs.«01_k».proof.Defs
public import proofs.«01_k».proof.Proof.Products
public import proofs.«01_k».proof.Proof.Gen.DownDa.Frame
public import proofs.«01_k».proof.Proof.Gen.DownDaIdeal.Value
public import proofs.«01_k».proof.Proof.Gen.DownDaReferenceIdeal.Run

@[expose] public section

set_option maxRecDepth 16384

noncomputable section

namespace Cert.DownDaIdeal.Value

open Idealize.ShloMosaic Idealize.ShloMosaic.TcCoe Idealize.SL.Sem
open Cert.DownDaIdeal Cert.DownDaIdeal.Gen Product

/-- The product of two tiles at an index. -/
theorem tile_apply (x : Vec Ideal S768x2048 .bf16) (w : Vec Ideal S2048x1408 .bf16) (r : Fin 768) (s : Fin 1408) :
    (out0_2 x w : FVec Ideal S768x1408 .bf16) (ix2 r s) = ∑ k : Fin 2048, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 4 ∧ win0_0.index t (1 : Fin 2) = t.val % 1 :=
  (by decide +kernel : ∀ t : Fin grid0.N, win0_0.index t (0 : Fin 2) = t.val / 4 ∧ win0_0.index t (1 : Fin 2) = t.val % 1)
theorem index_1 : ∀ t : Fin cfg0.N, win0_1.index t (0 : Fin 2) = t.val % 1 ∧ win0_1.index t (1 : Fin 2) = t.val / 1 % 4 :=
  (by decide +kernel : ∀ t : Fin grid0.N, win0_1.index t (0 : Fin 2) = t.val % 1 ∧ win0_1.index t (1 : Fin 2) = t.val / 1 % 4)
theorem index_2 : ∀ t : Fin cfg0.N, win0_2.index t (0 : Fin 2) = t.val / 4 ∧ win0_2.index t (1 : Fin 2) = t.val / 1 % 4 :=
  (by decide +kernel : ∀ t : Fin grid0.N, win0_2.index t (0 : Fin 2) = t.val / 4 ∧ win0_2.index t (1 : Fin 2) = t.val / 1 % 4)

/-- The arguments. -/
def arg0 (c : Dev nD) : FVec Ideal S5632x2048 .f32 := m ((c : Thread nD τ).loc main_arg0)
def arg1 (c : Dev nD) : FVec Ideal S8448x2048 .f32 := m ((c : Thread nD τ).loc main_arg1)

/-- The two arrays that the grid reads. -/
def left (c : Dev nD) : FVec Ideal S8448x2048 .bf16 := V m c main_v0
def right (c : Dev nD) : FVec Ideal S2048x5632 .bf16 := V m c main_v2

/-- They are the arguments, cast, the weight transposed. -/
theorem left_eq (c : Dev nD) : left m c = truncf .bf16 (arg1 m c) bitsLt_bf16_f32 := by
  unfold left arg1
  unfold_abbrev_sides
  after_results_simp <;> rfl
theorem right_eq (c : Dev nD) : right m c = transpose S2048x5632 [1, 0] (truncf .bf16 (arg0 m c) bitsLt_bf16_f32) transposes_S5632x2048_S2048x5632_1_0 := by
  unfold right arg0
  unfold_abbrev_sides
  after_results_simp <;> rfl
theorem left_apply (c : Dev nD) (i : Fin 8448) (k : Fin 2048) : left m c (ix2 i k) = arg1 m c (ix2 i k) := by
  rw [left_eq]
  pointwise
theorem right_apply (c : Dev nD) (k : Fin 2048) (j : Fin 5632) : right m c (ix2 k j) = arg0 m c (ix2 j k) := by
  rw [right_eq]
  pointwise

/-- The result array after the run. -/
abbrev result (c : Dev nD) : FVec Ideal S8448x5632 .bf16 := (dats m 0 c).arrAt 2 cfg0.N

/-- The result is the product. -/
theorem product (c : Dev nD) (i : Fin 8448) (j : Fin 5632) :
    result m c (ix2 i j) = ∑ k : Fin 2048, left m c (ix2 i k) * right m c (ix2 k j) := by
  have hi := i.isLt
  have hj := j.isLt
  have hN : cfg0.N = 44 := N_0
  have ht : 4 * (i.val / 768) + j.val / 1408 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 1408, Nat.mod_lt _ (by norm_num)⟩ : Fin 1408))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v2) (funext fun a => Fin.ext ?_)))))
  · match a with
    | ⟨0, _⟩ => show i.val = win0_2.index _ (0 : Fin 2) * 768 + 1 * (i.val % 768); omega
    | ⟨1, _⟩ => show j.val = win0_2.index _ (1 : Fin 2) * 1408 + 1 * (j.val % 1408); omega
  · match a with
    | ⟨0, _⟩ => show win0_0.index _ (0 : Fin 2) * 768 + 1 * (i.val % 768) = i.val; omega
    | ⟨1, _⟩ => show win0_0.index _ (1 : Fin 2) * 2048 + 1 * k.val = k.val; omega
  · match a with
    | ⟨0, _⟩ => show win0_1.index _ (0 : Fin 2) * 2048 + 1 * k.val = k.val; omega
    | ⟨1, _⟩ => show win0_1.index _ (1 : Fin 2) * 1408 + 1 * (j.val % 1408) = j.val; omega

/-- And so it is the product of the arguments. -/
theorem result_apply (c : Dev nD) (i : Fin 8448) (j : Fin 5632) :
    result m c (ix2 i j) = ∑ k : Fin 2048, arg1 m c (ix2 i k) * arg0 m c (ix2 j k) := by
  have e : (∑ k : Fin 2048, left m c (ix2 i k) * right m c (ix2 k j) : EReal) = ∑ k : Fin 2048, arg1 m c (ix2 i k) * arg0 m c (ix2 j k) := by
    refine Finset.sum_congr rfl fun k _ => ?_
    rw [left_apply, right_apply]
  exact (product m c i j).trans e

/-- The reference's result at an index. -/
theorem reference_apply (x : FVec Ideal S5632x2048 .f32) (w : FVec Ideal S8448x2048 .f32) (i : Fin 8448) (j : Fin 5632) :
    truncf .bf16 (Host.dotGeneral Cert.DownDaReferenceIdeal.dot_S8448x2048_S5632x2048_S8448x5632_1_1_0_0_n_n none w x) Cert.DownDaReferenceIdeal.Gen.bitsLt_bf16_f32 (ix2 i j) = ∑ k : Fin 2048, w (ix2 i k) * x (ix2 j k) := by
  pointwise

end Cert.DownDaIdeal.Value

namespace Cert.Proof

open Idealize.ShloMosaic Idealize.SL.Sem

/-- The kernel, its ideal reading and the reference end, their arguments unchanged and every counter at zero. -/
theorem frame_DownDa : Cert.quiescent_DownDa := fun m ρ _ => Cert.DownDa.Gen.frame m ρ
theorem frame_DownDaIdeal : Cert.quiescent_DownDaIdeal := fun m ρ _ => Cert.DownDaIdeal.Gen.frame m ρ
theorem frame_DownDaReference : Cert.quiescent_DownDaReferenceIdeal := fun m ρ _ =>
  (θ_run Cert.DownDaReferenceIdeal.defs _ _).mono (fun r h => ⟨fun c => (h c).2, sem_eq_zero_of_no_sems (by decide) r.2⟩) (Cert.DownDaReferenceIdeal.Value.run m ρ)

/-- Kernel and reference leave the same product, for all arguments. -/
theorem algebraic_DownDa : Cert.algebraic_DownDaIdeal_DownDaReferenceIdeal := by
  intro m g m' g' _ hargs
  refine ⟨fun c => Cert.DownDaIdeal.Value.result m c, Cert.DownDaIdeal.Value.run_blocks m g, ?_⟩
  refine (θ_run Cert.DownDaReferenceIdeal.defs _ _).mono (fun r h c => ?_) (Cert.DownDaReferenceIdeal.Value.run m' g')
  obtain ⟨e0, e1⟩ := hargs c
  obtain ⟨r0, rest⟩ := h c
  refine ⟨r0.trans ?_, rest⟩
  rw [e0, e1]
  funext y
  rw [eq_ix2 y]
  exact (Cert.DownDaIdeal.Value.reference_apply _ _ _ _).trans (Cert.DownDaIdeal.Value.result_apply m c _ _).symm

end Cert.Proof

end
-- ==== Proof.DownDwValue.lean ====
/- The gradient of the feed-forward block's second product in its weights: what its kernel accumulates over the tiles of the summed axis is the reference's product. -/
module

public import proofs.«01_k».proof.Defs
public import proofs.«01_k».proof.Proof.Products
public import proofs.«01_k».proof.Proof.Gen.DownDw.Frame
public import proofs.«01_k».proof.Proof.Gen.DownDwIdeal.Value
public import proofs.«01_k».proof.Proof.Gen.DownDwReferenceIdeal.Run

@[expose] public section

set_option maxRecDepth 16384

noncomputable section

namespace Cert.DownDwIdeal.Value

open Idealize.ShloMosaic Idealize.ShloMosaic.TcCoe Idealize.SL.Sem
open Cert.DownDwIdeal Cert.DownDwIdeal.Gen Product

section
variable (c : Dev nD) (i : grid0.Coords) (a0 : Memref sig .tc .vmem S1408x512 .bf16) (h0 : a0.IsWhole)
  (a1 : Memref sig .tc .vmem S1408x1024 .bf16) (h1 : a1.IsWhole) (a2 : Memref sig .tc .vmem S512x1024 .f32) (h2 : a2.IsWhole)
  (a3 : Memref sig .tc .vmem S512x1024 .f32) (h3 : a3.IsWhole) (x : Vec Ideal S1408x512 .bf16) (w : Vec Ideal S1408x1024 .bf16) (acc : Vec Ideal S512x1024 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S1408x512) origin, View.ld_unit_zero (S := S1408x1024) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S1408x512) origin,
    View.ld_unit_zero (S := S1408x1024) origin, View.ld_unit_zero (S := S512x1024) origin, shapeCast_self]

/-- and the last tile's sum is what the result's block gets. -/
theorem last (e0 : ¬cond0_0 i) (e1 : ¬cond0_1 i) (e2 : cond0_2 i) (y : S512x1024.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S1408x512) origin,
    View.ld_unit_zero (S := S1408x1024) origin, View.ld_unit_zero (S := S512x1024) origin, shapeCast_self]
  rfl

/-- The product of two tiles at an index. -/
theorem tile_apply (r : Fin 512) (s : Fin 1024) : k0_pay1 x w (ix2 r s) = ∑ k : Fin 1408, x (ix2 k r) * w (ix2 k s) := by
  unfold k0_pay1
  pointwise
end

variable (m : (ℓ : Loc nD τ sig) → Buf (Elt Ideal) ℓ)

/-- The product of the two tiles of point `n`. -/
def part (c : Dev nD) (n : ℕ) (y : S512x1024.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S512x1024.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 4) (h : 6 * q + j < cfg0.N) (y : S512x1024.Idx),
    (outsAt0 m c (6 * q + j) h).2 y = ∑ s ∈ Finset.range (j + 1), part m c (6 * q + s) y
  | 0, _, h, y => by
    have e := outsAt0_A m c ⟨6 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨6 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 6 * q + 5 < cfg0.N) (y : S512x1024.Idx) :
    (outsAt0 m c (6 * q + 5) h).1 y = ∑ s ∈ Finset.range 6, part m c (6 * q + s) y := by
  have e := outsAt0_C m c ⟨6 * q + 5, h⟩ (by dsimp only; omega) (by dsimp only; omega) (by dsimp only; omega)
  dsimp only at e
  rw [e, Finset.sum_range_succ, ← carried m c q 4 (le_refl _) (by omega), part_eq m c h]
  dsimp only
  rw [last]
  rfl

theorem index_0 : ∀ t : Fin cfg0.N, win0_0.index t (0 : Fin 2) = t.val % 6 ∧ win0_0.index t (1 : Fin 2) = t.val / 12 :=
  (by decide +kernel : ∀ t : Fin grid0.N, win0_0.index t (0 : Fin 2) = t.val % 6 ∧ win0_0.index t (1 : Fin 2) = t.val / 12)
theorem index_1 : ∀ t : Fin cfg0.N, win0_1.index t (0 : Fin 2) = t.val % 6 ∧ win0_1.index t (1 : Fin 2) = t.val / 6 % 2 :=
  (by decide +kernel : ∀ t : Fin grid0.N, win0_1.index t (0 : Fin 2) = t.val % 6 ∧ win0_1.index t (1 : Fin 2) = t.val / 6 % 2)

/-- The arguments. -/
def arg0 (c : Dev nD) : FVec Ideal S8448x5632 .f32 := m ((c : Thread nD τ).loc main_arg0)
def arg1 (c : Dev nD) : FVec Ideal S8448x2048 .f32 := m ((c : Thread nD τ).loc main_arg1)

/-- The two arrays that the grid reads. -/
def left (c : Dev nD) : FVec Ideal S8448x5632 .bf16 := V m c main_v0
def right (c : Dev nD) : FVec Ideal S8448x2048 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 5632) : left m c (ix2 i k) = arg0 m c (ix2 i k) := by
  rw [left_eq]
  pointwise
theorem right_apply (c : Dev nD) (k : Fin 8448) (j : Fin 2048) : right m c (ix2 k j) = arg1 m c (ix2 k j) := by
  rw [right_eq]
  pointwise

/-- The result is the product. -/
theorem product (c : Dev nD) (i : Fin 5632) (j : Fin 2048) :
    (G2 m c : FVec Ideal S5632x2048 .f32) (ix2 i j) = ∑ k : Fin 8448, left m c (ix2 k i) * right m c (ix2 k j) := by
  have hi := i.isLt
  have hj := j.isLt
  have hN : cfg0.N = 132 := N_0
  have hpt : 6 * (2 * (i.val / 512) + j.val / 1024) + 5 < cfg0.N := by rw [hN]; omega
  have hp : pt2Of (ix2 i j) = 6 * (2 * (i.val / 512) + j.val / 1024) + 5 := by
    show 6 * (2 * (i.val / 512 - 0) + 1 * (j.val / 1024 - 0)) + 5 = _
    omega
  have hl : loc2Of (ix2 i j) = ix2 (⟨i.val % 512, Nat.mod_lt _ (by norm_num)⟩ : Fin 512) (⟨j.val % 1024, Nat.mod_lt _ (by norm_num)⟩ : Fin 1024) :=
    eq_ix2 _
  have hb : (G2 m c : FVec Ideal S5632x2048 .f32) (ix2 i j) = ∑ s ∈ Finset.range 6, part m c (6 * (2 * (i.val / 512) + j.val / 1024) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 6 1408 rfl (fun k : Fin 8448 => left m c (ix2 k i) * right m c (ix2 k j)) _ fun s hs => ?_
  have hs' : 6 * (2 * (i.val / 512) + j.val / 1024) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 1408 + 1 * k.val = s * 1408 + k.val; omega
    | ⟨1, _⟩ => show win0_0.index _ (1 : Fin 2) * 512 + 1 * (i.val % 512) = i.val; omega
  · match a with
    | ⟨0, _⟩ => show win0_1.index _ (0 : Fin 2) * 1408 + 1 * k.val = s * 1408 + k.val; omega
    | ⟨1, _⟩ => show win0_1.index _ (1 : Fin 2) * 1024 + 1 * (j.val % 1024) = j.val; omega

/-- And so it is the product of the arguments. -/
theorem result_apply (c : Dev nD) (i : Fin 5632) (j : Fin 2048) :
    (G2 m c : FVec Ideal S5632x2048 .f32) (ix2 i j) = ∑ k : Fin 8448, arg1 m c (ix2 k j) * arg0 m c (ix2 k i) := by
  have e : (∑ k : Fin 8448, left m c (ix2 k i) * right m c (ix2 k j) : EReal) = ∑ k : Fin 8448, arg1 m c (ix2 k j) * arg0 m c (ix2 k i) := by
    refine Finset.sum_congr rfl fun k _ => ?_
    rw [left_apply, right_apply]
    exact EReal.mul_comm _ _
  exact (product m c i j).trans e

/-- The reference's result at an index. -/
theorem reference_apply (x : FVec Ideal S8448x5632 .f32) (w : FVec Ideal S8448x2048 .f32) (i : Fin 5632) (j : Fin 2048) :
    transpose _ [1, 0] (Host.dotGeneral Cert.DownDwReferenceIdeal.dot_S8448x2048_S8448x5632_S2048x5632_0_0_1_1_n_n none w x) Cert.DownDwReferenceIdeal.Gen.transposes_S2048x5632_S5632x2048_1_0 (ix2 i j) = ∑ k : Fin 8448, w (ix2 k j) * x (ix2 k i) := by
  pointwise

end Cert.DownDwIdeal.Value

namespace Cert.Proof

open Idealize.ShloMosaic Idealize.SL.Sem

/-- The kernel, its ideal reading and the reference end, their arguments unchanged and every counter at zero. -/
theorem frame_DownDw : Cert.quiescent_DownDw := fun m ρ _ => Cert.DownDw.Gen.frame m ρ
theorem frame_DownDwIdeal : Cert.quiescent_DownDwIdeal := fun m ρ _ => Cert.DownDwIdeal.Gen.frame m ρ
theorem frame_DownDwReference : Cert.quiescent_DownDwReferenceIdeal := fun m ρ _ =>
  (θ_run Cert.DownDwReferenceIdeal.defs _ _).mono (fun r h => ⟨fun c => (h c).2, sem_eq_zero_of_no_sems (by decide) r.2⟩) (Cert.DownDwReferenceIdeal.Value.run m ρ)

/-- Kernel and reference leave the same product, for all arguments. -/
theorem algebraic_DownDw : Cert.algebraic_DownDwIdeal_DownDwReferenceIdeal := by
  intro m g m' g' _ hargs
  refine ⟨fun c => Cert.DownDwIdeal.Value.G2 m c, Cert.DownDwIdeal.Value.run m g, ?_⟩
  refine (θ_run Cert.DownDwReferenceIdeal.defs _ _).mono (fun r h c => ?_) (Cert.DownDwReferenceIdeal.Value.run m' g')
  obtain ⟨e0, e1⟩ := hargs c
  obtain ⟨r0, rest⟩ := h c
  refine ⟨r0.trans ?_, rest⟩
  rw [e0, e1]
  funext y
  rw [eq_ix2 y]
  exact (Cert.DownDwIdeal.Value.reference_apply _ _ _ _).trans (Cert.DownDwIdeal.Value.result_apply m c _ _).symm

end Cert.Proof

end
-- ==== Proof.InValue.lean ====
/- The projection into the mixers: the product of the rows' and the columns' tiles, block by block, is the reference's product. -/
module

public import proofs.«01_k».proof.Defs
public import proofs.«01_k».proof.Proof.Products
public import proofs.«01_k».proof.Proof.Gen.In.Frame
public import proofs.«01_k».proof.Proof.Gen.InIdeal.Value
public import proofs.«01_k».proof.Proof.Gen.InReferenceIdeal.Run

@[expose] public section

set_option maxRecDepth 16384

noncomputable section

namespace Cert.InIdeal.Value

open Idealize.ShloMosaic Idealize.ShloMosaic.TcCoe Idealize.SL.Sem
open Cert.InIdeal Cert.InIdeal.Gen Product

/-- The product of two tiles at an index. -/
theorem tile_apply (x : Vec Ideal S768x2048 .bf16) (w : Vec Ideal S2048x1408 .bf16) (r : Fin 768) (s : Fin 1408) :
    (out0_2 x w : FVec Ideal S768x1408 .f32) (ix2 r s) = ∑ k : Fin 2048, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 3 ∧ win0_0.index t (1 : Fin 2) = t.val % 1 :=
  (by decide +kernel : ∀ t : Fin grid0.N, win0_0.index t (0 : Fin 2) = t.val / 3 ∧ win0_0.index t (1 : Fin 2) = t.val % 1)
theorem index_1 : ∀ t : Fin cfg0.N, win0_1.index t (0 : Fin 2) = t.val % 1 ∧ win0_1.index t (1 : Fin 2) = t.val / 1 % 3 :=
  (by decide +kernel : ∀ t : Fin grid0.N, win0_1.index t (0 : Fin 2) = t.val % 1 ∧ win0_1.index t (1 : Fin 2) = t.val / 1 % 3)
theorem index_2 : ∀ t : Fin cfg0.N, win0_2.index t (0 : Fin 2) = t.val / 3 ∧ win0_2.index t (1 : Fin 2) = t.val / 1 % 3 :=
  (by decide +kernel : ∀ t : Fin grid0.N, win0_2.index t (0 : Fin 2) = t.val / 3 ∧ win0_2.index t (1 : Fin 2) = t.val / 1 % 3)

/-- The arguments. -/
def arg0 (c : Dev nD) : FVec Ideal S8448x2048 .f32 := m ((c : Thread nD τ).loc main_arg0)
def arg1 (c : Dev nD) : FVec Ideal S2048x4224 .f32 := m ((c : Thread nD τ).loc main_arg1)

/-- The two arrays that the grid reads. -/
def left (c : Dev nD) : FVec Ideal S8448x2048 .bf16 := V m c main_v0
def right (c : Dev nD) : FVec Ideal S2048x4224 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 2048) : left m c (ix2 i k) = arg0 m c (ix2 i k) := by
  rw [left_eq]
  pointwise
theorem right_apply (c : Dev nD) (k : Fin 2048) (j : Fin 4224) : right m c (ix2 k j) = arg1 m c (ix2 k j) := by
  rw [right_eq]
  pointwise

/-- The result array after the run. -/
abbrev result (c : Dev nD) : FVec Ideal S8448x4224 .f32 := (dats m 0 c).arrAt 2 cfg0.N

/-- The result is the product. -/
theorem product (c : Dev nD) (i : Fin 8448) (j : Fin 4224) :
    result m c (ix2 i j) = ∑ k : Fin 2048, left m c (ix2 i k) * right m c (ix2 k j) := by
  have hi := i.isLt
  have hj := j.isLt
  have hN : cfg0.N = 33 := N_0
  have ht : 3 * (i.val / 768) + j.val / 1408 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 1408, Nat.mod_lt _ (by norm_num)⟩ : Fin 1408))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v1) (funext fun a => Fin.ext ?_)))))
  · match a with
    | ⟨0, _⟩ => show i.val = win0_2.index _ (0 : Fin 2) * 768 + 1 * (i.val % 768); omega
    | ⟨1, _⟩ => show j.val = win0_2.index _ (1 : Fin 2) * 1408 + 1 * (j.val % 1408); omega
  · match a with
    | ⟨0, _⟩ => show win0_0.index _ (0 : Fin 2) * 768 + 1 * (i.val % 768) = i.val; omega
    | ⟨1, _⟩ => show win0_0.index _ (1 : Fin 2) * 2048 + 1 * k.val = k.val; omega
  · match a with
    | ⟨0, _⟩ => show win0_1.index _ (0 : Fin 2) * 2048 + 1 * k.val = k.val; omega
    | ⟨1, _⟩ => show win0_1.index _ (1 : Fin 2) * 1408 + 1 * (j.val % 1408) = j.val; omega

/-- And so it is the product of the arguments. -/
theorem result_apply (c : Dev nD) (i : Fin 8448) (j : Fin 4224) :
    result m c (ix2 i j) = ∑ k : Fin 2048, arg0 m c (ix2 i k) * arg1 m c (ix2 k j) := by
  have e : (∑ k : Fin 2048, left m c (ix2 i k) * right m c (ix2 k j) : EReal) = ∑ k : Fin 2048, arg0 m c (ix2 i k) * arg1 m c (ix2 k j) := by
    refine Finset.sum_congr rfl fun k _ => ?_
    rw [left_apply, right_apply]
  exact (product m c i j).trans e

/-- The reference's result at an index. -/
theorem reference_apply (x : FVec Ideal S8448x2048 .f32) (w : FVec Ideal S2048x4224 .f32) (i : Fin 8448) (j : Fin 4224) :
    Host.dotGeneral Cert.InReferenceIdeal.dot_S8448x2048_S2048x4224_S8448x4224_1_0_0_1_n_n none x w (ix2 i j) = ∑ k : Fin 2048, x (ix2 i k) * w (ix2 k j) := by
  pointwise

end Cert.InIdeal.Value

namespace Cert.Proof

open Idealize.ShloMosaic Idealize.SL.Sem

/-- The kernel, its ideal reading and the reference end, their arguments unchanged and every counter at zero. -/
theorem frame_In : Cert.quiescent_In := fun m ρ _ => Cert.In.Gen.frame m ρ
theorem frame_InIdeal : Cert.quiescent_InIdeal := fun m ρ _ => Cert.InIdeal.Gen.frame m ρ
theorem frame_InReference : Cert.quiescent_InReferenceIdeal := fun m ρ _ =>
  (θ_run Cert.InReferenceIdeal.defs _ _).mono (fun r h => ⟨fun c => (h c).2, sem_eq_zero_of_no_sems (by decide) r.2⟩) (Cert.InReferenceIdeal.Value.run m ρ)

/-- Kernel and reference leave the same product, for all arguments. -/
theorem algebraic_In : Cert.algebraic_InIdeal_InReferenceIdeal := by
  intro m g m' g' _ hargs
  refine ⟨fun c => Cert.InIdeal.Value.result m c, Cert.InIdeal.Value.run_blocks m g, ?_⟩
  refine (θ_run Cert.InReferenceIdeal.defs _ _).mono (fun r h c => ?_) (Cert.InReferenceIdeal.Value.run m' g')
  obtain ⟨e0, e1⟩ := hargs c
  obtain ⟨r0, rest⟩ := h c
  refine ⟨r0.trans ?_, rest⟩
  rw [e0, e1]
  funext y
  rw [eq_ix2 y]
  exact (Cert.InIdeal.Value.reference_apply _ _ _ _).trans (Cert.InIdeal.Value.result_apply m c _ _).symm

end Cert.Proof

end
-- ==== Proof.InDaValue.lean ====
/- The gradient of the projection into the mixers in its rows: what its kernel accumulates over the tiles of the summed axis is the reference's product. -/
module

public import proofs.«01_k».proof.Defs
public import proofs.«01_k».proof.Proof.Products
public import proofs.«01_k».proof.Proof.Gen.InDa.Frame
public import proofs.«01_k».proof.Proof.Gen.InDaIdeal.Value
public import proofs.«01_k».proof.Proof.Gen.InDaReferenceIdeal.Run

@[expose] public section

set_option maxRecDepth 16384

noncomputable section

namespace Cert.InDaIdeal.Value

open Idealize.ShloMosaic Idealize.ShloMosaic.TcCoe Idealize.SL.Sem
open Cert.InDaIdeal Cert.InDaIdeal.Gen Product

section
variable (c : Dev nD) (i : grid0.Coords) (a0 : Memref sig .tc .vmem S768x1408 .bf16) (h0 : a0.IsWhole)
  (a1 : Memref sig .tc .vmem S1408x1024 .bf16) (h1 : a1.IsWhole) (a2 : Memref sig .tc .vmem S768x1024 .bf16) (h2 : a2.IsWhole)
  (a3 : Memref sig .tc .vmem S768x1024 .f32) (h3 : a3.IsWhole) (x : Vec Ideal S768x1408 .bf16) (w : Vec Ideal S1408x1024 .bf16) (acc : Vec Ideal S768x1024 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S768x1408) origin, View.ld_unit_zero (S := S1408x1024) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S768x1408) origin,
    View.ld_unit_zero (S := S1408x1024) origin, View.ld_unit_zero (S := S768x1024) origin, shapeCast_self]

/-- and the last tile's sum is what the result's block gets. -/
theorem last (e0 : ¬cond0_0 i) (e1 : ¬cond0_1 i) (e2 : cond0_2 i) (y : S768x1024.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S768x1408) origin,
    View.ld_unit_zero (S := S1408x1024) origin, View.ld_unit_zero (S := S768x1024) origin, shapeCast_self]
  rfl

/-- The product of two tiles at an index. -/
theorem tile_apply (r : Fin 768) (s : Fin 1024) : k0_pay1 x w (ix2 r s) = ∑ k : Fin 1408, x (ix2 r k) * w (ix2 k s) := by
  unfold k0_pay1
  pointwise
end

variable (m : (ℓ : Loc nD τ sig) → Buf (Elt Ideal) ℓ)

/-- The product of the two tiles of point `n`. -/
def part (c : Dev nD) (n : ℕ) (y : S768x1024.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S768x1024.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 1) (h : 3 * q + j < cfg0.N) (y : S768x1024.Idx),
    (outsAt0 m c (3 * q + j) h).2 y = ∑ s ∈ Finset.range (j + 1), part m c (3 * q + s) y
  | 0, _, h, y => by
    have e := outsAt0_A m c ⟨3 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨3 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 3 * q + 2 < cfg0.N) (y : S768x1024.Idx) :
    (outsAt0 m c (3 * q + 2) h).1 y = ∑ s ∈ Finset.range 3, part m c (3 * q + s) y := by
  have e := outsAt0_C m c ⟨3 * q + 2, h⟩ (by dsimp only; omega) (by dsimp only; omega) (by dsimp only; omega)
  dsimp only at e
  rw [e, Finset.sum_range_succ, ← carried m c q 1 (le_refl _) (by omega), part_eq m c h]
  dsimp only
  rw [last]
  rfl

theorem index_0 : ∀ t : Fin cfg0.N, win0_0.index t (0 : Fin 2) = t.val / 6 ∧ win0_0.index t (1 : Fin 2) = t.val % 3 :=
  (by decide +kernel : ∀ t : Fin grid0.N, win0_0.index t (0 : Fin 2) = t.val / 6 ∧ win0_0.index t (1 : Fin 2) = t.val % 3)
theorem index_1 : ∀ t : Fin cfg0.N, win0_1.index t (0 : Fin 2) = t.val % 3 ∧ win0_1.index t (1 : Fin 2) = t.val / 3 % 2 :=
  (by decide +kernel : ∀ t : Fin grid0.N, win0_1.index t (0 : Fin 2) = t.val % 3 ∧ win0_1.index t (1 : Fin 2) = t.val / 3 % 2)

/-- The arguments. -/
def arg0 (c : Dev nD) : FVec Ideal S2048x4224 .f32 := m ((c : Thread nD τ).loc main_arg0)
def arg1 (c : Dev nD) : FVec Ideal S8448x4224 .f32 := m ((c : Thread nD τ).loc main_arg1)

/-- The two arrays that the grid reads. -/
def left (c : Dev nD) : FVec Ideal S8448x4224 .bf16 := V m c main_v0
def right (c : Dev nD) : FVec Ideal S4224x2048 .bf16 := V m c main_v2

/-- They are the arguments, cast, the weight transposed. -/
theorem left_eq (c : Dev nD) : left m c = truncf .bf16 (arg1 m c) bitsLt_bf16_f32 := by
  unfold left arg1
  unfold_abbrev_sides
  after_results_simp <;> rfl
theorem right_eq (c : Dev nD) : right m c = transpose S4224x2048 [1, 0] (truncf .bf16 (arg0 m c) bitsLt_bf16_f32) transposes_S2048x4224_S4224x2048_1_0 := by
  unfold right arg0
  unfold_abbrev_sides
  after_results_simp <;> rfl
theorem left_apply (c : Dev nD) (i : Fin 8448) (k : Fin 4224) : left m c (ix2 i k) = arg1 m c (ix2 i k) := by
  rw [left_eq]
  pointwise
theorem right_apply (c : Dev nD) (k : Fin 4224) (j : Fin 2048) : right m c (ix2 k j) = arg0 m c (ix2 j k) := by
  rw [right_eq]
  pointwise

/-- The result is the product. -/
theorem product (c : Dev nD) (i : Fin 8448) (j : Fin 2048) :
    (G2 m c : FVec Ideal S8448x2048 .bf16) (ix2 i j) = ∑ k : Fin 4224, left m c (ix2 i k) * right m c (ix2 k j) := by
  have hi := i.isLt
  have hj := j.isLt
  have hN : cfg0.N = 66 := N_0
  have hpt : 3 * (2 * (i.val / 768) + j.val / 1024) + 2 < cfg0.N := by rw [hN]; omega
  have hp : pt2Of (ix2 i j) = 3 * (2 * (i.val / 768) + j.val / 1024) + 2 := by
    show 3 * (2 * (i.val / 768 - 0) + 1 * (j.val / 1024 - 0)) + 2 = _
    omega
  have hl : loc2Of (ix2 i j) = ix2 (⟨i.val % 768, Nat.mod_lt _ (by norm_num)⟩ : Fin 768) (⟨j.val % 1024, Nat.mod_lt _ (by norm_num)⟩ : Fin 1024) :=
    eq_ix2 _
  have hb : (G2 m c : FVec Ideal S8448x2048 .bf16) (ix2 i j) = ∑ s ∈ Finset.range 3, part m c (3 * (2 * (i.val / 768) + j.val / 1024) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 3 1408 rfl (fun k : Fin 4224 => left m c (ix2 i k) * right m c (ix2 k j)) _ fun s hs => ?_
  have hs' : 3 * (2 * (i.val / 768) + j.val / 1024) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v2) (funext fun a => Fin.ext ?_))
  · match a with
    | ⟨0, _⟩ => show win0_0.index _ (0 : Fin 2) * 768 + 1 * (i.val % 768) = i.val; omega
    | ⟨1, _⟩ => show win0_0.index _ (1 : Fin 2) * 1408 + 1 * k.val = s * 1408 + k.val; omega
  · match a with
    | ⟨0, _⟩ => show win0_1.index _ (0 : Fin 2) * 1408 + 1 * k.val = s * 1408 + k.val; omega
    | ⟨1, _⟩ => show win0_1.index _ (1 : Fin 2) * 1024 + 1 * (j.val % 1024) = j.val; omega

/-- And so it is the product of the arguments. -/
theorem result_apply (c : Dev nD) (i : Fin 8448) (j : Fin 2048) :
    (G2 m c : FVec Ideal S8448x2048 .bf16) (ix2 i j) = ∑ k : Fin 4224, arg1 m c (ix2 i k) * arg0 m c (ix2 j k) := by
  have e : (∑ k : Fin 4224, left m c (ix2 i k) * right m c (ix2 k j) : EReal) = ∑ k : Fin 4224, arg1 m c (ix2 i k) * arg0 m c (ix2 j k) := by
    refine Finset.sum_congr rfl fun k _ => ?_
    rw [left_apply, right_apply]
  exact (product m c i j).trans e

/-- The reference's result at an index. -/
theorem reference_apply (x : FVec Ideal S2048x4224 .f32) (w : FVec Ideal S8448x4224 .f32) (i : Fin 8448) (j : Fin 2048) :
    truncf .bf16 (Host.dotGeneral Cert.InDaReferenceIdeal.dot_S8448x4224_S2048x4224_S8448x2048_1_1_0_0_n_n none w x) Cert.InDaReferenceIdeal.Gen.bitsLt_bf16_f32 (ix2 i j) = ∑ k : Fin 4224, w (ix2 i k) * x (ix2 j k) := by
  pointwise

end Cert.InDaIdeal.Value

namespace Cert.Proof

open Idealize.ShloMosaic Idealize.SL.Sem

/-- The kernel, its ideal reading and the reference end, their arguments unchanged and every counter at zero. -/
theorem frame_InDa : Cert.quiescent_InDa := fun m ρ _ => Cert.InDa.Gen.frame m ρ
theorem frame_InDaIdeal : Cert.quiescent_InDaIdeal := fun m ρ _ => Cert.InDaIdeal.Gen.frame m ρ
theorem frame_InDaReference : Cert.quiescent_InDaReferenceIdeal := fun m ρ _ =>
  (θ_run Cert.InDaReferenceIdeal.defs _ _).mono (fun r h => ⟨fun c => (h c).2, sem_eq_zero_of_no_sems (by decide) r.2⟩) (Cert.InDaReferenceIdeal.Value.run m ρ)

/-- Kernel and reference leave the same product, for all arguments. -/
theorem algebraic_InDa : Cert.algebraic_InDaIdeal_InDaReferenceIdeal := by
  intro m g m' g' _ hargs
  refine ⟨fun c => Cert.InDaIdeal.Value.G2 m c, Cert.InDaIdeal.Value.run m g, ?_⟩
  refine (θ_run Cert.InDaReferenceIdeal.defs _ _).mono (fun r h c => ?_) (Cert.InDaReferenceIdeal.Value.run m' g')
  obtain ⟨e0, e1⟩ := hargs c
  obtain ⟨r0, rest⟩ := h c
  refine ⟨r0.trans ?_, rest⟩
  rw [e0, e1]
  funext y
  rw [eq_ix2 y]
  exact (Cert.InDaIdeal.Value.reference_apply _ _ _ _).trans (Cert.InDaIdeal.Value.result_apply m c _ _).symm

end Cert.Proof

end
-- ==== Proof.InDwValue.lean ====
/- The gradient of the projection into the mixers in its weights: what its kernel accumulates over the tiles of the summed axis is the reference's product. -/
module

public import proofs.«01_k».proof.Defs
public import proofs.«01_k».proof.Proof.Products
public import proofs.«01_k».proof.Proof.Gen.InDw.Frame
public import proofs.«01_k».proof.Proof.Gen.InDwIdeal.Value
public import proofs.«01_k».proof.Proof.Gen.InDwReferenceIdeal.Run

@[expose] public section

set_option maxRecDepth 16384

noncomputable section

namespace Cert.InDwIdeal.Value

open Idealize.ShloMosaic Idealize.ShloMosaic.TcCoe Idealize.SL.Sem
open Cert.InDwIdeal Cert.InDwIdeal.Gen Product

section
variable (c : Dev nD) (i : grid0.Coords) (a0 : Memref sig .tc .vmem S1408x1024 .bf16) (h0 : a0.IsWhole)
  (a1 : Memref sig .tc .vmem S1408x1408 .bf16) (h1 : a1.IsWhole) (a2 : Memref sig .tc .vmem S1024x1408 .f32) (h2 : a2.IsWhole)
  (a3 : Memref sig .tc .vmem S1024x1408 .f32) (h3 : a3.IsWhole) (x : Vec Ideal S1408x1024 .bf16) (w : Vec Ideal S1408x1408 .bf16) (acc : Vec Ideal S1024x1408 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S1408x1024) origin, View.ld_unit_zero (S := S1408x1408) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S1408x1024) origin,
    View.ld_unit_zero (S := S1408x1408) origin, View.ld_unit_zero (S := S1024x1408) origin, shapeCast_self]

/-- and the last tile's sum is what the result's block gets. -/
theorem last (e0 : ¬cond0_0 i) (e1 : ¬cond0_1 i) (e2 : cond0_2 i) (y : S1024x1408.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S1408x1024) origin,
    View.ld_unit_zero (S := S1408x1408) origin, View.ld_unit_zero (S := S1024x1408) origin, shapeCast_self]
  rfl

/-- The product of two tiles at an index. -/
theorem tile_apply (r : Fin 1024) (s : Fin 1408) : k0_pay1 x w (ix2 r s) = ∑ k : Fin 1408, x (ix2 k r) * w (ix2 k s) := by
  unfold k0_pay1
  pointwise
end

variable (m : (ℓ : Loc nD τ sig) → Buf (Elt Ideal) ℓ)

/-- The product of the two tiles of point `n`. -/
def part (c : Dev nD) (n : ℕ) (y : S1024x1408.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S1024x1408.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 4) (h : 6 * q + j < cfg0.N) (y : S1024x1408.Idx),
    (outsAt0 m c (6 * q + j) h).2 y = ∑ s ∈ Finset.range (j + 1), part m c (6 * q + s) y
  | 0, _, h, y => by
    have e := outsAt0_A m c ⟨6 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨6 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 6 * q + 5 < cfg0.N) (y : S1024x1408.Idx) :
    (outsAt0 m c (6 * q + 5) h).1 y = ∑ s ∈ Finset.range 6, part m c (6 * q + s) y := by
  have e := outsAt0_C m c ⟨6 * q + 5, h⟩ (by dsimp only; omega) (by dsimp only; omega) (by dsimp only; omega)
  dsimp only at e
  rw [e, Finset.sum_range_succ, ← carried m c q 4 (le_refl _) (by omega), part_eq m c h]
  dsimp only
  rw [last]
  rfl

theorem index_0 : ∀ t : Fin cfg0.N, win0_0.index t (0 : Fin 2) = t.val % 6 ∧ win0_0.index t (1 : Fin 2) = t.val / 18 :=
  (by decide +kernel : ∀ t : Fin grid0.N, win0_0.index t (0 : Fin 2) = t.val % 6 ∧ win0_0.index t (1 : Fin 2) = t.val / 18)
theorem index_1 : ∀ t : Fin cfg0.N, win0_1.index t (0 : Fin 2) = t.val % 6 ∧ win0_1.index t (1 : Fin 2) = t.val / 6 % 3 :=
  (by decide +kernel : ∀ t : Fin grid0.N, win0_1.index t (0 : Fin 2) = t.val % 6 ∧ win0_1.index t (1 : Fin 2) = t.val / 6 % 3)

/-- The arguments. -/
def arg0 (c : Dev nD) : FVec Ideal S8448x2048 .f32 := m ((c : Thread nD τ).loc main_arg0)
def arg1 (c : Dev nD) : FVec Ideal S8448x4224 .f32 := m ((c : Thread nD τ).loc main_arg1)

/-- The two arrays that the grid reads. -/
def left (c : Dev nD) : FVec Ideal S8448x2048 .bf16 := V m c main_v0
def right (c : Dev nD) : FVec Ideal S8448x4224 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 2048) : left m c (ix2 i k) = arg0 m c (ix2 i k) := by
  rw [left_eq]
  pointwise
theorem right_apply (c : Dev nD) (k : Fin 8448) (j : Fin 4224) : right m c (ix2 k j) = arg1 m c (ix2 k j) := by
  rw [right_eq]
  pointwise

/-- The result is the product. -/
theorem product (c : Dev nD) (i : Fin 2048) (j : Fin 4224) :
    (G2 m c : FVec Ideal S2048x4224 .f32) (ix2 i j) = ∑ k : Fin 8448, left m c (ix2 k i) * right m c (ix2 k j) := by
  have hi := i.isLt
  have hj := j.isLt
  have hN : cfg0.N = 36 := N_0
  have hpt : 6 * (3 * (i.val / 1024) + j.val / 1408) + 5 < cfg0.N := by rw [hN]; omega
  have hp : pt2Of (ix2 i j) = 6 * (3 * (i.val / 1024) + j.val / 1408) + 5 := by
    show 6 * (3 * (i.val / 1024 - 0) + 1 * (j.val / 1408 - 0)) + 5 = _
    omega
  have hl : loc2Of (ix2 i j) = ix2 (⟨i.val % 1024, Nat.mod_lt _ (by norm_num)⟩ : Fin 1024) (⟨j.val % 1408, Nat.mod_lt _ (by norm_num)⟩ : Fin 1408) :=
    eq_ix2 _
  have hb : (G2 m c : FVec Ideal S2048x4224 .f32) (ix2 i j) = ∑ s ∈ Finset.range 6, part m c (6 * (3 * (i.val / 1024) + j.val / 1408) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 6 1408 rfl (fun k : Fin 8448 => left m c (ix2 k i) * right m c (ix2 k j)) _ fun s hs => ?_
  have hs' : 6 * (3 * (i.val / 1024) + j.val / 1408) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 1408 + 1 * k.val = s * 1408 + k.val; omega
    | ⟨1, _⟩ => show win0_0.index _ (1 : Fin 2) * 1024 + 1 * (i.val % 1024) = i.val; omega
  · match a with
    | ⟨0, _⟩ => show win0_1.index _ (0 : Fin 2) * 1408 + 1 * k.val = s * 1408 + k.val; omega
    | ⟨1, _⟩ => show win0_1.index _ (1 : Fin 2) * 1408 + 1 * (j.val % 1408) = j.val; omega

/-- And so it is the product of the arguments. -/
theorem result_apply (c : Dev nD) (i : Fin 2048) (j : Fin 4224) :
    (G2 m c : FVec Ideal S2048x4224 .f32) (ix2 i j) = ∑ k : Fin 8448, arg1 m c (ix2 k j) * arg0 m c (ix2 k i) := by
  have e : (∑ k : Fin 8448, left m c (ix2 k i) * right m c (ix2 k j) : EReal) = ∑ k : Fin 8448, arg1 m c (ix2 k j) * arg0 m c (ix2 k i) := by
    refine Finset.sum_congr rfl fun k _ => ?_
    rw [left_apply, right_apply]
    exact EReal.mul_comm _ _
  exact (product m c i j).trans e

/-- The reference's result at an index. -/
theorem reference_apply (x : FVec Ideal S8448x2048 .f32) (w : FVec Ideal S8448x4224 .f32) (i : Fin 2048) (j : Fin 4224) :
    transpose _ [1, 0] (Host.dotGeneral Cert.InDwReferenceIdeal.dot_S8448x4224_S8448x2048_S4224x2048_0_0_1_1_n_n none w x) Cert.InDwReferenceIdeal.Gen.transposes_S4224x2048_S2048x4224_1_0 (ix2 i j) = ∑ k : Fin 8448, w (ix2 k j) * x (ix2 k i) := by
  pointwise

end Cert.InDwIdeal.Value

namespace Cert.Proof

open Idealize.ShloMosaic Idealize.SL.Sem

/-- The kernel, its ideal reading and the reference end, their arguments unchanged and every counter at zero. -/
theorem frame_InDw : Cert.quiescent_InDw := fun m ρ _ => Cert.InDw.Gen.frame m ρ
theorem frame_InDwIdeal : Cert.quiescent_InDwIdeal := fun m ρ _ => Cert.InDwIdeal.Gen.frame m ρ
theorem frame_InDwReference : Cert.quiescent_InDwReferenceIdeal := fun m ρ _ =>
  (θ_run Cert.InDwReferenceIdeal.defs _ _).mono (fun r h => ⟨fun c => (h c).2, sem_eq_zero_of_no_sems (by decide) r.2⟩) (Cert.InDwReferenceIdeal.Value.run m ρ)

/-- Kernel and reference leave the same product, for all arguments. -/
theorem algebraic_InDw : Cert.algebraic_InDwIdeal_InDwReferenceIdeal := by
  intro m g m' g' _ hargs
  refine ⟨fun c => Cert.InDwIdeal.Value.G2 m c, Cert.InDwIdeal.Value.run m g, ?_⟩
  refine (θ_run Cert.InDwReferenceIdeal.defs _ _).mono (fun r h c => ?_) (Cert.InDwReferenceIdeal.Value.run m' g')
  obtain ⟨e0, e1⟩ := hargs c
  obtain ⟨r0, rest⟩ := h c
  refine ⟨r0.trans ?_, rest⟩
  rw [e0, e1]
  funext y
  rw [eq_ix2 y]
  exact (Cert.InDwIdeal.Value.reference_apply _ _ _ _).trans (Cert.InDwIdeal.Value.result_apply m c _ _).symm

end Cert.Proof

end
-- ==== Proof.OutValue.lean ====
/- The projection out of the mixers: the product of the rows' and the columns' tiles, block by block, is the reference's product. -/
module

public import proofs.«01_k».proof.Defs
public import proofs.«01_k».proof.Proof.Products
public import proofs.«01_k».proof.Proof.Gen.Out.Frame
public import proofs.«01_k».proof.Proof.Gen.OutIdeal.Value
public import proofs.«01_k».proof.Proof.Gen.OutReferenceIdeal.Run

@[expose] public section

set_option maxRecDepth 16384

noncomputable section

namespace Cert.OutIdeal.Value

open Idealize.ShloMosaic Idealize.ShloMosaic.TcCoe Idealize.SL.Sem
open Cert.OutIdeal Cert.OutIdeal.Gen Product

/-- The product of two tiles at an index. -/
theorem tile_apply (x : Vec Ideal S768x2048 .bf16) (w : Vec Ideal S2048x1024 .bf16) (r : Fin 768) (s : Fin 1024) :
    (out0_2 x w : FVec Ideal S768x1024 .f32) (ix2 r s) = ∑ k : Fin 2048, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 2 ∧ win0_0.index t (1 : Fin 2) = t.val % 1 :=
  (by decide +kernel : ∀ t : Fin grid0.N, win0_0.index t (0 : Fin 2) = t.val / 2 ∧ win0_0.index t (1 : Fin 2) = t.val % 1)
theorem index_1 : ∀ t : Fin cfg0.N, win0_1.index t (0 : Fin 2) = t.val % 1 ∧ win0_1.index t (1 : Fin 2) = t.val / 1 % 2 :=
  (by decide +kernel : ∀ t : Fin grid0.N, win0_1.index t (0 : Fin 2) = t.val % 1 ∧ win0_1.index t (1 : Fin 2) = t.val / 1 % 2)
theorem index_2 : ∀ t : Fin cfg0.N, win0_2.index t (0 : Fin 2) = t.val / 2 ∧ win0_2.index t (1 : Fin 2) = t.val / 1 % 2 :=
  (by decide +kernel : ∀ t : Fin grid0.N, win0_2.index t (0 : Fin 2) = t.val / 2 ∧ win0_2.index t (1 : Fin 2) = t.val / 1 % 2)

/-- The arguments. -/
def arg0 (c : Dev nD) : FVec Ideal S8448x2048 .f32 := m ((c : Thread nD τ).loc main_arg0)
def arg1 (c : Dev nD) : FVec Ideal S2048x2048 .f32 := m ((c : Thread nD τ).loc main_arg1)

/-- The two arrays that the grid reads. -/
def left (c : Dev nD) : FVec Ideal S8448x2048 .bf16 := V m c main_v0
def right (c : Dev nD) : FVec Ideal S2048x2048 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 2048) : left m c (ix2 i k) = arg0 m c (ix2 i k) := by
  rw [left_eq]
  pointwise
theorem right_apply (c : Dev nD) (k : Fin 2048) (j : Fin 2048) : right m c (ix2 k j) = arg1 m c (ix2 k j) := by
  rw [right_eq]
  pointwise

/-- The result array after the run. -/
abbrev result (c : Dev nD) : FVec Ideal S8448x2048 .f32 := (dats m 0 c).arrAt 2 cfg0.N

/-- The result is the product. -/
theorem product (c : Dev nD) (i : Fin 8448) (j : Fin 2048) :
    result m c (ix2 i j) = ∑ k : Fin 2048, left m c (ix2 i k) * right m c (ix2 k j) := by
  have hi := i.isLt
  have hj := j.isLt
  have hN : cfg0.N = 22 := N_0
  have ht : 2 * (i.val / 768) + j.val / 1024 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 1024, Nat.mod_lt _ (by norm_num)⟩ : Fin 1024))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v1) (funext fun a => Fin.ext ?_)))))
  · match a with
    | ⟨0, _⟩ => show i.val = win0_2.index _ (0 : Fin 2) * 768 + 1 * (i.val % 768); omega
    | ⟨1, _⟩ => show j.val = win0_2.index _ (1 : Fin 2) * 1024 + 1 * (j.val % 1024); omega
  · match a with
    | ⟨0, _⟩ => show win0_0.index _ (0 : Fin 2) * 768 + 1 * (i.val % 768) = i.val; omega
    | ⟨1, _⟩ => show win0_0.index _ (1 : Fin 2) * 2048 + 1 * k.val = k.val; omega
  · match a with
    | ⟨0, _⟩ => show win0_1.index _ (0 : Fin 2) * 2048 + 1 * k.val = k.val; omega
    | ⟨1, _⟩ => show win0_1.index _ (1 : Fin 2) * 1024 + 1 * (j.val % 1024) = j.val; omega

/-- And so it is the product of the arguments. -/
theorem result_apply (c : Dev nD) (i : Fin 8448) (j : Fin 2048) :
    result m c (ix2 i j) = ∑ k : Fin 2048, arg0 m c (ix2 i k) * arg1 m c (ix2 k j) := by
  have e : (∑ k : Fin 2048, left m c (ix2 i k) * right m c (ix2 k j) : EReal) = ∑ k : Fin 2048, arg0 m c (ix2 i k) * arg1 m c (ix2 k j) := by
    refine Finset.sum_congr rfl fun k _ => ?_
    rw [left_apply, right_apply]
  exact (product m c i j).trans e

/-- The reference's result at an index. -/
theorem reference_apply (x : FVec Ideal S8448x2048 .f32) (w : FVec Ideal S2048x2048 .f32) (i : Fin 8448) (j : Fin 2048) :
    Host.dotGeneral Cert.OutReferenceIdeal.dot_S8448x2048_S2048x2048_S8448x2048_1_0_0_1_n_n none x w (ix2 i j) = ∑ k : Fin 2048, x (ix2 i k) * w (ix2 k j) := by
  pointwise

end Cert.OutIdeal.Value

namespace Cert.Proof

open Idealize.ShloMosaic Idealize.SL.Sem

/-- The kernel, its ideal reading and the reference end, their arguments unchanged and every counter at zero. -/
theorem frame_Out : Cert.quiescent_Out := fun m ρ _ => Cert.Out.Gen.frame m ρ
theorem frame_OutIdeal : Cert.quiescent_OutIdeal := fun m ρ _ => Cert.OutIdeal.Gen.frame m ρ
theorem frame_OutReference : Cert.quiescent_OutReferenceIdeal := fun m ρ _ =>
  (θ_run Cert.OutReferenceIdeal.defs _ _).mono (fun r h => ⟨fun c => (h c).2, sem_eq_zero_of_no_sems (by decide) r.2⟩) (Cert.OutReferenceIdeal.Value.run m ρ)

/-- Kernel and reference leave the same product, for all arguments. -/
theorem algebraic_Out : Cert.algebraic_OutIdeal_OutReferenceIdeal := by
  intro m g m' g' _ hargs
  refine ⟨fun c => Cert.OutIdeal.Value.result m c, Cert.OutIdeal.Value.run_blocks m g, ?_⟩
  refine (θ_run Cert.OutReferenceIdeal.defs _ _).mono (fun r h c => ?_) (Cert.OutReferenceIdeal.Value.run m' g')
  obtain ⟨e0, e1⟩ := hargs c
  obtain ⟨r0, rest⟩ := h c
  refine ⟨r0.trans ?_, rest⟩
  rw [e0, e1]
  funext y
  rw [eq_ix2 y]
  exact (Cert.OutIdeal.Value.reference_apply _ _ _ _).trans (Cert.OutIdeal.Value.result_apply m c _ _).symm

end Cert.Proof

end
-- ==== Proof.OutDaValue.lean ====
/- The gradient of the projection out of the mixers in its rows: the product of the rows' and the columns' tiles, block by block, is the reference's product. -/
module

public import proofs.«01_k».proof.Defs
public import proofs.«01_k».proof.Proof.Products
public import proofs.«01_k».proof.Proof.Gen.OutDa.Frame
public import proofs.«01_k».proof.Proof.Gen.OutDaIdeal.Value
public import proofs.«01_k».proof.Proof.Gen.OutDaReferenceIdeal.Run

@[expose] public section

set_option maxRecDepth 16384

noncomputable section

namespace Cert.OutDaIdeal.Value

open Idealize.ShloMosaic Idealize.ShloMosaic.TcCoe Idealize.SL.Sem
open Cert.OutDaIdeal Cert.OutDaIdeal.Gen Product

/-- The product of two tiles at an index. -/
theorem tile_apply (x : Vec Ideal S768x2048 .bf16) (w : Vec Ideal S2048x1024 .bf16) (r : Fin 768) (s : Fin 1024) :
    (out0_2 x w : FVec Ideal S768x1024 .bf16) (ix2 r s) = ∑ k : Fin 2048, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 2 ∧ win0_0.index t (1 : Fin 2) = t.val % 1 :=
  (by decide +kernel : ∀ t : Fin grid0.N, win0_0.index t (0 : Fin 2) = t.val / 2 ∧ win0_0.index t (1 : Fin 2) = t.val % 1)
theorem index_1 : ∀ t : Fin cfg0.N, win0_1.index t (0 : Fin 2) = t.val % 1 ∧ win0_1.index t (1 : Fin 2) = t.val / 1 % 2 :=
  (by decide +kernel : ∀ t : Fin grid0.N, win0_1.index t (0 : Fin 2) = t.val % 1 ∧ win0_1.index t (1 : Fin 2) = t.val / 1 % 2)
theorem index_2 : ∀ t : Fin cfg0.N, win0_2.index t (0 : Fin 2) = t.val / 2 ∧ win0_2.index t (1 : Fin 2) = t.val / 1 % 2 :=
  (by decide +kernel : ∀ t : Fin grid0.N, win0_2.index t (0 : Fin 2) = t.val / 2 ∧ win0_2.index t (1 : Fin 2) = t.val / 1 % 2)

/-- The arguments. -/
def arg0 (c : Dev nD) : FVec Ideal S2048x2048 .f32 := m ((c : Thread nD τ).loc main_arg0)
def arg1 (c : Dev nD) : FVec Ideal S8448x2048 .f32 := m ((c : Thread nD τ).loc main_arg1)

/-- The two arrays that the grid reads. -/
def left (c : Dev nD) : FVec Ideal S8448x2048 .bf16 := V m c main_v0
def right (c : Dev nD) : FVec Ideal S2048x2048 .bf16 := V m c main_v2

/-- They are the arguments, cast, the weight transposed. -/
theorem left_eq (c : Dev nD) : left m c = truncf .bf16 (arg1 m c) bitsLt_bf16_f32 := by
  unfold left arg1
  unfold_abbrev_sides
  after_results_simp <;> rfl
theorem right_eq (c : Dev nD) : right m c = transpose S2048x2048 [1, 0] (truncf .bf16 (arg0 m c) bitsLt_bf16_f32) transposes_S2048x2048_S2048x2048_1_0 := by
  unfold right arg0
  unfold_abbrev_sides
  after_results_simp <;> rfl
theorem left_apply (c : Dev nD) (i : Fin 8448) (k : Fin 2048) : left m c (ix2 i k) = arg1 m c (ix2 i k) := by
  rw [left_eq]
  pointwise
theorem right_apply (c : Dev nD) (k : Fin 2048) (j : Fin 2048) : right m c (ix2 k j) = arg0 m c (ix2 j k) := by
  rw [right_eq]
  pointwise

/-- The result array after the run. -/
abbrev result (c : Dev nD) : FVec Ideal S8448x2048 .bf16 := (dats m 0 c).arrAt 2 cfg0.N

/-- The result is the product. -/
theorem product (c : Dev nD) (i : Fin 8448) (j : Fin 2048) :
    result m c (ix2 i j) = ∑ k : Fin 2048, left m c (ix2 i k) * right m c (ix2 k j) := by
  have hi := i.isLt
  have hj := j.isLt
  have hN : cfg0.N = 22 := N_0
  have ht : 2 * (i.val / 768) + j.val / 1024 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 1024, Nat.mod_lt _ (by norm_num)⟩ : Fin 1024))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v2) (funext fun a => Fin.ext ?_)))))
  · match a with
    | ⟨0, _⟩ => show i.val = win0_2.index _ (0 : Fin 2) * 768 + 1 * (i.val % 768); omega
    | ⟨1, _⟩ => show j.val = win0_2.index _ (1 : Fin 2) * 1024 + 1 * (j.val % 1024); omega
  · match a with
    | ⟨0, _⟩ => show win0_0.index _ (0 : Fin 2) * 768 + 1 * (i.val % 768) = i.val; omega
    | ⟨1, _⟩ => show win0_0.index _ (1 : Fin 2) * 2048 + 1 * k.val = k.val; omega
  · match a with
    | ⟨0, _⟩ => show win0_1.index _ (0 : Fin 2) * 2048 + 1 * k.val = k.val; omega
    | ⟨1, _⟩ => show win0_1.index _ (1 : Fin 2) * 1024 + 1 * (j.val % 1024) = j.val; omega

/-- And so it is the product of the arguments. -/
theorem result_apply (c : Dev nD) (i : Fin 8448) (j : Fin 2048) :
    result m c (ix2 i j) = ∑ k : Fin 2048, arg1 m c (ix2 i k) * arg0 m c (ix2 j k) := by
  have e : (∑ k : Fin 2048, left m c (ix2 i k) * right m c (ix2 k j) : EReal) = ∑ k : Fin 2048, arg1 m c (ix2 i k) * arg0 m c (ix2 j k) := by
    refine Finset.sum_congr rfl fun k _ => ?_
    rw [left_apply, right_apply]
  exact (product m c i j).trans e

/-- The reference's result at an index. -/
theorem reference_apply (x : FVec Ideal S2048x2048 .f32) (w : FVec Ideal S8448x2048 .f32) (i : Fin 8448) (j : Fin 2048) :
    truncf .bf16 (Host.dotGeneral Cert.OutDaReferenceIdeal.dot_S8448x2048_S2048x2048_S8448x2048_1_1_0_0_n_n none w x) Cert.OutDaReferenceIdeal.Gen.bitsLt_bf16_f32 (ix2 i j) = ∑ k : Fin 2048, w (ix2 i k) * x (ix2 j k) := by
  pointwise

end Cert.OutDaIdeal.Value

namespace Cert.Proof

open Idealize.ShloMosaic Idealize.SL.Sem

/-- The kernel, its ideal reading and the reference end, their arguments unchanged and every counter at zero. -/
theorem frame_OutDa : Cert.quiescent_OutDa := fun m ρ _ => Cert.OutDa.Gen.frame m ρ
theorem frame_OutDaIdeal : Cert.quiescent_OutDaIdeal := fun m ρ _ => Cert.OutDaIdeal.Gen.frame m ρ
theorem frame_OutDaReference : Cert.quiescent_OutDaReferenceIdeal := fun m ρ _ =>
  (θ_run Cert.OutDaReferenceIdeal.defs _ _).mono (fun r h => ⟨fun c => (h c).2, sem_eq_zero_of_no_sems (by decide) r.2⟩) (Cert.OutDaReferenceIdeal.Value.run m ρ)

/-- Kernel and reference leave the same product, for all arguments. -/
theorem algebraic_OutDa : Cert.algebraic_OutDaIdeal_OutDaReferenceIdeal := by
  intro m g m' g' _ hargs
  refine ⟨fun c => Cert.OutDaIdeal.Value.result m c, Cert.OutDaIdeal.Value.run_blocks m g, ?_⟩
  refine (θ_run Cert.OutDaReferenceIdeal.defs _ _).mono (fun r h c => ?_) (Cert.OutDaReferenceIdeal.Value.run m' g')
  obtain ⟨e0, e1⟩ := hargs c
  obtain ⟨r0, rest⟩ := h c
  refine ⟨r0.trans ?_, rest⟩
  rw [e0, e1]
  funext y
  rw [eq_ix2 y]
  exact (Cert.OutDaIdeal.Value.reference_apply _ _ _ _).trans (Cert.OutDaIdeal.Value.result_apply m c _ _).symm

end Cert.Proof

end
-- ==== Proof.OutDwValue.lean ====
/- The gradient of the projection out of the mixers in its weights: what its kernel accumulates over the tiles of the summed axis is the reference's product. -/
module

public import proofs.«01_k».proof.Defs
public import proofs.«01_k».proof.Proof.Products
public import proofs.«01_k».proof.Proof.Gen.OutDw.Frame
public import proofs.«01_k».proof.Proof.Gen.OutDwIdeal.Value
public import proofs.«01_k».proof.Proof.Gen.OutDwReferenceIdeal.Run

@[expose] public section

set_option maxRecDepth 16384

noncomputable section

namespace Cert.OutDwIdeal.Value

open Idealize.ShloMosaic Idealize.ShloMosaic.TcCoe Idealize.SL.Sem
open Cert.OutDwIdeal Cert.OutDwIdeal.Gen Product

section
variable (c : Dev nD) (i : grid0.Coords) (a0 : Memref sig .tc .vmem S1408x1024 .bf16) (h0 : a0.IsWhole)
  (a1 : Memref sig .tc .vmem S1408x1024 .bf16) (h1 : a1.IsWhole) (a2 : Memref sig .tc .vmem S1024x1024 .f32) (h2 : a2.IsWhole)
  (a3 : Memref sig .tc .vmem S1024x1024 .f32) (h3 : a3.IsWhole) (x : Vec Ideal S1408x1024 .bf16) (w : Vec Ideal S1408x1024 .bf16) (acc : Vec Ideal S1024x1024 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S1408x1024) origin, View.ld_unit_zero (S := S1408x1024) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S1408x1024) origin,
    View.ld_unit_zero (S := S1408x1024) origin, View.ld_unit_zero (S := S1024x1024) origin, shapeCast_self]

/-- and the last tile's sum is what the result's block gets. -/
theorem last (e0 : ¬cond0_0 i) (e1 : ¬cond0_1 i) (e2 : cond0_2 i) (y : S1024x1024.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S1408x1024) origin,
    View.ld_unit_zero (S := S1408x1024) origin, View.ld_unit_zero (S := S1024x1024) origin, shapeCast_self]
  rfl

/-- The product of two tiles at an index. -/
theorem tile_apply (r : Fin 1024) (s : Fin 1024) : k0_pay1 x w (ix2 r s) = ∑ k : Fin 1408, x (ix2 k r) * w (ix2 k s) := by
  unfold k0_pay1
  pointwise
end

variable (m : (ℓ : Loc nD τ sig) → Buf (Elt Ideal) ℓ)

/-- The product of the two tiles of point `n`. -/
def part (c : Dev nD) (n : ℕ) (y : S1024x1024.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S1024x1024.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 4) (h : 6 * q + j < cfg0.N) (y : S1024x1024.Idx),
    (outsAt0 m c (6 * q + j) h).2 y = ∑ s ∈ Finset.range (j + 1), part m c (6 * q + s) y
  | 0, _, h, y => by
    have e := outsAt0_A m c ⟨6 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨6 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 6 * q + 5 < cfg0.N) (y : S1024x1024.Idx) :
    (outsAt0 m c (6 * q + 5) h).1 y = ∑ s ∈ Finset.range 6, part m c (6 * q + s) y := by
  have e := outsAt0_C m c ⟨6 * q + 5, h⟩ (by dsimp only; omega) (by dsimp only; omega) (by dsimp only; omega)
  dsimp only at e
  rw [e, Finset.sum_range_succ, ← carried m c q 4 (le_refl _) (by omega), part_eq m c h]
  dsimp only
  rw [last]
  rfl

theorem index_0 : ∀ t : Fin cfg0.N, win0_0.index t (0 : Fin 2) = t.val % 6 ∧ win0_0.index t (1 : Fin 2) = t.val / 12 :=
  (by decide +kernel : ∀ t : Fin grid0.N, win0_0.index t (0 : Fin 2) = t.val % 6 ∧ win0_0.index t (1 : Fin 2) = t.val / 12)
theorem index_1 : ∀ t : Fin cfg0.N, win0_1.index t (0 : Fin 2) = t.val % 6 ∧ win0_1.index t (1 : Fin 2) = t.val / 6 % 2 :=
  (by decide +kernel : ∀ t : Fin grid0.N, win0_1.index t (0 : Fin 2) = t.val % 6 ∧ win0_1.index t (1 : Fin 2) = t.val / 6 % 2)

/-- The arguments. -/
def arg0 (c : Dev nD) : FVec Ideal S8448x2048 .f32 := m ((c : Thread nD τ).loc main_arg0)
def arg1 (c : Dev nD) : FVec Ideal S8448x2048 .f32 := m ((c : Thread nD τ).loc main_arg1)

/-- The two arrays that the grid reads. -/
def left (c : Dev nD) : FVec Ideal S8448x2048 .bf16 := V m c main_v0
def right (c : Dev nD) : FVec Ideal S8448x2048 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 2048) : left m c (ix2 i k) = arg0 m c (ix2 i k) := by
  rw [left_eq]
  pointwise
theorem right_apply (c : Dev nD) (k : Fin 8448) (j : Fin 2048) : right m c (ix2 k j) = arg1 m c (ix2 k j) := by
  rw [right_eq]
  pointwise

/-- The result is the product. -/
theorem product (c : Dev nD) (i : Fin 2048) (j : Fin 2048) :
    (G2 m c : FVec Ideal S2048x2048 .f32) (ix2 i j) = ∑ k : Fin 8448, left m c (ix2 k i) * right m c (ix2 k j) := by
  have hi := i.isLt
  have hj := j.isLt
  have hN : cfg0.N = 24 := N_0
  have hpt : 6 * (2 * (i.val / 1024) + j.val / 1024) + 5 < cfg0.N := by rw [hN]; omega
  have hp : pt2Of (ix2 i j) = 6 * (2 * (i.val / 1024) + j.val / 1024) + 5 := by
    show 6 * (2 * (i.val / 1024 - 0) + 1 * (j.val / 1024 - 0)) + 5 = _
    omega
  have hl : loc2Of (ix2 i j) = ix2 (⟨i.val % 1024, Nat.mod_lt _ (by norm_num)⟩ : Fin 1024) (⟨j.val % 1024, Nat.mod_lt _ (by norm_num)⟩ : Fin 1024) :=
    eq_ix2 _
  have hb : (G2 m c : FVec Ideal S2048x2048 .f32) (ix2 i j) = ∑ s ∈ Finset.range 6, part m c (6 * (2 * (i.val / 1024) + j.val / 1024) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 6 1408 rfl (fun k : Fin 8448 => left m c (ix2 k i) * right m c (ix2 k j)) _ fun s hs => ?_
  have hs' : 6 * (2 * (i.val / 1024) + j.val / 1024) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 1408 + 1 * k.val = s * 1408 + k.val; omega
    | ⟨1, _⟩ => show win0_0.index _ (1 : Fin 2) * 1024 + 1 * (i.val % 1024) = i.val; omega
  · match a with
    | ⟨0, _⟩ => show win0_1.index _ (0 : Fin 2) * 1408 + 1 * k.val = s * 1408 + k.val; omega
    | ⟨1, _⟩ => show win0_1.index _ (1 : Fin 2) * 1024 + 1 * (j.val % 1024) = j.val; omega

/-- And so it is the product of the arguments. -/
theorem result_apply (c : Dev nD) (i : Fin 2048) (j : Fin 2048) :
    (G2 m c : FVec Ideal S2048x2048 .f32) (ix2 i j) = ∑ k : Fin 8448, arg1 m c (ix2 k j) * arg0 m c (ix2 k i) := by
  have e : (∑ k : Fin 8448, left m c (ix2 k i) * right m c (ix2 k j) : EReal) = ∑ k : Fin 8448, arg1 m c (ix2 k j) * arg0 m c (ix2 k i) := by
    refine Finset.sum_congr rfl fun k _ => ?_
    rw [left_apply, right_apply]
    exact EReal.mul_comm _ _
  exact (product m c i j).trans e

/-- The reference's result at an index. -/
theorem reference_apply (x : FVec Ideal S8448x2048 .f32) (w : FVec Ideal S8448x2048 .f32) (i : Fin 2048) (j : Fin 2048) :
    transpose _ [1, 0] (Host.dotGeneral Cert.OutDwReferenceIdeal.dot_S8448x2048_S8448x2048_S2048x2048_0_0_1_1_n_n none w x) Cert.OutDwReferenceIdeal.Gen.transposes_S2048x2048_S2048x2048_1_0 (ix2 i j) = ∑ k : Fin 8448, w (ix2 k j) * x (ix2 k i) := by
  pointwise

end Cert.OutDwIdeal.Value

namespace Cert.Proof

open Idealize.ShloMosaic Idealize.SL.Sem

/-- The kernel, its ideal reading and the reference end, their arguments unchanged and every counter at zero. -/
theorem frame_OutDw : Cert.quiescent_OutDw := fun m ρ _ => Cert.OutDw.Gen.frame m ρ
theorem frame_OutDwIdeal : Cert.quiescent_OutDwIdeal := fun m ρ _ => Cert.OutDwIdeal.Gen.frame m ρ
theorem frame_OutDwReference : Cert.quiescent_OutDwReferenceIdeal := fun m ρ _ =>
  (θ_run Cert.OutDwReferenceIdeal.defs _ _).mono (fun r h => ⟨fun c => (h c).2, sem_eq_zero_of_no_sems (by decide) r.2⟩) (Cert.OutDwReferenceIdeal.Value.run m ρ)

/-- Kernel and reference leave the same product, for all arguments. -/
theorem algebraic_OutDw : Cert.algebraic_OutDwIdeal_OutDwReferenceIdeal := by
  intro m g m' g' _ hargs
  refine ⟨fun c => Cert.OutDwIdeal.Value.G2 m c, Cert.OutDwIdeal.Value.run m g, ?_⟩
  refine (θ_run Cert.OutDwReferenceIdeal.defs _ _).mono (fun r h c => ?_) (Cert.OutDwReferenceIdeal.Value.run m' g')
  obtain ⟨e0, e1⟩ := hargs c
  obtain ⟨r0, rest⟩ := h c
  refine ⟨r0.trans ?_, rest⟩
  rw [e0, e1]
  funext y
  rw [eq_ix2 y]
  exact (Cert.OutDwIdeal.Value.reference_apply _ _ _ _).trans (Cert.OutDwIdeal.Value.result_apply m c _ _).symm

end Cert.Proof

end
-- ==== Proof.UqValue.lean ====
/- The latent attention's projection of the queries: the product of the rows' and the columns' tiles, block by block, is the reference's product. -/
module

public import proofs.«01_k».proof.Defs
public import proofs.«01_k».proof.Proof.Products
public import proofs.«01_k».proof.Proof.Gen.Uq.Frame
public import proofs.«01_k».proof.Proof.Gen.UqIdeal.Value
public import proofs.«01_k».proof.Proof.Gen.UqReferenceIdeal.Run

@[expose] public section

set_option maxRecDepth 16384

noncomputable section

namespace Cert.UqIdeal.Value

open Idealize.ShloMosaic Idealize.ShloMosaic.TcCoe Idealize.SL.Sem
open Cert.UqIdeal Cert.UqIdeal.Gen Product

/-- The product of two tiles at an index. -/
theorem tile_apply (x : Vec Ideal S768x512 .bf16) (w : Vec Ideal S512x768 .bf16) (r : Fin 768) (s : Fin 768) :
    (out0_2 x w : FVec Ideal S768x768 .f32) (ix2 r s) = ∑ k : Fin 512, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 2 ∧ win0_0.index t (1 : Fin 2) = t.val % 1 :=
  (by decide +kernel : ∀ t : Fin grid0.N, win0_0.index t (0 : Fin 2) = t.val / 2 ∧ win0_0.index t (1 : Fin 2) = t.val % 1)
theorem index_1 : ∀ t : Fin cfg0.N, win0_1.index t (0 : Fin 2) = t.val % 1 ∧ win0_1.index t (1 : Fin 2) = t.val / 1 % 2 :=
  (by decide +kernel : ∀ t : Fin grid0.N, win0_1.index t (0 : Fin 2) = t.val % 1 ∧ win0_1.index t (1 : Fin 2) = t.val / 1 % 2)
theorem index_2 : ∀ t : Fin cfg0.N, win0_2.index t (0 : Fin 2) = t.val / 2 ∧ win0_2.index t (1 : Fin 2) = t.val / 1 % 2 :=
  (by decide +kernel : ∀ t : Fin grid0.N, win0_2.index t (0 : Fin 2) = t.val / 2 ∧ win0_2.index t (1 : Fin 2) = t.val / 1 % 2)

/-- The arguments. -/
def arg0 (c : Dev nD) : FVec Ideal S8448x512 .f32 := m ((c : Thread nD τ).loc main_arg0)
def arg1 (c : Dev nD) : FVec Ideal S512x1536 .f32 := m ((c : Thread nD τ).loc main_arg1)

/-- The two arrays that the grid reads. -/
def left (c : Dev nD) : FVec Ideal S8448x512 .bf16 := V m c main_v0
def right (c : Dev nD) : FVec Ideal S512x1536 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 512) : left m c (ix2 i k) = arg0 m c (ix2 i k) := by
  rw [left_eq]
  pointwise
theorem right_apply (c : Dev nD) (k : Fin 512) (j : Fin 1536) : right m c (ix2 k j) = arg1 m c (ix2 k j) := by
  rw [right_eq]
  pointwise

/-- The result array after the run. -/
abbrev result (c : Dev nD) : FVec Ideal S8448x1536 .f32 := (dats m 0 c).arrAt 2 cfg0.N

/-- The result is the product. -/
theorem product (c : Dev nD) (i : Fin 8448) (j : Fin 1536) :
    result m c (ix2 i j) = ∑ k : Fin 512, left m c (ix2 i k) * right m c (ix2 k j) := by
  have hi := i.isLt
  have hj := j.isLt
  have hN : cfg0.N = 22 := N_0
  have ht : 2 * (i.val / 768) + j.val / 768 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 768, Nat.mod_lt _ (by norm_num)⟩ : Fin 768))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v1) (funext fun a => Fin.ext ?_)))))
  · match a with
    | ⟨0, _⟩ => show i.val = win0_2.index _ (0 : Fin 2) * 768 + 1 * (i.val % 768); omega
    | ⟨1, _⟩ => show j.val = win0_2.index _ (1 : Fin 2) * 768 + 1 * (j.val % 768); omega
  · match a with
    | ⟨0, _⟩ => show win0_0.index _ (0 : Fin 2) * 768 + 1 * (i.val % 768) = i.val; omega
    | ⟨1, _⟩ => show win0_0.index _ (1 : Fin 2) * 512 + 1 * k.val = k.val; omega
  · match a with
    | ⟨0, _⟩ => show win0_1.index _ (0 : Fin 2) * 512 + 1 * k.val = k.val; omega
    | ⟨1, _⟩ => show win0_1.index _ (1 : Fin 2) * 768 + 1 * (j.val % 768) = j.val; omega

/-- And so it is the product of the arguments. -/
theorem result_apply (c : Dev nD) (i : Fin 8448) (j : Fin 1536) :
    result m c (ix2 i j) = ∑ k : Fin 512, arg0 m c (ix2 i k) * arg1 m c (ix2 k j) := by
  have e : (∑ k : Fin 512, left m c (ix2 i k) * right m c (ix2 k j) : EReal) = ∑ k : Fin 512, arg0 m c (ix2 i k) * arg1 m c (ix2 k j) := by
    refine Finset.sum_congr rfl fun k _ => ?_
    rw [left_apply, right_apply]
  exact (product m c i j).trans e

/-- The reference's result at an index. -/
theorem reference_apply (x : FVec Ideal S8448x512 .f32) (w : FVec Ideal S512x1536 .f32) (i : Fin 8448) (j : Fin 1536) :
    Host.dotGeneral Cert.UqReferenceIdeal.dot_S8448x512_S512x1536_S8448x1536_1_0_0_1_n_n none x w (ix2 i j) = ∑ k : Fin 512, x (ix2 i k) * w (ix2 k j) := by
  pointwise

end Cert.UqIdeal.Value

namespace Cert.Proof

open Idealize.ShloMosaic Idealize.SL.Sem

/-- The kernel, its ideal reading and the reference end, their arguments unchanged and every counter at zero. -/
theorem frame_Uq : Cert.quiescent_Uq := fun m ρ _ => Cert.Uq.Gen.frame m ρ
theorem frame_UqIdeal : Cert.quiescent_UqIdeal := fun m ρ _ => Cert.UqIdeal.Gen.frame m ρ
theorem frame_UqReference : Cert.quiescent_UqReferenceIdeal := fun m ρ _ =>
  (θ_run Cert.UqReferenceIdeal.defs _ _).mono (fun r h => ⟨fun c => (h c).2, sem_eq_zero_of_no_sems (by decide) r.2⟩) (Cert.UqReferenceIdeal.Value.run m ρ)

/-- Kernel and reference leave the same product, for all arguments. -/
theorem algebraic_Uq : Cert.algebraic_UqIdeal_UqReferenceIdeal := by
  intro m g m' g' _ hargs
  refine ⟨fun c => Cert.UqIdeal.Value.result m c, Cert.UqIdeal.Value.run_blocks m g, ?_⟩
  refine (θ_run Cert.UqReferenceIdeal.defs _ _).mono (fun r h c => ?_) (Cert.UqReferenceIdeal.Value.run m' g')
  obtain ⟨e0, e1⟩ := hargs c
  obtain ⟨r0, rest⟩ := h c
  refine ⟨r0.trans ?_, rest⟩
  rw [e0, e1]
  funext y
  rw [eq_ix2 y]
  exact (Cert.UqIdeal.Value.reference_apply _ _ _ _).trans (Cert.UqIdeal.Value.result_apply m c _ _).symm

end Cert.Proof

end
-- ==== Proof.UqDaValue.lean ====
/- The gradient of the latent attention's projection of the queries in its rows: the product of the rows' and the columns' tiles, block by block, is the reference's product. -/
module

public import proofs.«01_k».proof.Defs
public import proofs.«01_k».proof.Proof.Products
public import proofs.«01_k».proof.Proof.Gen.UqDa.Frame
public import proofs.«01_k».proof.Proof.Gen.UqDaIdeal.Value
public import proofs.«01_k».proof.Proof.Gen.UqDaReferenceIdeal.Run

@[expose] public section

set_option maxRecDepth 16384

noncomputable section

namespace Cert.UqDaIdeal.Value

open Idealize.ShloMosaic Idealize.ShloMosaic.TcCoe Idealize.SL.Sem
open Cert.UqDaIdeal Cert.UqDaIdeal.Gen Product

/-- The product of two tiles at an index. -/
theorem tile_apply (x : Vec Ideal S768x1536 .bf16) (w : Vec Ideal S1536x512 .bf16) (r : Fin 768) (s : Fin 512) :
    (out0_2 x w : FVec Ideal S768x512 .bf16) (ix2 r s) = ∑ k : Fin 1536, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index_1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index_2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

/-- The arguments. -/
def arg0 (c : Dev nD) : FVec Ideal S512x1536 .f32 := m ((c : Thread nD τ).loc main_arg0)
def arg1 (c : Dev nD) : FVec Ideal S8448x1536 .f32 := m ((c : Thread nD τ).loc main_arg1)

/-- The two arrays that the grid reads. -/
def left (c : Dev nD) : FVec Ideal S8448x1536 .bf16 := V m c main_v0
def right (c : Dev nD) : FVec Ideal S1536x512 .bf16 := V m c main_v2

/-- They are the arguments, cast, the weight transposed. -/
theorem left_eq (c : Dev nD) : left m c = truncf .bf16 (arg1 m c) bitsLt_bf16_f32 := by
  unfold left arg1
  unfold_abbrev_sides
  after_results_simp <;> rfl
theorem right_eq (c : Dev nD) : right m c = transpose S1536x512 [1, 0] (truncf .bf16 (arg0 m c) bitsLt_bf16_f32) transposes_S512x1536_S1536x512_1_0 := by
  unfold right arg0
  unfold_abbrev_sides
  after_results_simp <;> rfl
theorem left_apply (c : Dev nD) (i : Fin 8448) (k : Fin 1536) : left m c (ix2 i k) = arg1 m c (ix2 i k) := by
  rw [left_eq]
  pointwise
theorem right_apply (c : Dev nD) (k : Fin 1536) (j : Fin 512) : right m c (ix2 k j) = arg0 m c (ix2 j k) := by
  rw [right_eq]
  pointwise

/-- The result array after the run. -/
abbrev result (c : Dev nD) : FVec Ideal S8448x512 .bf16 := (dats m 0 c).arrAt 2 cfg0.N

/-- The result is the product. -/
theorem product (c : Dev nD) (i : Fin 8448) (j : Fin 512) :
    result m c (ix2 i j) = ∑ k : Fin 1536, left m c (ix2 i k) * right m c (ix2 k j) := by
  have hi := i.isLt
  have hj := j.isLt
  have hN : cfg0.N = 11 := N_0
  have ht : 1 * (i.val / 768) + j.val / 512 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 512, Nat.mod_lt _ (by norm_num)⟩ : Fin 512))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v2) (funext fun a => Fin.ext ?_)))))
  · match a with
    | ⟨0, _⟩ => show i.val = win0_2.index _ (0 : Fin 2) * 768 + 1 * (i.val % 768); omega
    | ⟨1, _⟩ => show j.val = win0_2.index _ (1 : Fin 2) * 512 + 1 * (j.val % 512); omega
  · match a with
    | ⟨0, _⟩ => show win0_0.index _ (0 : Fin 2) * 768 + 1 * (i.val % 768) = i.val; omega
    | ⟨1, _⟩ => show win0_0.index _ (1 : Fin 2) * 1536 + 1 * k.val = k.val; omega
  · match a with
    | ⟨0, _⟩ => show win0_1.index _ (0 : Fin 2) * 1536 + 1 * k.val = k.val; omega
    | ⟨1, _⟩ => show win0_1.index _ (1 : Fin 2) * 512 + 1 * (j.val % 512) = j.val; omega

/-- And so it is the product of the arguments. -/
theorem result_apply (c : Dev nD) (i : Fin 8448) (j : Fin 512) :
    result m c (ix2 i j) = ∑ k : Fin 1536, arg1 m c (ix2 i k) * arg0 m c (ix2 j k) := by
  have e : (∑ k : Fin 1536, left m c (ix2 i k) * right m c (ix2 k j) : EReal) = ∑ k : Fin 1536, arg1 m c (ix2 i k) * arg0 m c (ix2 j k) := by
    refine Finset.sum_congr rfl fun k _ => ?_
    rw [left_apply, right_apply]
  exact (product m c i j).trans e

/-- The reference's result at an index. -/
theorem reference_apply (x : FVec Ideal S512x1536 .f32) (w : FVec Ideal S8448x1536 .f32) (i : Fin 8448) (j : Fin 512) :
    truncf .bf16 (Host.dotGeneral Cert.UqDaReferenceIdeal.dot_S8448x1536_S512x1536_S8448x512_1_1_0_0_n_n none w x) Cert.UqDaReferenceIdeal.Gen.bitsLt_bf16_f32 (ix2 i j) = ∑ k : Fin 1536, w (ix2 i k) * x (ix2 j k) := by
  pointwise

end Cert.UqDaIdeal.Value

namespace Cert.Proof

open Idealize.ShloMosaic Idealize.SL.Sem

/-- The kernel, its ideal reading and the reference end, their arguments unchanged and every counter at zero. -/
theorem frame_UqDa : Cert.quiescent_UqDa := fun m ρ _ => Cert.UqDa.Gen.frame m ρ
theorem frame_UqDaIdeal : Cert.quiescent_UqDaIdeal := fun m ρ _ => Cert.UqDaIdeal.Gen.frame m ρ
theorem frame_UqDaReference : Cert.quiescent_UqDaReferenceIdeal := fun m ρ _ =>
  (θ_run Cert.UqDaReferenceIdeal.defs _ _).mono (fun r h => ⟨fun c => (h c).2, sem_eq_zero_of_no_sems (by decide) r.2⟩) (Cert.UqDaReferenceIdeal.Value.run m ρ)

/-- Kernel and reference leave the same product, for all arguments. -/
theorem algebraic_UqDa : Cert.algebraic_UqDaIdeal_UqDaReferenceIdeal := by
  intro m g m' g' _ hargs
  refine ⟨fun c => Cert.UqDaIdeal.Value.result m c, Cert.UqDaIdeal.Value.run_blocks m g, ?_⟩
  refine (θ_run Cert.UqDaReferenceIdeal.defs _ _).mono (fun r h c => ?_) (Cert.UqDaReferenceIdeal.Value.run m' g')
  obtain ⟨e0, e1⟩ := hargs c
  obtain ⟨r0, rest⟩ := h c
  refine ⟨r0.trans ?_, rest⟩
  rw [e0, e1]
  funext y
  rw [eq_ix2 y]
  exact (Cert.UqDaIdeal.Value.reference_apply _ _ _ _).trans (Cert.UqDaIdeal.Value.result_apply m c _ _).symm

end Cert.Proof

end
-- ==== Proof.UqDwValue.lean ====
/- The gradient of the latent attention's projection of the queries in its weights: what its kernel accumulates over the tiles of the summed axis is the reference's product. -/
module

public import proofs.«01_k».proof.Defs
public import proofs.«01_k».proof.Proof.Products
public import proofs.«01_k».proof.Proof.Gen.UqDw.Frame
public import proofs.«01_k».proof.Proof.Gen.UqDwIdeal.Value
public import proofs.«01_k».proof.Proof.Gen.UqDwReferenceIdeal.Run

@[expose] public section

set_option maxRecDepth 16384

noncomputable section

namespace Cert.UqDwIdeal.Value

open Idealize.ShloMosaic Idealize.ShloMosaic.TcCoe Idealize.SL.Sem
open Cert.UqDwIdeal Cert.UqDwIdeal.Gen Product

section
variable (c : Dev nD) (i : grid0.Coords) (a0 : Memref sig .tc .vmem S1408x512 .bf16) (h0 : a0.IsWhole)
  (a1 : Memref sig .tc .vmem S1408x768 .bf16) (h1 : a1.IsWhole) (a2 : Memref sig .tc .vmem S512x768 .f32) (h2 : a2.IsWhole)
  (a3 : Memref sig .tc .vmem S512x768 .f32) (h3 : a3.IsWhole) (x : Vec Ideal S1408x512 .bf16) (w : Vec Ideal S1408x768 .bf16) (acc : Vec Ideal S512x768 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S1408x512) origin, View.ld_unit_zero (S := S1408x768) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S1408x512) origin,
    View.ld_unit_zero (S := S1408x768) origin, View.ld_unit_zero (S := S512x768) origin, shapeCast_self]

/-- and the last tile's sum is what the result's block gets. -/
theorem last (e0 : ¬cond0_0 i) (e1 : ¬cond0_1 i) (e2 : cond0_2 i) (y : S512x768.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S1408x512) origin,
    View.ld_unit_zero (S := S1408x768) origin, View.ld_unit_zero (S := S512x768) origin, shapeCast_self]
  rfl

/-- The product of two tiles at an index. -/
theorem tile_apply (r : Fin 512) (s : Fin 768) : k0_pay1 x w (ix2 r s) = ∑ k : Fin 1408, x (ix2 k r) * w (ix2 k s) := by
  unfold k0_pay1
  pointwise
end

variable (m : (ℓ : Loc nD τ sig) → Buf (Elt Ideal) ℓ)

/-- The product of the two tiles of point `n`. -/
def part (c : Dev nD) (n : ℕ) (y : S512x768.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S512x768.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 4) (h : 6 * q + j < cfg0.N) (y : S512x768.Idx),
    (outsAt0 m c (6 * q + j) h).2 y = ∑ s ∈ Finset.range (j + 1), part m c (6 * q + s) y
  | 0, _, h, y => by
    have e := outsAt0_A m c ⟨6 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨6 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 6 * q + 5 < cfg0.N) (y : S512x768.Idx) :
    (outsAt0 m c (6 * q + 5) h).1 y = ∑ s ∈ Finset.range 6, part m c (6 * q + s) y := by
  have e := outsAt0_C m c ⟨6 * q + 5, h⟩ (by dsimp only; omega) (by dsimp only; omega) (by dsimp only; omega)
  dsimp only at e
  rw [e, Finset.sum_range_succ, ← carried m c q 4 (le_refl _) (by omega), part_eq m c h]
  dsimp only
  rw [last]
  rfl

theorem index_0 : ∀ t : Fin cfg0.N, win0_0.index t (0 : Fin 2) = t.val % 6 ∧ win0_0.index t (1 : Fin 2) = t.val / 12 :=
  (by decide +kernel : ∀ t : Fin grid0.N, win0_0.index t (0 : Fin 2) = t.val % 6 ∧ win0_0.index t (1 : Fin 2) = t.val / 12)
theorem index_1 : ∀ t : Fin cfg0.N, win0_1.index t (0 : Fin 2) = t.val % 6 ∧ win0_1.index t (1 : Fin 2) = t.val / 6 % 2 :=
  (by decide +kernel : ∀ t : Fin grid0.N, win0_1.index t (0 : Fin 2) = t.val % 6 ∧ win0_1.index t (1 : Fin 2) = t.val / 6 % 2)

/-- The arguments. -/
def arg0 (c : Dev nD) : FVec Ideal S8448x512 .f32 := m ((c : Thread nD τ).loc main_arg0)
def arg1 (c : Dev nD) : FVec Ideal S8448x1536 .f32 := m ((c : Thread nD τ).loc main_arg1)

/-- The two arrays that the grid reads. -/
def left (c : Dev nD) : FVec Ideal S8448x512 .bf16 := V m c main_v0
def right (c : Dev nD) : FVec Ideal S8448x1536 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 512) : left m c (ix2 i k) = arg0 m c (ix2 i k) := by
  rw [left_eq]
  pointwise
theorem right_apply (c : Dev nD) (k : Fin 8448) (j : Fin 1536) : right m c (ix2 k j) = arg1 m c (ix2 k j) := by
  rw [right_eq]
  pointwise

/-- The result is the product. -/
theorem product (c : Dev nD) (i : Fin 512) (j : Fin 1536) :
    (G2 m c : FVec Ideal S512x1536 .f32) (ix2 i j) = ∑ k : Fin 8448, left m c (ix2 k i) * right m c (ix2 k j) := by
  have hi := i.isLt
  have hj := j.isLt
  have hN : cfg0.N = 12 := N_0
  have hpt : 6 * (2 * (i.val / 512) + j.val / 768) + 5 < cfg0.N := by rw [hN]; omega
  have hp : pt2Of (ix2 i j) = 6 * (2 * (i.val / 512) + j.val / 768) + 5 := by
    show 6 * (2 * (i.val / 512 - 0) + 1 * (j.val / 768 - 0)) + 5 = _
    omega
  have hl : loc2Of (ix2 i j) = ix2 (⟨i.val % 512, Nat.mod_lt _ (by norm_num)⟩ : Fin 512) (⟨j.val % 768, Nat.mod_lt _ (by norm_num)⟩ : Fin 768) :=
    eq_ix2 _
  have hb : (G2 m c : FVec Ideal S512x1536 .f32) (ix2 i j) = ∑ s ∈ Finset.range 6, part m c (6 * (2 * (i.val / 512) + j.val / 768) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 6 1408 rfl (fun k : Fin 8448 => left m c (ix2 k i) * right m c (ix2 k j)) _ fun s hs => ?_
  have hs' : 6 * (2 * (i.val / 512) + j.val / 768) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 1408 + 1 * k.val = s * 1408 + k.val; omega
    | ⟨1, _⟩ => show win0_0.index _ (1 : Fin 2) * 512 + 1 * (i.val % 512) = i.val; omega
  · match a with
    | ⟨0, _⟩ => show win0_1.index _ (0 : Fin 2) * 1408 + 1 * k.val = s * 1408 + k.val; omega
    | ⟨1, _⟩ => show win0_1.index _ (1 : Fin 2) * 768 + 1 * (j.val % 768) = j.val; omega

/-- And so it is the product of the arguments. -/
theorem result_apply (c : Dev nD) (i : Fin 512) (j : Fin 1536) :
    (G2 m c : FVec Ideal S512x1536 .f32) (ix2 i j) = ∑ k : Fin 8448, arg1 m c (ix2 k j) * arg0 m c (ix2 k i) := by
  have e : (∑ k : Fin 8448, left m c (ix2 k i) * right m c (ix2 k j) : EReal) = ∑ k : Fin 8448, arg1 m c (ix2 k j) * arg0 m c (ix2 k i) := by
    refine Finset.sum_congr rfl fun k _ => ?_
    rw [left_apply, right_apply]
    exact EReal.mul_comm _ _
  exact (product m c i j).trans e

/-- The reference's result at an index. -/
theorem reference_apply (x : FVec Ideal S8448x512 .f32) (w : FVec Ideal S8448x1536 .f32) (i : Fin 512) (j : Fin 1536) :
    transpose _ [1, 0] (Host.dotGeneral Cert.UqDwReferenceIdeal.dot_S8448x1536_S8448x512_S1536x512_0_0_1_1_n_n none w x) Cert.UqDwReferenceIdeal.Gen.transposes_S1536x512_S512x1536_1_0 (ix2 i j) = ∑ k : Fin 8448, w (ix2 k j) * x (ix2 k i) := by
  pointwise

end Cert.UqDwIdeal.Value

namespace Cert.Proof

open Idealize.ShloMosaic Idealize.SL.Sem

/-- The kernel, its ideal reading and the reference end, their arguments unchanged and every counter at zero. -/
theorem frame_UqDw : Cert.quiescent_UqDw := fun m ρ _ => Cert.UqDw.Gen.frame m ρ
theorem frame_UqDwIdeal : Cert.quiescent_UqDwIdeal := fun m ρ _ => Cert.UqDwIdeal.Gen.frame m ρ
theorem frame_UqDwReference : Cert.quiescent_UqDwReferenceIdeal := fun m ρ _ =>
  (θ_run Cert.UqDwReferenceIdeal.defs _ _).mono (fun r h => ⟨fun c => (h c).2, sem_eq_zero_of_no_sems (by decide) r.2⟩) (Cert.UqDwReferenceIdeal.Value.run m ρ)

/-- Kernel and reference leave the same product, for all arguments. -/
theorem algebraic_UqDw : Cert.algebraic_UqDwIdeal_UqDwReferenceIdeal := by
  intro m g m' g' _ hargs
  refine ⟨fun c => Cert.UqDwIdeal.Value.G2 m c, Cert.UqDwIdeal.Value.run m g, ?_⟩
  refine (θ_run Cert.UqDwReferenceIdeal.defs _ _).mono (fun r h c => ?_) (Cert.UqDwReferenceIdeal.Value.run m' g')
  obtain ⟨e0, e1⟩ := hargs c
  obtain ⟨r0, rest⟩ := h c
  refine ⟨r0.trans ?_, rest⟩
  rw [e0, e1]
  funext y
  rw [eq_ix2 y]
  exact (Cert.UqDwIdeal.Value.reference_apply _ _ _ _).trans (Cert.UqDwIdeal.Value.result_apply m c _ _).symm

end Cert.Proof

end
-- ==== Proof.UkvValue.lean ====
/- The latent attention's projection of the keys and values: the product of the rows' and the columns' tiles, block by block, is the reference's product. -/
module

public import proofs.«01_k».proof.Defs
public import proofs.«01_k».proof.Proof.Products
public import proofs.«01_k».proof.Proof.Gen.Ukv.Frame
public import proofs.«01_k».proof.Proof.Gen.UkvIdeal.Value
public import proofs.«01_k».proof.Proof.Gen.UkvReferenceIdeal.Run

@[expose] public section

set_option maxRecDepth 16384

noncomputable section

namespace Cert.UkvIdeal.Value

open Idealize.ShloMosaic Idealize.ShloMosaic.TcCoe Idealize.SL.Sem
open Cert.UkvIdeal Cert.UkvIdeal.Gen Product

/-- The product of two tiles at an index. -/
theorem tile_apply (x : Vec Ideal S768x256 .bf16) (w : Vec Ideal S256x768 .bf16) (r : Fin 768) (s : Fin 768) :
    (out0_2 x w : FVec Ideal S768x768 .f32) (ix2 r s) = ∑ k : Fin 256, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 2 ∧ win0_0.index t (1 : Fin 2) = t.val % 1 :=
  (by decide +kernel : ∀ t : Fin grid0.N, win0_0.index t (0 : Fin 2) = t.val / 2 ∧ win0_0.index t (1 : Fin 2) = t.val % 1)
theorem index_1 : ∀ t : Fin cfg0.N, win0_1.index t (0 : Fin 2) = t.val % 1 ∧ win0_1.index t (1 : Fin 2) = t.val / 1 % 2 :=
  (by decide +kernel : ∀ t : Fin grid0.N, win0_1.index t (0 : Fin 2) = t.val % 1 ∧ win0_1.index t (1 : Fin 2) = t.val / 1 % 2)
theorem index_2 : ∀ t : Fin cfg0.N, win0_2.index t (0 : Fin 2) = t.val / 2 ∧ win0_2.index t (1 : Fin 2) = t.val / 1 % 2 :=
  (by decide +kernel : ∀ t : Fin grid0.N, win0_2.index t (0 : Fin 2) = t.val / 2 ∧ win0_2.index t (1 : Fin 2) = t.val / 1 % 2)

/-- The arguments. -/
def arg0 (c : Dev nD) : FVec Ideal S8448x256 .f32 := m ((c : Thread nD τ).loc main_arg0)
def arg1 (c : Dev nD) : FVec Ideal S256x1536 .f32 := m ((c : Thread nD τ).loc main_arg1)

/-- The two arrays that the grid reads. -/
def left (c : Dev nD) : FVec Ideal S8448x256 .bf16 := V m c main_v0
def right (c : Dev nD) : FVec Ideal S256x1536 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 256) : left m c (ix2 i k) = arg0 m c (ix2 i k) := by
  rw [left_eq]
  pointwise
theorem right_apply (c : Dev nD) (k : Fin 256) (j : Fin 1536) : right m c (ix2 k j) = arg1 m c (ix2 k j) := by
  rw [right_eq]
  pointwise

/-- The result array after the run. -/
abbrev result (c : Dev nD) : FVec Ideal S8448x1536 .f32 := (dats m 0 c).arrAt 2 cfg0.N

/-- The result is the product. -/
theorem product (c : Dev nD) (i : Fin 8448) (j : Fin 1536) :
    result m c (ix2 i j) = ∑ k : Fin 256, left m c (ix2 i k) * right m c (ix2 k j) := by
  have hi := i.isLt
  have hj := j.isLt
  have hN : cfg0.N = 22 := N_0
  have ht : 2 * (i.val / 768) + j.val / 768 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 768, Nat.mod_lt _ (by norm_num)⟩ : Fin 768))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v1) (funext fun a => Fin.ext ?_)))))
  · match a with
    | ⟨0, _⟩ => show i.val = win0_2.index _ (0 : Fin 2) * 768 + 1 * (i.val % 768); omega
    | ⟨1, _⟩ => show j.val = win0_2.index _ (1 : Fin 2) * 768 + 1 * (j.val % 768); omega
  · match a with
    | ⟨0, _⟩ => show win0_0.index _ (0 : Fin 2) * 768 + 1 * (i.val % 768) = i.val; omega
    | ⟨1, _⟩ => show win0_0.index _ (1 : Fin 2) * 256 + 1 * k.val = k.val; omega
  · match a with
    | ⟨0, _⟩ => show win0_1.index _ (0 : Fin 2) * 256 + 1 * k.val = k.val; omega
    | ⟨1, _⟩ => show win0_1.index _ (1 : Fin 2) * 768 + 1 * (j.val % 768) = j.val; omega

/-- And so it is the product of the arguments. -/
theorem result_apply (c : Dev nD) (i : Fin 8448) (j : Fin 1536) :
    result m c (ix2 i j) = ∑ k : Fin 256, arg0 m c (ix2 i k) * arg1 m c (ix2 k j) := by
  have e : (∑ k : Fin 256, left m c (ix2 i k) * right m c (ix2 k j) : EReal) = ∑ k : Fin 256, arg0 m c (ix2 i k) * arg1 m c (ix2 k j) := by
    refine Finset.sum_congr rfl fun k _ => ?_
    rw [left_apply, right_apply]
  exact (product m c i j).trans e

/-- The reference's result at an index. -/
theorem reference_apply (x : FVec Ideal S8448x256 .f32) (w : FVec Ideal S256x1536 .f32) (i : Fin 8448) (j : Fin 1536) :
    Host.dotGeneral Cert.UkvReferenceIdeal.dot_S8448x256_S256x1536_S8448x1536_1_0_0_1_n_n none x w (ix2 i j) = ∑ k : Fin 256, x (ix2 i k) * w (ix2 k j) := by
  pointwise

end Cert.UkvIdeal.Value

namespace Cert.Proof

open Idealize.ShloMosaic Idealize.SL.Sem

/-- The kernel, its ideal reading and the reference end, their arguments unchanged and every counter at zero. -/
theorem frame_Ukv : Cert.quiescent_Ukv := fun m ρ _ => Cert.Ukv.Gen.frame m ρ
theorem frame_UkvIdeal : Cert.quiescent_UkvIdeal := fun m ρ _ => Cert.UkvIdeal.Gen.frame m ρ
theorem frame_UkvReference : Cert.quiescent_UkvReferenceIdeal := fun m ρ _ =>
  (θ_run Cert.UkvReferenceIdeal.defs _ _).mono (fun r h => ⟨fun c => (h c).2, sem_eq_zero_of_no_sems (by decide) r.2⟩) (Cert.UkvReferenceIdeal.Value.run m ρ)

/-- Kernel and reference leave the same product, for all arguments. -/
theorem algebraic_Ukv : Cert.algebraic_UkvIdeal_UkvReferenceIdeal := by
  intro m g m' g' _ hargs
  refine ⟨fun c => Cert.UkvIdeal.Value.result m c, Cert.UkvIdeal.Value.run_blocks m g, ?_⟩
  refine (θ_run Cert.UkvReferenceIdeal.defs _ _).mono (fun r h c => ?_) (Cert.UkvReferenceIdeal.Value.run m' g')
  obtain ⟨e0, e1⟩ := hargs c
  obtain ⟨r0, rest⟩ := h c
  refine ⟨r0.trans ?_, rest⟩
  rw [e0, e1]
  funext y
  rw [eq_ix2 y]
  exact (Cert.UkvIdeal.Value.reference_apply _ _ _ _).trans (Cert.UkvIdeal.Value.result_apply m c _ _).symm

end Cert.Proof

end
-- ==== Proof.UkvDaValue.lean ====
/- The gradient of the latent attention's projection of the keys and values in its rows: the product of the rows' and the columns' tiles, block by block, is the reference's product. -/
module

public import proofs.«01_k».proof.Defs
public import proofs.«01_k».proof.Proof.Products
public import proofs.«01_k».proof.Proof.Gen.UkvDa.Frame
public import proofs.«01_k».proof.Proof.Gen.UkvDaIdeal.Value
public import proofs.«01_k».proof.Proof.Gen.UkvDaReferenceIdeal.Run

@[expose] public section

set_option maxRecDepth 16384

noncomputable section

namespace Cert.UkvDaIdeal.Value

open Idealize.ShloMosaic Idealize.ShloMosaic.TcCoe Idealize.SL.Sem
open Cert.UkvDaIdeal Cert.UkvDaIdeal.Gen Product

/-- The product of two tiles at an index. -/
theorem tile_apply (x : Vec Ideal S768x1536 .bf16) (w : Vec Ideal S1536x256 .bf16) (r : Fin 768) (s : Fin 256) :
    (out0_2 x w : FVec Ideal S768x256 .bf16) (ix2 r s) = ∑ k : Fin 1536, x (ix2 r k) * w (ix2 k s) := by
  unfold out0_2
  rw [View.canon_unit_zero origin, View.ld_unit_zero origin, View.ld_unit_zero origin]
  unfold k0_pay1
  pointwise

variable (m : (ℓ : Loc nD τ sig) → Buf (Elt Ideal) ℓ)

/-- Where each window stands at a point. -/
theorem index_0 : ∀ t : Fin cfg0.N, win0_0.index t (0 : Fin 2) = t.val / 1 ∧ win0_0.index t (1 : Fin 2) = t.val % 1 :=
  (by decide +kernel : ∀ t : Fin grid0.N, win0_0.index t (0 : Fin 2) = t.val / 1 ∧ win0_0.index t (1 : Fin 2) = t.val % 1)
theorem index_1 : ∀ t : Fin cfg0.N, win0_1.index t (0 : Fin 2) = t.val % 1 ∧ win0_1.index t (1 : Fin 2) = t.val / 1 % 1 :=
  (by decide +kernel : ∀ t : Fin grid0.N, win0_1.index t (0 : Fin 2) = t.val % 1 ∧ win0_1.index t (1 : Fin 2) = t.val / 1 % 1)
theorem index_2 : ∀ t : Fin cfg0.N, win0_2.index t (0 : Fin 2) = t.val / 1 ∧ win0_2.index t (1 : Fin 2) = t.val / 1 % 1 :=
  (by decide +kernel : ∀ t : Fin grid0.N, win0_2.index t (0 : Fin 2) = t.val / 1 ∧ win0_2.index t (1 : Fin 2) = t.val / 1 % 1)

/-- The arguments. -/
def arg0 (c : Dev nD) : FVec Ideal S256x1536 .f32 := m ((c : Thread nD τ).loc main_arg0)
def arg1 (c : Dev nD) : FVec Ideal S8448x1536 .f32 := m ((c : Thread nD τ).loc main_arg1)

/-- The two arrays that the grid reads. -/
def left (c : Dev nD) : FVec Ideal S8448x1536 .bf16 := V m c main_v0
def right (c : Dev nD) : FVec Ideal S1536x256 .bf16 := V m c main_v2

/-- They are the arguments, cast, the weight transposed. -/
theorem left_eq (c : Dev nD) : left m c = truncf .bf16 (arg1 m c) bitsLt_bf16_f32 := by
  unfold left arg1
  unfold_abbrev_sides
  after_results_simp <;> rfl
theorem right_eq (c : Dev nD) : right m c = transpose S1536x256 [1, 0] (truncf .bf16 (arg0 m c) bitsLt_bf16_f32) transposes_S256x1536_S1536x256_1_0 := by
  unfold right arg0
  unfold_abbrev_sides
  after_results_simp <;> rfl
theorem left_apply (c : Dev nD) (i : Fin 8448) (k : Fin 1536) : left m c (ix2 i k) = arg1 m c (ix2 i k) := by
  rw [left_eq]
  pointwise
theorem right_apply (c : Dev nD) (k : Fin 1536) (j : Fin 256) : right m c (ix2 k j) = arg0 m c (ix2 j k) := by
  rw [right_eq]
  pointwise

/-- The result array after the run. -/
abbrev result (c : Dev nD) : FVec Ideal S8448x256 .bf16 := (dats m 0 c).arrAt 2 cfg0.N

/-- The result is the product. -/
theorem product (c : Dev nD) (i : Fin 8448) (j : Fin 256) :
    result m c (ix2 i j) = ∑ k : Fin 1536, left m c (ix2 i k) * right m c (ix2 k j) := by
  have hi := i.isLt
  have hj := j.isLt
  have hN : cfg0.N = 11 := N_0
  have ht : 1 * (i.val / 768) + j.val / 256 < cfg0.N := by rw [hN]; omega
  obtain ⟨e00, e01⟩ := index_0 ⟨_, ht⟩
  obtain ⟨e10, e11⟩ := index_1 ⟨_, ht⟩
  obtain ⟨e20, e21⟩ := index_2 ⟨_, ht⟩
  dsimp only at e00 e01 e10 e11 e20 e21
  have hb := congrFun ((blocks2 m c ⟨_, ht⟩ (flush0_2 _)).trans (flushed2 m c ⟨_, ht⟩))
    (ix2 (⟨i.val % 768, Nat.mod_lt _ (by norm_num)⟩ : Fin 768) (⟨j.val % 256, Nat.mod_lt _ (by norm_num)⟩ : Fin 256))
  refine Eq.trans (congrArg (result m c) (funext fun a => Fin.ext ?_)) (hb.trans ((tile_apply _ _ _ _).trans
    (Finset.sum_congr rfl fun k _ => congrArg₂ _ (congrArg (V m c main_v0) (funext fun a => Fin.ext ?_)) (congrArg (V m c main_v2) (funext fun a => Fin.ext ?_)))))
  · match a with
    | ⟨0, _⟩ => show i.val = win0_2.index _ (0 : Fin 2) * 768 + 1 * (i.val % 768); omega
    | ⟨1, _⟩ => show j.val = win0_2.index _ (1 : Fin 2) * 256 + 1 * (j.val % 256); omega
  · match a with
    | ⟨0, _⟩ => show win0_0.index _ (0 : Fin 2) * 768 + 1 * (i.val % 768) = i.val; omega
    | ⟨1, _⟩ => show win0_0.index _ (1 : Fin 2) * 1536 + 1 * k.val = k.val; omega
  · match a with
    | ⟨0, _⟩ => show win0_1.index _ (0 : Fin 2) * 1536 + 1 * k.val = k.val; omega
    | ⟨1, _⟩ => show win0_1.index _ (1 : Fin 2) * 256 + 1 * (j.val % 256) = j.val; omega

/-- And so it is the product of the arguments. -/
theorem result_apply (c : Dev nD) (i : Fin 8448) (j : Fin 256) :
    result m c (ix2 i j) = ∑ k : Fin 1536, arg1 m c (ix2 i k) * arg0 m c (ix2 j k) := by
  have e : (∑ k : Fin 1536, left m c (ix2 i k) * right m c (ix2 k j) : EReal) = ∑ k : Fin 1536, arg1 m c (ix2 i k) * arg0 m c (ix2 j k) := by
    refine Finset.sum_congr rfl fun k _ => ?_
    rw [left_apply, right_apply]
  exact (product m c i j).trans e

/-- The reference's result at an index. -/
theorem reference_apply (x : FVec Ideal S256x1536 .f32) (w : FVec Ideal S8448x1536 .f32) (i : Fin 8448) (j : Fin 256) :
    truncf .bf16 (Host.dotGeneral Cert.UkvDaReferenceIdeal.dot_S8448x1536_S256x1536_S8448x256_1_1_0_0_n_n none w x) Cert.UkvDaReferenceIdeal.Gen.bitsLt_bf16_f32 (ix2 i j) = ∑ k : Fin 1536, w (ix2 i k) * x (ix2 j k) := by
  pointwise

end Cert.UkvDaIdeal.Value

namespace Cert.Proof

open Idealize.ShloMosaic Idealize.SL.Sem

/-- The kernel, its ideal reading and the reference end, their arguments unchanged and every counter at zero. -/
theorem frame_UkvDa : Cert.quiescent_UkvDa := fun m ρ _ => Cert.UkvDa.Gen.frame m ρ
theorem frame_UkvDaIdeal : Cert.quiescent_UkvDaIdeal := fun m ρ _ => Cert.UkvDaIdeal.Gen.frame m ρ
theorem frame_UkvDaReference : Cert.quiescent_UkvDaReferenceIdeal := fun m ρ _ =>
  (θ_run Cert.UkvDaReferenceIdeal.defs _ _).mono (fun r h => ⟨fun c => (h c).2, sem_eq_zero_of_no_sems (by decide) r.2⟩) (Cert.UkvDaReferenceIdeal.Value.run m ρ)

/-- Kernel and reference leave the same product, for all arguments. -/
theorem algebraic_UkvDa : Cert.algebraic_UkvDaIdeal_UkvDaReferenceIdeal := by
  intro m g m' g' _ hargs
  refine ⟨fun c => Cert.UkvDaIdeal.Value.result m c, Cert.UkvDaIdeal.Value.run_blocks m g, ?_⟩
  refine (θ_run Cert.UkvDaReferenceIdeal.defs _ _).mono (fun r h c => ?_) (Cert.UkvDaReferenceIdeal.Value.run m' g')
  obtain ⟨e0, e1⟩ := hargs c
  obtain ⟨r0, rest⟩ := h c
  refine ⟨r0.trans ?_, rest⟩
  rw [e0, e1]
  funext y
  rw [eq_ix2 y]
  exact (Cert.UkvDaIdeal.Value.reference_apply _ _ _ _).trans (Cert.UkvDaIdeal.Value.result_apply m c _ _).symm

end Cert.Proof

end
-- ==== Proof.UkvDwValue.lean ====
/- The gradient of the latent attention's projection of the keys and values in its weights: what its kernel accumulates over the tiles of the summed axis is the reference's product. -/
module

public import proofs.«01_k».proof.Defs
public import proofs.«01_k».proof.Proof.Products
public import proofs.«01_k».proof.Proof.Gen.UkvDw.Frame
public import proofs.«01_k».proof.Proof.Gen.UkvDwIdeal.Value
public import proofs.«01_k».proof.Proof.Gen.UkvDwReferenceIdeal.Run

@[expose] public section

set_option maxRecDepth 16384

noncomputable section

namespace Cert.UkvDwIdeal.Value

open Idealize.ShloMosaic Idealize.ShloMosaic.TcCoe Idealize.SL.Sem
open Cert.UkvDwIdeal Cert.UkvDwIdeal.Gen Product

section
variable (c : Dev nD) (i : grid0.Coords) (a0 : Memref sig .tc .vmem S1408x256 .bf16) (h0 : a0.IsWhole)
  (a1 : Memref sig .tc .vmem S1408x768 .bf16) (h1 : a1.IsWhole) (a2 : Memref sig .tc .vmem S256x768 .f32) (h2 : a2.IsWhole)
  (a3 : Memref sig .tc .vmem S256x768 .f32) (h3 : a3.IsWhole) (x : Vec Ideal S1408x256 .bf16) (w : Vec Ideal S1408x768 .bf16) (acc : Vec Ideal S256x768 .f32)

/-- The first tile's product is what the scratch then holds; -/
theorem first (e0 : cond0_0 i) (e1 : ¬cond0_1 i) (e2 : ¬cond0_2 i) : sout0_A_0 c i a0 h0 a1 h1 a2 h2 a3 h3 e0 e1 e2 x w = k0_pay1 x w := by
  unfold sout0_A_0
  rw [View.read_writes_eq_canon _ _ _ (scover0_A_0 c i a0 h0 a1 h1 a2 h2 a3 h3 e0 e1 e2 x w)]
  unfold kernelRun0_A
  dsimp only
  rw [View.canon_unit_zero origin]
  unfold k0_pay2
  simp only [View.readAt_eq_ld, h0.read_unread, h1.read_unread, View.ld_unit_zero (S := S1408x256) origin, View.ld_unit_zero (S := S1408x768) origin, shapeCast_self]

/-- a later tile's product is added to it; -/
theorem next (e0 : ¬cond0_0 i) (e1 : cond0_1 i) (e2 : ¬cond0_2 i) :
    sout0_B_0 c i a0 h0 a1 h1 a2 h2 a3 h3 e0 e1 e2 x w acc = addf acc (k0_pay1 x w) := by
  unfold sout0_B_0
  rw [View.read_writes_eq_canon _ _ _ (scover0_B_0 c i a0 h0 a1 h1 a2 h2 a3 h3 e0 e1 e2 x w acc)]
  unfold kernelRun0_B
  dsimp only
  rw [View.canon_unit_zero origin]
  unfold k0_pay3
  simp only [View.readAt_eq_ld, h0.read_unread, h1.read_unread, h3.read_unread, View.ld_unit_zero (S := S1408x256) origin,
    View.ld_unit_zero (S := S1408x768) origin, View.ld_unit_zero (S := S256x768) origin, shapeCast_self]

/-- and the last tile's sum is what the result's block gets. -/
theorem last (e0 : ¬cond0_0 i) (e1 : ¬cond0_1 i) (e2 : cond0_2 i) (y : S256x768.Idx) :
    out0_C_2 c i a0 h0 a1 h1 a2 h2 a3 h3 e0 e1 e2 x w acc y = acc y + k0_pay1 x w y := by
  unfold out0_C_2
  rw [View.read_writes_eq_canon _ _ _ (cover0_C_2 c i a0 h0 a1 h1 a2 h2 a3 h3 e0 e1 e2 x w acc)]
  unfold kernelRun0_C
  dsimp only
  rw [View.canon_unit_zero origin]
  unfold k0_pay4
  simp only [View.readAt_eq_ld, h0.read_unread, h1.read_unread, h3.read_unread, View.ld_unit_zero (S := S1408x256) origin,
    View.ld_unit_zero (S := S1408x768) origin, View.ld_unit_zero (S := S256x768) origin, shapeCast_self]
  rfl

/-- The product of two tiles at an index. -/
theorem tile_apply (r : Fin 256) (s : Fin 768) : k0_pay1 x w (ix2 r s) = ∑ k : Fin 1408, x (ix2 k r) * w (ix2 k s) := by
  unfold k0_pay1
  pointwise
end

variable (m : (ℓ : Loc nD τ sig) → Buf (Elt Ideal) ℓ)

/-- The product of the two tiles of point `n`. -/
def part (c : Dev nD) (n : ℕ) (y : S256x768.Idx) : EReal :=
  if h : n < cfg0.N then k0_pay1 (F := Ideal) (iblk m c 0 ⟨n, h⟩) (iblk m c 1 ⟨n, h⟩) y else 0

theorem part_eq (c : Dev nD) {n : ℕ} (h : n < cfg0.N) (y : S256x768.Idx) :
    part m c n y = k0_pay1 (F := Ideal) (iblk m c 0 ⟨n, h⟩) (iblk m c 1 ⟨n, h⟩) y := dif_pos h

/-- What the scratch holds inside a run of points: the sum of the products so far. -/
theorem carried (c : Dev nD) (q : ℕ) : ∀ (j : ℕ) (hj : j ≤ 4) (h : 6 * q + j < cfg0.N) (y : S256x768.Idx),
    (outsAt0 m c (6 * q + j) h).2 y = ∑ s ∈ Finset.range (j + 1), part m c (6 * q + s) y
  | 0, _, h, y => by
    have e := outsAt0_A m c ⟨6 * q + 0, h⟩ (by dsimp only; omega) (by dsimp only; omega) (by dsimp only; omega)
    dsimp only at e
    rw [e, Finset.sum_range_one, part_eq m c h]
    dsimp only
    rw [first]
  | j + 1, hj, h, y => by
    have e := outsAt0_B m c ⟨6 * q + (j + 1), h⟩ (by dsimp only; omega) (by dsimp only; omega) (by dsimp only; omega)
    dsimp only at e
    rw [e, Finset.sum_range_succ, ← carried c q j (by omega) (by omega), part_eq m c h]
    dsimp only
    rw [next]
    rfl

/-- What a run of points leaves in the result's block. -/
theorem block (c : Dev nD) (q : ℕ) (h : 6 * q + 5 < cfg0.N) (y : S256x768.Idx) :
    (outsAt0 m c (6 * q + 5) h).1 y = ∑ s ∈ Finset.range 6, part m c (6 * q + s) y := by
  have e := outsAt0_C m c ⟨6 * q + 5, h⟩ (by dsimp only; omega) (by dsimp only; omega) (by dsimp only; omega)
  dsimp only at e
  rw [e, Finset.sum_range_succ, ← carried m c q 4 (le_refl _) (by omega), part_eq m c h]
  dsimp only
  rw [last]
  rfl

theorem index_0 : ∀ t : Fin cfg0.N, win0_0.index t (0 : Fin 2) = t.val % 6 ∧ win0_0.index t (1 : Fin 2) = t.val / 12 :=
  (by decide +kernel : ∀ t : Fin grid0.N, win0_0.index t (0 : Fin 2) = t.val % 6 ∧ win0_0.index t (1 : Fin 2) = t.val / 12)
theorem index_1 : ∀ t : Fin cfg0.N, win0_1.index t (0 : Fin 2) = t.val % 6 ∧ win0_1.index t (1 : Fin 2) = t.val / 6 % 2 :=
  (by decide +kernel : ∀ t : Fin grid0.N, win0_1.index t (0 : Fin 2) = t.val % 6 ∧ win0_1.index t (1 : Fin 2) = t.val / 6 % 2)

/-- The arguments. -/
def arg0 (c : Dev nD) : FVec Ideal S8448x256 .f32 := m ((c : Thread nD τ).loc main_arg0)
def arg1 (c : Dev nD) : FVec Ideal S8448x1536 .f32 := m ((c : Thread nD τ).loc main_arg1)

/-- The two arrays that the grid reads. -/
def left (c : Dev nD) : FVec Ideal S8448x256 .bf16 := V m c main_v0
def right (c : Dev nD) : FVec Ideal S8448x1536 .bf16 := V m c main_v1

/-- They are the arguments, cast. -/
theorem left_eq (c : Dev nD) : left m c = truncf .bf16 (arg0 m c) bitsLt_bf16_f32 := by
  unfold left arg0
  unfold_abbrev_sides
  after_results_simp <;> rfl
theorem right_eq (c : Dev nD) : right m c = truncf .bf16 (arg1 m c) bitsLt_bf16_f32 := by
  unfold right arg1
  unfold_abbrev_sides
  after_results_simp <;> rfl
theorem left_apply (c : Dev nD) (i : Fin 8448) (k : Fin 256) : left m c (ix2 i k) = arg0 m c (ix2 i k) := by
  rw [left_eq]
  pointwise
theorem right_apply (c : Dev nD) (k : Fin 8448) (j : Fin 1536) : right m c (ix2 k j) = arg1 m c (ix2 k j) := by
  rw [right_eq]
  pointwise

/-- The result is the product. -/
theorem product (c : Dev nD) (i : Fin 256) (j : Fin 1536) :
    (G2 m c : FVec Ideal S256x1536 .f32) (ix2 i j) = ∑ k : Fin 8448, left m c (ix2 k i) * right m c (ix2 k j) := by
  have hi := i.isLt
  have hj := j.isLt
  have hN : cfg0.N = 12 := N_0
  have hpt : 6 * (2 * (i.val / 256) + j.val / 768) + 5 < cfg0.N := by rw [hN]; omega
  have hp : pt2Of (ix2 i j) = 6 * (2 * (i.val / 256) + j.val / 768) + 5 := by
    show 6 * (2 * (i.val / 256 - 0) + 1 * (j.val / 768 - 0)) + 5 = _
    omega
  have hl : loc2Of (ix2 i j) = ix2 (⟨i.val % 256, Nat.mod_lt _ (by norm_num)⟩ : Fin 256) (⟨j.val % 768, Nat.mod_lt _ (by norm_num)⟩ : Fin 768) :=
    eq_ix2 _
  have hb : (G2 m c : FVec Ideal S256x1536 .f32) (ix2 i j) = ∑ s ∈ Finset.range 6, part m c (6 * (2 * (i.val / 256) + j.val / 768) + s) (loc2Of (ix2 i j)) := by
    rw [← block m c _ hpt]
    unfold G2
    rw [dif_pos (show pt2Of (ix2 i j) < cfg0.N by rw [hp]; exact hpt), ← outsAt0_sweep]
    · simp only [hp]
    · rw [hp]
      exact hpt
  rw [hb, hl]
  refine sum_tiles 6 1408 rfl (fun k : Fin 8448 => left m c (ix2 k i) * right m c (ix2 k j)) _ fun s hs => ?_
  have hs' : 6 * (2 * (i.val / 256) + j.val / 768) + s < cfg0.N := by omega
  rw [part_eq m c hs', tile_apply]
  obtain ⟨e00, e01⟩ := index_0 ⟨_, hs'⟩
  obtain ⟨e10, e11⟩ := index_1 ⟨_, hs'⟩
  dsimp only at e00 e01 e10 e11
  refine Finset.sum_congr rfl fun k _ => congrArg₂ _ (congrArg (V m c main_v0) (funext fun a => Fin.ext ?_)) (congrArg (V m c main_v1) (funext fun a => Fin.ext ?_))
  · match a with
    | ⟨0, _⟩ => show win0_0.index _ (0 : Fin 2) * 1408 + 1 * k.val = s * 1408 + k.val; omega
    | ⟨1, _⟩ => show win0_0.index _ (1 : Fin 2) * 256 + 1 * (i.val % 256) = i.val; omega
  · match a with
    | ⟨0, _⟩ => show win0_1.index _ (0 : Fin 2) * 1408 + 1 * k.val = s * 1408 + k.val; omega
    | ⟨1, _⟩ => show win0_1.index _ (1 : Fin 2) * 768 + 1 * (j.val % 768) = j.val; omega

/-- And so it is the product of the arguments. -/
theorem result_apply (c : Dev nD) (i : Fin 256) (j : Fin 1536) :
    (G2 m c : FVec Ideal S256x1536 .f32) (ix2 i j) = ∑ k : Fin 8448, arg1 m c (ix2 k j) * arg0 m c (ix2 k i) := by
  have e : (∑ k : Fin 8448, left m c (ix2 k i) * right m c (ix2 k j) : EReal) = ∑ k : Fin 8448, arg1 m c (ix2 k j) * arg0 m c (ix2 k i) := by
    refine Finset.sum_congr rfl fun k _ => ?_
    rw [left_apply, right_apply]
    exact EReal.mul_comm _ _
  exact (product m c i j).trans e

/-- The reference's result at an index. -/
theorem reference_apply (x : FVec Ideal S8448x256 .f32) (w : FVec Ideal S8448x1536 .f32) (i : Fin 256) (j : Fin 1536) :
    transpose _ [1, 0] (Host.dotGeneral Cert.UkvDwReferenceIdeal.dot_S8448x1536_S8448x256_S1536x256_0_0_1_1_n_n none w x) Cert.UkvDwReferenceIdeal.Gen.transposes_S1536x256_S256x1536_1_0 (ix2 i j) = ∑ k : Fin 8448, w (ix2 k j) * x (ix2 k i) := by
  pointwise

end Cert.UkvDwIdeal.Value

namespace Cert.Proof

open Idealize.ShloMosaic Idealize.SL.Sem

/-- The kernel, its ideal reading and the reference end, their arguments unchanged and every counter at zero. -/
theorem frame_UkvDw : Cert.quiescent_UkvDw := fun m ρ _ => Cert.UkvDw.Gen.frame m ρ
theorem frame_UkvDwIdeal : Cert.quiescent_UkvDwIdeal := fun m ρ _ => Cert.UkvDwIdeal.Gen.frame m ρ
theorem frame_UkvDwReference : Cert.quiescent_UkvDwReferenceIdeal := fun m ρ _ =>
  (θ_run Cert.UkvDwReferenceIdeal.defs _ _).mono (fun r h => ⟨fun c => (h c).2, sem_eq_zero_of_no_sems (by decide) r.2⟩) (Cert.UkvDwReferenceIdeal.Value.run m ρ)

/-- Kernel and reference leave the same product, for all arguments. -/
theorem algebraic_UkvDw : Cert.algebraic_UkvDwIdeal_UkvDwReferenceIdeal := by
  intro m g m' g' _ hargs
  refine ⟨fun c => Cert.UkvDwIdeal.Value.G2 m c, Cert.UkvDwIdeal.Value.run m g, ?_⟩
  refine (θ_run Cert.UkvDwReferenceIdeal.defs _ _).mono (fun r h c => ?_) (Cert.UkvDwReferenceIdeal.Value.run m' g')
  obtain ⟨e0, e1⟩ := hargs c
  obtain ⟨r0, rest⟩ := h c
  refine ⟨r0.trans ?_, rest⟩
  rw [e0, e1]
  funext y
  rw [eq_ix2 y]
  exact (Cert.UkvDwIdeal.Value.reference_apply _ _ _ _).trans (Cert.UkvDwIdeal.Value.result_apply m c _ _).symm

end Cert.Proof

end
-- ==== Proof.FwdReads.lean ====
/- What each value the forward kernel's body computes is at an index, over the extended reals. -/
module

public import proofs.«01_k».proof.Proof.Gen.FwdIdeal.Skeleton
public import proofs.«01_k».proof.Proof.Spec
public import Idealize.ShloMosaic.Lib.WordCmp
public import Idealize.ShloMosaic.Lib.Pointwise
public import Idealize.ShloMosaic.Lib.ValueIdx

@[expose] public section

set_option maxRecDepth 16384

noncomputable section

namespace Cert.FwdIdeal.Value

open Idealize.ShloMosaic Idealize.SL.Sem
open Cert.FwdIdeal Cert.FwdIdeal.Gen Idealize.ShloMosaic.WordCmp

/-- `1/log 2`, the constant named "log2e". -/
theorem named_log2e : Named.named (F := Ideal) (φ := .f32) κ "log2e" 0x3FB8AA3B#32 = (((Real.log 2)⁻¹ : ℝ) : EReal) :=
  IdealRules.named_const.ideal_named_scalar _ _ _ _ rfl

/-- `-∞`, the constant named "mask". -/
theorem named_mask : Named.named (F := Ideal) (φ := .f32) κ "mask" 0xF149F2CA#32 = (⊥ : EReal) :=
  IdealRules.named_const.ideal_named_scalar _ _ _ _ rfl

/-- What a query tile starts from: no maximum, no sum, no output. -/
theorem pay1_apply (b : Fin 8) (r : Fin 768) : k0_pay1 (F := Ideal) (ix3 0 b r) = ⊥ := by
  unfold k0_pay1
  pointwise
  exact named_mask
theorem pay2_apply (b : Fin 8) (r : Fin 768) : k0_pay2 (F := Ideal) (ix3 0 b r) = 0 := by
  unfold k0_pay2
  pointwise
theorem pay3_apply (e : Fin 128) (r : Fin 768) : k0_pay3 (F := Ideal) (ix3 0 e r) = 0 := by
  unfold k0_pay3
  pointwise

/-- The tile's scores, those that the query does not see at `-∞`. -/
theorem pay12_apply (i st : ℕ) (hi : i < 11) (hst : st < 11) (k q : Vec Ideal S768x256 .bf16) (j r : Fin 768) :
    k0_pay12 (F := Ideal) (BitVec.ofNat 32 i) (BitVec.ofNat 32 st) k q (ix2 j r)
      = if Attn.Vis (i * 768 + r.val) (st * 768 + j.val) then ∑ d : Fin 256, k (ix2 j d) * q (ix2 r d) else ⊥ := by
  unfold k0_pay12
  pointwise
  simp only [named_mask, show ∀ x y : BitVec 32, Scalar.muli x y = IntOp.muli x y from fun _ _ => rfl, muli_ofNat, addi_ofNat]
  have hr := r.isLt; have hj := j.isLt
  rw [cmpi_slt_ofNat (by omega) (by norm_num), cmpi_sge_ofNat (by omega) (by norm_num), ori_ofBool]
  by_cases h : Attn.Vis (i * 768 + r.val) (st * 768 + j.val)
  · rw [if_pos h]
    have : (decide (st * 768 + j.val < 256) || decide (256 ≤ i * 768 + r.val)) = true := by
      unfold Attn.Vis at h; simpa using h
    rw [this]
    rfl
  · rw [if_neg h]
    have : (decide (st * 768 + j.val < 256) || decide (256 ≤ i * 768 + r.val)) = false := by
      unfold Attn.Vis at h; simpa using h
    rw [this]
    rfl

theorem pay18_apply (k q : Vec Ideal S768x256 .bf16) (j r : Fin 768) :
    k0_pay18 (F := Ideal) k q (ix2 j r) = ∑ d : Fin 256, k (ix2 j d) * q (ix2 r d) := by
  unfold k0_pay18
  pointwise

theorem pay9_apply (acc : Vec Ideal S1x128x768 .f32) (l : Vec Ideal S1x1x768 .f32) (e : Fin 128) (r : Fin 768) :
    k0_pay9 (F := Ideal) acc l (ix2 e r) = Ideal.div (acc (ix3 0 e r)) (l (ix3 0 0 r)) := by
  unfold k0_pay9
  pointwise

theorem pay10_apply (m l : Vec Ideal S1x8x768 .f32) (b : Fin 8) (r : Fin 768) :
    k0_pay10 (F := Ideal) m l (ix3 0 b r) = m (ix3 0 b r) + Ideal.log (l (ix3 0 b r)) * ((Real.log 2)⁻¹ : ℝ) := by
  unfold k0_pay10
  pointwise
  rw [named_log2e]

section
variable (t : FVec Ideal S768x768 .f32) (v : Vec Ideal S128x768 .bf16) (m l : Vec Ideal S1x1x768 .f32) (a : Vec Ideal S1x128x768 .f32)

/-- A tile's new maximum, weights, sum and output, from its scores `t`. -/
def mx : FVec Ideal S1x768 .f32 := maximumf (shapeCast S1x768 m shapeCasts_S1x1x768_S1x768)
  (shapeCast S1x768 (multiReduction .maximumf [0] S768 t 0xFF800000#32 reduces_S768x768_S768 (.inl rfl) rfl) shapeCasts_S768_S1x768)
def al : FVec Ideal S1x768 .f32 := exp2 (subf (shapeCast S1x768 m shapeCasts_S1x1x768_S1x768) (mx t m))
def wt : FVec Ideal S768x768 .f32 := exp2 (subf t (broadcastTo S768x768 (mx t m) broadcasts_S1x768_S768x768))
def sm : FVec Ideal S1x768 .f32 := addf (mulf (al t m) (shapeCast S1x768 l shapeCasts_S1x1x768_S1x768))
  (shapeCast S1x768 (multiReduction .add [0] S768 (wt t m) 0x00000000#32 reduces_S768x768_S768 (.inl rfl) rfl) shapeCasts_S768_S1x768)

theorem mx_apply (r : Fin 768) : mx t m (ix2 0 r) = max (m (ix3 0 0 r)) (Finset.fold max ⊥ (fun j => t (ix2 j r)) Finset.univ) := by
  have hb : Ideal.ofBits .f32 0xFF800000#32 = ⊥ := by simp [Ideal.ofBits, Ideal.ieee]
  unfold mx
  pointwise
  rw [← hb]
theorem al_apply (r : Fin 768) : al t m (ix2 0 r) = Ideal.exp2 (m (ix3 0 0 r) - mx t m (ix2 0 r)) := by
  unfold al
  generalize mx t m = y
  pointwise
  rfl
theorem wt_apply (j r : Fin 768) : wt t m (ix2 j r) = Ideal.exp2 (t (ix2 j r) - mx t m (ix2 0 r)) := by
  unfold wt
  generalize mx t m = y
  pointwise
  rfl
theorem sm_apply (r : Fin 768) : sm t m l (ix2 0 r) = al t m (ix2 0 r) * l (ix3 0 0 r) + ∑ j : Fin 768, wt t m (ix2 j r) := by
  unfold sm
  generalize al t m = y
  generalize wt t m = w
  pointwise
theorem pay4_apply (y : FVec Ideal S1x768 .f32) (w : FVec Ideal S768x768 .f32) (e : Fin 128) (r : Fin 768) :
    k0_pay4 (F := Ideal) v y w a (ix3 0 e r) = a (ix3 0 e r) * y (ix2 0 r) + ∑ j : Fin 768, v (ix2 e j) * w (ix2 j r) := by
  unfold k0_pay4
  pointwise
theorem rows_apply (y : FVec Ideal S1x768 .f32) (b : Fin 8) (r : Fin 768) : k0_pay5 (F := Ideal) y (ix3 0 b r) = y (ix2 0 r) := by
  unfold k0_pay5
  pointwise
end

end Cert.FwdIdeal.Value

end
-- ==== Proof.FwdPoints.lean ====
/- What each kind of grid point leaves in the arrays that are carried and in the results' blocks. -/
module

public import proofs.«01_k».proof.Proof.FwdReads
public import proofs.«01_k».proof.Proof.Gen.FwdIdeal.Value
public import Idealize.ShloMosaic.Lib.VecWindow

@[expose] public section

set_option maxRecDepth 16384

noncomputable section

namespace Cert.FwdIdeal.Value

open Idealize.ShloMosaic Idealize.ShloMosaic.TcCoe Idealize.ShloMosaic.Tactic Idealize.SL.Sem
open Cert.FwdIdeal Cert.FwdIdeal.Gen

/-- The first of eight equal rows. -/
def row0 (x : Vec Ideal S1x8x768 .f32) : Vec Ideal S1x1x768 .f32 :=
  VecWindow.window x ![0, 0, 0] S1x1x768.size inb_S1x8x768_S1x1x768_0_0_0

theorem load_row (v : View sig .tc .vmem S1x8x768 .f32) (f : v.ty.Contents (Elt Ideal)) (inb : ∀ a, (![0, 0, 0] : Fin S1x8x768.rank → ℕ) a + (![1, 1, 768] : Fin S1x8x768.rank → ℕ) a ≤ S1x8x768.size a) :
    v.readAt (Elt Ideal) (Rect.unit (s := S1x8x768) ![0, 0, 0] ![1, 1, 768] inb).toLoadRect f = row0 (v.read (Elt Ideal) f) :=
  View.readAt_unit v f inb rfl _

theorem load_tile (v : View sig .tc .vmem S768x256 .bf16) (f : v.ty.Contents (Elt Ideal)) (inb : ∀ a, (![0, 0] : Fin S768x256.rank → ℕ) a + (![768, 256] : Fin S768x256.rank → ℕ) a ≤ S768x256.size a) :
    v.readAt (Elt Ideal) (Rect.unit (s := S768x256) ![0, 0] ![768, 256] inb).toLoadRect f = v.read (Elt Ideal) f :=
  View.readAt_full (s := S768x256) v f inb

theorem load_values (v : View sig .tc .vmem S128x768 .bf16) (f : v.ty.Contents (Elt Ideal)) (inb : ∀ a, (![0, 0] : Fin S128x768.rank → ℕ) a + (![128, 768] : Fin S128x768.rank → ℕ) a ≤ S128x768.size a) :
    v.readAt (Elt Ideal) (Rect.unit (s := S128x768) ![0, 0] ![128, 768] inb).toLoadRect f = v.read (Elt Ideal) f :=
  View.readAt_full (s := S128x768) v f inb

theorem load_rows (v : View sig .tc .vmem S1x8x768 .f32) (f : v.ty.Contents (Elt Ideal)) (inb : ∀ a, (![0, 0, 0] : Fin S1x8x768.rank → ℕ) a + (![1, 8, 768] : Fin S1x8x768.rank → ℕ) a ≤ S1x8x768.size a) :
    v.readAt (Elt Ideal) (Rect.unit (s := S1x8x768) ![0, 0, 0] ![1, 8, 768] inb).toLoadRect f = v.read (Elt Ideal) f :=
  View.readAt_full (s := S1x8x768) v f inb

theorem load_out (v : View sig .tc .vmem S1x128x768 .f32) (f : v.ty.Contents (Elt Ideal)) (inb : ∀ a, (![0, 0, 0] : Fin S1x128x768.rank → ℕ) a + (![1, 128, 768] : Fin S1x128x768.rank → ℕ) a ≤ S1x128x768.size a) :
    v.readAt (Elt Ideal) (Rect.unit (s := S1x128x768) ![0, 0, 0] ![1, 128, 768] inb).toLoadRect f = v.read (Elt Ideal) f :=
  View.readAt_full (s := S1x128x768) v f inb

theorem store_rows (v : View sig .tc .vmem S1x8x768 .f32) (f : v.ty.Contents (Elt Ideal)) (inb : ∀ a, (![0, 0, 0] : Fin S1x8x768.rank → ℕ) a + (![1, 8, 768] : Fin S1x8x768.rank → ℕ) a ≤ S1x8x768.size a)
    (w : Vec Ideal S1x8x768 .f32) (L : List (View.Piece (Elt Ideal) S1x8x768 .f32)) :
    v.read (Elt Ideal) (v.writes (Elt Ideal) f (⟨Rect.unit (s := S1x8x768) ![0, 0, 0] ![1, 8, 768] inb, w⟩ :: L)) = w :=
  View.read_writes_full (s := S1x8x768) v f inb w L

theorem store_out (v : View sig .tc .vmem S1x128x768 .f32) (f : v.ty.Contents (Elt Ideal)) (inb : ∀ a, (![0, 0, 0] : Fin S1x128x768.rank → ℕ) a + (![1, 128, 768] : Fin S1x128x768.rank → ℕ) a ≤ S1x128x768.size a)
    (w : Vec Ideal S1x128x768 .f32) (L : List (View.Piece (Elt Ideal) S1x128x768 .f32)) :
    v.read (Elt Ideal) (v.writes (Elt Ideal) f (⟨Rect.unit (s := S1x128x768) ![0, 0, 0] ![1, 128, 768] inb, w⟩ :: L)) = w :=
  View.read_writes_full (s := S1x128x768) v f inb w L

theorem store_block (v : View sig .tc .vmem S128x768 .f32) (f : v.ty.Contents (Elt Ideal)) (inb : ∀ a, (![0, 0] : Fin S128x768.rank → ℕ) a + (![128, 768] : Fin S128x768.rank → ℕ) a ≤ S128x768.size a)
    (w : Vec Ideal S128x768 .f32) (L : List (View.Piece (Elt Ideal) S128x768 .f32)) :
    v.read (Elt Ideal) (v.writes (Elt Ideal) f (⟨Rect.unit (s := S128x768) ![0, 0] ![128, 768] inb, w⟩ :: L)) = w :=
  View.read_writes_full (s := S128x768) v f inb w L

/-- What is carried from a grid point to the next: the rows' maxima, their sums and their outputs. -/
structure Carry where
  m : Vec Ideal S1x8x768 .f32
  l : Vec Ideal S1x8x768 .f32
  a : Vec Ideal S1x128x768 .f32

/-- What a query tile starts from. -/
def start : Carry := ⟨k0_pay1 (F := Ideal), k0_pay2 (F := Ideal), k0_pay3 (F := Ideal)⟩

/-- A key tile taken in, from its scores and its values. -/
def Carry.next (s : Carry) (t : FVec Ideal S768x768 .f32) (v : Vec Ideal S128x768 .bf16) : Carry where
  m := k0_pay5 (F := Ideal) (mx t (row0 s.m))
  l := k0_pay5 (F := Ideal) (sm t (row0 s.m) (row0 s.l))
  a := k0_pay4 (F := Ideal) v (al t (row0 s.m)) (wt t (row0 s.m)) s.a

/-- The scores of a point of the first query tile, and of a later one. -/
def masked (i : grid0.Coords) (q k : Vec Ideal S768x256 .bf16) : FVec Ideal S768x768 .f32 :=
  k0_pay12 (F := Ideal) (BitVec.ofNat 32 (i 1).val) (BitVec.ofNat 32 (i 2).val) k q
def plain (q k : Vec Ideal S768x256 .bf16) : FVec Ideal S768x768 .f32 := k0_pay18 (F := Ideal) k q

theorem values_eq (v : Vec Ideal S128x768 .bf16) : k0_pay11 (F := Ideal) v = v := by
  unfold k0_pay11
  exact shapeCast_self _ _
theorem plain_out (k q : Vec Ideal S768x256 .bf16) (v : Vec Ideal S128x768 .bf16) (m : Vec Ideal S1x1x768 .f32) (a : Vec Ideal S1x128x768 .f32) :
    k0_pay24 (F := Ideal) k v q m a = k0_pay4 (F := Ideal) v (al (k0_pay18 (F := Ideal) k q) m) (wt (k0_pay18 (F := Ideal) k q) m) a := by
  unfold k0_pay24 k0_pay4
  simp only [shapeCast_self]
  rfl

section
variable (c : Dev nD) (i : grid0.Coords)
  (arg3 : Memref sig .tc .vmem S768x256 .bf16) (harg3 : arg3.IsWhole) (arg4 : Memref sig .tc .vmem S768x256 .bf16) (harg4 : arg4.IsWhole) (arg5 : Memref sig .tc .vmem S128x768 .bf16) (harg5 : arg5.IsWhole) (arg6 : Memref sig .tc .vmem S1x8x128 .f32) (harg6 : arg6.IsWhole) (arg7 : Memref sig .tc .vmem S128x768 .f32) (harg7 : arg7.IsWhole) (arg8 : Memref sig .tc .vmem S1x8x768 .f32) (harg8 : arg8.IsWhole) (arg9 : Memref sig .tc .vmem S1x8x768 .f32) (harg9 : arg9.IsWhole) (arg10 : Memref sig .tc .vmem S1x8x768 .f32) (harg10 : arg10.IsWhole) (arg11 : Memref sig .tc .vmem S1x128x768 .f32) (harg11 : arg11.IsWhole)
  (q k : Vec Ideal S768x256 .bf16) (v : Vec Ideal S128x768 .bf16) (z : Vec Ideal S1x8x128 .f32) (pm pl : Vec Ideal S1x8x768 .f32) (pa : Vec Ideal S1x128x768 .f32)

theorem sout0_A_0_eq (hc0 : cond0_0 i) (hc1 : cond0_1 i) (hc2 : ¬cond0_2 i) (hc3 : ¬cond0_3 i) :
    sout0_A_0 (F := Ideal) c i arg3 harg3 arg4 harg4 arg5 harg5 arg6 harg6 arg7 harg7 arg8 harg8 arg9 harg9 arg10 harg10 arg11 harg11 hc0 hc1 hc2 hc3 q k v z = (start.next (masked i q k) v).m := by
  unfold sout0_A_0 kernelRun0_A
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_A_1_eq (hc0 : cond0_0 i) (hc1 : cond0_1 i) (hc2 : ¬cond0_2 i) (hc3 : ¬cond0_3 i) :
    sout0_A_1 (F := Ideal) c i arg3 harg3 arg4 harg4 arg5 harg5 arg6 harg6 arg7 harg7 arg8 harg8 arg9 harg9 arg10 harg10 arg11 harg11 hc0 hc1 hc2 hc3 q k v z = (start.next (masked i q k) v).l := by
  unfold sout0_A_1 kernelRun0_A
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_A_2_eq (hc0 : cond0_0 i) (hc1 : cond0_1 i) (hc2 : ¬cond0_2 i) (hc3 : ¬cond0_3 i) :
    sout0_A_2 (F := Ideal) c i arg3 harg3 arg4 harg4 arg5 harg5 arg6 harg6 arg7 harg7 arg8 harg8 arg9 harg9 arg10 harg10 arg11 harg11 hc0 hc1 hc2 hc3 q k v z = (start.next (masked i q k) v).a := by
  unfold sout0_A_2 kernelRun0_A
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_B_0_eq (hc0 : ¬cond0_0 i) (hc1 : cond0_1 i) (hc2 : ¬cond0_2 i) (hc3 : ¬cond0_3 i) :
    sout0_B_0 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (masked i q k) v).m := by
  unfold sout0_B_0 kernelRun0_B
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_B_1_eq (hc0 : ¬cond0_0 i) (hc1 : cond0_1 i) (hc2 : ¬cond0_2 i) (hc3 : ¬cond0_3 i) :
    sout0_B_1 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (masked i q k) v).l := by
  unfold sout0_B_1 kernelRun0_B
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_B_2_eq (hc0 : ¬cond0_0 i) (hc1 : cond0_1 i) (hc2 : ¬cond0_2 i) (hc3 : ¬cond0_3 i) :
    sout0_B_2 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (masked i q k) v).a := by
  unfold sout0_B_2 kernelRun0_B
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_C_0_eq (hc0 : ¬cond0_0 i) (hc1 : cond0_1 i) (hc2 : ¬cond0_2 i) (hc3 : cond0_3 i) :
    sout0_C_0 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (masked i q k) v).m := by
  unfold sout0_C_0 kernelRun0_C
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_C_1_eq (hc0 : ¬cond0_0 i) (hc1 : cond0_1 i) (hc2 : ¬cond0_2 i) (hc3 : cond0_3 i) :
    sout0_C_1 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (masked i q k) v).l := by
  unfold sout0_C_1 kernelRun0_C
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_C_2_eq (hc0 : ¬cond0_0 i) (hc1 : cond0_1 i) (hc2 : ¬cond0_2 i) (hc3 : cond0_3 i) :
    sout0_C_2 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (masked i q k) v).a := by
  unfold sout0_C_2 kernelRun0_C
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem out0_C_4_eq (hc0 : ¬cond0_0 i) (hc1 : cond0_1 i) (hc2 : ¬cond0_2 i) (hc3 : cond0_3 i) :
    out0_C_4 (F := Ideal) c i arg3 harg3 arg4 harg4 arg5 harg5 arg6 harg6 arg7 harg7 arg8 harg8 arg9 harg9 arg10 harg10 arg11 harg11 hc0 hc1 hc2 hc3 q k v z pm pl pa = k0_pay9 (F := Ideal) ((Carry.mk pm pl pa).next (masked i q k) v).a (row0 ((Carry.mk pm pl pa).next (masked i q k) v).l) := by
  unfold out0_C_4 kernelRun0_C
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem out0_C_5_eq (hc0 : ¬cond0_0 i) (hc1 : cond0_1 i) (hc2 : ¬cond0_2 i) (hc3 : cond0_3 i) :
    out0_C_5 (F := Ideal) c i arg3 harg3 arg4 harg4 arg5 harg5 arg6 harg6 arg7 harg7 arg8 harg8 arg9 harg9 arg10 harg10 arg11 harg11 hc0 hc1 hc2 hc3 q k v z pm pl pa = k0_pay10 (F := Ideal) ((Carry.mk pm pl pa).next (masked i q k) v).m ((Carry.mk pm pl pa).next (masked i q k) v).l := by
  unfold out0_C_5 kernelRun0_C
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_D_0_eq (hc0 : cond0_0 i) (hc1 : ¬cond0_1 i) (hc2 : cond0_2 i) (hc3 : ¬cond0_3 i) :
    sout0_D_0 (F := Ideal) c i arg3 harg3 arg4 harg4 arg5 harg5 arg6 harg6 arg7 harg7 arg8 harg8 arg9 harg9 arg10 harg10 arg11 harg11 hc0 hc1 hc2 hc3 q k v z = (start.next (plain q k) v).m := by
  unfold sout0_D_0 kernelRun0_D
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_D_1_eq (hc0 : cond0_0 i) (hc1 : ¬cond0_1 i) (hc2 : cond0_2 i) (hc3 : ¬cond0_3 i) :
    sout0_D_1 (F := Ideal) c i arg3 harg3 arg4 harg4 arg5 harg5 arg6 harg6 arg7 harg7 arg8 harg8 arg9 harg9 arg10 harg10 arg11 harg11 hc0 hc1 hc2 hc3 q k v z = (start.next (plain q k) v).l := by
  unfold sout0_D_1 kernelRun0_D
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_D_2_eq (hc0 : cond0_0 i) (hc1 : ¬cond0_1 i) (hc2 : cond0_2 i) (hc3 : ¬cond0_3 i) :
    sout0_D_2 (F := Ideal) c i arg3 harg3 arg4 harg4 arg5 harg5 arg6 harg6 arg7 harg7 arg8 harg8 arg9 harg9 arg10 harg10 arg11 harg11 hc0 hc1 hc2 hc3 q k v z = (start.next (plain q k) v).a := by
  unfold sout0_D_2 kernelRun0_D
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_E_0_eq (hc0 : ¬cond0_0 i) (hc1 : ¬cond0_1 i) (hc2 : cond0_2 i) (hc3 : ¬cond0_3 i) :
    sout0_E_0 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (plain q k) v).m := by
  unfold sout0_E_0 kernelRun0_E
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_E_1_eq (hc0 : ¬cond0_0 i) (hc1 : ¬cond0_1 i) (hc2 : cond0_2 i) (hc3 : ¬cond0_3 i) :
    sout0_E_1 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (plain q k) v).l := by
  unfold sout0_E_1 kernelRun0_E
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_E_2_eq (hc0 : ¬cond0_0 i) (hc1 : ¬cond0_1 i) (hc2 : cond0_2 i) (hc3 : ¬cond0_3 i) :
    sout0_E_2 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (plain q k) v).a := by
  unfold sout0_E_2 kernelRun0_E
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_F_0_eq (hc0 : ¬cond0_0 i) (hc1 : ¬cond0_1 i) (hc2 : cond0_2 i) (hc3 : cond0_3 i) :
    sout0_F_0 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (plain q k) v).m := by
  unfold sout0_F_0 kernelRun0_F
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_F_1_eq (hc0 : ¬cond0_0 i) (hc1 : ¬cond0_1 i) (hc2 : cond0_2 i) (hc3 : cond0_3 i) :
    sout0_F_1 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (plain q k) v).l := by
  unfold sout0_F_1 kernelRun0_F
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem sout0_F_2_eq (hc0 : ¬cond0_0 i) (hc1 : ¬cond0_1 i) (hc2 : cond0_2 i) (hc3 : cond0_3 i) :
    sout0_F_2 (F := Ideal) c i arg3 harg3 arg4 harg4 arg5 harg5 arg6 harg6 arg7 harg7 arg8 harg8 arg9 harg9 arg10 harg10 arg11 harg11 hc0 hc1 hc2 hc3 q k v z pm pl pa = ((Carry.mk pm pl pa).next (plain q k) v).a := by
  unfold sout0_F_2 kernelRun0_F
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem out0_F_4_eq (hc0 : ¬cond0_0 i) (hc1 : ¬cond0_1 i) (hc2 : cond0_2 i) (hc3 : cond0_3 i) :
    out0_F_4 (F := Ideal) c i arg3 harg3 arg4 harg4 arg5 harg5 arg6 harg6 arg7 harg7 arg8 harg8 arg9 harg9 arg10 harg10 arg11 harg11 hc0 hc1 hc2 hc3 q k v z pm pl pa = k0_pay9 (F := Ideal) ((Carry.mk pm pl pa).next (plain q k) v).a (row0 ((Carry.mk pm pl pa).next (plain q k) v).l) := by
  unfold out0_F_4 kernelRun0_F
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

theorem out0_F_5_eq (hc0 : ¬cond0_0 i) (hc1 : ¬cond0_1 i) (hc2 : cond0_2 i) (hc3 : cond0_3 i) :
    out0_F_5 (F := Ideal) c i arg3 harg3 arg4 harg4 arg5 harg5 arg6 harg6 arg7 harg7 arg8 harg8 arg9 harg9 arg10 harg10 arg11 harg11 hc0 hc1 hc2 hc3 q k v z pm pl pa = k0_pay10 (F := Ideal) ((Carry.mk pm pl pa).next (plain q k) v).m ((Carry.mk pm pl pa).next (plain q k) v).l := by
  unfold out0_F_5 kernelRun0_F
  dsimp only
  sl_unfold_words
  set_option backward.isDefEq.respectTransparency false in
  simp only [View.readCov, load_row, load_tile, load_values, load_rows, load_out, store_rows, store_out, store_block, View.writes_nil, values_eq, plain_out,
    harg3.read_unread, harg4.read_unread, harg5.read_unread, harg9.read_unread, harg10.read_unread, harg11.read_unread]
  rfl

end

end Cert.FwdIdeal.Value

end
-- ==== Proof.FwdSoftmax.lean ====
/- A softmax taken tile by tile: the running maximum, the running sum and the running output, over the real numbers. -/
module

public import proofs.«01_k».proof.Proof.Coe

@[expose] public section

set_option maxRecDepth 16384

noncomputable section

namespace Attn

open Idealize.ShloMosaic

theorem exp2_real (x : ℝ) : Ideal.exp2 (x : EReal) = (((2 : ℝ) ^ x : ℝ) : EReal) := rfl
theorem exp2_bot : Ideal.exp2 ⊥ = 0 := rfl

/-- What is carried: a maximum `m`, the sum `S` of the weights so far and their sums `A` with the values, the two scaled by
    `2 ^ (-m)`; before the first tile, nothing. -/
def Running {dv : ℕ} (S : ℝ) (A : Fin dv → ℝ) (m l : EReal) (a : Fin dv → EReal) : Prop :=
  (∃ M : ℝ, m = M ∧ l = ((S * 2 ^ (-M) : ℝ) : EReal) ∧ ∀ e, a e = ((A e * 2 ^ (-M) : ℝ) : EReal))
    ∨ (m = ⊥ ∧ S = 0 ∧ (∀ e, A e = 0) ∧ l = 0 ∧ ∀ e, a e = 0)

/-- The largest of real scores, some of them left out, and of what came before is a real number when one of them is there. -/
theorem max_real {n : ℕ} (vis : Fin n → Prop) [DecidablePred vis] (s : Fin n → ℝ) (m : EReal) (hm : m ≠ ⊤) (h : m ≠ ⊥ ∨ ∃ j, vis j) :
    ∃ M : ℝ, max m (Finset.fold max ⊥ (fun j => if vis j then (s j : EReal) else ⊥) Finset.univ) = M := by
  have htop : max m (Finset.fold max ⊥ (fun j => if vis j then (s j : EReal) else ⊥) Finset.univ) < ⊤ := by
    refine max_lt (lt_top_iff_ne_top.2 hm) ((Finset.fold_max_lt _).2 ⟨bot_lt_top, fun j _ => ?_⟩)
    split_ifs
    · exact EReal.coe_lt_top _
    · exact bot_lt_top
  have hbot : ⊥ < max m (Finset.fold max ⊥ (fun j => if vis j then (s j : EReal) else ⊥) Finset.univ) := by
    rcases h with h | ⟨j, hj⟩
    · exact lt_max_of_lt_left (bot_lt_iff_ne_bot.2 h)
    · refine lt_max_of_lt_right ((Finset.lt_fold_max _).2 (.inr ⟨j, Finset.mem_univ _, ?_⟩))
      rw [if_pos hj]
      exact EReal.bot_lt_coe _
  exact ⟨_, (EReal.coe_toReal htop.ne hbot.ne').symm⟩

/-- One more tile: with the new maximum, the old sums are scaled down and the tile's weights added. -/
theorem Running.step {n dv : ℕ} {S : ℝ} {A : Fin dv → ℝ} {m l : EReal} {a : Fin dv → EReal} (R : Running S A m l a)
    (vis : Fin n → Prop) [DecidablePred vis] (s : Fin n → ℝ) (v : Fin n → Fin dv → ℝ) (h : m ≠ ⊥ ∨ ∃ j, vis j) {M' l' : EReal} {a' : Fin dv → EReal}
    (hM : M' = max m (Finset.fold max ⊥ (fun j => if vis j then (s j : EReal) else ⊥) Finset.univ))
    (hl : l' = Ideal.exp2 (m - M') * l + ∑ j, Ideal.exp2 ((if vis j then (s j : EReal) else ⊥) - M'))
    (ha : ∀ e, a' e = a e * Ideal.exp2 (m - M') + ∑ j, (v j e : EReal) * Ideal.exp2 ((if vis j then (s j : EReal) else ⊥) - M')) :
    Running (S + ∑ j, if vis j then (2 : ℝ) ^ s j else 0) (fun e => A e + ∑ j, v j e * if vis j then (2 : ℝ) ^ s j else 0) M' l' a' ∧ M' ≠ ⊥ := by
  have hm : m ≠ ⊤ := by
    rcases R with ⟨M, rfl, -⟩ | ⟨rfl, -⟩
    · exact EReal.coe_ne_top _
    · exact bot_ne_top
  obtain ⟨N, hN⟩ := max_real vis s m hm h
  rw [hN] at hM
  subst hM
  have hw : ∀ j, Ideal.exp2 ((if vis j then (s j : EReal) else ⊥) - (N : EReal)) = (((if vis j then (2 : ℝ) ^ s j else 0) * 2 ^ (-N) : ℝ) : EReal) := by
    intro j
    split_ifs
    · rw [← EReal.coe_sub, exp2_real, sub_eq_add_neg, Real.rpow_add (by norm_num)]
    · rw [sub_eq_add_neg, EReal.bot_add, exp2_bot, zero_mul]
      rfl
  refine ⟨.inl ⟨N, rfl, ?_, fun e => ?_⟩, EReal.coe_ne_bot _⟩
  · rw [hl]
    simp only [hw, ← coe_sum]
    rw [add_mul, Finset.sum_mul, EReal.coe_add]
    congr 1
    rcases R with ⟨M, rfl, rfl, -⟩ | ⟨rfl, rfl, -, rfl, -⟩
    · rw [← EReal.coe_sub, exp2_real, ← EReal.coe_mul, mul_left_comm, ← Real.rpow_add (by norm_num)]
      congr 3
      ring
    · rw [mul_zero, zero_mul]
      rfl
  · rw [ha]
    simp only [hw, ← EReal.coe_mul, ← coe_sum]
    rw [add_mul, Finset.sum_mul, EReal.coe_add]
    congr 1
    · rcases R with ⟨M, rfl, -, ea⟩ | ⟨rfl, -, eA, -, ea⟩
      · rw [ea, ← EReal.coe_sub, exp2_real, ← EReal.coe_mul, mul_assoc, ← Real.rpow_add (by norm_num)]
        congr 3
        ring
      · rw [ea, eA, zero_mul, zero_mul]
        rfl
    · exact congrArg _ (Finset.sum_congr rfl fun j _ => (mul_assoc _ _ _).symm)

/-- In the end the output is divided by the sum, -/
theorem Running.output {dv : ℕ} {S : ℝ} {A : Fin dv → ℝ} {m l : EReal} {a : Fin dv → EReal} (R : Running S A m l a) (hm : m ≠ ⊥) (hS : 0 < S) (e : Fin dv) :
    Ideal.div (a e) l = ((A e / S : ℝ) : EReal) := by
  rcases R with ⟨M, rfl, rfl, ea⟩ | ⟨h, -⟩
  · have h2 : (0 : ℝ) < 2 ^ (-M) := Real.rpow_pos_of_pos (by norm_num) _
    rw [ea]
    unfold Ideal.div
    rw [if_neg (by exact_mod_cast (mul_pos hS h2).ne'), ← EReal.coe_inv, ← EReal.coe_mul]
    congr 1
    field_simp
  · exact absurd h hm

/-- and the sum's logarithm taken. -/
theorem Running.logarithm {dv : ℕ} {S : ℝ} {A : Fin dv → ℝ} {m l : EReal} {a : Fin dv → EReal} (R : Running S A m l a) (hm : m ≠ ⊥) (hS : 0 < S) :
    m + Ideal.log l * ((Real.log 2)⁻¹ : ℝ) = ((Real.log S / Real.log 2 : ℝ) : EReal) := by
  rcases R with ⟨M, rfl, rfl, ea⟩ | ⟨h, -⟩
  · have h2 : (0 : ℝ) < 2 ^ (-M) := Real.rpow_pos_of_pos (by norm_num) _
    have e : Ideal.log ((S * 2 ^ (-M) : ℝ) : EReal) = ((Real.log (S * 2 ^ (-M)) : ℝ) : EReal) := by
      show (if S * 2 ^ (-M) ≤ 0 then (⊥ : EReal) else ((Real.log (S * 2 ^ (-M)) : ℝ) : EReal)) = _
      rw [if_neg (not_le.2 (mul_pos hS h2))]
    rw [e, ← EReal.coe_mul, ← EReal.coe_add, Real.log_mul hS.ne' h2.ne', Real.log_rpow (by norm_num)]
    congr 1
    have := log2_pos.ne'
    field_simp
    ring
  · exact absurd h hm

/-- The weights are the exponentials of the scores. -/
theorem rpow_score {n dk : ℕ} (q k : Fin n → Fin dk → ℝ) (i j : Fin n) :
    (2 : ℝ) ^ (∑ d, k j d * (q i d / (√192 * Real.log 2))) = Real.exp (score q k i j) := by
  have h2 := log2_pos; have h3 := sqrt192_pos
  have e : (∑ d, k j d * (q i d / (√192 * Real.log 2))) = score q k i j / Real.log 2 := by
    unfold score
    rw [div_div, Finset.sum_div]
    exact Finset.sum_congr rfl fun d _ => by ring
  rw [e, Real.rpow_def_of_pos (by norm_num), mul_div_cancel₀ _ h2.ne']

end Attn

end
-- ==== Proof.FwdHost.lean ====
/- The arrays that the forward kernel's launch reads, and the forward reference's results. -/
module

public import proofs.«01_k».proof.Proof.HostReads
public import proofs.«01_k».proof.Proof.Gen.FwdIdeal.Value
public import proofs.«01_k».proof.Proof.Gen.FwdReferenceIdeal.Run

@[expose] public section

set_option maxRecDepth 16384

noncomputable section

namespace Cert.FwdIdeal.Value

open Idealize.ShloMosaic Idealize.ShloMosaic.TcCoe Idealize.SL.Sem
open Cert.FwdIdeal Cert.FwdIdeal.Gen Attn
open Cert.KernelIdeal.Value (qsA kA vA qsA_eq)

variable (m : (ℓ : Loc nD τ sig) → Buf (Elt Ideal) ℓ) (c : Dev nD)

/-- The arguments. -/
def argQ : FVec Ideal S8448x1536 .f32 := m ((c : Thread nD τ).loc main_arg0)
def argK : FVec Ideal S8448x1536 .f32 := m ((c : Thread nD τ).loc main_arg1)
def argV : FVec Ideal S8448x768 .f32 := m ((c : Thread nD τ).loc main_arg2)

/-- The arrays that the grid reads. -/
def inQ : FVec Ideal S8448x1536 .bf16 := V m c main_v6
def inK : FVec Ideal S8448x1536 .bf16 := V m c main_v7
def inV : FVec Ideal S768x8448 .bf16 := V m c main_v9

/-- They are the queries in units of the scale and of `log 2`, the keys, and the values transposed. -/
theorem inQ_eq : inQ m c = qsA (argQ m c) := by
  unfold inQ argQ
  unfold_abbrev_sides
  after_results_simp <;> rfl
theorem inK_eq : inK m c = kA (argK m c) := by
  unfold inK argK
  unfold_abbrev_sides
  after_results_simp <;> rfl
theorem inV_eq : inV m c = transpose S768x8448 [1, 0] (vA (argV m c)) transposes_S8448x768_S768x8448_1_0 := by
  unfold inV argV
  unfold_abbrev_sides
  after_results_simp <;> rfl

section
variable {m c} {q k : Fin 6 → Fin 8448 → Fin 256 → ℝ} {v : Fin 6 → Fin 8448 → Fin 128 → ℝ}

theorem inQ_apply (hq : ∀ i h d, argQ m c (ix2 i (colK h d)) = (q h i d : EReal)) (h : Fin 6) (i : Fin 8448) (d : Fin 256) :
    inQ m c (ix2 i (colK h d)) = ((q h i d / (√192 * Real.log 2) : ℝ) : EReal) := by
  rw [inQ_eq]
  exact qsA_eq hq h i d
theorem inK_apply (hk : ∀ i h d, argK m c (ix2 i (colK h d)) = (k h i d : EReal)) (h : Fin 6) (i : Fin 8448) (d : Fin 256) :
    inK m c (ix2 i (colK h d)) = (k h i d : EReal) := by
  rw [inK_eq]
  exact hk i h d
theorem inV_apply (hv : ∀ i h e, argV m c (ix2 i (colV h e)) = (v h i e : EReal)) (h : Fin 6) (i : Fin 8448) (e : Fin 128) :
    inV m c (ix2 (colV h e) i) = (v h i e : EReal) := by
  have e : inV m c (ix2 (colV h e) i) = argV m c (ix2 i (colV h e)) := by
    rw [inV_eq]
    unfold vA
    pointwise <;> rfl
  rw [e]
  exact hv _ _ _
end

end Cert.FwdIdeal.Value

namespace Cert.FwdReferenceIdeal.Value

open Idealize.ShloMosaic Idealize.SL.Sem
open Cert.FwdReferenceIdeal Cert.FwdReferenceIdeal.Gen Attn
open Cert.KernelIdeal.Value (outT lseA lseC lseL outT_eq lseA_eq)

/-- The reference's results are the attention's output and the logarithms of the rows' totals that the backward kernel's host lines compute. -/
theorem res_out (m : (ℓ : Loc nD τ sig) → Buf (Elt Ideal) ℓ) (c : Dev nD) :
    res_main_v78 m c = outT (m ((c.tc : Thread nD τ).loc main_arg0)) (m ((c.tc : Thread nD τ).loc main_arg1)) (m ((c.tc : Thread nD τ).loc main_arg2)) := by
  unfold res_main_v78
  rfl
theorem res_log (m : (ℓ : Loc nD τ sig) → Buf (Elt Ideal) ℓ) (c : Dev nD) :
    res_main_v80 m c = lseA (m ((c.tc : Thread nD τ).loc main_arg0)) (m ((c.tc : Thread nD τ).loc main_arg1)) := by
  unfold res_main_v80
  rfl

/-- The eight rows of logarithms are one. -/
theorem lseA_row (a0 a1 : FVec Ideal S8448x1536 .f32) (h : Fin 6) (b : Fin 8) (i : Fin 8448) : lseA a0 a1 (ix3 h b i) = lseA a0 a1 (ix3 h 0 i) := by
  unfold lseA
  generalize lseC a0 a1 = x
  generalize lseL a0 a1 = y
  pointwise <;> rfl

end Cert.FwdReferenceIdeal.Value

end
-- ==== Proof.FwdValue.lean ====
/- The forward attention's kernel, grid point by grid point: what is carried is a softmax taken tile by tile, and the results are
   the attention's output and the logarithms of its rows' totals. -/
module

public import proofs.«01_k».proof.Proof.FwdPoints
public import proofs.«01_k».proof.Proof.FwdSoftmax
public import proofs.«01_k».proof.Proof.FwdHost

@[expose] public section

set_option maxRecDepth 16384

noncomputable section

namespace Cert.FwdIdeal.Value

open Idealize.ShloMosaic Idealize.ShloMosaic.TcCoe Idealize.SL.Sem
open Cert.FwdIdeal Cert.FwdIdeal.Gen Attn

theorem row0_apply (x : Vec Ideal S1x8x768 .f32) (r : Fin 768) : row0 x (ix3 0 0 r) = x (ix3 0 0 r) := by
  unfold row0 VecWindow.window
  refine congrArg x (funext fun a => Fin.ext ?_)
  match a with
  | ⟨0, _⟩ => rfl
  | ⟨1, _⟩ => rfl
  | ⟨2, _⟩ => show 0 + 1 * r.val = r.val; omega

/-- What is carried of query row `r`, in plane `b`, is a softmax so far. -/
def Carry.Holds (s : Carry) (S : ℝ) (A : Fin 128 → ℝ) (r : Fin 768) (b : Fin 8) : Prop :=
  Running S A (s.m (ix3 0 b r)) (s.l (ix3 0 b r)) (fun e => s.a (ix3 0 e r))

theorem start_holds (r : Fin 768) (b : Fin 8) : start.Holds 0 (fun _ => 0) r b :=
  .inr ⟨pay1_apply b r, rfl, fun _ => rfl, pay2_apply b r, fun e => pay3_apply e r⟩

/-- A key tile taken in adds its weights. -/
theorem Carry.next_holds {s : Carry} {S : ℝ} {A : Fin 128 → ℝ} {r : Fin 768} (R : s.Holds S A r 0)
    {t : FVec Ideal S768x768 .f32} {v : Vec Ideal S128x768 .bf16} (vis : Fin 768 → Prop) [DecidablePred vis] (x : Fin 768 → ℝ) (y : Fin 768 → Fin 128 → ℝ)
    (ht : ∀ j, t (ix2 j r) = if vis j then (x j : EReal) else ⊥) (hv : ∀ j e, v (ix2 e j) = (y j e : EReal))
    (h : s.m (ix3 0 0 r) ≠ ⊥ ∨ ∃ j, vis j) (b : Fin 8) :
    (s.next t v).Holds (S + ∑ j, if vis j then (2 : ℝ) ^ x j else 0) (fun e => A e + ∑ j, y j e * if vis j then (2 : ℝ) ^ x j else 0) r b
      ∧ (s.next t v).m (ix3 0 b r) ≠ ⊥ := by
  have em : (s.next t v).m (ix3 0 b r) = mx t (row0 s.m) (ix2 0 r) := rows_apply (mx t (row0 s.m)) b r
  have el : (s.next t v).l (ix3 0 b r) = sm t (row0 s.m) (row0 s.l) (ix2 0 r) := rows_apply (sm t (row0 s.m) (row0 s.l)) b r
  refine Running.step R vis x y h ?_ ?_ ?_
  · rw [em, mx_apply, row0_apply]
    simp only [ht]
  · rw [el, em, sm_apply, al_apply, row0_apply, row0_apply]
    simp only [wt_apply, ht]
  · intro e
    have ea : (s.next t v).a (ix3 0 e r) = s.a (ix3 0 e r) * al t (row0 s.m) (ix2 0 r) + ∑ j : Fin 768, v (ix2 e j) * wt t (row0 s.m) (ix2 j r) := pay4_apply _ _ _ _ e r
    rw [ea, em, al_apply, row0_apply]
    simp only [wt_apply, ht, hv]

variable (m : (ℓ : Loc nD τ sig) → Buf (Elt Ideal) ℓ) (c : Dev nD)

/-- What is carried out of point `n`. -/
def carry (n : ℕ) (h : n < cfg0.N) : Carry := ⟨(outsAt0 m c n h).2.2.1, (outsAt0 m c n h).2.2.2.1, (outsAt0 m c n h).2.2.2.2⟩

/-- The scores of point `t`'s tile. -/
def scores (t : Fin cfg0.N) : FVec Ideal S768x768 .f32 :=
  if t.val / 11 % 11 = 0 then masked (grid0.coords t) (iblk m c 0 t) (iblk m c 1 t) else plain (iblk m c 0 t) (iblk m c 1 t)

/-- The first point of a query tile begins, -/
theorem carry_first (t : Fin cfg0.N) (h0 : t.val % 11 = 0) : carry m c t.val t.isLt = start.next (scores m c t) (iblk m c 2 t) := by
  unfold carry scores
  by_cases h1 : t.val / 11 % 11 = 0
  · rw [outsAt0_A m c t h0 h1 (by omega) (by omega), if_pos h1]
    dsimp only
    rw [sout0_A_0_eq, sout0_A_1_eq, sout0_A_2_eq]
  · rw [outsAt0_D m c t h0 h1 (by omega) (by omega), if_neg h1]
    dsimp only
    rw [sout0_D_0_eq, sout0_D_1_eq, sout0_D_2_eq]

/-- and each later one goes on from the one before it. -/
theorem carry_next (t : Fin cfg0.N) (h0 : ¬t.val % 11 = 0) :
    carry m c t.val t.isLt = (carry m c (t.val - 1) (Nat.lt_of_le_of_lt (Nat.sub_le _ _) t.isLt)).next (scores m c t) (iblk m c 2 t) := by
  unfold scores
  by_cases h1 : t.val / 11 % 11 = 0 <;> by_cases h3 : t.val % 11 = 10
  · rw [carry, outsAt0_C m c t h0 h1 (by omega) h3, if_pos h1]
    dsimp only
    rw [sout0_C_0_eq, sout0_C_1_eq, sout0_C_2_eq]
    rfl
  · rw [carry, outsAt0_B m c t h0 h1 (by omega) h3, if_pos h1]
    dsimp only
    rw [sout0_B_0_eq, sout0_B_1_eq, sout0_B_2_eq]
    rfl
  · rw [carry, outsAt0_F m c t h0 h1 (by omega) h3, if_neg h1]
    dsimp only
    rw [sout0_F_0_eq, sout0_F_1_eq, sout0_F_2_eq]
    rfl
  · rw [carry, outsAt0_E m c t h0 h1 (by omega) h3, if_neg h1]
    dsimp only
    rw [sout0_E_0_eq, sout0_E_1_eq, sout0_E_2_eq]
    rfl

/-- The last point of a query tile writes what it carries out to the two results. -/
theorem last_blocks (t : Fin cfg0.N) (h3 : t.val % 11 = 10) :
    (outsAt0 m c t.val t.isLt).1 = k0_pay9 (F := Ideal) (carry m c t.val t.isLt).a (row0 (carry m c t.val t.isLt).l)
      ∧ (outsAt0 m c t.val t.isLt).2.1 = k0_pay10 (F := Ideal) (carry m c t.val t.isLt).m (carry m c t.val t.isLt).l := by
  rw [carry_next m c t (by omega)]
  unfold scores
  by_cases h1 : t.val / 11 % 11 = 0
  · rw [outsAt0_C m c t (by omega) h1 (by omega) h3, if_pos h1]
    dsimp only
    rw [out0_C_4_eq, out0_C_5_eq]
    exact ⟨rfl, rfl⟩
  · rw [outsAt0_F m c t (by omega) h1 (by omega) h3, if_neg h1]
    dsimp only
    rw [out0_F_4_eq, out0_F_5_eq]
    exact ⟨rfl, rfl⟩

/-- A grid point's head, its query tile and its key tile. -/
def headOf (t : Fin cfg0.N) : Fin 6 := ⟨t.val / 121, by have : t.val < 726 := N_0 ▸ t.isLt; omega⟩
def qTile (t : Fin cfg0.N) : Fin 11 := ⟨t.val / 11 % 11, Nat.mod_lt _ (by norm_num)⟩
def kTile (t : Fin cfg0.N) : Fin 11 := ⟨t.val % 11, Nat.mod_lt _ (by norm_num)⟩

theorem coords_1 : ∀ t : Fin cfg0.N, (grid0.coords t 1).val = t.val / 11 % 11 :=
  (by decide +kernel : ∀ t : Fin grid0.N, (grid0.coords t 1).val = t.val / 11 % 11)
theorem coords_2 : ∀ t : Fin cfg0.N, (grid0.coords t 2).val = t.val % 11 :=
  (by decide +kernel : ∀ t : Fin grid0.N, (grid0.coords t 2).val = t.val % 11)
theorem index_0 : ∀ t : Fin cfg0.N, win0_0.index t (0 : Fin 2) = t.val / 11 % 11 ∧ win0_0.index t (1 : Fin 2) = t.val / 121 :=
  (by decide +kernel : ∀ t : Fin grid0.N, win0_0.index t (0 : Fin 2) = t.val / 11 % 11 ∧ win0_0.index t (1 : Fin 2) = t.val / 121)
theorem index_1 : ∀ t : Fin cfg0.N, win0_1.index t (0 : Fin 2) = t.val % 11 ∧ win0_1.index t (1 : Fin 2) = t.val / 121 :=
  (by decide +kernel : ∀ t : Fin grid0.N, win0_1.index t (0 : Fin 2) = t.val % 11 ∧ win0_1.index t (1 : Fin 2) = t.val / 121)
theorem index_2 : ∀ t : Fin cfg0.N, win0_2.index t (0 : Fin 2) = t.val / 121 ∧ win0_2.index t (1 : Fin 2) = t.val % 11 :=
  (by decide +kernel : ∀ t : Fin grid0.N, win0_2.index t (0 : Fin 2) = t.val / 121 ∧ win0_2.index t (1 : Fin 2) = t.val % 11)

def blockQ (t : Fin cfg0.N) : FVec Ideal S768x256 .bf16 := iblk m c 0 t
def blockK (t : Fin cfg0.N) : FVec Ideal S768x256 .bf16 := iblk m c 1 t
def blockV (t : Fin cfg0.N) : FVec Ideal S128x768 .bf16 := iblk m c 2 t

/-- A point's blocks are parts of the arrays that the launch finds. -/
theorem blk_q (t : Fin cfg0.N) (r : Fin 768) (d : Fin 256) : blockQ m c t (ix2 r d) = inQ m c (ix2 (row (qTile t) r) (colK (headOf t) d)) := by
  obtain ⟨e0, e1⟩ := index_0 t
  refine congrArg (V m c main_v6) (funext fun a => Fin.ext ?_)
  match a with
  | ⟨0, _⟩ => show win0_0.index t (0 : Fin 2) * 768 + 1 * r.val = t.val / 11 % 11 * 768 + r.val; omega
  | ⟨1, _⟩ => show win0_0.index t (1 : Fin 2) * 256 + 1 * d.val = t.val / 121 * 256 + d.val; omega
theorem blk_k (t : Fin cfg0.N) (j : Fin 768) (d : Fin 256) : blockK m c t (ix2 j d) = inK m c (ix2 (row (kTile t) j) (colK (headOf t) d)) := by
  obtain ⟨e0, e1⟩ := index_1 t
  refine congrArg (V m c main_v7) (funext fun a => Fin.ext ?_)
  match a with
  | ⟨0, _⟩ => show win0_1.index t (0 : Fin 2) * 768 + 1 * j.val = t.val % 11 * 768 + j.val; omega
  | ⟨1, _⟩ => show win0_1.index t (1 : Fin 2) * 256 + 1 * d.val = t.val / 121 * 256 + d.val; omega
theorem blk_v (t : Fin cfg0.N) (e : Fin 128) (j : Fin 768) : blockV m c t (ix2 e j) = inV m c (ix2 (colV (headOf t) e) (row (kTile t) j)) := by
  obtain ⟨e0, e1⟩ := index_2 t
  refine congrArg (V m c main_v9) (funext fun a => Fin.ext ?_)
  match a with
  | ⟨0, _⟩ => show win0_2.index t (0 : Fin 2) * 128 + 1 * e.val = t.val / 121 * 128 + e.val; omega
  | ⟨1, _⟩ => show win0_2.index t (1 : Fin 2) * 768 + 1 * j.val = t.val % 11 * 768 + j.val; omega

section
variable {m c} {q k : Fin 6 → Fin 8448 → Fin 256 → ℝ} {v : Fin 6 → Fin 8448 → Fin 128 → ℝ}

/-- The score of row `i` against column `j`, in units of `log 2`. -/
def scaled (q k : Fin 8448 → Fin 256 → ℝ) (i j : Fin 8448) : ℝ := ∑ d, k j d * (q i d / (√192 * Real.log 2))

/-- A point's scores are those of the attention's rows, where they are seen. -/
theorem scores_apply (hq : ∀ i h d, argQ m c (ix2 i (colK h d)) = (q h i d : EReal)) (hk : ∀ i h d, argK m c (ix2 i (colK h d)) = (k h i d : EReal))
    (t : Fin cfg0.N) (r j : Fin 768) :
    scores m c t (ix2 j r) = if Vis (row (qTile t) r) (row (kTile t) j) then (scaled (q (headOf t)) (k (headOf t)) (row (qTile t) r) (row (kTile t) j) : EReal) else ⊥ := by
  have e : (∑ d : Fin 256, blockK m c t (ix2 j d) * blockQ m c t (ix2 r d) : EReal)
      = (scaled (q (headOf t)) (k (headOf t)) (row (qTile t) r) (row (kTile t) j) : EReal) := by
    unfold scaled
    rw [coe_sum]
    refine Finset.sum_congr rfl fun d _ => ?_
    rw [blk_q, blk_k, inQ_apply hq, inK_apply hk, EReal.coe_mul]
  unfold scores
  by_cases h1 : t.val / 11 % 11 = 0
  · rw [if_pos h1]
    unfold masked
    rw [coords_1, coords_2]
    refine (pay12_apply _ _ (Nat.mod_lt _ (by norm_num)) (Nat.mod_lt _ (by norm_num)) _ _ j r).trans ?_
    exact if_congr Iff.rfl e rfl
  · rw [if_neg h1]
    have hV : Vis (row (qTile t) r) (row (kTile t) j) := .inr (show 256 ≤ t.val / 11 % 11 * 768 + r.val by omega)
    rw [if_pos hV]
    exact (pay18_apply _ _ j r).trans e

variable (hq : ∀ i h d, argQ m c (ix2 i (colK h d)) = (q h i d : EReal)) (hk : ∀ i h d, argK m c (ix2 i (colK h d)) = (k h i d : EReal))
  (hv : ∀ i h e, argV m c (ix2 i (colV h e)) = (v h i e : EReal))

/-- The weight of row `i` on column `j` before it is divided by the row's total. -/
def weight (q k : Fin 8448 → Fin 256 → ℝ) (i j : Fin 8448) : ℝ := if Vis i j then Real.exp (score q k i j) else 0

include hq hk hv in
/-- A point's tile taken in. -/
theorem point_holds (t : Fin cfg0.N) (r : Fin 768) {s : Carry} {S : ℝ} {A : Fin 128 → ℝ} (R : s.Holds S A r 0)
    (h : s.m (ix3 0 0 r) ≠ ⊥ ∨ ∃ j, Vis (row (qTile t) r) (row (kTile t) j)) (b : Fin 8) :
    (s.next (scores m c t) (iblk m c 2 t)).Holds (S + ∑ j, weight (q (headOf t)) (k (headOf t)) (row (qTile t) r) (row (kTile t) j))
        (fun e => A e + ∑ j, v (headOf t) (row (kTile t) j) e * weight (q (headOf t)) (k (headOf t)) (row (qTile t) r) (row (kTile t) j)) r b
      ∧ (s.next (scores m c t) (iblk m c 2 t)).m (ix3 0 b r) ≠ ⊥ := by
  have e := Carry.next_holds R (fun j => Vis (row (qTile t) r) (row (kTile t) j)) (fun j => scaled (q (headOf t)) (k (headOf t)) (row (qTile t) r) (row (kTile t) j))
    (fun j e => v (headOf t) (row (kTile t) j) e) (fun j => scores_apply hq hk t r j) (fun j e => (blk_v m c t e j).trans (inV_apply hv _ _ _)) h b
  unfold weight
  simp only [← rpow_score]
  exact e

/-- The point of head `h`, query tile `i` and key tile `n`. -/
def pt (h : Fin 6) (i : Fin 11) (n : ℕ) : ℕ := 11 * (11 * h.val + i.val) + n

theorem pt_lt (h : Fin 6) (i : Fin 11) {n : ℕ} (hn : n < 11) : pt h i n < cfg0.N := by
  have := h.isLt; have := i.isLt
  rw [show cfg0.N = 726 from N_0]
  unfold pt
  omega

include hq hk hv in
/-- Inside a query tile what is carried is the softmax of the key tiles so far. -/
theorem tile_holds (h : Fin 6) (i : Fin 11) (r : Fin 768) : ∀ (n : ℕ) (hn : n < 11) (b : Fin 8),
    (carry m c (pt h i n) (pt_lt h i hn)).Holds (tileSum (weight (q h) (k h) (row i r)) (n + 1))
        (fun e => tileSum (fun j => v h j e * weight (q h) (k h) (row i r) j) (n + 1)) r b
      ∧ (carry m c (pt h i n) (pt_lt h i hn)).m (ix3 0 b r) ≠ ⊥ := by
  have hh : ∀ n (hn : n < 11), headOf ⟨pt h i n, pt_lt h i hn⟩ = h := fun n hn => Fin.ext (show pt h i n / 121 = h.val by unfold pt; have := i.isLt; omega)
  have hi : ∀ n (hn : n < 11), qTile ⟨pt h i n, pt_lt h i hn⟩ = i := fun n hn => Fin.ext (show pt h i n / 11 % 11 = i.val by unfold pt; have := i.isLt; omega)
  have hj : ∀ n (hn : n < 11), kTile ⟨pt h i n, pt_lt h i hn⟩ = ⟨n, hn⟩ := fun n hn => Fin.ext (show pt h i n % 11 = n by unfold pt; omega)
  intro n
  induction n with
  | zero =>
    intro hn b
    have e := point_holds hq hk hv ⟨pt h i 0, pt_lt h i hn⟩ r (start_holds r 0)
      (.inr ⟨0, .inl (by rw [hj 0 hn]; show 0 * 768 + 0 < 256; norm_num)⟩) b
    rw [← carry_first m c ⟨pt h i 0, pt_lt h i hn⟩ (show pt h i 0 % 11 = 0 by unfold pt; omega), hh 0 hn, hi 0 hn, hj 0 hn] at e
    have ts : ∀ f : Fin 8448 → ℝ, tileSum f (0 + 1) = 0 + ∑ j, f (row ⟨0, hn⟩ j) := fun f => by rw [← tileSum_zero f]; exact tileSum_succ f ⟨0, hn⟩
    simp only [ts]
    exact e
  | succ n ih =>
    intro hn b
    obtain ⟨R, hR⟩ := ih (by omega) 0
    have e := point_holds hq hk hv ⟨pt h i (n + 1), pt_lt h i hn⟩ r R (.inl hR) b
    have en := carry_next m c ⟨pt h i (n + 1), pt_lt h i hn⟩ (show ¬pt h i (n + 1) % 11 = 0 by unfold pt; omega)
    rw [hh _ hn, hi _ hn, hj _ hn] at e
    have ts : ∀ f : Fin 8448 → ℝ, tileSum f (n + 1 + 1) = tileSum f (n + 1) + ∑ j, f (row ⟨n + 1, hn⟩ j) := fun f => tileSum_succ f ⟨n + 1, hn⟩
    simp only [ts]
    have en' : carry m c (pt h i (n + 1)) (pt_lt h i hn) = (carry m c (pt h i n) (pt_lt h i (by omega))).next (scores m c ⟨pt h i (n + 1), pt_lt h i hn⟩) (iblk m c 2 ⟨pt h i (n + 1), pt_lt h i hn⟩) := en
    rw [en']
    exact e

include hq hk hv in
/-- A query tile's last point leaves the attention's output and the logarithms of the totals. -/
theorem block_out (h : Fin 6) (i : Fin 11) (r : Fin 768) (e : Fin 128) :
    (outsAt0 m c (pt h i 10) (pt_lt h i (by norm_num))).1 (ix2 e r) = (out (q h) (k h) (v h) (row i r) e : EReal) := by
  obtain ⟨R, hR⟩ := tile_holds hq hk hv h i r 10 (by norm_num) 0
  have e1 := (last_blocks m c ⟨pt h i 10, pt_lt h i (by norm_num)⟩ (show pt h i 10 % 11 = 10 by unfold pt; omega)).1
  have hS : tileSum (weight (q h) (k h) (row i r)) (10 + 1) = total (q h) (k h) (row i r) := tileSum_all _
  have hpos := total_pos (q h) (k h) (row i r)
  have o := R.output hR (hS ▸ hpos) e
  refine (congrFun e1 _).trans ((pay9_apply _ _ e r).trans ?_)
  rw [row0_apply]
  refine o.trans (congrArg _ ?_)
  rw [hS, show (10 + 1 : ℕ) = 11 from rfl, tileSum_all, Finset.sum_div]
  unfold out prob weight
  refine Finset.sum_congr rfl fun j _ => ?_
  split_ifs
  · ring
  · ring

include hq hk hv in
theorem block_log (h : Fin 6) (i : Fin 11) (r : Fin 768) (b : Fin 8) :
    (outsAt0 m c (pt h i 10) (pt_lt h i (by norm_num))).2.1 (ix3 0 b r) = ((Real.log (total (q h) (k h) (row i r)) / Real.log 2 : ℝ) : EReal) := by
  obtain ⟨R, hR⟩ := tile_holds hq hk hv h i r 10 (by norm_num) b
  have e1 := (last_blocks m c ⟨pt h i 10, pt_lt h i (by norm_num)⟩ (show pt h i 10 % 11 = 10 by unfold pt; omega)).2
  have hS : tileSum (weight (q h) (k h) (row i r)) (10 + 1) = total (q h) (k h) (row i r) := tileSum_all _
  have hpos := total_pos (q h) (k h) (row i r)
  have o := R.logarithm hR (hS ▸ hpos)
  rw [hS] at o
  exact (congrFun e1 _).trans ((pay10_apply _ _ b r).trans o)

include hq hk hv in
/-- The first result is the attention's output, transposed; -/
theorem result_out (h : Fin 6) (e : Fin 128) (n : Fin 8448) :
    (G4 m c : FVec Ideal S768x8448 .f32) (ix2 (colV h e) n) = (out (q h) (k h) (v h) n e : EReal) := by
  obtain ⟨i, r, rfl⟩ := eq_row n
  rw [← block_out hq hk hv h i r e]
  have hh := h.isLt; have he := e.isLt; have hi := i.isLt; have hr := r.isLt
  have hp : pt4Of (ix2 (colV h e) (row i r)) = pt h i 10 := by
    show 11 * (11 * ((h.val * 128 + e.val) / 128 - 0) + 1 * ((i.val * 768 + r.val) / 768 - 0)) + 10 = 11 * (11 * h.val + i.val) + 10
    omega
  have hl : loc4Of (ix2 (colV h e) (row i r)) = ix2 e r := by
    funext a
    match a with
    | ⟨0, _⟩ => exact Fin.ext (show (h.val * 128 + e.val) % 128 = e.val by omega)
    | ⟨1, _⟩ => exact Fin.ext (show (i.val * 768 + r.val) % 768 = r.val by omega)
  have hpt := pt_lt h i (n := 10) (by norm_num)
  unfold G4
  rw [dif_pos (show pt4Of (ix2 (colV h e) (row i r)) < cfg0.N by rw [hp]; exact hpt), ← outsAt0_sweep]
  · simp only [hp, hl]
  · rw [hp]
    exact hpt

include hq hk hv in
/-- the second, in each of its eight rows, the logarithms of the totals to the base two. -/
theorem result_log (h : Fin 6) (b : Fin 8) (n : Fin 8448) :
    (G5 m c : FVec Ideal S6x8x8448 .f32) (ix3 h b n) = ((Real.log (total (q h) (k h) n) / Real.log 2 : ℝ) : EReal) := by
  obtain ⟨i, r, rfl⟩ := eq_row n
  rw [← block_log hq hk hv h i r b]
  have hh := h.isLt; have hb := b.isLt; have hi := i.isLt; have hr := r.isLt
  have hp : pt5Of (ix3 h b (row i r)) = pt h i 10 := by
    show 11 * (11 * (h.val / 1 - 0) + 11 * (b.val / 8 - 0) + 1 * ((i.val * 768 + r.val) / 768 - 0)) + 10 = 11 * (11 * h.val + i.val) + 10
    omega
  have hl : loc5Of (ix3 h b (row i r)) = ix3 0 b r := by
    funext a
    match a with
    | ⟨0, _⟩ => exact Fin.ext (show h.val % 1 = 0 by omega)
    | ⟨1, _⟩ => exact Fin.ext (show b.val % 8 = b.val by omega)
    | ⟨2, _⟩ => exact Fin.ext (show (i.val * 768 + r.val) % 768 = r.val by omega)
  have hpt := pt_lt h i (n := 10) (by norm_num)
  unfold G5
  rw [dif_pos (show pt5Of (ix3 h b (row i r)) < cfg0.N by rw [hp]; exact hpt), ← outsAt0_sweep]
  · simp only [hp, hl]
  · rw [hp]
    exact hpt
end

end Cert.FwdIdeal.Value

end
-- ==== Proof.FwdAlgebraic.lean ====
/- On real arguments the forward attention's kernel leaves the reference's two results. -/
module

public import proofs.«01_k».proof.Defs
public import proofs.«01_k».proof.Proof.Algebraic
public import proofs.«01_k».proof.Proof.FwdValue
public import proofs.«01_k».proof.Proof.Gen.Fwd.Frame

@[expose] public section

set_option maxRecDepth 16384

noncomputable section

namespace Cert.Pre_finite_qkv.Value

open Idealize.ShloMosaic Cert.Pre_finite_qkv
open Cert.Pre_finite.Value (real_of_all)

instance facts : Cert.Pre_finite_qkv.Facts where
  bcast_S_S8448x1536 := by decide
  reducesTo_S8448x1536_S_d0_1 := by decide
  h_S_ := by decide
  bcast_S_S8448x768 := by decide
  reducesTo_S8448x768_S_d0_1 := by decide

/-- The precondition, read: every entry of the three arguments is a real number. -/
theorem real_of_finite (a0 a1 : FVec Ideal S8448x1536 .f32) (a2 : FVec Ideal S8448x768 .f32) (h : fn (F := Ideal) a0 a1 a2 = fun _ => 1#1) :
    (∀ i, a0 i = ((a0 i : EReal).toReal : EReal)) ∧ (∀ i, a1 i = ((a1 i : EReal).toReal : EReal)) ∧ ∀ i, a2 i = ((a2 i : EReal).toReal : EReal) := by
  have e := congrFun h (fun i => i.elim0)
  obtain ⟨e, e2⟩ := IntOp.andi_eq_one.1 e
  obtain ⟨e0, e1⟩ := IntOp.andi_eq_one.1 e
  exact ⟨real_of_all a0 _ _ e0, real_of_all a1 _ _ e1, real_of_all a2 _ _ e2⟩

end Cert.Pre_finite_qkv.Value

namespace Cert.Proof

open Idealize.ShloMosaic Idealize.SL.Sem Attn

/-- The kernel, its ideal reading and the reference end, their arguments unchanged and every counter at zero. -/
theorem frame_Fwd : Cert.quiescent_Fwd := fun m ρ _ => Cert.Fwd.Gen.frame m ρ
theorem frame_FwdIdeal : Cert.quiescent_FwdIdeal := fun m ρ _ => Cert.FwdIdeal.Gen.frame m ρ
theorem frame_FwdIdeal_finite : Cert.quiescent_FwdIdeal_pre_finite_qkv := fun m ρ _ => Cert.FwdIdeal.Gen.frame m ρ
theorem frame_FwdReference : Cert.quiescent_FwdReferenceIdeal := fun m ρ _ =>
  (θ_run Cert.FwdReferenceIdeal.defs _ _).mono (fun r h => ⟨fun c => (h c).2.2, sem_eq_zero_of_no_sems (by decide) r.2⟩) (Cert.FwdReferenceIdeal.Value.run m ρ)
theorem frame_FwdReference_finite : Cert.quiescent_FwdReferenceIdeal_pre_finite_qkv := fun m ρ _ => frame_FwdReference m ρ trivial

/-- The two named literals stand for what their names say. -/
theorem preserves_Fwd : Cert.preserves_Fwd_FwdIdeal :=
  ⟨IdealRules.named_const.statement _ _ _ _ _ rfl, IdealRules.named_const.statement _ _ _ _ _ rfl⟩

/-- On real arguments the kernel and the reference leave the same output and the same logarithms. -/
theorem algebraic_Fwd : Cert.algebraic_FwdIdeal_FwdReferenceIdeal_pre_finite_qkv := by
  intro m g m' g' hpre hargs
  have hr := fun c => Cert.Pre_finite_qkv.Value.real_of_finite _ _ _ (hpre c)
  refine ⟨fun c => Cert.FwdIdeal.Value.G4 m c, fun c => Cert.FwdIdeal.Value.G5 m c, Cert.FwdIdeal.Value.run m g, ?_⟩
  refine (θ_run Cert.FwdReferenceIdeal.defs _ _).mono (fun r h c => ?_) (Cert.FwdReferenceIdeal.Value.run m' g')
  obtain ⟨e0, e1, e2⟩ := hargs c
  obtain ⟨r0, r1, rest⟩ := h c
  have hq : ∀ i h d, Cert.FwdIdeal.Value.argQ m c (ix2 i (colK h d)) = (rowsK (Cert.FwdIdeal.Value.argQ m c) h i d : EReal) := fun i h d => (hr c).1 _
  have hk : ∀ i h d, Cert.FwdIdeal.Value.argK m c (ix2 i (colK h d)) = (rowsK (Cert.FwdIdeal.Value.argK m c) h i d : EReal) := fun i h d => (hr c).2.1 _
  have hv : ∀ i h e, Cert.FwdIdeal.Value.argV m c (ix2 i (colV h e)) = (rowsV (Cert.FwdIdeal.Value.argV m c) h i e : EReal) := fun i h e => (hr c).2.2 _
  refine ⟨r0.trans ?_, r1.trans ?_, rest⟩
  · rw [Cert.FwdReferenceIdeal.Value.res_out, e0, e1, e2]
    funext y
    rw [eq_ix2 y, ← colV_headV (y 0)]
    exact (Cert.KernelIdeal.Value.outT_eq hq hk hv _ _ _).trans (Cert.FwdIdeal.Value.result_out hq hk hv _ _ _).symm
  · rw [Cert.FwdReferenceIdeal.Value.res_log, e0, e1]
    funext y
    rw [eq_ix3 y]
    exact (Cert.FwdReferenceIdeal.Value.lseA_row _ _ _ _ _).trans ((Cert.KernelIdeal.Value.lseA_eq hq hk _ _).trans (Cert.FwdIdeal.Value.result_log hq hk hv _ _ _).symm)

end Cert.Proof

end
-- ==== Proof.lean ====
/- The claim. Of the attention's backward pass, of its forward pass and of each product: the kernel, its ideal reading and the
   reference end with their arguments unchanged, and the kernel's results are the reference's (the attention's on real
   arguments, its named literals standing for what their names say). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Algebraic
public import proofs.«01_k».proof.Proof.UpValue
public import proofs.«01_k».proof.Proof.UpDaValue
public import proofs.«01_k».proof.Proof.UpDwValue
public import proofs.«01_k».proof.Proof.DownValue
public import proofs.«01_k».proof.Proof.DownDaValue
public import proofs.«01_k».proof.Proof.DownDwValue
public import proofs.«01_k».proof.Proof.InValue
public import proofs.«01_k».proof.Proof.InDaValue
public import proofs.«01_k».proof.Proof.InDwValue
public import proofs.«01_k».proof.Proof.OutValue
public import proofs.«01_k».proof.Proof.OutDaValue
public import proofs.«01_k».proof.Proof.OutDwValue
public import proofs.«01_k».proof.Proof.UqValue
public import proofs.«01_k».proof.Proof.UqDaValue
public import proofs.«01_k».proof.Proof.UqDwValue
public import proofs.«01_k».proof.Proof.UkvValue
public import proofs.«01_k».proof.Proof.UkvDaValue
public import proofs.«01_k».proof.Proof.UkvDwValue
public import proofs.«01_k».proof.Proof.FwdAlgebraic

@[expose] public section

noncomputable section

namespace Cert.Proof

open Idealize.ShloMosaic Idealize.SL.Sem Cert.Kernel

/-- Everything claimed of the attention's two passes and of the eighteen products. -/
theorem claim : Cert.Claim := ⟨Cert.Kernel.Gen.facts, Cert.KernelIdeal.Gen.facts, Cert.ReferenceIdeal.Gen.facts,
  Cert.Up.Gen.facts, Cert.UpIdeal.Gen.facts, Cert.UpReferenceIdeal.Gen.facts,
  Cert.UpDa.Gen.facts, Cert.UpDaIdeal.Gen.facts, Cert.UpDaReferenceIdeal.Gen.facts,
  Cert.UpDw.Gen.facts, Cert.UpDwIdeal.Gen.facts, Cert.UpDwReferenceIdeal.Gen.facts,
  Cert.Down.Gen.facts, Cert.DownIdeal.Gen.facts, Cert.DownReferenceIdeal.Gen.facts,
  Cert.DownDa.Gen.facts, Cert.DownDaIdeal.Gen.facts, Cert.DownDaReferenceIdeal.Gen.facts,
  Cert.DownDw.Gen.facts, Cert.DownDwIdeal.Gen.facts, Cert.DownDwReferenceIdeal.Gen.facts,
  Cert.In.Gen.facts, Cert.InIdeal.Gen.facts, Cert.InReferenceIdeal.Gen.facts,
  Cert.InDa.Gen.facts, Cert.InDaIdeal.Gen.facts, Cert.InDaReferenceIdeal.Gen.facts,
  Cert.InDw.Gen.facts, Cert.InDwIdeal.Gen.facts, Cert.InDwReferenceIdeal.Gen.facts,
  Cert.Out.Gen.facts, Cert.OutIdeal.Gen.facts, Cert.OutReferenceIdeal.Gen.facts,
  Cert.OutDa.Gen.facts, Cert.OutDaIdeal.Gen.facts, Cert.OutDaReferenceIdeal.Gen.facts,
  Cert.OutDw.Gen.facts, Cert.OutDwIdeal.Gen.facts, Cert.OutDwReferenceIdeal.Gen.facts,
  Cert.Uq.Gen.facts, Cert.UqIdeal.Gen.facts, Cert.UqReferenceIdeal.Gen.facts,
  Cert.UqDa.Gen.facts, Cert.UqDaIdeal.Gen.facts, Cert.UqDaReferenceIdeal.Gen.facts,
  Cert.UqDw.Gen.facts, Cert.UqDwIdeal.Gen.facts, Cert.UqDwReferenceIdeal.Gen.facts,
  Cert.Ukv.Gen.facts, Cert.UkvIdeal.Gen.facts, Cert.UkvReferenceIdeal.Gen.facts,
  Cert.UkvDa.Gen.facts, Cert.UkvDaIdeal.Gen.facts, Cert.UkvDaReferenceIdeal.Gen.facts,
  Cert.UkvDw.Gen.facts, Cert.UkvDwIdeal.Gen.facts, Cert.UkvDwReferenceIdeal.Gen.facts,
  Cert.Fwd.Gen.facts, Cert.FwdIdeal.Gen.facts, Cert.FwdReferenceIdeal.Gen.facts,
  Cert.Pre_finite.Value.facts, Cert.Pre_finite_qkv.Value.facts,
  frame_kernel, frame_kernelIdeal, frame_kernelIdeal_finite, frame_referenceIdeal, frame_referenceIdeal_finite,
  frame_Up, frame_UpIdeal, frame_UpReference,
  frame_UpDa, frame_UpDaIdeal, frame_UpDaReference,
  frame_UpDw, frame_UpDwIdeal, frame_UpDwReference,
  frame_Down, frame_DownIdeal, frame_DownReference,
  frame_DownDa, frame_DownDaIdeal, frame_DownDaReference,
  frame_DownDw, frame_DownDwIdeal, frame_DownDwReference,
  frame_In, frame_InIdeal, frame_InReference,
  frame_InDa, frame_InDaIdeal, frame_InDaReference,
  frame_InDw, frame_InDwIdeal, frame_InDwReference,
  frame_Out, frame_OutIdeal, frame_OutReference,
  frame_OutDa, frame_OutDaIdeal, frame_OutDaReference,
  frame_OutDw, frame_OutDwIdeal, frame_OutDwReference,
  frame_Uq, frame_UqIdeal, frame_UqReference,
  frame_UqDa, frame_UqDaIdeal, frame_UqDaReference,
  frame_UqDw, frame_UqDwIdeal, frame_UqDwReference,
  frame_Ukv, frame_UkvIdeal, frame_UkvReference,
  frame_UkvDa, frame_UkvDaIdeal, frame_UkvDaReference,
  frame_UkvDw, frame_UkvDwIdeal, frame_UkvDwReference,
  frame_Fwd, frame_FwdIdeal, frame_FwdIdeal_finite, frame_FwdReference, frame_FwdReference_finite,
  preserves_kernel, algebraic,
  trivial, algebraic_Up,
  trivial, algebraic_UpDa,
  trivial, algebraic_UpDw,
  trivial, algebraic_Down,
  trivial, algebraic_DownDa,
  trivial, algebraic_DownDw,
  trivial, algebraic_In,
  trivial, algebraic_InDa,
  trivial, algebraic_InDw,
  trivial, algebraic_Out,
  trivial, algebraic_OutDa,
  trivial, algebraic_OutDw,
  trivial, algebraic_Uq,
  trivial, algebraic_UqDa,
  trivial, algebraic_UqDw,
  trivial, algebraic_Ukv,
  trivial, algebraic_UkvDa,
  trivial, algebraic_UkvDw,
  preserves_Fwd, algebraic_Fwd⟩

end Cert.Proof

end
